-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_quantises_alike [hPre_quantises_alike : Cert.Pre_quantises_alike.Facts] (m : (ℓ : Loc Cert.KernelIdeal.nD Cert.KernelIdeal.τ Cert.KernelIdeal.sig) → Buf (Elt Ideal) ℓ) : Prop :=
  ∀ c : Dev Cert.KernelIdeal.nD,
    (Cert.Pre_quantises_alike.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_quantises_alike [hPre_quantises_alike : Cert.Pre_quantises_alike.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_quantises_alike.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_QuantX (m : (ℓ : Loc Cert.QuantX.nD Cert.QuantX.τ Cert.QuantX.sig) → Buf (Elt Bits) ℓ) : Prop :=
  True

def Pre_QuantXIdeal (m : (ℓ : Loc Cert.QuantXIdeal.nD Cert.QuantXIdeal.τ Cert.QuantXIdeal.sig) → Buf (Elt Ideal) ℓ) : Prop :=
  True

def Pre_QuantXIdeal_x_scales_in_range [hPre_x_scales_in_range : Cert.Pre_x_scales_in_range.Facts] (m : (ℓ : Loc Cert.QuantXIdeal.nD Cert.QuantXIdeal.τ Cert.QuantXIdeal.sig) → Buf (Elt Ideal) ℓ) : Prop :=
  ∀ c : Dev Cert.QuantXIdeal.nD,
    (Cert.Pre_x_scales_in_range.fn (F := Ideal) (m ((c.tc : Thread Cert.QuantXIdeal.nD Cert.QuantXIdeal.τ).loc Cert.QuantXIdeal.main_arg0)) (m ((c.tc : Thread Cert.QuantXIdeal.nD Cert.QuantXIdeal.τ).loc Cert.QuantXIdeal.main_arg1))) = (fun _ => 1#1)

def Pre_XReferenceIdeal (m : (ℓ : Loc Cert.XReferenceIdeal.nD Cert.XReferenceIdeal.τ Cert.XReferenceIdeal.sig) → Buf (Elt Ideal) ℓ) : Prop :=
  True

def Pre_XReferenceIdeal_x_scales_in_range [hPre_x_scales_in_range : Cert.Pre_x_scales_in_range.Facts] (m : (ℓ : Loc Cert.XReferenceIdeal.nD Cert.XReferenceIdeal.τ Cert.XReferenceIdeal.sig) → Buf (Elt Ideal) ℓ) : Prop :=
  ∀ c : Dev Cert.XReferenceIdeal.nD,
    (Cert.Pre_x_scales_in_range.fn (F := Ideal) (m ((c.tc : Thread Cert.XReferenceIdeal.nD Cert.XReferenceIdeal.τ).loc Cert.XReferenceIdeal.main_arg0)) (m ((c.tc : Thread Cert.XReferenceIdeal.nD Cert.XReferenceIdeal.τ).loc Cert.XReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_quantises_alike [hKernelIdeal : Cert.KernelIdeal.Facts] [hPre_quantises_alike : Cert.Pre_quantises_alike.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_quantises_alike m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_quantises_alike [hReferenceIdeal : Cert.ReferenceIdeal.Facts] [hPre_quantises_alike : Cert.Pre_quantises_alike.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_quantises_alike m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_QuantX [hQuantX : Cert.QuantX.Facts] : Prop :=
  ∀ (m : (ℓ : Loc Cert.QuantX.nD Cert.QuantX.τ Cert.QuantX.sig) → Buf (Elt Bits) ℓ) (g : Dev Cert.QuantX.nD → PrngReg), Pre_QuantX m →
    θ_run (Cert.QuantX.defs (F := Bits)) (onTc (τ := Cert.QuantX.τ) (Cert.QuantX.main (F := Bits))) ⟨m, fun _ => 0, g⟩ (fun r => (∀ c : Dev Cert.QuantX.nD,
      r.2.mem ((c.tc : Thread Cert.QuantX.nD Cert.QuantX.τ).loc Cert.QuantX.main_arg0) = m ((c.tc : Thread Cert.QuantX.nD Cert.QuantX.τ).loc Cert.QuantX.main_arg0)
      ∧ r.2.mem ((c.tc : Thread Cert.QuantX.nD Cert.QuantX.τ).loc Cert.QuantX.main_arg1) = m ((c.tc : Thread Cert.QuantX.nD Cert.QuantX.τ).loc Cert.QuantX.main_arg1))
      ∧ r.2.sem = fun _ => 0)

def quiescent_QuantXIdeal [hQuantXIdeal : Cert.QuantXIdeal.Facts] : Prop :=
  ∀ (m : (ℓ : Loc Cert.QuantXIdeal.nD Cert.QuantXIdeal.τ Cert.QuantXIdeal.sig) → Buf (Elt Ideal) ℓ) (g : Dev Cert.QuantXIdeal.nD → PrngReg), Pre_QuantXIdeal m →
    θ_run (Cert.QuantXIdeal.defs (F := Ideal)) (onTc (τ := Cert.QuantXIdeal.τ) (Cert.QuantXIdeal.main (F := Ideal))) ⟨m, fun _ => 0, g⟩ (fun r => (∀ c : Dev Cert.QuantXIdeal.nD,
      r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0)
      ∧ r.2.mem ((c.tc : Thread Cert.QuantXIdeal.nD Cert.QuantXIdeal.τ).loc Cert.QuantXIdeal.main_arg1) = m ((c.tc : Thread Cert.QuantXIdeal.nD Cert.QuantXIdeal.τ).loc Cert.QuantXIdeal.main_arg1))
      ∧ r.2.sem = fun _ => 0)

def quiescent_QuantXIdeal_pre_x_scales_in_range [hQuantXIdeal : Cert.QuantXIdeal.Facts] [hPre_x_scales_in_range : Cert.Pre_x_scales_in_range.Facts] : Prop :=
  ∀ (m : (ℓ : Loc Cert.QuantXIdeal.nD Cert.QuantXIdeal.τ Cert.QuantXIdeal.sig) → Buf (Elt Ideal) ℓ) (g : Dev Cert.QuantXIdeal.nD → PrngReg), Pre_QuantXIdeal_x_scales_in_range m →
    θ_run (Cert.QuantXIdeal.defs (F := Ideal)) (onTc (τ := Cert.QuantXIdeal.τ) (Cert.QuantXIdeal.main (F := Ideal))) ⟨m, fun _ => 0, g⟩ (fun r => (∀ c : Dev Cert.QuantXIdeal.nD,
      r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0)
      ∧ r.2.mem ((c.tc : Thread Cert.QuantXIdeal.nD Cert.QuantXIdeal.τ).loc Cert.QuantXIdeal.main_arg1) = m ((c.tc : Thread Cert.QuantXIdeal.nD Cert.QuantXIdeal.τ).loc Cert.QuantXIdeal.main_arg1))
      ∧ r.2.sem = fun _ => 0)

def quiescent_XReferenceIdeal [hXReferenceIdeal : Cert.XReferenceIdeal.Facts] : Prop :=
  ∀ (m : (ℓ : Loc Cert.XReferenceIdeal.nD Cert.XReferenceIdeal.τ Cert.XReferenceIdeal.sig) → Buf (Elt Ideal) ℓ) (g : Dev Cert.XReferenceIdeal.nD → PrngReg), Pre_XReferenceIdeal m →
    θ_run (Cert.XReferenceIdeal.defs (F := Ideal)) (onTc (τ := Cert.XReferenceIdeal.τ) (Cert.XReferenceIdeal.main (F := Ideal))) ⟨m, fun _ => 0, g⟩ (fun r => (∀ c : Dev Cert.XReferenceIdeal.nD,
      r.2.mem ((c.tc : Thread Cert.XReferenceIdeal.nD Cert.XReferenceIdeal.τ).loc Cert.XReferenceIdeal.main_arg0) = m ((c.tc : Thread Cert.XReferenceIdeal.nD Cert.XReferenceIdeal.τ).loc Cert.XReferenceIdeal.main_arg0)
      ∧ r.2.mem ((c.tc : Thread Cert.XReferenceIdeal.nD Cert.XReferenceIdeal.τ).loc Cert.XReferenceIdeal.main_arg1) = m ((c.tc : Thread Cert.XReferenceIdeal.nD Cert.XReferenceIdeal.τ).loc Cert.XReferenceIdeal.main_arg1))
      ∧ r.2.sem = fun _ => 0)

def quiescent_XReferenceIdeal_pre_x_scales_in_range [hXReferenceIdeal : Cert.XReferenceIdeal.Facts] [hPre_x_scales_in_range : Cert.Pre_x_scales_in_range.Facts] : Prop :=
  ∀ (m : (ℓ : Loc Cert.XReferenceIdeal.nD Cert.XReferenceIdeal.τ Cert.XReferenceIdeal.sig) → Buf (Elt Ideal) ℓ) (g : Dev Cert.XReferenceIdeal.nD → PrngReg), Pre_XReferenceIdeal_x_scales_in_range m →
    θ_run (Cert.XReferenceIdeal.defs (F := Ideal)) (onTc (τ := Cert.XReferenceIdeal.τ) (Cert.XReferenceIdeal.main (F := Ideal))) ⟨m, fun _ => 0, g⟩ (fun r => (∀ c : Dev Cert.XReferenceIdeal.nD,
      r.2.mem ((c.tc : Thread Cert.XReferenceIdeal.nD Cert.XReferenceIdeal.τ).loc Cert.XReferenceIdeal.main_arg0) = m ((c.tc : Thread Cert.XReferenceIdeal.nD Cert.XReferenceIdeal.τ).loc Cert.XReferenceIdeal.main_arg0)
      ∧ r.2.mem ((c.tc : Thread Cert.XReferenceIdeal.nD Cert.XReferenceIdeal.τ).loc Cert.XReferenceIdeal.main_arg1) = m ((c.tc : Thread Cert.XReferenceIdeal.nD Cert.XReferenceIdeal.τ).loc Cert.XReferenceIdeal.main_arg1))
      ∧ r.2.sem = fun _ => 0)

def preserves_Kernel_KernelIdeal : Prop :=
  IdealRules.bf16_pair.BufferStatement Cert.KernelIdeal.S2x256x2x1536 Cert.KernelIdeal.S2x256x1x1536
  ∧ IdealRules.bf16_pair.Statement Cert.KernelIdeal.S512x256 Cert.KernelIdeal.S256x256
  ∧ IdealRules.bf16_pair.Statement Cert.KernelIdeal.S1x256x2x256 Cert.KernelIdeal.S1x256x1x256
  ∧ IdealRules.bf16_pair.Statement Cert.KernelIdeal.S1x256x2x1536 Cert.KernelIdeal.S1x256x1x1536
  ∧ IdealRules.bf16_pair.Statement Cert.KernelIdeal.S512x1536 Cert.KernelIdeal.S256x1536

def algebraic_KernelIdeal_ReferenceIdeal_pre_quantises_alike [hKernelIdeal : Cert.KernelIdeal.Facts] [hReferenceIdeal : Cert.ReferenceIdeal.Facts] [hPre_quantises_alike : Cert.Pre_quantises_alike.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_quantises_alike m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v28_2)) (v1 : (c : Dev Cert.KernelIdeal.nD) → Buf (Elt Ideal) ((c.tc : Thread Cert.KernelIdeal.nD Cert.KernelIdeal.τ).loc Cert.KernelIdeal.main_v28_0)) (v2 : (c : Dev Cert.KernelIdeal.nD) → Buf (Elt Ideal) ((c.tc : Thread Cert.KernelIdeal.nD Cert.KernelIdeal.τ).loc Cert.KernelIdeal.main_v28_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28_2) = v0 c
          ∧ r.2.mem ((c.tc : Thread Cert.KernelIdeal.nD Cert.KernelIdeal.τ).loc Cert.KernelIdeal.main_v28_0) = v1 c
          ∧ r.2.mem ((c.tc : Thread Cert.KernelIdeal.nD Cert.KernelIdeal.τ).loc Cert.KernelIdeal.main_v28_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v106) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_QuantX_QuantXIdeal : Prop :=
  True

def algebraic_QuantXIdeal_XReferenceIdeal_pre_x_scales_in_range [hQuantXIdeal : Cert.QuantXIdeal.Facts] [hXReferenceIdeal : Cert.XReferenceIdeal.Facts] [hPre_x_scales_in_range : Cert.Pre_x_scales_in_range.Facts] : Prop :=
  ∀ (m : (ℓ : Loc Cert.QuantXIdeal.nD Cert.QuantXIdeal.τ Cert.QuantXIdeal.sig) → Buf (Elt Ideal) ℓ) (g : Dev Cert.QuantXIdeal.nD → PrngReg)
    (m' : (ℓ : Loc Cert.XReferenceIdeal.nD Cert.XReferenceIdeal.τ Cert.XReferenceIdeal.sig) → Buf (Elt Ideal) ℓ) (g' : Dev Cert.XReferenceIdeal.nD → PrngReg), Pre_QuantXIdeal_x_scales_in_range m →
    (∀ c : Dev Cert.QuantXIdeal.nD,
      m' ((c.tc : Thread Cert.XReferenceIdeal.nD Cert.XReferenceIdeal.τ).loc Cert.XReferenceIdeal.main_arg0) = m ((c.tc : Thread Cert.QuantXIdeal.nD Cert.QuantXIdeal.τ).loc Cert.QuantXIdeal.main_arg0)
      ∧ m' ((c.tc : Thread Cert.XReferenceIdeal.nD Cert.XReferenceIdeal.τ).loc Cert.XReferenceIdeal.main_arg1) = m ((c.tc : Thread Cert.QuantXIdeal.nD Cert.QuantXIdeal.τ).loc Cert.QuantXIdeal.main_arg1)) →
    ∃ (v0 : (c : Dev Cert.QuantXIdeal.nD) → Buf (Elt Ideal) ((c.tc : Thread Cert.QuantXIdeal.nD Cert.QuantXIdeal.τ).loc Cert.QuantXIdeal.main_v27_0)) (v1 : (c : Dev Cert.QuantXIdeal.nD) → Buf (Elt Ideal) ((c.tc : Thread Cert.QuantXIdeal.nD Cert.QuantXIdeal.τ).loc Cert.QuantXIdeal.main_v27_1)) (v2 : (c : Dev Cert.QuantXIdeal.nD) → Buf (Elt Ideal) ((c.tc : Thread Cert.QuantXIdeal.nD Cert.QuantXIdeal.τ).loc Cert.QuantXIdeal.main_v27_2)),
      θ_run (Cert.QuantXIdeal.defs (F := Ideal)) (onTc (τ := Cert.QuantXIdeal.τ) (Cert.QuantXIdeal.main (F := Ideal))) ⟨m, fun _ => 0, g⟩ (fun r => ∀ c : Dev Cert.QuantXIdeal.nD,
          r.2.mem ((c.tc : Thread Cert.QuantXIdeal.nD Cert.QuantXIdeal.τ).loc Cert.QuantXIdeal.main_v27_0) = v0 c
          ∧ r.2.mem ((c.tc : Thread Cert.QuantXIdeal.nD Cert.QuantXIdeal.τ).loc Cert.QuantXIdeal.main_v27_1) = v1 c
          ∧ r.2.mem ((c.tc : Thread Cert.QuantXIdeal.nD Cert.QuantXIdeal.τ).loc Cert.QuantXIdeal.main_v27_2) = v2 c
          ∧ r.2.mem ((c.tc : Thread Cert.QuantXIdeal.nD Cert.QuantXIdeal.τ).loc Cert.QuantXIdeal.main_arg0) = m ((c.tc : Thread Cert.QuantXIdeal.nD Cert.QuantXIdeal.τ).loc Cert.QuantXIdeal.main_arg0)
          ∧ r.2.mem ((c.tc : Thread Cert.QuantXIdeal.nD Cert.QuantXIdeal.τ).loc Cert.QuantXIdeal.main_arg1) = m ((c.tc : Thread Cert.QuantXIdeal.nD Cert.QuantXIdeal.τ).loc Cert.QuantXIdeal.main_arg1))
      ∧ θ_run (Cert.XReferenceIdeal.defs (F := Ideal)) (onTc (τ := Cert.XReferenceIdeal.τ) (Cert.XReferenceIdeal.main (F := Ideal))) ⟨m', fun _ => 0, g'⟩ (fun r => ∀ c : Dev Cert.XReferenceIdeal.nD,
          r.2.mem ((c.tc : Thread Cert.XReferenceIdeal.nD Cert.XReferenceIdeal.τ).loc Cert.XReferenceIdeal.main_v87) = v0 c
          ∧ r.2.mem ((c.tc : Thread Cert.XReferenceIdeal.nD Cert.XReferenceIdeal.τ).loc Cert.XReferenceIdeal.main_v93) = v1 c
          ∧ r.2.mem ((c.tc : Thread Cert.XReferenceIdeal.nD Cert.XReferenceIdeal.τ).loc Cert.XReferenceIdeal.main_v104) = v2 c
          ∧ r.2.mem ((c.tc : Thread Cert.XReferenceIdeal.nD Cert.XReferenceIdeal.τ).loc Cert.XReferenceIdeal.main_arg0) = m' ((c.tc : Thread Cert.XReferenceIdeal.nD Cert.XReferenceIdeal.τ).loc Cert.XReferenceIdeal.main_arg0)
          ∧ r.2.mem ((c.tc : Thread Cert.XReferenceIdeal.nD Cert.XReferenceIdeal.τ).loc Cert.XReferenceIdeal.main_arg1) = m' ((c.tc : Thread Cert.XReferenceIdeal.nD Cert.XReferenceIdeal.τ).loc Cert.XReferenceIdeal.main_arg1))

def Claim : Prop :=
  ∃ (hKernel : Cert.Kernel.Facts) (hKernelIdeal : Cert.KernelIdeal.Facts) (hReferenceIdeal : Cert.ReferenceIdeal.Facts) (hQuantX : Cert.QuantX.Facts) (hQuantXIdeal : Cert.QuantXIdeal.Facts) (hXReferenceIdeal : Cert.XReferenceIdeal.Facts) (hPre_quantises_alike : Cert.Pre_quantises_alike.Facts) (hPre_x_scales_in_range : Cert.Pre_x_scales_in_range.Facts),
    quiescent_Kernel (hKernel := hKernel)
    ∧ quiescent_KernelIdeal (hKernelIdeal := hKernelIdeal)
    ∧ quiescent_KernelIdeal_pre_quantises_alike (hKernelIdeal := hKernelIdeal) (hPre_quantises_alike := hPre_quantises_alike)
    ∧ quiescent_ReferenceIdeal (hReferenceIdeal := hReferenceIdeal)
    ∧ quiescent_ReferenceIdeal_pre_quantises_alike (hReferenceIdeal := hReferenceIdeal) (hPre_quantises_alike := hPre_quantises_alike)
    ∧ quiescent_QuantX (hQuantX := hQuantX)
    ∧ quiescent_QuantXIdeal (hQuantXIdeal := hQuantXIdeal)
    ∧ quiescent_QuantXIdeal_pre_x_scales_in_range (hQuantXIdeal := hQuantXIdeal) (hPre_x_scales_in_range := hPre_x_scales_in_range)
    ∧ quiescent_XReferenceIdeal (hXReferenceIdeal := hXReferenceIdeal)
    ∧ quiescent_XReferenceIdeal_pre_x_scales_in_range (hXReferenceIdeal := hXReferenceIdeal) (hPre_x_scales_in_range := hPre_x_scales_in_range)
    ∧ preserves_Kernel_KernelIdeal
    ∧ algebraic_KernelIdeal_ReferenceIdeal_pre_quantises_alike (hKernelIdeal := hKernelIdeal) (hReferenceIdeal := hReferenceIdeal) (hPre_quantises_alike := hPre_quantises_alike)
    ∧ preserves_QuantX_QuantXIdeal
    ∧ algebraic_QuantXIdeal_XReferenceIdeal_pre_x_scales_in_range (hQuantXIdeal := hQuantXIdeal) (hXReferenceIdeal := hXReferenceIdeal) (hPre_x_scales_in_range := hPre_x_scales_in_range)
-- ==== Pre_quantises_alike.lean ====
abbrev S768x7168 : Shape := ⟨2, ![768, 7168]⟩
abbrev S2x768x18432 : Shape := ⟨3, ![2, 768, 18432]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S24x64x18432 : Shape := ⟨3, ![24, 64, 18432]⟩
abbrev S24x18432x64 : Shape := ⟨3, ![24, 18432, 64]⟩
abbrev S48x32x18432 : Shape := ⟨3, ![48, 32, 18432]⟩
abbrev S48x18432 : Shape := ⟨2, ![48, 18432]⟩
abbrev S48x1x18432 : Shape := ⟨3, ![48, 1, 18432]⟩

class Facts : Prop where
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bitsLt_bf16_f32 : FTy.bits .bf16 < FTy.bits .f32
  shapeCasts_S2x768x18432_S24x64x18432 : S2x768x18432.ShapeCasts S24x64x18432
  transposes_S24x18432x64_S24x64x18432_0_2_1 : S24x18432x64.Transposes [0, 2, 1] S24x64x18432
  shapeCasts_S24x64x18432_S48x32x18432 : S24x64x18432.ShapeCasts S48x32x18432
  reducesTo_S48x32x18432_S48x18432_d1 : S48x32x18432.ReducesTo [1] S48x18432
  h_S_ : 0 < S_.numel
  bcast_S48x18432_S48x1x18432_0_2 : S48x18432.BroadcastsInDim S48x1x18432 (![0, 2] : Fin 2 → Fin S48x1x18432.rank)
  bcast_S_S48x1x18432 : S_.BroadcastsInDim S48x1x18432 (![] : Fin 0 → Fin S48x1x18432.rank)
  bcast_S48x1x18432_S48x32x18432_0_1_2 : S48x1x18432.BroadcastsInDim S48x32x18432 (![0, 1, 2] : Fin 3 → Fin S48x32x18432.rank)
  bcast_S_S48x32x18432 : S_.BroadcastsInDim S48x32x18432 (![] : Fin 0 → Fin S48x32x18432.rank)
  shapeCasts_S2x768x18432_S48x32x18432 : S2x768x18432.ShapeCasts S48x32x18432
  natLt_8_32 : 8 < 32
  dot_S24x64x18432_S64x64_S24x18432x64_1_1_02_0_n_n_wf : DotDims.WF S24x64x18432 S64x64 S24x18432x64 [1] [1] [0, 2] [0] [] []

variable [Facts]

def dot_S24x64x18432_S64x64_S24x18432x64_1_1_02_0_n_n : DotDims S24x64x18432 S64x64 S24x18432x64 where
  lhsContracting := [1]
  rhsContracting := [1]
  lhsNonContracting := [0, 2]
  rhsNonContracting := [0]
  lhsBatch := []
  rhsBatch := []
  wf := dot_S24x64x18432_S64x64_S24x18432x64_1_1_02_0_n_n_wf
def fn_where {F : FTy → Type} [FloatOps F] (arg0 : IVec S64x64 1) (arg1 : FVec F S_ .f32) (arg2 : FVec F S_ .f32) : FVec F S64x64 .f32 :=
  let v0 : FVec F S64x64 .f32 := broadcastInDim S64x64 ![] bcast_S_S64x64 arg1
  let v1 : FVec F S64x64 .f32 := broadcastInDim S64x64 ![] bcast_S_S64x64 arg2
  let v2 : FVec F S64x64 .f32 := select arg0 v0 v1
  v2

def fn_where_0 {F : FTy → Type} [FloatOps F] (arg0 : IVec S48x1x18432 1) (arg1 : FVec F S_ .f32) (arg2 : FVec F S48x1x18432 .f32) : FVec F S48x1x18432 .f32 :=
  let v0 : FVec F S_ .f32 := id arg1
  let v1 : FVec F S48x1x18432 .f32 := broadcastInDim S48x1x18432 ![] bcast_S_S48x1x18432 v0
  let v2 : FVec F S48x1x18432 .f32 := select arg0 v1 arg2
  v2

def fn_where_1 {F : FTy → Type} [FloatOps F] (arg0 : IVec S48x32x18432 1) (arg1 : FVec F S_ .f32) (arg2 : FVec F S_ .f32) : FVec F S48x32x18432 .f32 :=
  let v0 : FVec F S48x32x18432 .f32 := broadcastInDim S48x32x18432 ![] bcast_S_S48x32x18432 arg1
  let v1 : FVec F S48x32x18432 .f32 := broadcastInDim S48x32x18432 ![] bcast_S_S48x32x18432 arg2
  let v2 : FVec F S48x32x18432 .f32 := select arg0 v0 v1
  v2

def fn_where_2 {F : FTy → Type} [FloatOps F] (arg0 : IVec S48x32x18432 1) (arg1 : FVec F S_ .f32) (arg2 : FVec F S48x32x18432 .f32) : FVec F S48x32x18432 .f32 :=
  let v0 : FVec F S48x32x18432 .f32 := broadcastInDim S48x32x18432 ![] bcast_S_S48x32x18432 arg1
  let v1 : FVec F S48x32x18432 .f32 := select arg0 v0 arg2
  v1

def fn_part4 {F : FTy → Type} [FloatOps F] (main_v68 : IVec S48x1x18432 1) (main_v69 : IVec S48x32x18432 1) (main_v72 : IVec S48x32x18432 1) : IVec S48x32x18432 1 :=
  let main_v73 : IVec S48x32x18432 1 := ori main_v69 main_v72
  let main_v74 : IVec S48x32x18432 1 := broadcastInDim S48x32x18432 ![0, 1, 2] bcast_S48x1x18432_S48x32x18432_0_1_2 main_v68
  let main_v75 : IVec S48x32x18432 1 := andi main_v74 main_v73
  main_v75

def fn_part3 {F : FTy → Type} [FloatOps F] (main_v27 : FVec F S48x1x18432 .f32) (main_v51 : FVec F S48x32x18432 .f32) (main_v52 : FVec F S48x32x18432 .f32) (main_v54 : IVec S48x32x18432 32) : IVec S48x32x18432 1 :=
  let main_v55 : FVec F S48x32x18432 .f32 := sitofp .f32 main_v54
  let main_cst_15 : FVec F S_ .f32 := constant S_ .f32 0x3F000000#32
  let main_v56 : FVec F S48x32x18432 .f32 := broadcastInDim S48x32x18432 ![] bcast_S_S48x32x18432 main_cst_15
  let main_v57 : FVec F S48x32x18432 .f32 := addf main_v55 main_v56
  let main_cst_16 : FVec F S_ .f32 := constant S_ .f32 0x43800000#32
  let main_v58 : FVec F S48x32x18432 .f32 := broadcastInDim S48x32x18432 ![] bcast_S_S48x32x18432 main_cst_16
  let main_v59 : FVec F S48x32x18432 .f32 := Host.divf main_v57 main_v58
  let main_v60 : FVec F S48x32x18432 .f32 := addf main_v52 main_v59
  let main_cst_17 : FVec F S_ .f32 := constant S_ .f32 0x00000000#32
  let main_v61 : FVec F S48x1x18432 .f32 := broadcastInDim S48x1x18432 ![] bcast_S_S48x1x18432 main_cst_17
  let main_v62 : IVec S48x1x18432 1 := cmpf .oeq main_v27 main_v61
  let main_cst_18 : FVec F S_ .f32 := constant S_ .f32 0x00800000#32
  let main_v63 : FVec F S48x1x18432 .f32 := broadcastInDim S48x1x18432 ![] bcast_S_S48x1x18432 main_cst_18
  let main_v64 : IVec S48x1x18432 1 := cmpf .oge main_v27 main_v63
  let main_cst_19 : FVec F S_ .f32 := constant S_ .f32 0x7E800000#32
  let main_v65 : FVec F S48x1x18432 .f32 := broadcastInDim S48x1x18432 ![] bcast_S_S48x1x18432 main_cst_19
  let main_v66 : IVec S48x1x18432 1 := cmpf .olt main_v27 main_v65
  let main_v67 : IVec S48x1x18432 1 := andi main_v64 main_v66
  let main_v68 : IVec S48x1x18432 1 := ori main_v62 main_v67
  let main_v69 : IVec S48x32x18432 1 := cmpf .ole main_v51 main_v60
  let main_cst_20 : FVec F S_ .f32 := constant S_ .f32 0x3F7FFFFE#32
  let main_v70 : FVec F S48x32x18432 .f32 := broadcastInDim S48x32x18432 ![] bcast_S_S48x32x18432 main_cst_20
  let main_v71 : FVec F S48x32x18432 .f32 := mulf main_v51 main_v70
  let main_v72 : IVec S48x32x18432 1 := cmpf .ogt main_v71 main_v60
  fn_part4 (F := F) main_v68 main_v69 main_v72

def fn_part2 {F : FTy → Type} [FloatOps F] (main_arg3 : IVec S2x768x18432 8) (main_v22 : FVec F S48x32x18432 .f32) (main_v27 : FVec F S48x1x18432 .f32) (main_v29 : IVec S48x1x18432 1) (main_v36 : FVec F S48x1x18432 .f32) (main_cst_8 : FVec F S_ .f32) : IVec S48x32x18432 1 :=
  let main_v37 : FVec F S48x1x18432 .f32 := fn_where_0 (F := F) main_v29 main_cst_8 main_v36
  let main_v38 : FVec F S48x1x18432 .f32 := Host.negf main_v37
  let main_cst_9 : FVec F S_ .f32 := constant S_ .f32 0x40000000#32
  let main_v39 : FVec F S48x1x18432 .f32 := broadcastInDim S48x1x18432 ![] bcast_S_S48x1x18432 main_cst_9
  let main_v40 : FVec F S48x1x18432 .f32 := Host.powf main_v39 main_v38
  let main_v41 : FVec F S48x32x18432 .f32 := broadcastInDim S48x32x18432 ![0, 1, 2] bcast_S48x1x18432_S48x32x18432_0_1_2 main_v40
  let main_v42 : FVec F S48x32x18432 .f32 := mulf main_v22 main_v41
  let main_v43 : FVec F S48x32x18432 .f32 := Host.absf main_v42
  let main_cst_10 : FVec F S_ .f32 := constant S_ .f32 0x40000000#32
  let main_v44 : FVec F S48x32x18432 .f32 := broadcastInDim S48x32x18432 ![] bcast_S_S48x32x18432 main_cst_10
  let main_v45 : IVec S48x32x18432 1 := cmpf .olt main_v43 main_v44
  let main_cst_11 : FVec F S_ .f32 := constant S_ .f32 0x40800000#32
  let main_v46 : FVec F S48x32x18432 .f32 := broadcastInDim S48x32x18432 ![] bcast_S_S48x32x18432 main_cst_11
  let main_v47 : IVec S48x32x18432 1 := cmpf .olt main_v43 main_v46
  let main_cst_12 : FVec F S_ .f32 := constant S_ .f32 0x3F800000#32
  let main_cst_13 : FVec F S_ .f32 := constant S_ .f32 0x40000000#32
  let main_v48 : FVec F S48x32x18432 .f32 := fn_where_1 (F := F) main_v47 main_cst_12 main_cst_13
  let main_cst_14 : FVec F S_ .f32 := constant S_ .f32 0x3F000000#32
  let main_v49 : FVec F S48x32x18432 .f32 := fn_where_2 (F := F) main_v45 main_cst_14 main_v48
  let main_v50 : FVec F S48x32x18432 .f32 := id main_v49
  let main_v51 : FVec F S48x32x18432 .f32 := Host.divf main_v43 main_v50
  let main_v52 : FVec F S48x32x18432 .f32 := Host.floor main_v51
  let main_v53 : IVec S48x32x18432 8 := shapeCast S48x32x18432 main_arg3 shapeCasts_S2x768x18432_S48x32x18432
  let main_v54 : IVec S48x32x18432 32 := (extui 32 · natLt_8_32) main_v53
  fn_part3 (F := F) main_v27 main_v51 main_v52 main_v54

def fn_part1 {F : FTy → Type} [FloatOps F] (main_arg3 : IVec S2x768x18432 8) (main_v17 : FVec F S64x64 .f32) (main_v18 : FVec F S2x768x18432 .f32) : IVec S48x32x18432 1 :=
  let main_v19 : FVec F S24x64x18432 .f32 := shapeCast S24x64x18432 main_v18 shapeCasts_S2x768x18432_S24x64x18432
  let main_v20 : FVec F S24x18432x64 .f32 := (fun l r => Host.dotGeneral dot_S24x64x18432_S64x64_S24x18432x64_1_1_02_0_n_n (some .fp32) l r) main_v19 main_v17
  let main_v21 : FVec F S24x64x18432 .f32 := (transpose S24x64x18432 [0, 2, 1] · transposes_S24x18432x64_S24x64x18432_0_2_1) main_v20
  let main_v22 : FVec F S48x32x18432 .f32 := shapeCast S48x32x18432 main_v21 shapeCasts_S24x64x18432_S48x32x18432
  let main_v23 : FVec F S48x32x18432 .f32 := Host.absf main_v22
  let main_cst_3 : FVec F S_ .f32 := constant S_ .f32 0xFF800000#32
  let main_v24 : FVec F S48x18432 .f32 := (fun x v => Host.reduce FloatOps.maximumf x v reducesTo_S48x32x18432_S48x18432_d1 h_S_) main_v23 main_cst_3
  let main_v25 : FVec F S48x1x18432 .f32 := broadcastInDim S48x1x18432 ![0, 2] bcast_S48x18432_S48x1x18432_0_2 main_v24
  let main_cst_4 : FVec F S_ .f32 := constant S_ .f32 0x3E2AAAAB#32
  let main_v26 : FVec F S48x1x18432 .f32 := broadcastInDim S48x1x18432 ![] bcast_S_S48x1x18432 main_cst_4
  let main_v27 : FVec F S48x1x18432 .f32 := mulf main_v25 main_v26
  let main_cst_5 : FVec F S_ .f32 := constant S_ .f32 0x00000000#32
  let main_v28 : FVec F S48x1x18432 .f32 := broadcastInDim S48x1x18432 ![] bcast_S_S48x1x18432 main_cst_5
  let main_v29 : IVec S48x1x18432 1 := cmpf .oeq main_v25 main_v28
  let main_v30 : FVec F S48x1x18432 .f32 := Host.log main_v27
  let main_cst_6 : FVec F S_ .f32 := constant S_ .f32 0x40000000#32
  let main_v31 : FVec F S48x1x18432 .f32 := broadcastInDim S48x1x18432 ![] bcast_S_S48x1x18432 main_cst_6
  let main_v32 : FVec F S48x1x18432 .f32 := Host.log main_v31
  let main_v33 : FVec F S48x1x18432 .f32 := Host.divf main_v30 main_v32
  let main_v34 : FVec F S48x1x18432 .f32 := Host.floor main_v33
  let main_cst_7 : FVec F S_ .f32 := constant S_ .f32 0x3F800000#32
  let main_v35 : FVec F S48x1x18432 .f32 := broadcastInDim S48x1x18432 ![] bcast_S_S48x1x18432 main_cst_7
  let main_v36 : FVec F S48x1x18432 .f32 := addf main_v34 main_v35
  let main_cst_8 : FVec F S_ .f32 := constant S_ .f32 0x00000000#32
  fn_part2 (F := F) main_arg3 main_v22 main_v27 main_v29 main_v36 main_cst_8

def fn {F : FTy → Type} [FloatOps F] (main_arg0 : IVec S768x7168 32) (main_arg1 : FVec F S2x768x18432 .bf16) (main_arg2 : FVec F S64 .f32) (main_arg3 : IVec S2x768x18432 8) : IVec S48x32x18432 1 :=
  let main_v0 : IVec S64 32 := iotaInDim S64 32 0
  let main_v1 : IVec S64x1 32 := broadcastInDim S64x1 ![0] bcast_S64_S64x1_0 main_v0
  let main_v2 : IVec S1x64 32 := broadcastInDim S1x64 ![1] bcast_S64_S1x64_1 main_v0
  let main_v3 : IVec S64x64 32 := broadcastInDim S64x64 ![0, 1] bcast_S64x1_S64x64_0_1 main_v1
  let main_v4 : IVec S64x64 32 := broadcastInDim S64x64 ![0, 1] bcast_S1x64_S64x64_0_1 main_v2
  let main_v5 : IVec S64x64 32 := andi main_v3 main_v4
  let main_v6 : IVec S64x64 32 := ctpop main_v5
  let main_c : IVec S_ 32 := constantI S_ 32 1#32
  let main_v7 : IVec S64x64 32 := broadcastInDim S64x64 ![] bcast_S_S64x64 main_c
  let main_v8 : IVec S64x64 32 := andi main_v6 main_v7
  let main_c_0 : IVec S_ 32 := constantI S_ 32 0#32
  let main_v9 : IVec S64x64 32 := broadcastInDim S64x64 ![] bcast_S_S64x64 main_c_0
  let main_v10 : IVec S64x64 1 := cmpi .eq main_v8 main_v9
  let main_cst : FVec F S_ .f32 := constant S_ .f32 0x3F800000#32
  let main_cst_1 : FVec F S_ .f32 := constant S_ .f32 0xBF800000#32
  let main_v11 : FVec F S64x64 .f32 := fn_where (F := F) main_v10 main_cst main_cst_1
  let main_v12 : FVec F S64x64 .f32 := id main_v11
  let main_v13 : FVec F S1x64 .f32 := broadcastInDim S1x64 ![1] bcast_S64_S1x64_1 main_arg2
  let main_v14 : FVec F S64x64 .f32 := broadcastInDim S64x64 ![0, 1] bcast_S1x64_S64x64_0_1 main_v13
  let main_v15 : FVec F S64x64 .f32 := mulf main_v12 main_v14
  let main_cst_2 : FVec F S_ .f32 := constant S_ .f32 0x3E000000#32
  let main_v16 : FVec F S64x64 .f32 := broadcastInDim S64x64 ![] bcast_S_S64x64 main_cst_2
  let main_v17 : FVec F S64x64 .f32 := mulf main_v15 main_v16
  let main_v18 : FVec F S2x768x18432 .f32 := (extf .f32 · bitsLt_bf16_f32) main_arg1
  fn_part1 (F := F) main_arg3 main_v17 main_v18
-- ==== Pre_x_scales_in_range.lean ====
abbrev S2x768x7168 : Shape := ⟨3, ![2, 768, 7168]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S24x64x7168 : Shape := ⟨3, ![24, 64, 7168]⟩
abbrev S24x7168x64 : Shape := ⟨3, ![24, 7168, 64]⟩
abbrev S48x32x7168 : Shape := ⟨3, ![48, 32, 7168]⟩
abbrev S48x7168 : Shape := ⟨2, ![48, 7168]⟩
abbrev S48x1x7168 : Shape := ⟨3, ![48, 1, 7168]⟩

class Facts : Prop where
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bitsLt_bf16_f32 : FTy.bits .bf16 < FTy.bits .f32
  shapeCasts_S2x768x7168_S24x64x7168 : S2x768x7168.ShapeCasts S24x64x7168
  transposes_S24x7168x64_S24x64x7168_0_2_1 : S24x7168x64.Transposes [0, 2, 1] S24x64x7168
  shapeCasts_S24x64x7168_S48x32x7168 : S24x64x7168.ShapeCasts S48x32x7168
  reducesTo_S48x32x7168_S48x7168_d1 : S48x32x7168.ReducesTo [1] S48x7168
  h_S_ : 0 < S_.numel
  bcast_S48x7168_S48x1x7168_0_2 : S48x7168.BroadcastsInDim S48x1x7168 (![0, 2] : Fin 2 → Fin S48x1x7168.rank)
  bcast_S_S48x1x7168 : S_.BroadcastsInDim S48x1x7168 (![] : Fin 0 → Fin S48x1x7168.rank)
  bcast_S48x1x7168_S48x32x7168_0_1_2 : S48x1x7168.BroadcastsInDim S48x32x7168 (![0, 1, 2] : Fin 3 → Fin S48x32x7168.rank)
  dot_S24x64x7168_S64x64_S24x7168x64_1_1_02_0_n_n_wf : DotDims.WF S24x64x7168 S64x64 S24x7168x64 [1] [1] [0, 2] [0] [] []

variable [Facts]

def dot_S24x64x7168_S64x64_S24x7168x64_1_1_02_0_n_n : DotDims S24x64x7168 S64x64 S24x7168x64 where
  lhsContracting := [1]
  rhsContracting := [1]
  lhsNonContracting := [0, 2]
  rhsNonContracting := [0]
  lhsBatch := []
  rhsBatch := []
  wf := dot_S24x64x7168_S64x64_S24x7168x64_1_1_02_0_n_n_wf
def fn_where {F : FTy → Type} [FloatOps F] (arg0 : IVec S64x64 1) (arg1 : FVec F S_ .f32) (arg2 : FVec F S_ .f32) : FVec F S64x64 .f32 :=
  let v0 : FVec F S64x64 .f32 := broadcastInDim S64x64 ![] bcast_S_S64x64 arg1
  let v1 : FVec F S64x64 .f32 := broadcastInDim S64x64 ![] bcast_S_S64x64 arg2
  let v2 : FVec F S64x64 .f32 := select arg0 v0 v1
  v2

def fn_where_0 {F : FTy → Type} [FloatOps F] (arg0 : IVec S48x1x7168 1) (arg1 : FVec F S_ .f32) (arg2 : FVec F S48x1x7168 .f32) : FVec F S48x1x7168 .f32 :=
  let v0 : FVec F S_ .f32 := id arg1
  let v1 : FVec F S48x1x7168 .f32 := broadcastInDim S48x1x7168 ![] bcast_S_S48x1x7168 v0
  let v2 : FVec F S48x1x7168 .f32 := select arg0 v1 arg2
  v2

def fn_part2 {F : FTy → Type} [FloatOps F] (main_v22 : FVec F S48x32x7168 .f32) (main_v25 : FVec F S48x1x7168 .f32) (main_v36 : FVec F S48x1x7168 .f32) (main_cst_8 : FVec F S_ .f32) : IVec S48x1x7168 1 :=
  let main_v37 : FVec F S48x1x7168 .f32 := broadcastInDim S48x1x7168 ![] bcast_S_S48x1x7168 main_cst_8
  let main_v38 : FVec F S48x1x7168 .f32 := Host.powf main_v37 main_v36
  let main_v39 : FVec F S48x32x7168 .f32 := broadcastInDim S48x32x7168 ![0, 1, 2] bcast_S48x1x7168_S48x32x7168_0_1_2 main_v38
  let main_v40 : FVec F S48x32x7168 .f32 := mulf main_v22 main_v39
  let main_cst_9 : FVec F S_ .f32 := constant S_ .f32 0x00000000#32
  let main_v41 : FVec F S48x1x7168 .f32 := broadcastInDim S48x1x7168 ![] bcast_S_S48x1x7168 main_cst_9
  let main_v42 : IVec S48x1x7168 1 := cmpf .oeq main_v25 main_v41
  let main_cst_10 : FVec F S_ .f32 := constant S_ .f32 0x01800000#32
  let main_v43 : FVec F S48x1x7168 .f32 := broadcastInDim S48x1x7168 ![] bcast_S_S48x1x7168 main_cst_10
  let main_v44 : IVec S48x1x7168 1 := cmpf .oge main_v25 main_v43
  let main_cst_11 : FVec F S_ .f32 := constant S_ .f32 0x3F000000#32
  let main_v45 : FVec F S48x1x7168 .f32 := broadcastInDim S48x1x7168 ![] bcast_S_S48x1x7168 main_cst_11
  let main_v46 : FVec F S48x1x7168 .f32 := mulf main_v25 main_v45
  let main_cst_12 : FVec F S_ .f32 := constant S_ .f32 0x7F000000#32
  let main_v47 : FVec F S48x1x7168 .f32 := broadcastInDim S48x1x7168 ![] bcast_S_S48x1x7168 main_cst_12
  let main_v48 : IVec S48x1x7168 1 := cmpf .olt main_v46 main_v47
  let main_v49 : IVec S48x1x7168 1 := andi main_v44 main_v48
  let main_v50 : IVec S48x1x7168 1 := ori main_v42 main_v49
  main_v50

def fn_part1 {F : FTy → Type} [FloatOps F] (main_v17 : FVec F S64x64 .f32) (main_v18 : FVec F S2x768x7168 .f32) : IVec S48x1x7168 1 :=
  let main_v19 : FVec F S24x64x7168 .f32 := shapeCast S24x64x7168 main_v18 shapeCasts_S2x768x7168_S24x64x7168
  let main_v20 : FVec F S24x7168x64 .f32 := (fun l r => Host.dotGeneral dot_S24x64x7168_S64x64_S24x7168x64_1_1_02_0_n_n (some .fp32) l r) main_v19 main_v17
  let main_v21 : FVec F S24x64x7168 .f32 := (transpose S24x64x7168 [0, 2, 1] · transposes_S24x7168x64_S24x64x7168_0_2_1) main_v20
  let main_v22 : FVec F S48x32x7168 .f32 := shapeCast S48x32x7168 main_v21 shapeCasts_S24x64x7168_S48x32x7168
  let main_v23 : FVec F S48x32x7168 .f32 := Host.absf main_v22
  let main_cst_3 : FVec F S_ .f32 := constant S_ .f32 0xFF800000#32
  let main_v24 : FVec F S48x7168 .f32 := (fun x v => Host.reduce FloatOps.maximumf x v reducesTo_S48x32x7168_S48x7168_d1 h_S_) main_v23 main_cst_3
  let main_v25 : FVec F S48x1x7168 .f32 := broadcastInDim S48x1x7168 ![0, 2] bcast_S48x7168_S48x1x7168_0_2 main_v24
  let main_cst_4 : FVec F S_ .f32 := constant S_ .f32 0x00000000#32
  let main_v26 : FVec F S48x1x7168 .f32 := broadcastInDim S48x1x7168 ![] bcast_S_S48x1x7168 main_cst_4
  let main_v27 : IVec S48x1x7168 1 := cmpf .oeq main_v25 main_v26
  let main_v28 : FVec F S48x1x7168 .f32 := Host.log main_v25
  let main_cst_5 : FVec F S_ .f32 := constant S_ .f32 0x40000000#32
  let main_v29 : FVec F S48x1x7168 .f32 := broadcastInDim S48x1x7168 ![] bcast_S_S48x1x7168 main_cst_5
  let main_v30 : FVec F S48x1x7168 .f32 := Host.log main_v29
  let main_v31 : FVec F S48x1x7168 .f32 := Host.divf main_v28 main_v30
  let main_v32 : FVec F S48x1x7168 .f32 := Host.floor main_v31
  let main_cst_6 : FVec F S_ .f32 := constant S_ .f32 0x40000000#32
  let main_v33 : FVec F S48x1x7168 .f32 := broadcastInDim S48x1x7168 ![] bcast_S_S48x1x7168 main_cst_6
  let main_v34 : FVec F S48x1x7168 .f32 := subf main_v32 main_v33
  let main_cst_7 : FVec F S_ .f32 := constant S_ .f32 0x00000000#32
  let main_v35 : FVec F S48x1x7168 .f32 := fn_where_0 (F := F) main_v27 main_cst_7 main_v34
  let main_v36 : FVec F S48x1x7168 .f32 := Host.negf main_v35
  let main_cst_8 : FVec F S_ .f32 := constant S_ .f32 0x40000000#32
  fn_part2 (F := F) main_v22 main_v25 main_v36 main_cst_8

def fn {F : FTy → Type} [FloatOps F] (main_arg0 : FVec F S2x768x7168 .bf16) (main_arg1 : FVec F S64 .f32) : IVec S48x1x7168 1 :=
  let main_v0 : IVec S64 32 := iotaInDim S64 32 0
  let main_v1 : IVec S64x1 32 := broadcastInDim S64x1 ![0] bcast_S64_S64x1_0 main_v0
  let main_v2 : IVec S1x64 32 := broadcastInDim S1x64 ![1] bcast_S64_S1x64_1 main_v0
  let main_v3 : IVec S64x64 32 := broadcastInDim S64x64 ![0, 1] bcast_S64x1_S64x64_0_1 main_v1
  let main_v4 : IVec S64x64 32 := broadcastInDim S64x64 ![0, 1] bcast_S1x64_S64x64_0_1 main_v2
  let main_v5 : IVec S64x64 32 := andi main_v3 main_v4
  let main_v6 : IVec S64x64 32 := ctpop main_v5
  let main_c : IVec S_ 32 := constantI S_ 32 1#32
  let main_v7 : IVec S64x64 32 := broadcastInDim S64x64 ![] bcast_S_S64x64 main_c
  let main_v8 : IVec S64x64 32 := andi main_v6 main_v7
  let main_c_0 : IVec S_ 32 := constantI S_ 32 0#32
  let main_v9 : IVec S64x64 32 := broadcastInDim S64x64 ![] bcast_S_S64x64 main_c_0
  let main_v10 : IVec S64x64 1 := cmpi .eq main_v8 main_v9
  let main_cst : FVec F S_ .f32 := constant S_ .f32 0x3F800000#32
  let main_cst_1 : FVec F S_ .f32 := constant S_ .f32 0xBF800000#32
  let main_v11 : FVec F S64x64 .f32 := fn_where (F := F) main_v10 main_cst main_cst_1
  let main_v12 : FVec F S64x64 .f32 := id main_v11
  let main_v13 : FVec F S1x64 .f32 := broadcastInDim S1x64 ![1] bcast_S64_S1x64_1 main_arg1
  let main_v14 : FVec F S64x64 .f32 := broadcastInDim S64x64 ![0, 1] bcast_S1x64_S64x64_0_1 main_v13
  let main_v15 : FVec F S64x64 .f32 := mulf main_v12 main_v14
  let main_cst_2 : FVec F S_ .f32 := constant S_ .f32 0x3E000000#32
  let main_v16 : FVec F S64x64 .f32 := broadcastInDim S64x64 ![] bcast_S_S64x64 main_cst_2
  let main_v17 : FVec F S64x64 .f32 := mulf main_v15 main_v16
  let main_v18 : FVec F S2x768x7168 .f32 := (extf .f32 · bitsLt_bf16_f32) main_arg0
  fn_part1 (F := F) main_v17 main_v18
-- ==== Kernel.lean ====
abbrev S768x7168 : Shape := ⟨2, ![768, 7168]⟩
abbrev S2x768x18432 : Shape := ⟨3, ![2, 768, 18432]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S4x4 : Shape := ⟨2, ![4, 4]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S1536x18432 : Shape := ⟨2, ![1536, 18432]⟩
abbrev S768x18432 : Shape := ⟨2, ![768, 18432]⟩
abbrev S2x24x18432 : Shape := ⟨3, ![2, 24, 18432]⟩
abbrev S18432x7168 : Shape := ⟨2, ![18432, 7168]⟩
abbrev S1536x512 : Shape := ⟨2, ![1536, 512]⟩
abbrev S768x512 : Shape := ⟨2, ![768, 512]⟩
abbrev S2x24x512 : Shape := ⟨3, ![2, 24, 512]⟩
abbrev S2x256x1536 : Shape := ⟨3, ![2, 256, 1536]⟩
abbrev S48x512 : Shape := ⟨2, ![48, 512]⟩
abbrev S2x512x512 : Shape := ⟨3, ![2, 512, 512]⟩
abbrev S2 : Shape := ⟨1, ![2]⟩
abbrev S256x512 : Shape := ⟨2, ![256, 512]⟩
abbrev S8x32x512 : Shape := ⟨3, ![8, 32, 512]⟩
abbrev S8x512 : Shape := ⟨2, ![8, 512]⟩
abbrev S8x1x512 : Shape := ⟨3, ![8, 1, 512]⟩
abbrev S128x2x512 : Shape := ⟨3, ![128, 2, 512]⟩
abbrev S128x1x512 : Shape := ⟨3, ![128, 1, 512]⟩
abbrev S128x512 : Shape := ⟨2, ![128, 512]⟩
abbrev S1x512 : Shape := ⟨2, ![1, 512]⟩
abbrev S16x512 : Shape := ⟨2, ![16, 512]⟩
abbrev S32x512 : Shape := ⟨2, ![32, 512]⟩
abbrev S512x256 : Shape := ⟨2, ![512, 256]⟩
abbrev S1x256x256 : Shape := ⟨3, ![1, 256, 256]⟩
abbrev S24x512 : Shape := ⟨2, ![24, 512]⟩
abbrev S1x24x512 : Shape := ⟨3, ![1, 24, 512]⟩
abbrev S1 : Shape := ⟨1, ![1]⟩
abbrev S512x512 : Shape := ⟨2, ![512, 512]⟩
abbrev S1x512x512 : Shape := ⟨3, ![1, 512, 512]⟩
abbrev S1x256x1536 : Shape := ⟨3, ![1, 256, 1536]⟩
abbrev S256x1536 : Shape := ⟨2, ![256, 1536]⟩
abbrev S512x1536 : Shape := ⟨2, ![512, 1536]⟩

abbrev nBuf : Space → Nat
  | .hbm => 48
  | .vmem => 13
  | .smem => 0
  | _ => 0

abbrev bufTy : (tb : Table) → Fin (tcTables nBuf tb) → BufTy
  | .hbm, ⟨0, _⟩ => ⟨S768x7168, .i32⟩
  | .hbm, ⟨1, _⟩ => ⟨S2x768x18432, .bf16⟩
  | .hbm, ⟨2, _⟩ => ⟨S64, .f32⟩
  | .hbm, ⟨3, _⟩ => ⟨S2x768x18432, .i8⟩
  | .hbm, ⟨4, _⟩ => ⟨S64, .i32⟩
  | .hbm, ⟨5, _⟩ => ⟨S64x1, .i32⟩
  | .hbm, ⟨6, _⟩ => ⟨S1x64, .i32⟩
  | .hbm, ⟨7, _⟩ => ⟨S64x64, .i32⟩
  | .hbm, ⟨8, _⟩ => ⟨S64x64, .i32⟩
  | .hbm, ⟨9, _⟩ => ⟨S64x64, .i32⟩
  | .hbm, ⟨10, _⟩ => ⟨S64x64, .i32⟩
  | .hbm, ⟨11, _⟩ => ⟨S_, .i32⟩
  | .hbm, ⟨12, _⟩ => ⟨S64x64, .i32⟩
  | .hbm, ⟨13, _⟩ => ⟨S64x64, .i32⟩
  | .hbm, ⟨14, _⟩ => ⟨S_, .i32⟩
  | .hbm, ⟨15, _⟩ => ⟨S64x64, .i32⟩
  | .hbm, ⟨16, _⟩ => ⟨S64x64, .i1⟩
  | .hbm, ⟨17, _⟩ => ⟨S_, .f32⟩
  | .hbm, ⟨18, _⟩ => ⟨S_, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S1x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S_, .f32⟩
  | .hbm, ⟨27, _⟩ => ⟨S64x64, .f32⟩
  | .hbm, ⟨28, _⟩ => ⟨S64x64, .f32⟩
  | .hbm, ⟨29, _⟩ => ⟨S4x4, .i32⟩
  | .hbm, ⟨30, _⟩ => ⟨S4x4, .i32⟩
  | .hbm, ⟨31, _⟩ => ⟨S_, .i32⟩
  | .hbm, ⟨32, _⟩ => ⟨S4x4, .i32⟩
  | .hbm, ⟨33, _⟩ => ⟨S4x4, .i32⟩
  | .hbm, ⟨34, _⟩ => ⟨S4x4, .i1⟩
  | .hbm, ⟨35, _⟩ => ⟨S4x4, .f32⟩
  | .hbm, ⟨36, _⟩ => ⟨S4x1x4x1, .f32⟩
  | .hbm, ⟨37, _⟩ => ⟨S1x64x1x64, .f32⟩
  | .hbm, ⟨38, _⟩ => ⟨S4x64x4x64, .f32⟩
  | .hbm, ⟨39, _⟩ => ⟨S4x64x4x64, .f32⟩
  | .hbm, ⟨40, _⟩ => ⟨S4x64x4x64, .f32⟩
  | .hbm, ⟨41, _⟩ => ⟨S256x256, .f32⟩
  | .hbm, ⟨42, _⟩ => ⟨S256x256, .bf16⟩
  | .hbm, ⟨43, _⟩ => ⟨S1536x18432, .bf16⟩
  | .hbm, ⟨44, _⟩ => ⟨S1536x18432, .i8⟩
  | .hbm, ⟨45, _⟩ => ⟨S768x18432, .i8⟩
  | .hbm, ⟨46, _⟩ => ⟨S2x24x18432, .i8⟩
  | .hbm, ⟨47, _⟩ => ⟨S18432x7168, .f32⟩
  | .local _ .vmem, ⟨0, _⟩ => ⟨S256x256, .bf16⟩
  | .local _ .vmem, ⟨1, _⟩ => ⟨S1536x512, .bf16⟩
  | .local _ .vmem, ⟨2, _⟩ => ⟨S1536x512, .bf16⟩
  | .local _ .vmem, ⟨3, _⟩ => ⟨S1536x512, .i8⟩
  | .local _ .vmem, ⟨4, _⟩ => ⟨S1536x512, .i8⟩
  | .local _ .vmem, ⟨5, _⟩ => ⟨S768x512, .i8⟩
  | .local _ .vmem, ⟨6, _⟩ => ⟨S768x512, .i8⟩
  | .local _ .vmem, ⟨7, _⟩ => ⟨S2x24x512, .i8⟩
  | .local _ .vmem, ⟨8, _⟩ => ⟨S2x24x512, .i8⟩
  | .local _ .vmem, ⟨9, _⟩ => ⟨S768x7168, .i32⟩
  | .local _ .vmem, ⟨10, _⟩ => ⟨S2x256x1536, .i32⟩
  | .local _ .vmem, ⟨11, _⟩ => ⟨S48x512, .i32⟩
  | .local _ .vmem, ⟨12, _⟩ => ⟨S2x512x512, .f32⟩
  | _, _ => ⟨S768x7168, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28_0 : Ref sig .tc := ⟨.hbm, 45, rfl⟩
abbrev main_v28_1 : Ref sig .tc := ⟨.hbm, 46, rfl⟩
abbrev main_v28_2 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [BitOps F]

abbrev grid0 : Pipeline.Grid := ⟨1, ![37], ![false]⟩

def k0_cond2 (i : grid0.Coords) : BitVec 1 :=
  let arg0 : BitVec 32 := BitVec.ofNat 32 (i 0).val
  let c0_i32_1 : BitVec 32 := 0#32
  let v5 : BitVec 1 := Scalar.cmpi .eq arg0 c0_i32_1
  let v6 : BitVec 32 := Scalar.extui v5
  let c0_i32_2 : BitVec 32 := 0#32
  let v7 : BitVec 1 := Scalar.cmpi .ne v6 c0_i32_2
  v7

@[reducible] def k0_t1_loop : Scf.Loop 32 :=
  let c0_i32_7 : BitVec 32 := 0#32
  let c6_i32 : BitVec 32 := 6#32
  let v16 : BitVec 32 := Scalar.addi c0_i32_7 c6_i32
  let c1_i32_8 : BitVec 32 := 1#32
  ⟨c0_i32_7, v16, c1_i32_8⟩
def k0_mult1 (k0_t1 : Fin k0_t1_loop.trips) : BitVec 32 :=
  let c0_i32_7 : BitVec 32 := 0#32
  let c1_i32_8 : BitVec 32 := 1#32
  let arg14 : BitVec 32 := Scf.iv c0_i32_7 c1_i32_8 k0_t1
  let c256_i32 : BitVec 32 := 256#32
  let v27 : BitVec 32 := Scalar.muli arg14 c256_i32
  v27
def k0_off1 (k0_t1 : Fin k0_t1_loop.trips) : Fin 2 → Nat :=
  let c0_i32_7 : BitVec 32 := 0#32
  let c1_i32_8 : BitVec 32 := 1#32
  let arg14 : BitVec 32 := Scf.iv c0_i32_7 c1_i32_8 k0_t1
  let c256_i32 : BitVec 32 := 256#32
  let v27 : BitVec 32 := Scalar.muli arg14 c256_i32
  let v28 : BitVec 32 := v27
  let v31 : Index := Scalar.indexCast v28
  let c0_19 : Index := 0#32
  ![v31.toNat, 0]
def k0_mult2 (k0_t1 : Fin k0_t1_loop.trips) : BitVec 32 :=
  let c0_i32_7 : BitVec 32 := 0#32
  let c1_i32_8 : BitVec 32 := 1#32
  let arg14 : BitVec 32 := Scf.iv c0_i32_7 c1_i32_8 k0_t1
  let c128_i32_85 : BitVec 32 := 128#32
  let v255 : BitVec 32 := Scalar.muli arg14 c128_i32_85
  v255
def k0_off2 (k0_t1 : Fin k0_t1_loop.trips) : Fin 2 → Nat :=
  let c0_i32_7 : BitVec 32 := 0#32
  let c1_i32_8 : BitVec 32 := 1#32
  let arg14 : BitVec 32 := Scf.iv c0_i32_7 c1_i32_8 k0_t1
  let c128_i32_85 : BitVec 32 := 128#32
  let v255 : BitVec 32 := Scalar.muli arg14 c128_i32_85
  let v256 : BitVec 32 := v255
  let v274 : Index := Scalar.indexCast v256
  let c0_90 : Index := 0#32
  ![v274.toNat, 0]
def k0_mult3 (k0_t1 : Fin k0_t1_loop.trips) : BitVec 32 :=
  let c0_i32_7 : BitVec 32 := 0#32
  let c1_i32_8 : BitVec 32 := 1#32
  let arg14 : BitVec 32 := Scf.iv c0_i32_7 c1_i32_8 k0_t1
  let c8_i32_91 : BitVec 32 := 8#32
  let v276 : BitVec 32 := Scalar.muli arg14 c8_i32_91
  v276
def k0_off3 (k0_t1 : Fin k0_t1_loop.trips) : Fin 2 → Nat :=
  let c0_i32_7 : BitVec 32 := 0#32
  let c1_i32_8 : BitVec 32 := 1#32
  let arg14 : BitVec 32 := Scf.iv c0_i32_7 c1_i32_8 k0_t1
  let c8_i32_91 : BitVec 32 := 8#32
  let v276 : BitVec 32 := Scalar.muli arg14 c8_i32_91
  let v277 : BitVec 32 := v276
  let v278 : Index := Scalar.indexCast v277
  let c0_92 : Index := 0#32
  ![v278.toNat, 0]
def k0_off4 (i : grid0.Coords) (k0_t1 : Fin k0_t1_loop.trips) : Fin 3 → Nat :=
  let arg0 : BitVec 32 := BitVec.ofNat 32 (i 0).val
  let c2_i32 : BitVec 32 := 2#32
  let v3 : BitVec 32 := Scalar.remsi arg0 c2_i32
  let v338 : Index := Scalar.indexCast v3
  let c0_95 : Index := 0#32
  let c0_i32_7 : BitVec 32 := 0#32
  let c1_i32_8 : BitVec 32 := 1#32
  let arg14 : BitVec 32 := Scf.iv c0_i32_7 c1_i32_8 k0_t1
  let c256_i32 : BitVec 32 := 256#32
  let v27 : BitVec 32 := Scalar.muli arg14 c256_i32
  let v28 : BitVec 32 := v27
  let v339 : Index := Scalar.indexCast v28
  ![v338.toNat, 0, v339.toNat]
def k0_cond3 (i : grid0.Coords) : BitVec 1 :=
  let arg0 : BitVec 32 := BitVec.ofNat 32 (i 0).val
  let c0_i32_3 : BitVec 32 := 0#32
  let v8 : BitVec 1 := Scalar.cmpi .sgt arg0 c0_i32_3
  let c36_i32 : BitVec 32 := 36#32
  let v9 : BitVec 1 := Scalar.cmpi .slt arg0 c36_i32
  let v10 : BitVec 1 := Scalar.andi v8 v9
  let v11 : BitVec 32 := Scalar.extui v10
  let c0_i32_4 : BitVec 32 := 0#32
  let v12 : BitVec 1 := Scalar.cmpi .ne v11 c0_i32_4
  v12

@[reducible] def k0_t2_loop : Scf.Loop 32 :=
  let c0_i32_7 : BitVec 32 := 0#32
  let c6_i32 : BitVec 32 := 6#32
  let v16 : BitVec 32 := Scalar.addi c0_i32_7 c6_i32
  let c1_i32_8 : BitVec 32 := 1#32
  ⟨c0_i32_7, v16, c1_i32_8⟩
def k0_cond4 (i : grid0.Coords) (k0_t2 : Fin k0_t2_loop.trips) : BitVec 1 :=
  let arg0 : BitVec 32 := BitVec.ofNat 32 (i 0).val
  let c1_i32_21 : BitVec 32 := 1#32
  let v29 : BitVec 1 := Scalar.cmpi .sgt arg0 c1_i32_21
  let c0_i32_7 : BitVec 32 := 0#32
  let c1_i32_8 : BitVec 32 := 1#32
  let arg14 : BitVec 32 := Scf.iv c0_i32_7 c1_i32_8 k0_t2
  let c2_i32_22 : BitVec 32 := 2#32
  let v30 : BitVec 1 := Scalar.cmpi .sge arg14 c2_i32_22
  let v31 : BitVec 1 := Scalar.ori v29 v30
  let v32 : BitVec 32 := Scalar.extui v31
  let c0_i32_23 : BitVec 32 := 0#32
  let v33 : BitVec 1 := Scalar.cmpi .ne v32 c0_i32_23
  v33

def k0_off5 (k0_t2 : Fin k0_t2_loop.trips) : Fin 1 → Nat :=
  let c0_i32_7 : BitVec 32 := 0#32
  let c1_i32_8 : BitVec 32 := 1#32
  let arg14 : BitVec 32 := Scf.iv c0_i32_7 c1_i32_8 k0_t2
  let c2_i32_20 : BitVec 32 := 2#32
  let v28 : BitVec 32 := Scalar.remsi arg14 c2_i32_20
  ![v28.toNat]
def k0_off6 (k0_t2 : Fin k0_t2_loop.trips) : Fin 3 → Nat :=
  let c0_i32_7 : BitVec 32 := 0#32
  let c1_i32_8 : BitVec 32 := 1#32
  let arg14 : BitVec 32 := Scf.iv c0_i32_7 c1_i32_8 k0_t2
  let c2_i32_20 : BitVec 32 := 2#32
  let v28 : BitVec 32 := Scalar.remsi arg14 c2_i32_20
  let c0_i32_117 : BitVec 32 := 0#32
  let c0_i32_118 : BitVec 32 := 0#32
  ![v28.toNat, 0, 0]
def k0_off7 (i : grid0.Coords) : Fin 3 → Nat :=
  let c1_i32 : BitVec 32 := 1#32
  let arg0 : BitVec 32 := BitVec.ofNat 32 (i 0).val
  let c2_i32 : BitVec 32 := 2#32
  let v3 : BitVec 32 := Scalar.remsi arg0 c2_i32
  let v4 : BitVec 32 := Scalar.subi c1_i32 v3
  let v34 : Index := Scalar.indexCast v4
  let c0_24 : Index := 0#32
  let c0_25 : Index := 0#32
  ![v34.toNat, 0, 0]
def k0_mult4 (k0_t2 : Fin k0_t2_loop.trips) : BitVec 32 :=
  let c0_i32_7 : BitVec 32 := 0#32
  let c1_i32_8 : BitVec 32 := 1#32
  let arg14 : BitVec 32 := Scf.iv c0_i32_7 c1_i32_8 k0_t2
  let c512_i32 : BitVec 32 := 512#32
  let v38 : BitVec 32 := Scalar.muli arg14 c512_i32
  v38
def k0_off8 (k0_t2 : Fin k0_t2_loop.trips) : Fin 2 → Nat :=
  let c0_26 : Index := 0#32
  let c0_i32_7 : BitVec 32 := 0#32
  let c1_i32_8 : BitVec 32 := 1#32
  let arg14 : BitVec 32 := Scf.iv c0_i32_7 c1_i32_8 k0_t2
  let c512_i32 : BitVec 32 := 512#32
  let v38 : BitVec 32 := Scalar.muli arg14 c512_i32
  let v39 : BitVec 32 := v38
  let v40 : Index := Scalar.indexCast v39
  ![0, v40.toNat]
def k0_off9 (k0_t2 : Fin k0_t2_loop.trips) : Fin 3 → Nat :=
  let c0_i32_7 : BitVec 32 := 0#32
  let c1_i32_8 : BitVec 32 := 1#32
  let arg14 : BitVec 32 := Scf.iv c0_i32_7 c1_i32_8 k0_t2
  let c2_i32_20 : BitVec 32 := 2#32
  let v28 : BitVec 32 := Scalar.remsi arg14 c2_i32_20
  let v44 : Index := Scalar.indexCast v28
  let c0_27 : Index := 0#32
  let c0_28 : Index := 0#32
  ![v44.toNat, 0, 0]
def k0_off10 (k0_t2 : Fin k0_t2_loop.trips) : Fin 1 → Nat :=
  let c0_i32_7 : BitVec 32 := 0#32
  let c1_i32_8 : BitVec 32 := 1#32
  let arg14 : BitVec 32 := Scf.iv c0_i32_7 c1_i32_8 k0_t2
  let c2_i32_20 : BitVec 32 := 2#32
  let v28 : BitVec 32 := Scalar.remsi arg14 c2_i32_20
  ![v28.toNat]
def k0_off11 (i : grid0.Coords) (k0_t2 : Fin k0_t2_loop.trips) : Fin 2 → Nat :=
  let arg0 : BitVec 32 := BitVec.ofNat 32 (i 0).val
  let c1_i32_29 : BitVec 32 := 1#32
  let v48 : BitVec 32 := Scalar.subi arg0 c1_i32_29
  let c512_i32_30 : BitVec 32 := 512#32
  let v49 : BitVec 32 := Scalar.muli v48 c512_i32_30
  let c0_i32_7 : BitVec 32 := 0#32
  let c1_i32_8 : BitVec 32 := 1#32
  let arg14 : BitVec 32 := Scf.iv c0_i32_7 c1_i32_8 k0_t2
  let c512_i32_31 : BitVec 32 := 512#32
  let v50 : BitVec 32 := Scalar.muli arg14 c512_i32_31
  ![v49.toNat, v50.toNat]
def k0_off12 (k0_t2 : Fin k0_t2_loop.trips) : Fin 3 → Nat :=
  let c0_i32_7 : BitVec 32 := 0#32
  let c1_i32_8 : BitVec 32 := 1#32
  let arg14 : BitVec 32 := Scf.iv c0_i32_7 c1_i32_8 k0_t2
  let c2_i32_20 : BitVec 32 := 2#32
  let v28 : BitVec 32 := Scalar.remsi arg14 c2_i32_20
  let c0_i32_32 : BitVec 32 := 0#32
  let c0_i32_33 : BitVec 32 := 0#32
  ![v28.toNat, 0, 0]
def k0_mult5 (k0_t2 : Fin k0_t2_loop.trips) : BitVec 32 :=
  let c0_i32_7 : BitVec 32 := 0#32
  let c1_i32_8 : BitVec 32 := 1#32
  let arg14 : BitVec 32 := Scf.iv c0_i32_7 c1_i32_8 k0_t2
  let c256_i32 : BitVec 32 := 256#32
  let v56 : BitVec 32 := Scalar.muli arg14 c256_i32
  v56
def k0_off13 (k0_t2 : Fin k0_t2_loop.trips) : Fin 2 → Nat :=
  let c0_i32_7 : BitVec 32 := 0#32
  let c1_i32_8 : BitVec 32 := 1#32
  let arg14 : BitVec 32 := Scf.iv c0_i32_7 c1_i32_8 k0_t2
  let c256_i32 : BitVec 32 := 256#32
  let v56 : BitVec 32 := Scalar.muli arg14 c256_i32
  let v57 : BitVec 32 := v56
  let v60 : Index := Scalar.indexCast v57
  let c0_36 : Index := 0#32
  ![v60.toNat, 0]
def k0_mult6 (k0_t2 : Fin k0_t2_loop.trips) : BitVec 32 :=
  let c0_i32_7 : BitVec 32 := 0#32
  let c1_i32_8 : BitVec 32 := 1#32
  let arg14 : BitVec 32 := Scf.iv c0_i32_7 c1_i32_8 k0_t2
  let c128_i32_104 : BitVec 32 := 128#32
  let v284 : BitVec 32 := Scalar.muli arg14 c128_i32_104
  v284
def k0_off14 (k0_t2 : Fin k0_t2_loop.trips) : Fin 2 → Nat :=
  let c0_i32_7 : BitVec 32 := 0#32
  let c1_i32_8 : BitVec 32 := 1#32
  let arg14 : BitVec 32 := Scf.iv c0_i32_7 c1_i32_8 k0_t2
  let c128_i32_104 : BitVec 32 := 128#32
  let v284 : BitVec 32 := Scalar.muli arg14 c128_i32_104
  let v285 : BitVec 32 := v284
  let v303 : Index := Scalar.indexCast v285
  let c0_109 : Index := 0#32
  ![v303.toNat, 0]
def k0_mult7 (k0_t2 : Fin k0_t2_loop.trips) : BitVec 32 :=
  let c0_i32_7 : BitVec 32 := 0#32
  let c1_i32_8 : BitVec 32 := 1#32
  let arg14 : BitVec 32 := Scf.iv c0_i32_7 c1_i32_8 k0_t2
  let c8_i32_110 : BitVec 32 := 8#32
  let v305 : BitVec 32 := Scalar.muli arg14 c8_i32_110
  v305
def k0_off15 (k0_t2 : Fin k0_t2_loop.trips) : Fin 2 → Nat :=
  let c0_i32_7 : BitVec 32 := 0#32
  let c1_i32_8 : BitVec 32 := 1#32
  let arg14 : BitVec 32 := Scf.iv c0_i32_7 c1_i32_8 k0_t2
  let c8_i32_110 : BitVec 32 := 8#32
  let v305 : BitVec 32 := Scalar.muli arg14 c8_i32_110
  let v306 : BitVec 32 := v305
  let v307 : Index := Scalar.indexCast v306
  let c0_111 : Index := 0#32
  ![v307.toNat, 0]
def k0_off16 (i : grid0.Coords) (k0_t2 : Fin k0_t2_loop.trips) : Fin 3 → Nat :=
  let arg0 : BitVec 32 := BitVec.ofNat 32 (i 0).val
  let c2_i32 : BitVec 32 := 2#32
  let v3 : BitVec 32 := Scalar.remsi arg0 c2_i32
  let v367 : Index := Scalar.indexCast v3
  let c0_114 : Index := 0#32
  let c0_i32_7 : BitVec 32 := 0#32
  let c1_i32_8 : BitVec 32 := 1#32
  let arg14 : BitVec 32 := Scf.iv c0_i32_7 c1_i32_8 k0_t2
  let c256_i32 : BitVec 32 := 256#32
  let v56 : BitVec 32 := Scalar.muli arg14 c256_i32
  let v57 : BitVec 32 := v56
  let v368 : Index := Scalar.indexCast v57
  ![v367.toNat, 0, v368.toNat]
@[reducible] def k0_t3_loop : Scf.Loop 32 :=
  let c6_i32_17 : BitVec 32 := 6#32
  let c8_i32 : BitVec 32 := 8#32
  let v27 : BitVec 32 := Scalar.addi c6_i32_17 c8_i32
  let c1_i32_18 : BitVec 32 := 1#32
  ⟨c6_i32_17, v27, c1_i32_18⟩
def k0_cond5 (i : grid0.Coords) (k0_t3 : Fin k0_t3_loop.trips) : BitVec 1 :=
  let arg0 : BitVec 32 := BitVec.ofNat 32 (i 0).val
  let c1_i32_21 : BitVec 32 := 1#32
  let v29 : BitVec 1 := Scalar.cmpi .sgt arg0 c1_i32_21
  let c6_i32_17 : BitVec 32 := 6#32
  let c1_i32_18 : BitVec 32 := 1#32
  let arg14 : BitVec 32 := Scf.iv c6_i32_17 c1_i32_18 k0_t3
  let c2_i32_22 : BitVec 32 := 2#32
  let v30 : BitVec 1 := Scalar.cmpi .sge arg14 c2_i32_22
  let v31 : BitVec 1 := Scalar.ori v29 v30
  let v32 : BitVec 32 := Scalar.extui v31
  let c0_i32_23 : BitVec 32 := 0#32
  let v33 : BitVec 1 := Scalar.cmpi .ne v32 c0_i32_23
  v33

def k0_off17 (k0_t3 : Fin k0_t3_loop.trips) : Fin 1 → Nat :=
  let c6_i32_17 : BitVec 32 := 6#32
  let c1_i32_18 : BitVec 32 := 1#32
  let arg14 : BitVec 32 := Scf.iv c6_i32_17 c1_i32_18 k0_t3
  let c2_i32_20 : BitVec 32 := 2#32
  let v28 : BitVec 32 := Scalar.remsi arg14 c2_i32_20
  ![v28.toNat]
def k0_off18 (k0_t3 : Fin k0_t3_loop.trips) : Fin 3 → Nat :=
  let c6_i32_17 : BitVec 32 := 6#32
  let c1_i32_18 : BitVec 32 := 1#32
  let arg14 : BitVec 32 := Scf.iv c6_i32_17 c1_i32_18 k0_t3
  let c2_i32_20 : BitVec 32 := 2#32
  let v28 : BitVec 32 := Scalar.remsi arg14 c2_i32_20
  let c0_i32_36 : BitVec 32 := 0#32
  let c0_i32_37 : BitVec 32 := 0#32
  ![v28.toNat, 0, 0]
def k0_off19 (i : grid0.Coords) : Fin 3 → Nat :=
  let c1_i32 : BitVec 32 := 1#32
  let arg0 : BitVec 32 := BitVec.ofNat 32 (i 0).val
  let c2_i32 : BitVec 32 := 2#32
  let v3 : BitVec 32 := Scalar.remsi arg0 c2_i32
  let v4 : BitVec 32 := Scalar.subi c1_i32 v3
  let v34 : Index := Scalar.indexCast v4
  let c0_24 : Index := 0#32
  let c0_25 : Index := 0#32
  ![v34.toNat, 0, 0]
def k0_mult8 (k0_t3 : Fin k0_t3_loop.trips) : BitVec 32 :=
  let c6_i32_17 : BitVec 32 := 6#32
  let c1_i32_18 : BitVec 32 := 1#32
  let arg14 : BitVec 32 := Scf.iv c6_i32_17 c1_i32_18 k0_t3
  let c512_i32 : BitVec 32 := 512#32
  let v38 : BitVec 32 := Scalar.muli arg14 c512_i32
  v38
def k0_off20 (k0_t3 : Fin k0_t3_loop.trips) : Fin 2 → Nat :=
  let c0_26 : Index := 0#32
  let c6_i32_17 : BitVec 32 := 6#32
  let c1_i32_18 : BitVec 32 := 1#32
  let arg14 : BitVec 32 := Scf.iv c6_i32_17 c1_i32_18 k0_t3
  let c512_i32 : BitVec 32 := 512#32
  let v38 : BitVec 32 := Scalar.muli arg14 c512_i32
  let v39 : BitVec 32 := v38
  let v40 : Index := Scalar.indexCast v39
  ![0, v40.toNat]
def k0_off21 (k0_t3 : Fin k0_t3_loop.trips) : Fin 3 → Nat :=
  let c6_i32_17 : BitVec 32 := 6#32
  let c1_i32_18 : BitVec 32 := 1#32
  let arg14 : BitVec 32 := Scf.iv c6_i32_17 c1_i32_18 k0_t3
  let c2_i32_20 : BitVec 32 := 2#32
  let v28 : BitVec 32 := Scalar.remsi arg14 c2_i32_20
  let v44 : Index := Scalar.indexCast v28
  let c0_27 : Index := 0#32
  let c0_28 : Index := 0#32
  ![v44.toNat, 0, 0]
def k0_off22 (k0_t3 : Fin k0_t3_loop.trips) : Fin 1 → Nat :=
  let c6_i32_17 : BitVec 32 := 6#32
  let c1_i32_18 : BitVec 32 := 1#32
  let arg14 : BitVec 32 := Scf.iv c6_i32_17 c1_i32_18 k0_t3
  let c2_i32_20 : BitVec 32 := 2#32
  let v28 : BitVec 32 := Scalar.remsi arg14 c2_i32_20
  ![v28.toNat]
def k0_off23 (i : grid0.Coords) (k0_t3 : Fin k0_t3_loop.trips) : Fin 2 → Nat :=
  let arg0 : BitVec 32 := BitVec.ofNat 32 (i 0).val
  let c1_i32_29 : BitVec 32 := 1#32
  let v48 : BitVec 32 := Scalar.subi arg0 c1_i32_29
  let c512_i32_30 : BitVec 32 := 512#32
  let v49 : BitVec 32 := Scalar.muli v48 c512_i32_30
  let c6_i32_17 : BitVec 32 := 6#32
  let c1_i32_18 : BitVec 32 := 1#32
  let arg14 : BitVec 32 := Scf.iv c6_i32_17 c1_i32_18 k0_t3
  let c512_i32_31 : BitVec 32 := 512#32
  let v50 : BitVec 32 := Scalar.muli arg14 c512_i32_31
  ![v49.toNat, v50.toNat]
def k0_off24 (k0_t3 : Fin k0_t3_loop.trips) : Fin 3 → Nat :=
  let c6_i32_17 : BitVec 32 := 6#32
  let c1_i32_18 : BitVec 32 := 1#32
  let arg14 : BitVec 32 := Scf.iv c6_i32_17 c1_i32_18 k0_t3
  let c2_i32_20 : BitVec 32 := 2#32
  let v28 : BitVec 32 := Scalar.remsi arg14 c2_i32_20
  let c0_i32_32 : BitVec 32 := 0#32
  let c0_i32_33 : BitVec 32 := 0#32
  ![v28.toNat, 0, 0]
def k0_cond6 (i : grid0.Coords) : BitVec 1 :=
  let arg0 : BitVec 32 := BitVec.ofNat 32 (i 0).val
  let c36_i32_5 : BitVec 32 := 36#32
  let v13 : BitVec 1 := Scalar.cmpi .eq arg0 c36_i32_5
  let v14 : BitVec 32 := Scalar.extui v13
  let c0_i32_6 : BitVec 32 := 0#32
  let v15 : BitVec 1 := Scalar.cmpi .ne v14 c0_i32_6
  v15

@[reducible] def k0_t4_loop : Scf.Loop 32 :=
  let c0_i32_7 : BitVec 32 := 0#32
  let c14_i32 : BitVec 32 := 14#32
  let v16 : BitVec 32 := Scalar.addi c0_i32_7 c14_i32
  let c1_i32_8 : BitVec 32 := 1#32
  ⟨c0_i32_7, v16, c1_i32_8⟩
def k0_cond7 (i : grid0.Coords) (k0_t4 : Fin k0_t4_loop.trips) : BitVec 1 :=
  let arg0 : BitVec 32 := BitVec.ofNat 32 (i 0).val
  let c1_i32_23 : BitVec 32 := 1#32
  let v28 : BitVec 1 := Scalar.cmpi .sgt arg0 c1_i32_23
  let c0_i32_7 : BitVec 32 := 0#32
  let c1_i32_8 : BitVec 32 := 1#32
  let arg14 : BitVec 32 := Scf.iv c0_i32_7 c1_i32_8 k0_t4
  let c2_i32_24 : BitVec 32 := 2#32
  let v29 : BitVec 1 := Scalar.cmpi .sge arg14 c2_i32_24
  let v30 : BitVec 1 := Scalar.ori v28 v29
  let v31 : BitVec 32 := Scalar.extui v30
  let c0_i32_25 : BitVec 32 := 0#32
  let v32 : BitVec 1 := Scalar.cmpi .ne v31 c0_i32_25
  v32

def k0_off25 (k0_t4 : Fin k0_t4_loop.trips) : Fin 1 → Nat :=
  let c0_i32_7 : BitVec 32 := 0#32
  let c1_i32_8 : BitVec 32 := 1#32
  let arg14 : BitVec 32 := Scf.iv c0_i32_7 c1_i32_8 k0_t4
  let c2_i32_22 : BitVec 32 := 2#32
  let v27 : BitVec 32 := Scalar.remsi arg14 c2_i32_22
  ![v27.toNat]
def k0_off26 (k0_t4 : Fin k0_t4_loop.trips) : Fin 3 → Nat :=
  let c0_i32_7 : BitVec 32 := 0#32
  let c1_i32_8 : BitVec 32 := 1#32
  let arg14 : BitVec 32 := Scf.iv c0_i32_7 c1_i32_8 k0_t4
  let c2_i32_22 : BitVec 32 := 2#32
  let v27 : BitVec 32 := Scalar.remsi arg14 c2_i32_22
  let c0_i32_37 : BitVec 32 := 0#32
  let c0_i32_38 : BitVec 32 := 0#32
  ![v27.toNat, 0, 0]
def k0_off27 (i : grid0.Coords) : Fin 3 → Nat :=
  let c1_i32 : BitVec 32 := 1#32
  let arg0 : BitVec 32 := BitVec.ofNat 32 (i 0).val
  let c2_i32 : BitVec 32 := 2#32
  let v3 : BitVec 32 := Scalar.remsi arg0 c2_i32
  let v4 : BitVec 32 := Scalar.subi c1_i32 v3
  let v33 : Index := Scalar.indexCast v4
  let c0 : Index := 0#32
  let c0_26 : Index := 0#32
  ![v33.toNat, 0, 0]
def k0_mult9 (k0_t4 : Fin k0_t4_loop.trips) : BitVec 32 :=
  let c0_i32_7 : BitVec 32 := 0#32
  let c1_i32_8 : BitVec 32 := 1#32
  let arg14 : BitVec 32 := Scf.iv c0_i32_7 c1_i32_8 k0_t4
  let c512_i32 : BitVec 32 := 512#32
  let v37 : BitVec 32 := Scalar.muli arg14 c512_i32
  v37
def k0_off28 (k0_t4 : Fin k0_t4_loop.trips) : Fin 2 → Nat :=
  let c0_27 : Index := 0#32
  let c0_i32_7 : BitVec 32 := 0#32
  let c1_i32_8 : BitVec 32 := 1#32
  let arg14 : BitVec 32 := Scf.iv c0_i32_7 c1_i32_8 k0_t4
  let c512_i32 : BitVec 32 := 512#32
  let v37 : BitVec 32 := Scalar.muli arg14 c512_i32
  let v38 : BitVec 32 := v37
  let v39 : Index := Scalar.indexCast v38
  ![0, v39.toNat]
def k0_off29 (k0_t4 : Fin k0_t4_loop.trips) : Fin 3 → Nat :=
  let c0_i32_7 : BitVec 32 := 0#32
  let c1_i32_8 : BitVec 32 := 1#32
  let arg14 : BitVec 32 := Scf.iv c0_i32_7 c1_i32_8 k0_t4
  let c2_i32_22 : BitVec 32 := 2#32
  let v27 : BitVec 32 := Scalar.remsi arg14 c2_i32_22
  let v43 : Index := Scalar.indexCast v27
  let c0_28 : Index := 0#32
  let c0_29 : Index := 0#32
  ![v43.toNat, 0, 0]
def k0_off30 (k0_t4 : Fin k0_t4_loop.trips) : Fin 1 → Nat :=
  let c0_i32_7 : BitVec 32 := 0#32
  let c1_i32_8 : BitVec 32 := 1#32
  let arg14 : BitVec 32 := Scf.iv c0_i32_7 c1_i32_8 k0_t4
  let c2_i32_22 : BitVec 32 := 2#32
  let v27 : BitVec 32 := Scalar.remsi arg14 c2_i32_22
  ![v27.toNat]
def k0_off31 (i : grid0.Coords) (k0_t4 : Fin k0_t4_loop.trips) : Fin 2 → Nat :=
  let arg0 : BitVec 32 := BitVec.ofNat 32 (i 0).val
  let c1_i32_30 : BitVec 32 := 1#32
  let v47 : BitVec 32 := Scalar.subi arg0 c1_i32_30
  let c512_i32_31 : BitVec 32 := 512#32
  let v48 : BitVec 32 := Scalar.muli v47 c512_i32_31
  let c0_i32_7 : BitVec 32 := 0#32
  let c1_i32_8 : BitVec 32 := 1#32
  let arg14 : BitVec 32 := Scf.iv c0_i32_7 c1_i32_8 k0_t4
  let c512_i32_32 : BitVec 32 := 512#32
  let v49 : BitVec 32 := Scalar.muli arg14 c512_i32_32
  ![v48.toNat, v49.toNat]
def k0_off32 (k0_t4 : Fin k0_t4_loop.trips) : Fin 3 → Nat :=
  let c0_i32_7 : BitVec 32 := 0#32
  let c1_i32_8 : BitVec 32 := 1#32
  let arg14 : BitVec 32 := Scf.iv c0_i32_7 c1_i32_8 k0_t4
  let c2_i32_22 : BitVec 32 := 2#32
  let v27 : BitVec 32 := Scalar.remsi arg14 c2_i32_22
  let c0_i32_33 : BitVec 32 := 0#32
  let c0_i32_34 : BitVec 32 := 0#32
  ![v27.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c35_i32 : BitVec 32 := 35#32
  let v0 : BitVec 32 := Scalar.minsi arg0 c35_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c35_i32 : BitVec 32 := 35#32
  let v0 : BitVec 32 := Scalar.minsi arg0 c35_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c35_i32 : BitVec 32 := 35#32
  let v0 : BitVec 32 := Scalar.minsi arg0 c35_i32
  let c0_i32 : BitVec 32 := 0#32
  let c0_i32_0 : BitVec 32 := 0#32
  ![c0_i32.toNat, v0.toNat]

def cc0_transform_5 (i : grid0.Coords) : Fin 3 → Nat :=
  let arg0 : BitVec 32 := BitVec.ofNat 32 (i 0).val
  let c35_i32 : BitVec 32 := 35#32
  let v0 : BitVec 32 := Scalar.minsi arg0 c35_i32
  let c0_i32 : BitVec 32 := 0#32
  let c0_i32_0 : BitVec 32 := 0#32
  let c0_i32_1 : BitVec 32 := 0#32
  ![c0_i32.toNat, c0_i32_0.toNat, v0.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1536x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x24x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== KernelIdeal.lean ====
abbrev S768x7168 : Shape := ⟨2, ![768, 7168]⟩
abbrev S2x768x18432 : Shape := ⟨3, ![2, 768, 18432]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S4x4 : Shape := ⟨2, ![4, 4]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S1536x18432 : Shape := ⟨2, ![1536, 18432]⟩
abbrev S768x18432 : Shape := ⟨2, ![768, 18432]⟩
abbrev S2x24x18432 : Shape := ⟨3, ![2, 24, 18432]⟩
abbrev S18432x7168 : Shape := ⟨2, ![18432, 7168]⟩
abbrev S1536x512 : Shape := ⟨2, ![1536, 512]⟩
abbrev S768x512 : Shape := ⟨2, ![768, 512]⟩
abbrev S2x24x512 : Shape := ⟨3, ![2, 24, 512]⟩
abbrev S2x256x1536 : Shape := ⟨3, ![2, 256, 1536]⟩
abbrev S2x256x2x1536 : Shape := ⟨4, ![2, 256, 2, 1536]⟩
abbrev S2x256x1x1536 : Shape := ⟨4, ![2, 256, 1, 1536]⟩
abbrev S48x512 : Shape := ⟨2, ![48, 512]⟩
abbrev S2x512x512 : Shape := ⟨3, ![2, 512, 512]⟩
abbrev S2 : Shape := ⟨1, ![2]⟩
abbrev S256x512 : Shape := ⟨2, ![256, 512]⟩
abbrev S8x32x512 : Shape := ⟨3, ![8, 32, 512]⟩
abbrev S8x512 : Shape := ⟨2, ![8, 512]⟩
abbrev S8x1x512 : Shape := ⟨3, ![8, 1, 512]⟩
abbrev S128x2x512 : Shape := ⟨3, ![128, 2, 512]⟩
abbrev S128x1x512 : Shape := ⟨3, ![128, 1, 512]⟩
abbrev S128x512 : Shape := ⟨2, ![128, 512]⟩
abbrev S1x512 : Shape := ⟨2, ![1, 512]⟩
abbrev S16x512 : Shape := ⟨2, ![16, 512]⟩
abbrev S32x512 : Shape := ⟨2, ![32, 512]⟩
abbrev S512x256 : Shape := ⟨2, ![512, 256]⟩
abbrev S1x256x256 : Shape := ⟨3, ![1, 256, 256]⟩
abbrev S1x256x2x256 : Shape := ⟨4, ![1, 256, 2, 256]⟩
abbrev S1x256x1x256 : Shape := ⟨4, ![1, 256, 1, 256]⟩
abbrev S24x512 : Shape := ⟨2, ![24, 512]⟩
abbrev S1x24x512 : Shape := ⟨3, ![1, 24, 512]⟩
abbrev S1 : Shape := ⟨1, ![1]⟩
abbrev S512x512 : Shape := ⟨2, ![512, 512]⟩
abbrev S1x512x512 : Shape := ⟨3, ![1, 512, 512]⟩
abbrev S1x256x1536 : Shape := ⟨3, ![1, 256, 1536]⟩
abbrev S1x256x2x1536 : Shape := ⟨4, ![1, 256, 2, 1536]⟩
abbrev S1x256x1x1536 : Shape := ⟨4, ![1, 256, 1, 1536]⟩
abbrev S256x1536 : Shape := ⟨2, ![256, 1536]⟩
abbrev S512x1536 : Shape := ⟨2, ![512, 1536]⟩

abbrev nBuf : Space → Nat
  | .hbm => 48
  | .vmem => 13
  | .smem => 0
  | _ => 0

abbrev bufTy : (tb : Table) → Fin (tcTables nBuf tb) → BufTy
  | .hbm, ⟨0, _⟩ => ⟨S768x7168, .i32⟩
  | .hbm, ⟨1, _⟩ => ⟨S2x768x18432, .bf16⟩
  | .hbm, ⟨2, _⟩ => ⟨S64, .f32⟩
  | .hbm, ⟨3, _⟩ => ⟨S2x768x18432, .i8⟩
  | .hbm, ⟨4, _⟩ => ⟨S64, .i32⟩
  | .hbm, ⟨5, _⟩ => ⟨S64x1, .i32⟩
  | .hbm, ⟨6, _⟩ => ⟨S1x64, .i32⟩
  | .hbm, ⟨7, _⟩ => ⟨S64x64, .i32⟩
  | .hbm, ⟨8, _⟩ => ⟨S64x64, .i32⟩
  | .hbm, ⟨9, _⟩ => ⟨S64x64, .i32⟩
  | .hbm, ⟨10, _⟩ => ⟨S64x64, .i32⟩
  | .hbm, ⟨11, _⟩ => ⟨S_, .i32⟩
  | .hbm, ⟨12, _⟩ => ⟨S64x64, .i32⟩
  | .hbm, ⟨13, _⟩ => ⟨S64x64, .i32⟩
  | .hbm, ⟨14, _⟩ => ⟨S_, .i32⟩
  | .hbm, ⟨15, _⟩ => ⟨S64x64, .i32⟩
  | .hbm, ⟨16, _⟩ => ⟨S64x64, .i1⟩
  | .hbm, ⟨17, _⟩ => ⟨S_, .f32⟩
  | .hbm, ⟨18, _⟩ => ⟨S_, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S1x64, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S_, .f32⟩
  | .hbm, ⟨27, _⟩ => ⟨S64x64, .f32⟩
  | .hbm, ⟨28, _⟩ => ⟨S64x64, .f32⟩
  | .hbm, ⟨29, _⟩ => ⟨S4x4, .i32⟩
  | .hbm, ⟨30, _⟩ => ⟨S4x4, .i32⟩
  | .hbm, ⟨31, _⟩ => ⟨S_, .i32⟩
  | .hbm, ⟨32, _⟩ => ⟨S4x4, .i32⟩
  | .hbm, ⟨33, _⟩ => ⟨S4x4, .i32⟩
  | .hbm, ⟨34, _⟩ => ⟨S4x4, .i1⟩
  | .hbm, ⟨35, _⟩ => ⟨S4x4, .f32⟩
  | .hbm, ⟨36, _⟩ => ⟨S4x1x4x1, .f32⟩
  | .hbm, ⟨37, _⟩ => ⟨S1x64x1x64, .f32⟩
  | .hbm, ⟨38, _⟩ => ⟨S4x64x4x64, .f32⟩
  | .hbm, ⟨39, _⟩ => ⟨S4x64x4x64, .f32⟩
  | .hbm, ⟨40, _⟩ => ⟨S4x64x4x64, .f32⟩
  | .hbm, ⟨41, _⟩ => ⟨S256x256, .f32⟩
  | .hbm, ⟨42, _⟩ => ⟨S256x256, .bf16⟩
  | .hbm, ⟨43, _⟩ => ⟨S1536x18432, .bf16⟩
  | .hbm, ⟨44, _⟩ => ⟨S1536x18432, .i8⟩
  | .hbm, ⟨45, _⟩ => ⟨S768x18432, .i8⟩
  | .hbm, ⟨46, _⟩ => ⟨S2x24x18432, .i8⟩
  | .hbm, ⟨47, _⟩ => ⟨S18432x7168, .f32⟩
  | .local _ .vmem, ⟨0, _⟩ => ⟨S256x256, .bf16⟩
  | .local _ .vmem, ⟨1, _⟩ => ⟨S1536x512, .bf16⟩
  | .local _ .vmem, ⟨2, _⟩ => ⟨S1536x512, .bf16⟩
  | .local _ .vmem, ⟨3, _⟩ => ⟨S1536x512, .i8⟩
  | .local _ .vmem, ⟨4, _⟩ => ⟨S1536x512, .i8⟩
  | .local _ .vmem, ⟨5, _⟩ => ⟨S768x512, .i8⟩
  | .local _ .vmem, ⟨6, _⟩ => ⟨S768x512, .i8⟩
  | .local _ .vmem, ⟨7, _⟩ => ⟨S2x24x512, .i8⟩
  | .local _ .vmem, ⟨8, _⟩ => ⟨S2x24x512, .i8⟩
  | .local _ .vmem, ⟨9, _⟩ => ⟨S768x7168, .i32⟩
  | .local _ .vmem, ⟨10, _⟩ => ⟨S2x256x2x1536, .bf16⟩
  | .local _ .vmem, ⟨11, _⟩ => ⟨S48x512, .i32⟩
  | .local _ .vmem, ⟨12, _⟩ => ⟨S2x512x512, .f32⟩
  | _, _ => ⟨S768x7168, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28_0 : Ref sig .tc := ⟨.hbm, 45, rfl⟩
abbrev main_v28_1 : Ref sig .tc := ⟨.hbm, 46, rfl⟩
abbrev main_v28_2 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![37], ![false]⟩

def k0_cond2 (i : grid0.Coords) : BitVec 1 :=
  let arg0 : BitVec 32 := BitVec.ofNat 32 (i 0).val
  let c0_i32_1 : BitVec 32 := 0#32
  let v5 : BitVec 1 := Scalar.cmpi .eq arg0 c0_i32_1
  let v6 : BitVec 32 := Scalar.extui v5
  let c0_i32_2 : BitVec 32 := 0#32
  let v7 : BitVec 1 := Scalar.cmpi .ne v6 c0_i32_2
  v7

@[reducible] def k0_t1_loop : Scf.Loop 32 :=
  let c0_i32_7 : BitVec 32 := 0#32
  let c6_i32 : BitVec 32 := 6#32
  let v16 : BitVec 32 := Scalar.addi c0_i32_7 c6_i32
  let c1_i32_8 : BitVec 32 := 1#32
  ⟨c0_i32_7, v16, c1_i32_8⟩
def k0_mult1 (k0_t1 : Fin k0_t1_loop.trips) : BitVec 32 :=
  let c0_i32_7 : BitVec 32 := 0#32
  let c1_i32_8 : BitVec 32 := 1#32
  let arg14 : BitVec 32 := Scf.iv c0_i32_7 c1_i32_8 k0_t1
  let c256_i32 : BitVec 32 := 256#32
  let v27 : BitVec 32 := Scalar.muli arg14 c256_i32
  v27
def k0_off1 (k0_t1 : Fin k0_t1_loop.trips) : Fin 2 → Nat :=
  let c0_i32_7 : BitVec 32 := 0#32
  let c1_i32_8 : BitVec 32 := 1#32
  let arg14 : BitVec 32 := Scf.iv c0_i32_7 c1_i32_8 k0_t1
  let c256_i32 : BitVec 32 := 256#32
  let v27 : BitVec 32 := Scalar.muli arg14 c256_i32
  let v28 : BitVec 32 := v27
  let v31 : Index := Scalar.indexCast v28
  let c0_19 : Index := 0#32
  ![v31.toNat, 0]
def k0_mult2 (k0_t1 : Fin k0_t1_loop.trips) : BitVec 32 :=
  let c0_i32_7 : BitVec 32 := 0#32
  let c1_i32_8 : BitVec 32 := 1#32
  let arg14 : BitVec 32 := Scf.iv c0_i32_7 c1_i32_8 k0_t1
  let c128_i32_85 : BitVec 32 := 128#32
  let v255 : BitVec 32 := Scalar.muli arg14 c128_i32_85
  v255
def k0_off2 (k0_t1 : Fin k0_t1_loop.trips) : Fin 2 → Nat :=
  let c0_i32_7 : BitVec 32 := 0#32
  let c1_i32_8 : BitVec 32 := 1#32
  let arg14 : BitVec 32 := Scf.iv c0_i32_7 c1_i32_8 k0_t1
  let c128_i32_85 : BitVec 32 := 128#32
  let v255 : BitVec 32 := Scalar.muli arg14 c128_i32_85
  let v256 : BitVec 32 := v255
  let v274 : Index := Scalar.indexCast v256
  let c0_90 : Index := 0#32
  ![v274.toNat, 0]
def k0_mult3 (k0_t1 : Fin k0_t1_loop.trips) : BitVec 32 :=
  let c0_i32_7 : BitVec 32 := 0#32
  let c1_i32_8 : BitVec 32 := 1#32
  let arg14 : BitVec 32 := Scf.iv c0_i32_7 c1_i32_8 k0_t1
  let c8_i32_91 : BitVec 32 := 8#32
  let v276 : BitVec 32 := Scalar.muli arg14 c8_i32_91
  v276
def k0_off3 (k0_t1 : Fin k0_t1_loop.trips) : Fin 2 → Nat :=
  let c0_i32_7 : BitVec 32 := 0#32
  let c1_i32_8 : BitVec 32 := 1#32
  let arg14 : BitVec 32 := Scf.iv c0_i32_7 c1_i32_8 k0_t1
  let c8_i32_91 : BitVec 32 := 8#32
  let v276 : BitVec 32 := Scalar.muli arg14 c8_i32_91
  let v277 : BitVec 32 := v276
  let v278 : Index := Scalar.indexCast v277
  let c0_92 : Index := 0#32
  ![v278.toNat, 0]
def k0_off4 (i : grid0.Coords) (k0_t1 : Fin k0_t1_loop.trips) : Fin 4 → Nat :=
  let arg0 : BitVec 32 := BitVec.ofNat 32 (i 0).val
  let c2_i32 : BitVec 32 := 2#32
  let v3 : BitVec 32 := Scalar.remsi arg0 c2_i32
  let v338 : Index := Scalar.indexCast v3
  let c0_95 : Index := 0#32
  let c0_i32_7 : BitVec 32 := 0#32
  let c1_i32_8 : BitVec 32 := 1#32
  let arg14 : BitVec 32 := Scf.iv c0_i32_7 c1_i32_8 k0_t1
  let c256_i32 : BitVec 32 := 256#32
  let v27 : BitVec 32 := Scalar.muli arg14 c256_i32
  let v28 : BitVec 32 := v27
  let v339 : Index := Scalar.indexCast v28
  ![v338.toNat, 0, 0, v339.toNat]
def k0_cond3 (i : grid0.Coords) : BitVec 1 :=
  let arg0 : BitVec 32 := BitVec.ofNat 32 (i 0).val
  let c0_i32_3 : BitVec 32 := 0#32
  let v8 : BitVec 1 := Scalar.cmpi .sgt arg0 c0_i32_3
  let c36_i32 : BitVec 32 := 36#32
  let v9 : BitVec 1 := Scalar.cmpi .slt arg0 c36_i32
  let v10 : BitVec 1 := Scalar.andi v8 v9
  let v11 : BitVec 32 := Scalar.extui v10
  let c0_i32_4 : BitVec 32 := 0#32
  let v12 : BitVec 1 := Scalar.cmpi .ne v11 c0_i32_4
  v12

@[reducible] def k0_t2_loop : Scf.Loop 32 :=
  let c0_i32_7 : BitVec 32 := 0#32
  let c6_i32 : BitVec 32 := 6#32
  let v16 : BitVec 32 := Scalar.addi c0_i32_7 c6_i32
  let c1_i32_8 : BitVec 32 := 1#32
  ⟨c0_i32_7, v16, c1_i32_8⟩
def k0_cond4 (i : grid0.Coords) (k0_t2 : Fin k0_t2_loop.trips) : BitVec 1 :=
  let arg0 : BitVec 32 := BitVec.ofNat 32 (i 0).val
  let c1_i32_21 : BitVec 32 := 1#32
  let v29 : BitVec 1 := Scalar.cmpi .sgt arg0 c1_i32_21
  let c0_i32_7 : BitVec 32 := 0#32
  let c1_i32_8 : BitVec 32 := 1#32
  let arg14 : BitVec 32 := Scf.iv c0_i32_7 c1_i32_8 k0_t2
  let c2_i32_22 : BitVec 32 := 2#32
  let v30 : BitVec 1 := Scalar.cmpi .sge arg14 c2_i32_22
  let v31 : BitVec 1 := Scalar.ori v29 v30
  let v32 : BitVec 32 := Scalar.extui v31
  let c0_i32_23 : BitVec 32 := 0#32
  let v33 : BitVec 1 := Scalar.cmpi .ne v32 c0_i32_23
  v33

def k0_off5 (k0_t2 : Fin k0_t2_loop.trips) : Fin 1 → Nat :=
  let c0_i32_7 : BitVec 32 := 0#32
  let c1_i32_8 : BitVec 32 := 1#32
  let arg14 : BitVec 32 := Scf.iv c0_i32_7 c1_i32_8 k0_t2
  let c2_i32_20 : BitVec 32 := 2#32
  let v28 : BitVec 32 := Scalar.remsi arg14 c2_i32_20
  ![v28.toNat]
def k0_off6 (k0_t2 : Fin k0_t2_loop.trips) : Fin 3 → Nat :=
  let c0_i32_7 : BitVec 32 := 0#32
  let c1_i32_8 : BitVec 32 := 1#32
  let arg14 : BitVec 32 := Scf.iv c0_i32_7 c1_i32_8 k0_t2
  let c2_i32_20 : BitVec 32 := 2#32
  let v28 : BitVec 32 := Scalar.remsi arg14 c2_i32_20
  let c0_i32_117 : BitVec 32 := 0#32
  let c0_i32_118 : BitVec 32 := 0#32
  ![v28.toNat, 0, 0]
def k0_off7 (i : grid0.Coords) : Fin 4 → Nat :=
  let c1_i32 : BitVec 32 := 1#32
  let arg0 : BitVec 32 := BitVec.ofNat 32 (i 0).val
  let c2_i32 : BitVec 32 := 2#32
  let v3 : BitVec 32 := Scalar.remsi arg0 c2_i32
  let v4 : BitVec 32 := Scalar.subi c1_i32 v3
  let v34 : Index := Scalar.indexCast v4
  let c0_24 : Index := 0#32
  let c0_25 : Index := 0#32
  ![v34.toNat, 0, 0, 0]
def k0_mult4 (k0_t2 : Fin k0_t2_loop.trips) : BitVec 32 :=
  let c0_i32_7 : BitVec 32 := 0#32
  let c1_i32_8 : BitVec 32 := 1#32
  let arg14 : BitVec 32 := Scf.iv c0_i32_7 c1_i32_8 k0_t2
  let c512_i32 : BitVec 32 := 512#32
  let v38 : BitVec 32 := Scalar.muli arg14 c512_i32
  v38
def k0_off8 (k0_t2 : Fin k0_t2_loop.trips) : Fin 2 → Nat :=
  let c0_26 : Index := 0#32
  let c0_i32_7 : BitVec 32 := 0#32
  let c1_i32_8 : BitVec 32 := 1#32
  let arg14 : BitVec 32 := Scf.iv c0_i32_7 c1_i32_8 k0_t2
  let c512_i32 : BitVec 32 := 512#32
  let v38 : BitVec 32 := Scalar.muli arg14 c512_i32
  let v39 : BitVec 32 := v38
  let v40 : Index := Scalar.indexCast v39
  ![0, v40.toNat]
def k0_off9 (k0_t2 : Fin k0_t2_loop.trips) : Fin 3 → Nat :=
  let c0_i32_7 : BitVec 32 := 0#32
  let c1_i32_8 : BitVec 32 := 1#32
  let arg14 : BitVec 32 := Scf.iv c0_i32_7 c1_i32_8 k0_t2
  let c2_i32_20 : BitVec 32 := 2#32
  let v28 : BitVec 32 := Scalar.remsi arg14 c2_i32_20
  let v44 : Index := Scalar.indexCast v28
  let c0_27 : Index := 0#32
  let c0_28 : Index := 0#32
  ![v44.toNat, 0, 0]
def k0_off10 (k0_t2 : Fin k0_t2_loop.trips) : Fin 1 → Nat :=
  let c0_i32_7 : BitVec 32 := 0#32
  let c1_i32_8 : BitVec 32 := 1#32
  let arg14 : BitVec 32 := Scf.iv c0_i32_7 c1_i32_8 k0_t2
  let c2_i32_20 : BitVec 32 := 2#32
  let v28 : BitVec 32 := Scalar.remsi arg14 c2_i32_20
  ![v28.toNat]
def k0_off11 (i : grid0.Coords) (k0_t2 : Fin k0_t2_loop.trips) : Fin 2 → Nat :=
  let arg0 : BitVec 32 := BitVec.ofNat 32 (i 0).val
  let c1_i32_29 : BitVec 32 := 1#32
  let v48 : BitVec 32 := Scalar.subi arg0 c1_i32_29
  let c512_i32_30 : BitVec 32 := 512#32
  let v49 : BitVec 32 := Scalar.muli v48 c512_i32_30
  let c0_i32_7 : BitVec 32 := 0#32
  let c1_i32_8 : BitVec 32 := 1#32
  let arg14 : BitVec 32 := Scf.iv c0_i32_7 c1_i32_8 k0_t2
  let c512_i32_31 : BitVec 32 := 512#32
  let v50 : BitVec 32 := Scalar.muli arg14 c512_i32_31
  ![v49.toNat, v50.toNat]
def k0_off12 (k0_t2 : Fin k0_t2_loop.trips) : Fin 3 → Nat :=
  let c0_i32_7 : BitVec 32 := 0#32
  let c1_i32_8 : BitVec 32 := 1#32
  let arg14 : BitVec 32 := Scf.iv c0_i32_7 c1_i32_8 k0_t2
  let c2_i32_20 : BitVec 32 := 2#32
  let v28 : BitVec 32 := Scalar.remsi arg14 c2_i32_20
  let c0_i32_32 : BitVec 32 := 0#32
  let c0_i32_33 : BitVec 32 := 0#32
  ![v28.toNat, 0, 0]
def k0_mult5 (k0_t2 : Fin k0_t2_loop.trips) : BitVec 32 :=
  let c0_i32_7 : BitVec 32 := 0#32
  let c1_i32_8 : BitVec 32 := 1#32
  let arg14 : BitVec 32 := Scf.iv c0_i32_7 c1_i32_8 k0_t2
  let c256_i32 : BitVec 32 := 256#32
  let v56 : BitVec 32 := Scalar.muli arg14 c256_i32
  v56
def k0_off13 (k0_t2 : Fin k0_t2_loop.trips) : Fin 2 → Nat :=
  let c0_i32_7 : BitVec 32 := 0#32
  let c1_i32_8 : BitVec 32 := 1#32
  let arg14 : BitVec 32 := Scf.iv c0_i32_7 c1_i32_8 k0_t2
  let c256_i32 : BitVec 32 := 256#32
  let v56 : BitVec 32 := Scalar.muli arg14 c256_i32
  let v57 : BitVec 32 := v56
  let v60 : Index := Scalar.indexCast v57
  let c0_36 : Index := 0#32
  ![v60.toNat, 0]
def k0_mult6 (k0_t2 : Fin k0_t2_loop.trips) : BitVec 32 :=
  let c0_i32_7 : BitVec 32 := 0#32
  let c1_i32_8 : BitVec 32 := 1#32
  let arg14 : BitVec 32 := Scf.iv c0_i32_7 c1_i32_8 k0_t2
  let c128_i32_104 : BitVec 32 := 128#32
  let v284 : BitVec 32 := Scalar.muli arg14 c128_i32_104
  v284
def k0_off14 (k0_t2 : Fin k0_t2_loop.trips) : Fin 2 → Nat :=
  let c0_i32_7 : BitVec 32 := 0#32
  let c1_i32_8 : BitVec 32 := 1#32
  let arg14 : BitVec 32 := Scf.iv c0_i32_7 c1_i32_8 k0_t2
  let c128_i32_104 : BitVec 32 := 128#32
  let v284 : BitVec 32 := Scalar.muli arg14 c128_i32_104
  let v285 : BitVec 32 := v284
  let v303 : Index := Scalar.indexCast v285
  let c0_109 : Index := 0#32
  ![v303.toNat, 0]
def k0_mult7 (k0_t2 : Fin k0_t2_loop.trips) : BitVec 32 :=
  let c0_i32_7 : BitVec 32 := 0#32
  let c1_i32_8 : BitVec 32 := 1#32
  let arg14 : BitVec 32 := Scf.iv c0_i32_7 c1_i32_8 k0_t2
  let c8_i32_110 : BitVec 32 := 8#32
  let v305 : BitVec 32 := Scalar.muli arg14 c8_i32_110
  v305
def k0_off15 (k0_t2 : Fin k0_t2_loop.trips) : Fin 2 → Nat :=
  let c0_i32_7 : BitVec 32 := 0#32
  let c1_i32_8 : BitVec 32 := 1#32
  let arg14 : BitVec 32 := Scf.iv c0_i32_7 c1_i32_8 k0_t2
  let c8_i32_110 : BitVec 32 := 8#32
  let v305 : BitVec 32 := Scalar.muli arg14 c8_i32_110
  let v306 : BitVec 32 := v305
  let v307 : Index := Scalar.indexCast v306
  let c0_111 : Index := 0#32
  ![v307.toNat, 0]
def k0_off16 (i : grid0.Coords) (k0_t2 : Fin k0_t2_loop.trips) : Fin 4 → Nat :=
  let arg0 : BitVec 32 := BitVec.ofNat 32 (i 0).val
  let c2_i32 : BitVec 32 := 2#32
  let v3 : BitVec 32 := Scalar.remsi arg0 c2_i32
  let v367 : Index := Scalar.indexCast v3
  let c0_114 : Index := 0#32
  let c0_i32_7 : BitVec 32 := 0#32
  let c1_i32_8 : BitVec 32 := 1#32
  let arg14 : BitVec 32 := Scf.iv c0_i32_7 c1_i32_8 k0_t2
  let c256_i32 : BitVec 32 := 256#32
  let v56 : BitVec 32 := Scalar.muli arg14 c256_i32
  let v57 : BitVec 32 := v56
  let v368 : Index := Scalar.indexCast v57
  ![v367.toNat, 0, 0, v368.toNat]
@[reducible] def k0_t3_loop : Scf.Loop 32 :=
  let c6_i32_17 : BitVec 32 := 6#32
  let c8_i32 : BitVec 32 := 8#32
  let v27 : BitVec 32 := Scalar.addi c6_i32_17 c8_i32
  let c1_i32_18 : BitVec 32 := 1#32
  ⟨c6_i32_17, v27, c1_i32_18⟩
def k0_cond5 (i : grid0.Coords) (k0_t3 : Fin k0_t3_loop.trips) : BitVec 1 :=
  let arg0 : BitVec 32 := BitVec.ofNat 32 (i 0).val
  let c1_i32_21 : BitVec 32 := 1#32
  let v29 : BitVec 1 := Scalar.cmpi .sgt arg0 c1_i32_21
  let c6_i32_17 : BitVec 32 := 6#32
  let c1_i32_18 : BitVec 32 := 1#32
  let arg14 : BitVec 32 := Scf.iv c6_i32_17 c1_i32_18 k0_t3
  let c2_i32_22 : BitVec 32 := 2#32
  let v30 : BitVec 1 := Scalar.cmpi .sge arg14 c2_i32_22
  let v31 : BitVec 1 := Scalar.ori v29 v30
  let v32 : BitVec 32 := Scalar.extui v31
  let c0_i32_23 : BitVec 32 := 0#32
  let v33 : BitVec 1 := Scalar.cmpi .ne v32 c0_i32_23
  v33

def k0_off17 (k0_t3 : Fin k0_t3_loop.trips) : Fin 1 → Nat :=
  let c6_i32_17 : BitVec 32 := 6#32
  let c1_i32_18 : BitVec 32 := 1#32
  let arg14 : BitVec 32 := Scf.iv c6_i32_17 c1_i32_18 k0_t3
  let c2_i32_20 : BitVec 32 := 2#32
  let v28 : BitVec 32 := Scalar.remsi arg14 c2_i32_20
  ![v28.toNat]
def k0_off18 (k0_t3 : Fin k0_t3_loop.trips) : Fin 3 → Nat :=
  let c6_i32_17 : BitVec 32 := 6#32
  let c1_i32_18 : BitVec 32 := 1#32
  let arg14 : BitVec 32 := Scf.iv c6_i32_17 c1_i32_18 k0_t3
  let c2_i32_20 : BitVec 32 := 2#32
  let v28 : BitVec 32 := Scalar.remsi arg14 c2_i32_20
  let c0_i32_36 : BitVec 32 := 0#32
  let c0_i32_37 : BitVec 32 := 0#32
  ![v28.toNat, 0, 0]
def k0_off19 (i : grid0.Coords) : Fin 4 → Nat :=
  let c1_i32 : BitVec 32 := 1#32
  let arg0 : BitVec 32 := BitVec.ofNat 32 (i 0).val
  let c2_i32 : BitVec 32 := 2#32
  let v3 : BitVec 32 := Scalar.remsi arg0 c2_i32
  let v4 : BitVec 32 := Scalar.subi c1_i32 v3
  let v34 : Index := Scalar.indexCast v4
  let c0_24 : Index := 0#32
  let c0_25 : Index := 0#32
  ![v34.toNat, 0, 0, 0]
def k0_mult8 (k0_t3 : Fin k0_t3_loop.trips) : BitVec 32 :=
  let c6_i32_17 : BitVec 32 := 6#32
  let c1_i32_18 : BitVec 32 := 1#32
  let arg14 : BitVec 32 := Scf.iv c6_i32_17 c1_i32_18 k0_t3
  let c512_i32 : BitVec 32 := 512#32
  let v38 : BitVec 32 := Scalar.muli arg14 c512_i32
  v38
def k0_off20 (k0_t3 : Fin k0_t3_loop.trips) : Fin 2 → Nat :=
  let c0_26 : Index := 0#32
  let c6_i32_17 : BitVec 32 := 6#32
  let c1_i32_18 : BitVec 32 := 1#32
  let arg14 : BitVec 32 := Scf.iv c6_i32_17 c1_i32_18 k0_t3
  let c512_i32 : BitVec 32 := 512#32
  let v38 : BitVec 32 := Scalar.muli arg14 c512_i32
  let v39 : BitVec 32 := v38
  let v40 : Index := Scalar.indexCast v39
  ![0, v40.toNat]
def k0_off21 (k0_t3 : Fin k0_t3_loop.trips) : Fin 3 → Nat :=
  let c6_i32_17 : BitVec 32 := 6#32
  let c1_i32_18 : BitVec 32 := 1#32
  let arg14 : BitVec 32 := Scf.iv c6_i32_17 c1_i32_18 k0_t3
  let c2_i32_20 : BitVec 32 := 2#32
  let v28 : BitVec 32 := Scalar.remsi arg14 c2_i32_20
  let v44 : Index := Scalar.indexCast v28
  let c0_27 : Index := 0#32
  let c0_28 : Index := 0#32
  ![v44.toNat, 0, 0]
def k0_off22 (k0_t3 : Fin k0_t3_loop.trips) : Fin 1 → Nat :=
  let c6_i32_17 : BitVec 32 := 6#32
  let c1_i32_18 : BitVec 32 := 1#32
  let arg14 : BitVec 32 := Scf.iv c6_i32_17 c1_i32_18 k0_t3
  let c2_i32_20 : BitVec 32 := 2#32
  let v28 : BitVec 32 := Scalar.remsi arg14 c2_i32_20
  ![v28.toNat]
def k0_off23 (i : grid0.Coords) (k0_t3 : Fin k0_t3_loop.trips) : Fin 2 → Nat :=
  let arg0 : BitVec 32 := BitVec.ofNat 32 (i 0).val
  let c1_i32_29 : BitVec 32 := 1#32
  let v48 : BitVec 32 := Scalar.subi arg0 c1_i32_29
  let c512_i32_30 : BitVec 32 := 512#32
  let v49 : BitVec 32 := Scalar.muli v48 c512_i32_30
  let c6_i32_17 : BitVec 32 := 6#32
  let c1_i32_18 : BitVec 32 := 1#32
  let arg14 : BitVec 32 := Scf.iv c6_i32_17 c1_i32_18 k0_t3
  let c512_i32_31 : BitVec 32 := 512#32
  let v50 : BitVec 32 := Scalar.muli arg14 c512_i32_31
  ![v49.toNat, v50.toNat]
def k0_off24 (k0_t3 : Fin k0_t3_loop.trips) : Fin 3 → Nat :=
  let c6_i32_17 : BitVec 32 := 6#32
  let c1_i32_18 : BitVec 32 := 1#32
  let arg14 : BitVec 32 := Scf.iv c6_i32_17 c1_i32_18 k0_t3
  let c2_i32_20 : BitVec 32 := 2#32
  let v28 : BitVec 32 := Scalar.remsi arg14 c2_i32_20
  let c0_i32_32 : BitVec 32 := 0#32
  let c0_i32_33 : BitVec 32 := 0#32
  ![v28.toNat, 0, 0]
def k0_cond6 (i : grid0.Coords) : BitVec 1 :=
  let arg0 : BitVec 32 := BitVec.ofNat 32 (i 0).val
  let c36_i32_5 : BitVec 32 := 36#32
  let v13 : BitVec 1 := Scalar.cmpi .eq arg0 c36_i32_5
  let v14 : BitVec 32 := Scalar.extui v13
  let c0_i32_6 : BitVec 32 := 0#32
  let v15 : BitVec 1 := Scalar.cmpi .ne v14 c0_i32_6
  v15

@[reducible] def k0_t4_loop : Scf.Loop 32 :=
  let c0_i32_7 : BitVec 32 := 0#32
  let c14_i32 : BitVec 32 := 14#32
  let v16 : BitVec 32 := Scalar.addi c0_i32_7 c14_i32
  let c1_i32_8 : BitVec 32 := 1#32
  ⟨c0_i32_7, v16, c1_i32_8⟩
def k0_cond7 (i : grid0.Coords) (k0_t4 : Fin k0_t4_loop.trips) : BitVec 1 :=
  let arg0 : BitVec 32 := BitVec.ofNat 32 (i 0).val
  let c1_i32_23 : BitVec 32 := 1#32
  let v28 : BitVec 1 := Scalar.cmpi .sgt arg0 c1_i32_23
  let c0_i32_7 : BitVec 32 := 0#32
  let c1_i32_8 : BitVec 32 := 1#32
  let arg14 : BitVec 32 := Scf.iv c0_i32_7 c1_i32_8 k0_t4
  let c2_i32_24 : BitVec 32 := 2#32
  let v29 : BitVec 1 := Scalar.cmpi .sge arg14 c2_i32_24
  let v30 : BitVec 1 := Scalar.ori v28 v29
  let v31 : BitVec 32 := Scalar.extui v30
  let c0_i32_25 : BitVec 32 := 0#32
  let v32 : BitVec 1 := Scalar.cmpi .ne v31 c0_i32_25
  v32

def k0_off25 (k0_t4 : Fin k0_t4_loop.trips) : Fin 1 → Nat :=
  let c0_i32_7 : BitVec 32 := 0#32
  let c1_i32_8 : BitVec 32 := 1#32
  let arg14 : BitVec 32 := Scf.iv c0_i32_7 c1_i32_8 k0_t4
  let c2_i32_22 : BitVec 32 := 2#32
  let v27 : BitVec 32 := Scalar.remsi arg14 c2_i32_22
  ![v27.toNat]
def k0_off26 (k0_t4 : Fin k0_t4_loop.trips) : Fin 3 → Nat :=
  let c0_i32_7 : BitVec 32 := 0#32
  let c1_i32_8 : BitVec 32 := 1#32
  let arg14 : BitVec 32 := Scf.iv c0_i32_7 c1_i32_8 k0_t4
  let c2_i32_22 : BitVec 32 := 2#32
  let v27 : BitVec 32 := Scalar.remsi arg14 c2_i32_22
  let c0_i32_37 : BitVec 32 := 0#32
  let c0_i32_38 : BitVec 32 := 0#32
  ![v27.toNat, 0, 0]
def k0_off27 (i : grid0.Coords) : Fin 4 → Nat :=
  let c1_i32 : BitVec 32 := 1#32
  let arg0 : BitVec 32 := BitVec.ofNat 32 (i 0).val
  let c2_i32 : BitVec 32 := 2#32
  let v3 : BitVec 32 := Scalar.remsi arg0 c2_i32
  let v4 : BitVec 32 := Scalar.subi c1_i32 v3
  let v33 : Index := Scalar.indexCast v4
  let c0 : Index := 0#32
  let c0_26 : Index := 0#32
  ![v33.toNat, 0, 0, 0]
def k0_mult9 (k0_t4 : Fin k0_t4_loop.trips) : BitVec 32 :=
  let c0_i32_7 : BitVec 32 := 0#32
  let c1_i32_8 : BitVec 32 := 1#32
  let arg14 : BitVec 32 := Scf.iv c0_i32_7 c1_i32_8 k0_t4
  let c512_i32 : BitVec 32 := 512#32
  let v37 : BitVec 32 := Scalar.muli arg14 c512_i32
  v37
def k0_off28 (k0_t4 : Fin k0_t4_loop.trips) : Fin 2 → Nat :=
  let c0_27 : Index := 0#32
  let c0_i32_7 : BitVec 32 := 0#32
  let c1_i32_8 : BitVec 32 := 1#32
  let arg14 : BitVec 32 := Scf.iv c0_i32_7 c1_i32_8 k0_t4
  let c512_i32 : BitVec 32 := 512#32
  let v37 : BitVec 32 := Scalar.muli arg14 c512_i32
  let v38 : BitVec 32 := v37
  let v39 : Index := Scalar.indexCast v38
  ![0, v39.toNat]
def k0_off29 (k0_t4 : Fin k0_t4_loop.trips) : Fin 3 → Nat :=
  let c0_i32_7 : BitVec 32 := 0#32
  let c1_i32_8 : BitVec 32 := 1#32
  let arg14 : BitVec 32 := Scf.iv c0_i32_7 c1_i32_8 k0_t4
  let c2_i32_22 : BitVec 32 := 2#32
  let v27 : BitVec 32 := Scalar.remsi arg14 c2_i32_22
  let v43 : Index := Scalar.indexCast v27
  let c0_28 : Index := 0#32
  let c0_29 : Index := 0#32
  ![v43.toNat, 0, 0]
def k0_off30 (k0_t4 : Fin k0_t4_loop.trips) : Fin 1 → Nat :=
  let c0_i32_7 : BitVec 32 := 0#32
  let c1_i32_8 : BitVec 32 := 1#32
  let arg14 : BitVec 32 := Scf.iv c0_i32_7 c1_i32_8 k0_t4
  let c2_i32_22 : BitVec 32 := 2#32
  let v27 : BitVec 32 := Scalar.remsi arg14 c2_i32_22
  ![v27.toNat]
def k0_off31 (i : grid0.Coords) (k0_t4 : Fin k0_t4_loop.trips) : Fin 2 → Nat :=
  let arg0 : BitVec 32 := BitVec.ofNat 32 (i 0).val
  let c1_i32_30 : BitVec 32 := 1#32
  let v47 : BitVec 32 := Scalar.subi arg0 c1_i32_30
  let c512_i32_31 : BitVec 32 := 512#32
  let v48 : BitVec 32 := Scalar.muli v47 c512_i32_31
  let c0_i32_7 : BitVec 32 := 0#32
  let c1_i32_8 : BitVec 32 := 1#32
  let arg14 : BitVec 32 := Scf.iv c0_i32_7 c1_i32_8 k0_t4
  let c512_i32_32 : BitVec 32 := 512#32
  let v49 : BitVec 32 := Scalar.muli arg14 c512_i32_32
  ![v48.toNat, v49.toNat]
def k0_off32 (k0_t4 : Fin k0_t4_loop.trips) : Fin 3 → Nat :=
  let c0_i32_7 : BitVec 32 := 0#32
  let c1_i32_8 : BitVec 32 := 1#32
  let arg14 : BitVec 32 := Scf.iv c0_i32_7 c1_i32_8 k0_t4
  let c2_i32_22 : BitVec 32 := 2#32
  let v27 : BitVec 32 := Scalar.remsi arg14 c2_i32_22
  let c0_i32_33 : BitVec 32 := 0#32
  let c0_i32_34 : BitVec 32 := 0#32
  ![v27.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c35_i32 : BitVec 32 := 35#32
  let v0 : BitVec 32 := Scalar.minsi arg0 c35_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c35_i32 : BitVec 32 := 35#32
  let v0 : BitVec 32 := Scalar.minsi arg0 c35_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c35_i32 : BitVec 32 := 35#32
  let v0 : BitVec 32 := Scalar.minsi arg0 c35_i32
  let c0_i32 : BitVec 32 := 0#32
  let c0_i32_0 : BitVec 32 := 0#32
  ![c0_i32.toNat, v0.toNat]

def cc0_transform_5 (i : grid0.Coords) : Fin 3 → Nat :=
  let arg0 : BitVec 32 := BitVec.ofNat 32 (i 0).val
  let c35_i32 : BitVec 32 := 35#32
  let v0 : BitVec 32 := Scalar.minsi arg0 c35_i32
  let c0_i32 : BitVec 32 := 0#32
  let c0_i32_0 : BitVec 32 := 0#32
  let c0_i32_1 : BitVec 32 := 0#32
  ![c0_i32.toNat, c0_i32_0.toNat, v0.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1536x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S768x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x24x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S768x7168 : Shape := ⟨2, ![768, 7168]⟩
abbrev S2x768x18432 : Shape := ⟨3, ![2, 768, 18432]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S24x64x18432 : Shape := ⟨3, ![24, 64, 18432]⟩
abbrev S24x18432x64 : Shape := ⟨3, ![24, 18432, 64]⟩
abbrev S48x32x18432 : Shape := ⟨3, ![48, 32, 18432]⟩
abbrev S48x18432 : Shape := ⟨2, ![48, 18432]⟩
abbrev S48x1x18432 : Shape := ⟨3, ![48, 1, 18432]⟩
abbrev S768x2x18432 : Shape := ⟨3, ![768, 2, 18432]⟩
abbrev S768x1x18432 : Shape := ⟨3, ![768, 1, 18432]⟩
abbrev S768x18432 : Shape := ⟨2, ![768, 18432]⟩
abbrev S2x24x18432 : Shape := ⟨3, ![2, 24, 18432]⟩
abbrev S1536x18432 : Shape := ⟨2, ![1536, 18432]⟩
abbrev S768x7168x2 : Shape := ⟨3, ![768, 7168, 2]⟩
abbrev S768x2x7168 : Shape := ⟨3, ![768, 2, 7168]⟩
abbrev S1536x7168 : Shape := ⟨2, ![1536, 7168]⟩
abbrev S18432x7168 : Shape := ⟨2, ![18432, 7168]⟩

abbrev nBuf : Space → Nat
  | .hbm => 166
  | .vmem => 0
  | .smem => 0
  | _ => 0

abbrev hbmTy0_0 (i : Nat) : BufTy := match i % 128 with
  | 0 => ⟨S768x7168, .i32⟩
  | 1 => ⟨S2x768x18432, .bf16⟩
  | 2 => ⟨S64, .f32⟩
  | 3 => ⟨S2x768x18432, .i8⟩
  | 4 => ⟨S64, .i32⟩
  | 5 => ⟨S64x1, .i32⟩
  | 6 => ⟨S1x64, .i32⟩
  | 7 => ⟨S64x64, .i32⟩
  | 8 => ⟨S64x64, .i32⟩
  | 9 => ⟨S64x64, .i32⟩
  | 10 => ⟨S64x64, .i32⟩
  | 11 => ⟨S_, .i32⟩
  | 12 => ⟨S64x64, .i32⟩
  | 13 => ⟨S64x64, .i32⟩
  | 14 => ⟨S_, .i32⟩
  | 15 => ⟨S64x64, .i32⟩
  | 16 => ⟨S64x64, .i1⟩
  | 17 => ⟨S_, .f32⟩
  | 18 => ⟨S_, .f32⟩
  | 19 => ⟨S64x64, .f32⟩
  | 20 => ⟨S64x64, .f32⟩
  | 21 => ⟨S64x64, .f32⟩
  | 22 => ⟨S64x64, .f32⟩
  | 23 => ⟨S1x64, .f32⟩
  | 24 => ⟨S64x64, .f32⟩
  | 25 => ⟨S64x64, .f32⟩
  | 26 => ⟨S_, .f32⟩
  | 27 => ⟨S64x64, .f32⟩
  | 28 => ⟨S64x64, .f32⟩
  | 29 => ⟨S2x768x18432, .f32⟩
  | 30 => ⟨S24x64x18432, .f32⟩
  | 31 => ⟨S24x18432x64, .f32⟩
  | 32 => ⟨S24x64x18432, .f32⟩
  | 33 => ⟨S48x32x18432, .f32⟩
  | 34 => ⟨S48x32x18432, .f32⟩
  | 35 => ⟨S_, .f32⟩
  | 36 => ⟨S48x18432, .f32⟩
  | 37 => ⟨S48x1x18432, .f32⟩
  | 38 => ⟨S_, .f32⟩
  | 39 => ⟨S48x1x18432, .f32⟩
  | 40 => ⟨S48x1x18432, .f32⟩
  | 41 => ⟨S_, .f32⟩
  | 42 => ⟨S48x1x18432, .f32⟩
  | 43 => ⟨S48x1x18432, .i1⟩
  | 44 => ⟨S48x1x18432, .f32⟩
  | 45 => ⟨S_, .f32⟩
  | 46 => ⟨S48x1x18432, .f32⟩
  | 47 => ⟨S48x1x18432, .f32⟩
  | 48 => ⟨S48x1x18432, .f32⟩
  | 49 => ⟨S48x1x18432, .f32⟩
  | 50 => ⟨S_, .f32⟩
  | 51 => ⟨S48x1x18432, .f32⟩
  | 52 => ⟨S48x1x18432, .f32⟩
  | 53 => ⟨S_, .f32⟩
  | 54 => ⟨S_, .f32⟩
  | 55 => ⟨S48x1x18432, .f32⟩
  | 56 => ⟨S48x1x18432, .f32⟩
  | 57 => ⟨S48x1x18432, .f32⟩
  | 58 => ⟨S_, .f32⟩
  | 59 => ⟨S48x1x18432, .f32⟩
  | 60 => ⟨S48x1x18432, .f32⟩
  | 61 => ⟨S48x32x18432, .f32⟩
  | 62 => ⟨S48x32x18432, .f32⟩
  | 63 => ⟨S48x32x18432, .f32⟩
  | 64 => ⟨S_, .f32⟩
  | 65 => ⟨S48x32x18432, .f32⟩
  | 66 => ⟨S48x32x18432, .i1⟩
  | 67 => ⟨S_, .f32⟩
  | 68 => ⟨S48x32x18432, .f32⟩
  | 69 => ⟨S48x32x18432, .i1⟩
  | 70 => ⟨S_, .f32⟩
  | 71 => ⟨S_, .f32⟩
  | 72 => ⟨S48x32x18432, .f32⟩
  | 73 => ⟨S48x32x18432, .f32⟩
  | 74 => ⟨S48x32x18432, .f32⟩
  | 75 => ⟨S_, .f32⟩
  | 76 => ⟨S48x32x18432, .f32⟩
  | 77 => ⟨S48x32x18432, .f32⟩
  | 78 => ⟨S48x32x18432, .f32⟩
  | 79 => ⟨S48x32x18432, .f32⟩
  | 80 => ⟨S48x32x18432, .f32⟩
  | 81 => ⟨S48x32x18432, .i8⟩
  | 82 => ⟨S48x32x18432, .i32⟩
  | 83 => ⟨S48x32x18432, .f32⟩
  | 84 => ⟨S_, .f32⟩
  | 85 => ⟨S48x32x18432, .f32⟩
  | 86 => ⟨S48x32x18432, .f32⟩
  | 87 => ⟨S_, .f32⟩
  | 88 => ⟨S48x32x18432, .f32⟩
  | 89 => ⟨S48x32x18432, .f32⟩
  | 90 => ⟨S48x32x18432, .f32⟩
  | 91 => ⟨S48x32x18432, .i1⟩
  | 92 => ⟨S48x32x18432, .f32⟩
  | 93 => ⟨S48x32x18432, .f32⟩
  | 94 => ⟨S48x32x18432, .f32⟩
  | 95 => ⟨S48x32x18432, .f32⟩
  | 96 => ⟨S_, .f32⟩
  | 97 => ⟨S48x32x18432, .f32⟩
  | 98 => ⟨S48x32x18432, .f32⟩
  | 99 => ⟨S_, .f32⟩
  | 100 => ⟨S48x32x18432, .f32⟩
  | 101 => ⟨S48x32x18432, .i1⟩
  | 102 => ⟨S_, .f32⟩
  | 103 => ⟨S48x32x18432, .f32⟩
  | 104 => ⟨S48x32x18432, .i1⟩
  | 105 => ⟨S_, .f32⟩
  | 106 => ⟨S48x32x18432, .f32⟩
  | 107 => ⟨S48x32x18432, .f32⟩
  | 108 => ⟨S_, .f32⟩
  | 109 => ⟨S48x32x18432, .f32⟩
  | 110 => ⟨S48x32x18432, .i1⟩
  | 111 => ⟨S_, .f32⟩
  | 112 => ⟨S48x32x18432, .f32⟩
  | 113 => ⟨S48x32x18432, .f32⟩
  | 114 => ⟨S_, .f32⟩
  | 115 => ⟨S48x32x18432, .f32⟩
  | 116 => ⟨S48x32x18432, .f32⟩
  | 117 => ⟨S_, .f32⟩
  | 118 => ⟨S48x32x18432, .f32⟩
  | 119 => ⟨S48x32x18432, .f32⟩
  | 120 => ⟨S48x32x18432, .f32⟩
  | 121 => ⟨S48x32x18432, .f32⟩
  | 122 => ⟨S48x32x18432, .i32⟩
  | 123 => ⟨S_, .f32⟩
  | 124 => ⟨S48x32x18432, .f32⟩
  | 125 => ⟨S48x32x18432, .i1⟩
  | 126 => ⟨S48x32x18432, .i1⟩
  | 127 => ⟨S48x32x18432, .i32⟩
  | _ => ⟨S768x7168, .i32⟩

abbrev hbmTy0_1 (i : Nat) : BufTy := match i % 128 with
  | 0 => ⟨S_, .i32⟩
  | 1 => ⟨S48x32x18432, .i32⟩
  | 2 => ⟨S48x32x18432, .i32⟩
  | 3 => ⟨S48x32x18432, .i32⟩
  | 4 => ⟨S768x2x18432, .i32⟩
  | 5 => ⟨S768x1x18432, .i32⟩
  | 6 => ⟨S768x18432, .i32⟩
  | 7 => ⟨S768x1x18432, .i32⟩
  | 8 => ⟨S768x18432, .i32⟩
  | 9 => ⟨S_, .i32⟩
  | 10 => ⟨S768x18432, .i32⟩
  | 11 => ⟨S768x18432, .i32⟩
  | 12 => ⟨S768x18432, .i32⟩
  | 13 => ⟨S768x18432, .i8⟩
  | 14 => ⟨S48x18432, .f32⟩
  | 15 => ⟨S_, .f32⟩
  | 16 => ⟨S48x18432, .f32⟩
  | 17 => ⟨S48x18432, .f32⟩
  | 18 => ⟨S48x18432, .i32⟩
  | 19 => ⟨S48x18432, .i8⟩
  | 20 => ⟨S2x24x18432, .i8⟩
  | 21 => ⟨S_, .f32⟩
  | 22 => ⟨S48x32x18432, .f32⟩
  | 23 => ⟨S48x32x18432, .i1⟩
  | 24 => ⟨S48x32x18432, .f32⟩
  | 25 => ⟨S48x32x18432, .f32⟩
  | 26 => ⟨S48x32x18432, .bf16⟩
  | 27 => ⟨S_, .f32⟩
  | 28 => ⟨S48x1x18432, .f32⟩
  | 29 => ⟨S48x1x18432, .f32⟩
  | 30 => ⟨S48x1x18432, .bf16⟩
  | 31 => ⟨S48x32x18432, .bf16⟩
  | 32 => ⟨S48x32x18432, .bf16⟩
  | 33 => ⟨S1536x18432, .bf16⟩
  | 34 => ⟨S768x7168x2, .bf16⟩
  | 35 => ⟨S768x2x7168, .bf16⟩
  | 36 => ⟨S1536x7168, .bf16⟩
  | 37 => ⟨S18432x7168, .f32⟩
  | _ => ⟨S768x7168, .i32⟩

abbrev hbmTy (i : Nat) : BufTy := match i / 128 with
  | 0 => hbmTy0_0 i
  | 1 => hbmTy0_1 i
  | _ => ⟨S768x7168, .i32⟩

abbrev bufTy : (tb : Table) → Fin (tcTables nBuf tb) → BufTy
  | .hbm, ⟨i, _⟩ => hbmTy i
  | _, _ => ⟨S768x7168, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_7 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_call1_v0 : Ref sig .tc := ⟨.hbm, 54, rfl⟩
abbrev main_call1_v1 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_cst_13 : Ref sig .tc := ⟨.hbm, 71, rfl⟩
abbrev main_call2_v0 : Ref sig .tc := ⟨.hbm, 72, rfl⟩
abbrev main_call2_v1 : Ref sig .tc := ⟨.hbm, 73, rfl⟩
abbrev main_v48 : Ref sig .tc := ⟨.hbm, 74, rfl⟩
abbrev main_cst_14 : Ref sig .tc := ⟨.hbm, 75, rfl⟩
abbrev main_call3_v0 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_15 : Ref sig .tc := ⟨.hbm, 84, rfl⟩
abbrev main_v56 : Ref sig .tc := ⟨.hbm, 85, rfl⟩
abbrev main_v57 : Ref sig .tc := ⟨.hbm, 86, rfl⟩
abbrev main_cst_16 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_17 : Ref sig .tc := ⟨.hbm, 96, rfl⟩
abbrev main_v66 : Ref sig .tc := ⟨.hbm, 97, rfl⟩
abbrev main_v67 : Ref sig .tc := ⟨.hbm, 98, rfl⟩
abbrev main_cst_18 : Ref sig .tc := ⟨.hbm, 99, rfl⟩
abbrev main_v68 : Ref sig .tc := ⟨.hbm, 100, rfl⟩
abbrev main_v69 : Ref sig .tc := ⟨.hbm, 101, rfl⟩
abbrev main_cst_19 : Ref sig .tc := ⟨.hbm, 102, rfl⟩
abbrev main_v70 : Ref sig .tc := ⟨.hbm, 103, rfl⟩
abbrev main_v71 : Ref sig .tc := ⟨.hbm, 104, rfl⟩
abbrev main_cst_20 : Ref sig .tc := ⟨.hbm, 105, rfl⟩
abbrev main_v72 : Ref sig .tc := ⟨.hbm, 106, rfl⟩
abbrev main_v73 : Ref sig .tc := ⟨.hbm, 107, rfl⟩
abbrev main_cst_21 : Ref sig .tc := ⟨.hbm, 108, rfl⟩
abbrev main_v74 : Ref sig .tc := ⟨.hbm, 109, rfl⟩
abbrev main_v75 : Ref sig .tc := ⟨.hbm, 110, rfl⟩
abbrev main_cst_22 : Ref sig .tc := ⟨.hbm, 111, rfl⟩
abbrev main_v76 : Ref sig .tc := ⟨.hbm, 112, rfl⟩
abbrev main_v77 : Ref sig .tc := ⟨.hbm, 113, rfl⟩
abbrev main_cst_23 : Ref sig .tc := ⟨.hbm, 114, rfl⟩
abbrev main_v78 : Ref sig .tc := ⟨.hbm, 115, rfl⟩
abbrev main_v79 : Ref sig .tc := ⟨.hbm, 116, rfl⟩
abbrev main_cst_24 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_25 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_c_26 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_c_27 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_28 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_cst_29 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_cst_30 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩

abbrev nD : Nat := 1
abbrev τ : Topo := Topo.v7x

variable {F : FTy → Type} [FloatOps F]
-- ==== QuantX.lean ====
abbrev S2x768x7168 : Shape := ⟨3, ![2, 768, 7168]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S4x4 : Shape := ⟨2, ![4, 4]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S1536x7168 : Shape := ⟨2, ![1536, 7168]⟩
abbrev S768x7168 : Shape := ⟨2, ![768, 7168]⟩
abbrev S2x24x7168 : Shape := ⟨3, ![2, 24, 7168]⟩
abbrev S1536x512 : Shape := ⟨2, ![1536, 512]⟩
abbrev S768x512 : Shape := ⟨2, ![768, 512]⟩
abbrev S2x24x512 : Shape := ⟨3, ![2, 24, 512]⟩
abbrev S48x512 : Shape := ⟨2, ![48, 512]⟩
abbrev S256x512 : Shape := ⟨2, ![256, 512]⟩
abbrev S8x32x512 : Shape := ⟨3, ![8, 32, 512]⟩
abbrev S8x512 : Shape := ⟨2, ![8, 512]⟩
abbrev S8x1x512 : Shape := ⟨3, ![8, 1, 512]⟩
abbrev S128x2x512 : Shape := ⟨3, ![128, 2, 512]⟩
abbrev S128x1x512 : Shape := ⟨3, ![128, 1, 512]⟩
abbrev S128x512 : Shape := ⟨2, ![128, 512]⟩
abbrev S1x512 : Shape := ⟨2, ![1, 512]⟩
abbrev S16x512 : Shape := ⟨2, ![16, 512]⟩
abbrev S32x512 : Shape := ⟨2, ![32, 512]⟩
abbrev S24x512 : Shape := ⟨2, ![24, 512]⟩
abbrev S1x24x512 : Shape := ⟨3, ![1, 24, 512]⟩

abbrev nBuf : Space → Nat
  | .hbm => 45
  | .vmem => 10
  | .smem => 0
  | _ => 0

abbrev bufTy : (tb : Table) → Fin (tcTables nBuf tb) → BufTy
  | .hbm, ⟨0, _⟩ => ⟨S2x768x7168, .bf16⟩
  | .hbm, ⟨1, _⟩ => ⟨S64, .f32⟩
  | .hbm, ⟨2, _⟩ => ⟨S64, .i32⟩
  | .hbm, ⟨3, _⟩ => ⟨S64x1, .i32⟩
  | .hbm, ⟨4, _⟩ => ⟨S1x64, .i32⟩
  | .hbm, ⟨5, _⟩ => ⟨S64x64, .i32⟩
  | .hbm, ⟨6, _⟩ => ⟨S64x64, .i32⟩
  | .hbm, ⟨7, _⟩ => ⟨S64x64, .i32⟩
  | .hbm, ⟨8, _⟩ => ⟨S64x64, .i32⟩
  | .hbm, ⟨9, _⟩ => ⟨S_, .i32⟩
  | .hbm, ⟨10, _⟩ => ⟨S64x64, .i32⟩
  | .hbm, ⟨11, _⟩ => ⟨S64x64, .i32⟩
  | .hbm, ⟨12, _⟩ => ⟨S_, .i32⟩
  | .hbm, ⟨13, _⟩ => ⟨S64x64, .i32⟩
  | .hbm, ⟨14, _⟩ => ⟨S64x64, .i1⟩
  | .hbm, ⟨15, _⟩ => ⟨S_, .f32⟩
  | .hbm, ⟨16, _⟩ => ⟨S_, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S1x64, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S4x4, .i32⟩
  | .hbm, ⟨28, _⟩ => ⟨S4x4, .i32⟩
  | .hbm, ⟨29, _⟩ => ⟨S_, .i32⟩
  | .hbm, ⟨30, _⟩ => ⟨S4x4, .i32⟩
  | .hbm, ⟨31, _⟩ => ⟨S4x4, .i32⟩
  | .hbm, ⟨32, _⟩ => ⟨S4x4, .i1⟩
  | .hbm, ⟨33, _⟩ => ⟨S4x4, .f32⟩
  | .hbm, ⟨34, _⟩ => ⟨S4x1x4x1, .f32⟩
  | .hbm, ⟨35, _⟩ => ⟨S1x64x1x64, .f32⟩
  | .hbm, ⟨36, _⟩ => ⟨S4x64x4x64, .f32⟩
  | .hbm, ⟨37, _⟩ => ⟨S4x64x4x64, .f32⟩
  | .hbm, ⟨38, _⟩ => ⟨S4x64x4x64, .f32⟩
  | .hbm, ⟨39, _⟩ => ⟨S256x256, .f32⟩
  | .hbm, ⟨40, _⟩ => ⟨S256x256, .bf16⟩
  | .hbm, ⟨41, _⟩ => ⟨S1536x7168, .bf16⟩
  | .hbm, ⟨42, _⟩ => ⟨S768x7168, .i8⟩
  | .hbm, ⟨43, _⟩ => ⟨S2x24x7168, .i8⟩
  | .hbm, ⟨44, _⟩ => ⟨S1536x7168, .bf16⟩
  | .local _ .vmem, ⟨0, _⟩ => ⟨S256x256, .bf16⟩
  | .local _ .vmem, ⟨1, _⟩ => ⟨S1536x512, .bf16⟩
  | .local _ .vmem, ⟨2, _⟩ => ⟨S1536x512, .bf16⟩
  | .local _ .vmem, ⟨3, _⟩ => ⟨S768x512, .i8⟩
  | .local _ .vmem, ⟨4, _⟩ => ⟨S768x512, .i8⟩
  | .local _ .vmem, ⟨5, _⟩ => ⟨S2x24x512, .i8⟩
  | .local _ .vmem, ⟨6, _⟩ => ⟨S2x24x512, .i8⟩
  | .local _ .vmem, ⟨7, _⟩ => ⟨S1536x512, .bf16⟩
  | .local _ .vmem, ⟨8, _⟩ => ⟨S1536x512, .bf16⟩
  | .local _ .vmem, ⟨9, _⟩ => ⟨S48x512, .i32⟩
  | _, _ => ⟨S2x768x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_c_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev main_v27_2 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![14], ![false]⟩

@[reducible] def k0_t1_loop : Scf.Loop 32 :=
  let c0_i32 : BitVec 32 := 0#32
  let c6_i32 : BitVec 32 := 6#32
  let v0 : BitVec 32 := Scalar.addi c0_i32 c6_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c256_i32 : BitVec 32 := 256#32
  let v11 : BitVec 32 := Scalar.muli arg7 c256_i32
  v11
def k0_off1 (k0_t1 : Fin k0_t1_loop.trips) : Fin 2 → Nat :=
  let c0_i32 : BitVec 32 := 0#32
  let c1_i32 : BitVec 32 := 1#32
  let arg7 : BitVec 32 := Scf.iv c0_i32 c1_i32 k0_t1
  let c256_i32 : BitVec 32 := 256#32
  let v11 : BitVec 32 := Scalar.muli arg7 c256_i32
  let v12 : BitVec 32 := v11
  let v15 : Index := Scalar.indexCast v12
  let c0_10 : Index := 0#32
  ![v15.toNat, 0]
def k0_mult2 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32_52 : BitVec 32 := 128#32
  let v159 : BitVec 32 := Scalar.muli arg7 c128_i32_52
  v159
def k0_off2 (k0_t1 : Fin k0_t1_loop.trips) : Fin 2 → Nat :=
  let c0_i32 : BitVec 32 := 0#32
  let c1_i32 : BitVec 32 := 1#32
  let arg7 : BitVec 32 := Scf.iv c0_i32 c1_i32 k0_t1
  let c128_i32_52 : BitVec 32 := 128#32
  let v159 : BitVec 32 := Scalar.muli arg7 c128_i32_52
  let v160 : BitVec 32 := v159
  let v178 : Index := Scalar.indexCast v160
  let c0_57 : Index := 0#32
  ![v178.toNat, 0]
def k0_mult3 (k0_t1 : Fin k0_t1_loop.trips) : BitVec 32 :=
  let c0_i32 : BitVec 32 := 0#32
  let c1_i32 : BitVec 32 := 1#32
  let arg7 : BitVec 32 := Scf.iv c0_i32 c1_i32 k0_t1
  let c8_i32_58 : BitVec 32 := 8#32
  let v180 : BitVec 32 := Scalar.muli arg7 c8_i32_58
  v180
def k0_off3 (k0_t1 : Fin k0_t1_loop.trips) : Fin 2 → Nat :=
  let c0_i32 : BitVec 32 := 0#32
  let c1_i32 : BitVec 32 := 1#32
  let arg7 : BitVec 32 := Scf.iv c0_i32 c1_i32 k0_t1
  let c8_i32_58 : BitVec 32 := 8#32
  let v180 : BitVec 32 := Scalar.muli arg7 c8_i32_58
  let v181 : BitVec 32 := v180
  let v182 : Index := Scalar.indexCast v181
  let c0_59 : Index := 0#32
  ![v182.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S768x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x24x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== XReferenceIdeal.lean ====
abbrev S2x768x7168 : Shape := ⟨3, ![2, 768, 7168]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S24x64x7168 : Shape := ⟨3, ![24, 64, 7168]⟩
abbrev S24x7168x64 : Shape := ⟨3, ![24, 7168, 64]⟩
abbrev S48x32x7168 : Shape := ⟨3, ![48, 32, 7168]⟩
abbrev S48x7168 : Shape := ⟨2, ![48, 7168]⟩
abbrev S48x1x7168 : Shape := ⟨3, ![48, 1, 7168]⟩
abbrev S768x2x7168 : Shape := ⟨3, ![768, 2, 7168]⟩
abbrev S768x1x7168 : Shape := ⟨3, ![768, 1, 7168]⟩
abbrev S768x7168 : Shape := ⟨2, ![768, 7168]⟩
abbrev S2x24x7168 : Shape := ⟨3, ![2, 24, 7168]⟩
abbrev S1536x7168 : Shape := ⟨2, ![1536, 7168]⟩

abbrev nBuf : Space → Nat
  | .hbm => 144
  | .vmem => 0
  | .smem => 0
  | _ => 0

abbrev hbmTy0_0 (i : Nat) : BufTy := match i % 128 with
  | 0 => ⟨S2x768x7168, .bf16⟩
  | 1 => ⟨S64, .f32⟩
  | 2 => ⟨S64, .i32⟩
  | 3 => ⟨S64x1, .i32⟩
  | 4 => ⟨S1x64, .i32⟩
  | 5 => ⟨S64x64, .i32⟩
  | 6 => ⟨S64x64, .i32⟩
  | 7 => ⟨S64x64, .i32⟩
  | 8 => ⟨S64x64, .i32⟩
  | 9 => ⟨S_, .i32⟩
  | 10 => ⟨S64x64, .i32⟩
  | 11 => ⟨S64x64, .i32⟩
  | 12 => ⟨S_, .i32⟩
  | 13 => ⟨S64x64, .i32⟩
  | 14 => ⟨S64x64, .i1⟩
  | 15 => ⟨S_, .f32⟩
  | 16 => ⟨S_, .f32⟩
  | 17 => ⟨S64x64, .f32⟩
  | 18 => ⟨S64x64, .f32⟩
  | 19 => ⟨S64x64, .f32⟩
  | 20 => ⟨S64x64, .f32⟩
  | 21 => ⟨S1x64, .f32⟩
  | 22 => ⟨S64x64, .f32⟩
  | 23 => ⟨S64x64, .f32⟩
  | 24 => ⟨S_, .f32⟩
  | 25 => ⟨S64x64, .f32⟩
  | 26 => ⟨S64x64, .f32⟩
  | 27 => ⟨S2x768x7168, .f32⟩
  | 28 => ⟨S24x64x7168, .f32⟩
  | 29 => ⟨S24x7168x64, .f32⟩
  | 30 => ⟨S24x64x7168, .f32⟩
  | 31 => ⟨S48x32x7168, .f32⟩
  | 32 => ⟨S48x32x7168, .f32⟩
  | 33 => ⟨S_, .f32⟩
  | 34 => ⟨S48x7168, .f32⟩
  | 35 => ⟨S48x1x7168, .f32⟩
  | 36 => ⟨S_, .f32⟩
  | 37 => ⟨S48x1x7168, .f32⟩
  | 38 => ⟨S48x1x7168, .i1⟩
  | 39 => ⟨S48x1x7168, .f32⟩
  | 40 => ⟨S_, .f32⟩
  | 41 => ⟨S48x1x7168, .f32⟩
  | 42 => ⟨S48x1x7168, .f32⟩
  | 43 => ⟨S48x1x7168, .f32⟩
  | 44 => ⟨S48x1x7168, .f32⟩
  | 45 => ⟨S_, .f32⟩
  | 46 => ⟨S48x1x7168, .f32⟩
  | 47 => ⟨S48x1x7168, .f32⟩
  | 48 => ⟨S_, .f32⟩
  | 49 => ⟨S_, .f32⟩
  | 50 => ⟨S48x1x7168, .f32⟩
  | 51 => ⟨S48x1x7168, .f32⟩
  | 52 => ⟨S48x1x7168, .f32⟩
  | 53 => ⟨S_, .f32⟩
  | 54 => ⟨S48x1x7168, .f32⟩
  | 55 => ⟨S48x1x7168, .f32⟩
  | 56 => ⟨S48x32x7168, .f32⟩
  | 57 => ⟨S48x32x7168, .f32⟩
  | 58 => ⟨S48x32x7168, .f32⟩
  | 59 => ⟨S_, .f32⟩
  | 60 => ⟨S48x32x7168, .f32⟩
  | 61 => ⟨S48x32x7168, .f32⟩
  | 62 => ⟨S_, .f32⟩
  | 63 => ⟨S48x32x7168, .f32⟩
  | 64 => ⟨S48x32x7168, .i1⟩
  | 65 => ⟨S_, .f32⟩
  | 66 => ⟨S48x32x7168, .f32⟩
  | 67 => ⟨S48x32x7168, .i1⟩
  | 68 => ⟨S_, .f32⟩
  | 69 => ⟨S_, .f32⟩
  | 70 => ⟨S48x32x7168, .f32⟩
  | 71 => ⟨S48x32x7168, .f32⟩
  | 72 => ⟨S48x32x7168, .f32⟩
  | 73 => ⟨S_, .f32⟩
  | 74 => ⟨S48x32x7168, .f32⟩
  | 75 => ⟨S48x32x7168, .f32⟩
  | 76 => ⟨S48x32x7168, .f32⟩
  | 77 => ⟨S48x32x7168, .f32⟩
  | 78 => ⟨S48x32x7168, .f32⟩
  | 79 => ⟨S48x32x7168, .f32⟩
  | 80 => ⟨S48x32x7168, .f32⟩
  | 81 => ⟨S_, .f32⟩
  | 82 => ⟨S48x32x7168, .f32⟩
  | 83 => ⟨S48x32x7168, .i1⟩
  | 84 => ⟨S_, .f32⟩
  | 85 => ⟨S48x32x7168, .f32⟩
  | 86 => ⟨S48x32x7168, .i1⟩
  | 87 => ⟨S_, .f32⟩
  | 88 => ⟨S48x32x7168, .f32⟩
  | 89 => ⟨S48x32x7168, .f32⟩
  | 90 => ⟨S_, .f32⟩
  | 91 => ⟨S48x32x7168, .f32⟩
  | 92 => ⟨S48x32x7168, .i1⟩
  | 93 => ⟨S_, .f32⟩
  | 94 => ⟨S48x32x7168, .f32⟩
  | 95 => ⟨S48x32x7168, .f32⟩
  | 96 => ⟨S_, .f32⟩
  | 97 => ⟨S48x32x7168, .f32⟩
  | 98 => ⟨S48x32x7168, .f32⟩
  | 99 => ⟨S_, .f32⟩
  | 100 => ⟨S48x32x7168, .f32⟩
  | 101 => ⟨S48x32x7168, .f32⟩
  | 102 => ⟨S48x32x7168, .f32⟩
  | 103 => ⟨S48x32x7168, .f32⟩
  | 104 => ⟨S48x32x7168, .i32⟩
  | 105 => ⟨S_, .f32⟩
  | 106 => ⟨S48x32x7168, .f32⟩
  | 107 => ⟨S48x32x7168, .i1⟩
  | 108 => ⟨S48x32x7168, .i1⟩
  | 109 => ⟨S48x32x7168, .i32⟩
  | 110 => ⟨S_, .i32⟩
  | 111 => ⟨S48x32x7168, .i32⟩
  | 112 => ⟨S48x32x7168, .i32⟩
  | 113 => ⟨S48x32x7168, .i32⟩
  | 114 => ⟨S768x2x7168, .i32⟩
  | 115 => ⟨S768x1x7168, .i32⟩
  | 116 => ⟨S768x7168, .i32⟩
  | 117 => ⟨S768x1x7168, .i32⟩
  | 118 => ⟨S768x7168, .i32⟩
  | 119 => ⟨S_, .i32⟩
  | 120 => ⟨S768x7168, .i32⟩
  | 121 => ⟨S768x7168, .i32⟩
  | 122 => ⟨S768x7168, .i32⟩
  | 123 => ⟨S768x7168, .i8⟩
  | 124 => ⟨S48x7168, .f32⟩
  | 125 => ⟨S_, .f32⟩
  | 126 => ⟨S48x7168, .f32⟩
  | 127 => ⟨S48x7168, .f32⟩
  | _ => ⟨S2x768x7168, .bf16⟩

abbrev hbmTy0_1 (i : Nat) : BufTy := match i % 128 with
  | 0 => ⟨S48x7168, .i32⟩
  | 1 => ⟨S48x7168, .i8⟩
  | 2 => ⟨S2x24x7168, .i8⟩
  | 3 => ⟨S_, .f32⟩
  | 4 => ⟨S48x32x7168, .f32⟩
  | 5 => ⟨S48x32x7168, .i1⟩
  | 6 => ⟨S48x32x7168, .f32⟩
  | 7 => ⟨S48x32x7168, .f32⟩
  | 8 => ⟨S48x32x7168, .bf16⟩
  | 9 => ⟨S_, .f32⟩
  | 10 => ⟨S48x1x7168, .f32⟩
  | 11 => ⟨S48x1x7168, .f32⟩
  | 12 => ⟨S48x1x7168, .bf16⟩
  | 13 => ⟨S48x32x7168, .bf16⟩
  | 14 => ⟨S48x32x7168, .bf16⟩
  | 15 => ⟨S1536x7168, .bf16⟩
  | _ => ⟨S2x768x7168, .bf16⟩

abbrev hbmTy (i : Nat) : BufTy := match i / 128 with
  | 0 => hbmTy0_0 i
  | 1 => hbmTy0_1 i
  | _ => ⟨S2x768x7168, .bf16⟩

abbrev bufTy : (tb : Table) → Fin (tcTables nBuf tb) → BufTy
  | .hbm, ⟨i, _⟩ => hbmTy i
  | _, _ => ⟨S2x768x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_call1_v0 : Ref sig .tc := ⟨.hbm, 49, rfl⟩
abbrev main_call1_v1 : Ref sig .tc := ⟨.hbm, 50, rfl⟩
abbrev main_v35 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_cst_11 : Ref sig .tc := ⟨.hbm, 65, rfl⟩
abbrev main_v46 : Ref sig .tc := ⟨.hbm, 66, rfl⟩
abbrev main_v47 : Ref sig .tc := ⟨.hbm, 67, rfl⟩
abbrev main_cst_12 : Ref sig .tc := ⟨.hbm, 68, rfl⟩
abbrev main_cst_13 : Ref sig .tc := ⟨.hbm, 69, rfl⟩
abbrev main_call2_v0 : Ref sig .tc := ⟨.hbm, 70, rfl⟩
abbrev main_call2_v1 : Ref sig .tc := ⟨.hbm, 71, rfl⟩
abbrev main_v48 : Ref sig .tc := ⟨.hbm, 72, rfl⟩
abbrev main_cst_14 : Ref sig .tc := ⟨.hbm, 73, rfl⟩
abbrev main_call3_v0 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_15 : Ref sig .tc := ⟨.hbm, 81, rfl⟩
abbrev main_v55 : Ref sig .tc := ⟨.hbm, 82, rfl⟩
abbrev main_v56 : Ref sig .tc := ⟨.hbm, 83, rfl⟩
abbrev main_cst_16 : Ref sig .tc := ⟨.hbm, 84, rfl⟩
abbrev main_v57 : Ref sig .tc := ⟨.hbm, 85, rfl⟩
abbrev main_v58 : Ref sig .tc := ⟨.hbm, 86, rfl⟩
abbrev main_cst_17 : Ref sig .tc := ⟨.hbm, 87, rfl⟩
abbrev main_v59 : Ref sig .tc := ⟨.hbm, 88, rfl⟩
abbrev main_v60 : Ref sig .tc := ⟨.hbm, 89, rfl⟩
abbrev main_cst_18 : Ref sig .tc := ⟨.hbm, 90, rfl⟩
abbrev main_v61 : Ref sig .tc := ⟨.hbm, 91, rfl⟩
abbrev main_v62 : Ref sig .tc := ⟨.hbm, 92, rfl⟩
abbrev main_cst_19 : Ref sig .tc := ⟨.hbm, 93, rfl⟩
abbrev main_v63 : Ref sig .tc := ⟨.hbm, 94, rfl⟩
abbrev main_v64 : Ref sig .tc := ⟨.hbm, 95, rfl⟩
abbrev main_cst_20 : Ref sig .tc := ⟨.hbm, 96, rfl⟩
abbrev main_v65 : Ref sig .tc := ⟨.hbm, 97, rfl⟩
abbrev main_v66 : Ref sig .tc := ⟨.hbm, 98, rfl⟩
abbrev main_cst_21 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_22 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_c_23 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_c_24 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_25 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_cst_26 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_27 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩

abbrev nD : Nat := 1
abbrev τ : Topo := Topo.v7x

variable {F : FTy → Type} [FloatOps F]
-- ==== Proof.KFam.lean ====
/- Hand-written. The names the frame proof gives to the kernel's operands, and the ring of write-behind copies: the
   product `dw` is held as 504 tiles, one per step (36 row blocks times 14 column blocks), and the two halves of the
   staging buffer alternate between the steps. -/
module

public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import Idealize.ShloMosaic.Lib.Ring
public import Idealize.ShloMosaic.Lib.Exec
public import Idealize.ShloMosaic.Lib.Tactic

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [BitOps F]

local notation "𝕄" => MT nD τ sig Unit (Elt F) ℕ (Pipeline.UD sig nD τ) ℕ

/-- The operands in fixed places: the packed words of `x` (in HBM and, copied, in VMEM), the product `dw` in HBM, the
    decoded tile buffer, the scale bytes, the staging buffer of the products. -/
abbrev XH : Memref sig .tc .hbm S768x7168 .i32 := Memref.whole main_arg0
abbrev DW : Memref sig .tc .hbm S18432x7168 .f32 := Memref.whole main_v28_2
abbrev XV : Memref sig .tc .vmem S768x7168 .i32 := Memref.whole cc0_scratch0
abbrev DY : Memref sig .tc .vmem S2x256x1536 .i32 := Memref.whole cc0_scratch1
abbrev BY : Memref sig .tc .vmem S48x512 .i32 := Memref.whole cc0_scratch2
abbrev OU : Memref sig .tc .vmem S2x512x512 .f32 := Memref.whole cc0_scratch3

theorem inb_cell (s : Fin 2) : ∀ a, (![s.val] : Fin 1 → ℕ) a + S1.size a ≤ S2.size a := by
  revert s; decide
theorem inb_slot (s : Fin 2) : ∀ a, (![s.val, 0, 0] : Fin 3 → ℕ) a + S1x512x512.size a ≤ S2x512x512.size a := by
  revert s; decide

/-- The semaphore cell of slot `s`, and the slot. -/
def cellW (s : Fin 2) : DmaSems sig S_ := (cc0_scratch5.slice (Rect.unit (s := S2) ![s.val] S1.size (inb_cell s))).squeeze S_ squeezes_S1_S_
abbrev rslot (s : Fin 2) : Rect S2x512x512 := Rect.unit (s := S2x512x512) ![s.val, 0, 0] S1x512x512.size (inb_slot s)
def slotM (s : Fin 2) : Memref sig .tc .vmem S512x512 .f32 :=
  (OU.slice (rslot s) (fun _ => rfl)).squeeze S512x512 squeezes_S1x512x512_S512x512

theorem inb_piece (u : Fin 504) : ∀ a, (![(u.val / 14) * 512, (u.val % 14) * 512] : Fin 2 → ℕ) a + S512x512.size a ≤ S18432x7168.size a := by
  have h := u.isLt
  intro a; fin_cases a
  · show u.val / 14 * 512 + 512 ≤ 18432; omega
  · show u.val % 14 * 512 + 512 ≤ 7168; omega
/-- The tile of `dw` that step `u` writes. -/
abbrev rpiece (u : Fin 504) : Rect S18432x7168 := Rect.unit (s := S18432x7168) ![(u.val / 14) * 512, (u.val % 14) * 512] S512x512.size (inb_piece u)
def pieceM (u : Fin 504) : Memref sig .tc .hbm S512x512 .f32 := DW.slice (rpiece u) (fun _ => rfl)

/-- A column block of the packed words is inside. -/
theorem inb_xcol (j : ℕ) (h : j < 14) : ∀ a, (![0, j * 512] : Fin 2 → ℕ) a + S768x512.size a ≤ S768x7168.size a := by
  intro a; fin_cases a
  · show 0 + 768 ≤ 768; omega
  · show j * 512 + 512 ≤ 7168; omega

section Vals
variable (c : Dev nD)

/-- A slot free: its cell at zero, the slot at anything. -/
abbrev freeS (c : Dev nD) (s : Fin 2) : sProp 𝕄 :=
  iprop(semVal ((c : Thread nD τ), SemLoc.dma (cellW s).sem) 0 ∗ (∃ f, (slotM s).view.loc (c : Thread nD τ) ↦[(slotM s).view.set]{fullShare} f))
/-- The tile of step `u` not yet written. -/
abbrev aheadS (c : Dev nD) (u : Fin 504) : sProp 𝕄 :=
  iprop(∃ f, (pieceM u).view.loc (c : Thread nD τ) ↦[(pieceM u).view.set]{fullShare} f)

end Vals

end Cert.Kernel.Hand
-- ==== Proof.KVals.lean ====
/- Hand-written. What the frame of the unrewritten kernel says of the contents of the buffers: nothing. The predicates
   have the shape of the rewritten kernel's, whose proof also follows the values. -/
module

public import proofs.«01_k».proof.Proof.KFam

@[expose] public section

noncomputable section

namespace Cert.Kernel.Hand

open Cert.Kernel Cert.Kernel.Gen
open Idealize.ShloMosaic Idealize.ShloMosaic.TcCoe Idealize.ShloMosaic.Tactic

variable {F : FTy → Type} [BitOps F]

/-- What the kernel reads. -/
structure Vals (F : FTy → Type) where
  M : Vec F S256x256 .bf16
  D : ℕ → Vec F S1536x512 .bf16
  R : ℕ → Vec F S1536x512 .i8
  X : Vec F S768x7168 .i32

def Done (V : Vals F) (s n : ℕ) (fy : DY.view.ty.Contents (Elt F)) : Prop := True
def XDone (V : Vals F) (fx : XV.view.ty.Contents (Elt F)) : Prop := True
def Landed (V : Vals F) (u : Fin 504) (fd : (pieceM u).view.ty.Contents (Elt F)) : Prop := True

end Cert.Kernel.Hand
-- ==== Proof.KRing.lean ====
/- Hand-written. The ring of write-behind copies: the two halves of the staging buffer, the tiles of `dw` ahead of the ring, in
   flight and behind it. -/
module

public import proofs.«01_k».proof.Proof.KVals
public import Idealize.ShloMosaic.Lib.Ring.WriteBehind

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [BitOps F]

local notation "𝕄" => MT nD τ sig Unit (Elt F) ℕ (Pipeline.UD sig nD τ) ℕ

/-- The copy of step `u` in flight from slot `s`: what lands is the product tile of the step. -/
abbrev inflS (V : Vals F) (c : Dev nD) (s : Fin 2) (u : Fin 504) : sProp 𝕄 :=
  iprop(∃ fd : Buf (Elt F) ((pieceM u).view.loc (c : Thread nD τ)), ∃ fs : Buf (Elt F) ((slotM s).view.loc (c : Thread nD τ)),
    ⌜Landed V u fd⌝
    ∗ Transfers.Flight (countersEmb (U := Pipeline.UD sig nD τ)) (c : Thread nD τ) (SemLoc.dma (cellW s).sem) () 32768
        iprop(((pieceM u).view.loc (c : Thread nD τ) ↦[(pieceM u).view.set]{fullShare} fd)
          ∗ ((slotM s).view.loc (c : Thread nD τ) ↦[(slotM s).view.set]{fullShare} fs)))
/-- The tile of step `u` written. -/
abbrev behindS (V : Vals F) (c : Dev nD) (u : Fin 504) : sProp 𝕄 :=
  iprop(∃ f : Buf (Elt F) ((pieceM u).view.loc (c : Thread nD τ)), ⌜Landed V u f⌝ ∗ (pieceM u).view.loc (c : Thread nD τ) ↦[(pieceM u).view.set]{fullShare} f)

/-- The ring before step `p`. -/
abbrev RING (V : Vals F) (c : Dev nD) (p : ℕ) : sProp 𝕄 :=
  AtB (n := 2) (NB := 504) 2 (freeS (F := F) c) (inflS V c) (aheadS (F := F) c) (behindS V c) p

/-! ## The kernel's spelling of cells, slots and tiles -/

theorem canonCell (s : Fin 2) (off : Fin 1 → ℕ) (h : off = ![s.val]) (inb : ∀ a, off a + S1.size a ≤ S2.size a) :
    (cc0_scratch5.slice (Rect.unit (s := S2) off S1.size inb)).squeeze S_ squeezes_S1_S_ = cellW s := by subst h; rfl
theorem canonSlot (s : Fin 2) (off : Fin 3 → ℕ) (h : off = ![s.val, 0, 0]) (inb : ∀ a, off a + S1x512x512.size a ≤ S2x512x512.size a) :
    (OU.slice (Rect.unit (s := S2x512x512) off S1x512x512.size inb) (fun _ => rfl)).squeeze S512x512 squeezes_S1x512x512_S512x512 = slotM s := by
  subst h; rfl
theorem canonPiece (u : Fin 504) (off : Fin 2 → ℕ) (h : off = ![(u.val / 14) * 512, (u.val % 14) * 512])
    (inb : ∀ a, off a + S512x512.size a ≤ S18432x7168.size a) :
    DW.slice (Rect.unit (s := S18432x7168) off S512x512.size inb) (fun _ => rfl) = pieceM u := by subst h; rfl

theorem off11_eq : ∀ (i : grid0.Coords) (k : Fin k0_t2_loop.trips), k0_cond3 i = 1#1 → k0_off11 i k = ![((i 0).val - 1) * 512, k.val * 512] := by decide +kernel
theorem off23_eq : ∀ (i : grid0.Coords) (k : Fin k0_t3_loop.trips), k0_cond3 i = 1#1 → k0_off23 i k = ![((i 0).val - 1) * 512, (k.val + 6) * 512] := by decide +kernel
theorem off31_eq : ∀ (i : grid0.Coords) (k : Fin k0_t4_loop.trips), k0_cond6 i = 1#1 → k0_off31 i k = ![((i 0).val - 1) * 512, k.val * 512] := by decide +kernel
theorem cond2_iff : ∀ i : grid0.Coords, k0_cond2 i = 1#1 ↔ (i 0).val = 0 := by decide +kernel
theorem cond3_iff : ∀ i : grid0.Coords, k0_cond3 i = 1#1 ↔ (0 < (i 0).val ∧ (i 0).val < 36) := by decide +kernel
theorem cond6_iff : ∀ i : grid0.Coords, k0_cond6 i = 1#1 ↔ (i 0).val = 36 := by decide +kernel
theorem cond4_iff : ∀ (i : grid0.Coords) (k : Fin k0_t2_loop.trips), k0_cond4 i k = 1#1 ↔ (1 < (i 0).val ∨ 2 ≤ k.val) := by decide +kernel
theorem cond5_true : ∀ (i : grid0.Coords) (k : Fin k0_t3_loop.trips), k0_cond5 i k = 1#1 := by decide +kernel
theorem cond7_true : ∀ (i : grid0.Coords) (k : Fin k0_t4_loop.trips), k0_cond6 i = 1#1 → k0_cond7 i k = 1#1 := by decide +kernel
theorem lt37 (i : grid0.Coords) : (i 0).val < 37 := (i 0).isLt

end Cert.Kernel.Hand
-- ==== Proof.KT1.lean ====
/- Hand-written. One trip of the quantising loop of the first point. -/
module

public import proofs.«01_k».proof.Proof.KRing

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [BitOps F]

local notation "𝕄" => MT nD τ sig Unit (Elt F) ℕ (Pipeline.UD sig nD τ) ℕ

theorem trip1 (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole)
    (v3 : BitVec 32)
    (hc : k0_cond2 i = 1#1) (k : Fin k0_t1_loop.trips)
    (f1 : Buf (Elt F) (arg1.view.loc (c : Thread nD τ))) (f2 : Buf (Elt F) (arg2.view.loc (c : Thread nD τ))) (f3 : Buf (Elt F) (arg3.view.loc (c : Thread nD τ))) (f5 : Buf (Elt F) (arg5.view.loc (c : Thread nD τ)))
    (hM : arg1.view.read (Elt F) f1 = V.M) (hD : arg2.view.read (Elt F) f2 = V.D (i 0).val) (hR : arg3.view.read (Elt F) f3 = V.R (i 0).val)
    (fb : Buf (Elt F) (BY.view.loc (c : Thread nD τ)))
    (fy : Buf (Elt F) (DY.view.loc (c : Thread nD τ))) (hy' : Done V (i 0).val k.val fy) (Q : Unit → sProp 𝕄) :
    iprop((arg1.view.loc (c : Thread nD τ) ↦[arg1.view.set]{fullShare} f1) ∗ (arg2.view.loc (c : Thread nD τ) ↦[arg2.view.set]{fullShare} f2)
        ∗ (arg3.view.loc (c : Thread nD τ) ↦[arg3.view.set]{fullShare} f3) ∗ (arg5.view.loc (c : Thread nD τ) ↦[arg5.view.set]{fullShare} f5)
        ∗ (BY.view.loc (c : Thread nD τ) ↦{fullShare} fb)
        ∗ (DY.view.loc (c : Thread nD τ) ↦{fullShare} fy)
        ∗ (iprop((arg1.view.loc (c : Thread nD τ) ↦[arg1.view.set]{fullShare} f1) ∗ (arg2.view.loc (c : Thread nD τ) ↦[arg2.view.set]{fullShare} f2)
            ∗ (arg3.view.loc (c : Thread nD τ) ↦[arg3.view.set]{fullShare} f3) ∗ (∃ f5, (arg5.view.loc (c : Thread nD τ) ↦[arg5.view.set]{fullShare} f5))
            ∗ (∃ fb, (BY.view.loc (c : Thread nD τ) ↦{fullShare} fb))
            ∗ (∃ fy, ⌜Done V (i 0).val (k.val + 1) fy⌝ ∗ (DY.view.loc (c : Thread nD τ) ↦{fullShare} fy))) -∗ Q ()))
      ⊢ wp frame (wpE (defs₀ (F := F)) Variants.none (c : Thread nD τ) none) Set.univ
          (k0_t1_body (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5 v3 hc k ()) Q := by
  have hi := (cond2_iff i).mp hc
  have hk : k.val < 6 := k.isLt
  unfold k0_t1_body
  iintro ⟨H1, H2, H3, H5, Hb, Hy, HQ⟩
  sl_exec
  sl_step
  iapply HQ
  isplitl [H1]; · iexact H1
  isplitl [H2]; · iexact H2
  isplitl [H3]; · iexact H3
  isplitl [H5]; · iexists _; iexact H5
  isplitl [Hb]; · iexists _; iexact Hb
  iexists _
  isplitr [Hy]
  swap
  · iexact Hy
  · ipureintro
    exact trivial

end Cert.Kernel.Hand
-- ==== Proof.KT2.lean ====
/- Hand-written. One trip of the loop that multiplies and quantises: the product tile of the step (waiting for the copy two steps back,
   but for the first two steps) and the next chunk of the tile of `dy`. -/
module

public import proofs.«01_k».proof.Proof.KRing

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [BitOps F]

local notation "𝕄" => MT nD τ sig Unit (Elt F) ℕ (Pipeline.UD sig nD τ) ℕ

theorem trip2_free (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole)
    (v0 v4 : BitVec 32)
    (hc : k0_cond3 i = 1#1) (k : Fin k0_t2_loop.trips) (hf : ¬ (1 < (i 0).val ∨ 2 ≤ k.val)) (s : Fin 2) (hs : s.val = k.val % 2) (u : Fin 504) (hu : u.val = 14 * ((i 0).val - 1) + k.val)
    (f1 : Buf (Elt F) (arg1.view.loc (c : Thread nD τ))) (f2 : Buf (Elt F) (arg2.view.loc (c : Thread nD τ))) (f3 : Buf (Elt F) (arg3.view.loc (c : Thread nD τ))) (f5 : Buf (Elt F) (arg5.view.loc (c : Thread nD τ)))
    (hM : arg1.view.read (Elt F) f1 = V.M) (hD : arg2.view.read (Elt F) f2 = V.D (i 0).val) (hR : arg3.view.read (Elt F) f3 = V.R (i 0).val)
    (fb : Buf (Elt F) (BY.view.loc (c : Thread nD τ)))
    (fy : Buf (Elt F) (DY.view.loc (c : Thread nD τ))) (hy : Done V ((i 0).val - 1) 6 fy) (hy' : Done V (i 0).val k.val fy)
    (fx : Buf (Elt F) (XV.view.loc (c : Thread nD τ))) (hx : XDone V fx) (W : Waits sig Unit) (Q : Unit → sProp 𝕄) :
    iprop(freeS (F := F) c s ∗ aheadS (F := F) c u
        ∗ (arg1.view.loc (c : Thread nD τ) ↦[arg1.view.set]{fullShare} f1) ∗ (arg2.view.loc (c : Thread nD τ) ↦[arg2.view.set]{fullShare} f2)
        ∗ (arg3.view.loc (c : Thread nD τ) ↦[arg3.view.set]{fullShare} f3) ∗ (arg5.view.loc (c : Thread nD τ) ↦[arg5.view.set]{fullShare} f5)
        ∗ (BY.view.loc (c : Thread nD τ) ↦{fullShare} fb)
        ∗ (DY.view.loc (c : Thread nD τ) ↦{fullShare} fy) ∗ (XV.view.loc (c : Thread nD τ) ↦{fullShare} fx) ∗ owes (c : Thread nD τ) 0 W
        ∗ (iprop((arg1.view.loc (c : Thread nD τ) ↦[arg1.view.set]{fullShare} f1) ∗ (arg2.view.loc (c : Thread nD τ) ↦[arg2.view.set]{fullShare} f2)
            ∗ (arg3.view.loc (c : Thread nD τ) ↦[arg3.view.set]{fullShare} f3) ∗ (∃ f5, (arg5.view.loc (c : Thread nD τ) ↦[arg5.view.set]{fullShare} f5))
            ∗ (∃ fb, (BY.view.loc (c : Thread nD τ) ↦{fullShare} fb))
            ∗ (∃ fy, ⌜Done V ((i 0).val - 1) 6 fy ∧ Done V (i 0).val (k.val + 1) fy⌝ ∗ (DY.view.loc (c : Thread nD τ) ↦{fullShare} fy)) ∗ (XV.view.loc (c : Thread nD τ) ↦{fullShare} fx) ∗ (∃ W', owes (c : Thread nD τ) 0 W') ∗ inflS V c s u) -∗ Q ()))
      ⊢ wp frame (wpE (defs₀ (F := F)) Variants.none (c : Thread nD τ) none) Set.univ
          (k0_t2_body (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5 v0 v4 hc k ()) Q := by
  have hi := (cond3_iff i).mp hc
  have hk : k.val < 6 := k.isLt
  have h4 : ¬ k0_cond4 i k = 1#1 := fun h => hf ((cond4_iff i k).mp h)
  have hcanonC := canonCell s (k0_off10 k) ((k0_off10_eq k).trans (by rw [hs])) (k0_off10_inb i k hc)
  have hcanonS := canonSlot s (k0_off12 k) ((k0_off12_eq k).trans (by rw [hs])) (k0_off12_inb i k hc)
  have hcanonP := canonPiece u (k0_off11 i k) ((off11_eq i k hc).trans (by
    have e1 : u.val / 14 = (i 0).val - 1 := by omega
    have e2 : u.val % 14 = k.val := by omega
    rw [e1, e2])) (k0_off11_inb i k hc)
  unfold k0_t2_body
  iintro ⟨⟨Hc, ⟨%fs, Hs⟩⟩, ⟨%fd, Hd⟩, H1, H2, H3, H5, Hb, Hy, Hx, HO, HQ⟩
  sl_exec
  sl_step
  iapply HQ
  isplitl [H1]; · iexact H1
  isplitl [H2]; · iexact H2
  isplitl [H3]; · iexact H3
  isplitl [H5]; · iexists _; iexact H5
  isplitl [Hb]; · iexists _; iexact Hb
  isplitl [Hy]
  · iexists _
    isplitr [Hy]
    swap
    · iexact Hy
    · ipureintro
      exact ⟨trivial, trivial⟩
  isplitl [Hx]; · iexact Hx
  isplitl [HO]; · iexists _; iexact HO
  iexists _, _
  isplitr [Hc]
  swap
  · iexact Hc
  · ipureintro
    exact trivial

theorem trip2_wait (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole)
    (v0 v4 : BitVec 32)
    (hc : k0_cond3 i = 1#1) (k : Fin k0_t2_loop.trips) (hf : 1 < (i 0).val ∨ 2 ≤ k.val) (u' : Fin 504) (s : Fin 2) (hs : s.val = k.val % 2) (u : Fin 504) (hu : u.val = 14 * ((i 0).val - 1) + k.val)
    (f1 : Buf (Elt F) (arg1.view.loc (c : Thread nD τ))) (f2 : Buf (Elt F) (arg2.view.loc (c : Thread nD τ))) (f3 : Buf (Elt F) (arg3.view.loc (c : Thread nD τ))) (f5 : Buf (Elt F) (arg5.view.loc (c : Thread nD τ)))
    (hM : arg1.view.read (Elt F) f1 = V.M) (hD : arg2.view.read (Elt F) f2 = V.D (i 0).val) (hR : arg3.view.read (Elt F) f3 = V.R (i 0).val)
    (fb : Buf (Elt F) (BY.view.loc (c : Thread nD τ)))
    (fy : Buf (Elt F) (DY.view.loc (c : Thread nD τ))) (hy : Done V ((i 0).val - 1) 6 fy) (hy' : Done V (i 0).val k.val fy)
    (fx : Buf (Elt F) (XV.view.loc (c : Thread nD τ))) (hx : XDone V fx) (W : Waits sig Unit) (Q : Unit → sProp 𝕄) :
    iprop(inflS V c s u' ∗ aheadS (F := F) c u
        ∗ (arg1.view.loc (c : Thread nD τ) ↦[arg1.view.set]{fullShare} f1) ∗ (arg2.view.loc (c : Thread nD τ) ↦[arg2.view.set]{fullShare} f2)
        ∗ (arg3.view.loc (c : Thread nD τ) ↦[arg3.view.set]{fullShare} f3) ∗ (arg5.view.loc (c : Thread nD τ) ↦[arg5.view.set]{fullShare} f5)
        ∗ (BY.view.loc (c : Thread nD τ) ↦{fullShare} fb)
        ∗ (DY.view.loc (c : Thread nD τ) ↦{fullShare} fy) ∗ (XV.view.loc (c : Thread nD τ) ↦{fullShare} fx) ∗ owes (c : Thread nD τ) 0 W
        ∗ (iprop((arg1.view.loc (c : Thread nD τ) ↦[arg1.view.set]{fullShare} f1) ∗ (arg2.view.loc (c : Thread nD τ) ↦[arg2.view.set]{fullShare} f2)
            ∗ (arg3.view.loc (c : Thread nD τ) ↦[arg3.view.set]{fullShare} f3) ∗ (∃ f5, (arg5.view.loc (c : Thread nD τ) ↦[arg5.view.set]{fullShare} f5))
            ∗ (∃ fb, (BY.view.loc (c : Thread nD τ) ↦{fullShare} fb))
            ∗ (∃ fy, ⌜Done V ((i 0).val - 1) 6 fy ∧ Done V (i 0).val (k.val + 1) fy⌝ ∗ (DY.view.loc (c : Thread nD τ) ↦{fullShare} fy)) ∗ (XV.view.loc (c : Thread nD τ) ↦{fullShare} fx) ∗ (∃ W', owes (c : Thread nD τ) 0 W') ∗ behindS V c u' ∗ inflS V c s u) -∗ Q ()))
      ⊢ wp frame (wpE (defs₀ (F := F)) Variants.none (c : Thread nD τ) none) Set.univ
          (k0_t2_body (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5 v0 v4 hc k ()) Q := by
  have hi := (cond3_iff i).mp hc
  have hk : k.val < 6 := k.isLt
  have h4 : k0_cond4 i k = 1#1 := (cond4_iff i k).mpr hf
  have hcanonC' := canonCell s (k0_off5 k) ((k0_off5_eq k).trans (by rw [hs])) (k0_off5_inb i k hc h4)
  have hcanonC := canonCell s (k0_off10 k) ((k0_off10_eq k).trans (by rw [hs])) (k0_off10_inb i k hc)
  have hcanonS := canonSlot s (k0_off12 k) ((k0_off12_eq k).trans (by rw [hs])) (k0_off12_inb i k hc)
  have hcanonP := canonPiece u (k0_off11 i k) ((off11_eq i k hc).trans (by
    have e1 : u.val / 14 = (i 0).val - 1 := by omega
    have e2 : u.val % 14 = k.val := by omega
    rw [e1, e2])) (k0_off11_inb i k hc)
  unfold k0_t2_body
  iintro ⟨⟨%fd', %fs, %hG, Hc⟩, ⟨%fd, Hd⟩, H1, H2, H3, H5, Hb, Hy, Hx, HO, HQ⟩
  sl_exec
  sl_step
  iapply HQ
  isplitl [H1]; · iexact H1
  isplitl [H2]; · iexact H2
  isplitl [H3]; · iexact H3
  isplitl [H5]; · iexists _; iexact H5
  isplitl [Hb]; · iexists _; iexact Hb
  isplitl [Hy]
  · iexists _
    isplitr [Hy]
    swap
    · iexact Hy
    · ipureintro
      exact ⟨trivial, trivial⟩
  isplitl [Hx]; · iexact Hx
  isplitl [HO]; · iexists _; iexact HO
  isplitl [Hc_dst]
  · iexists _; isplitr
    · ipureintro; exact hG
    · iexact Hc_dst
  iexists _, _
  isplitr [Hc]
  swap
  · iexact Hc
  · ipureintro
    exact trivial

end Cert.Kernel.Hand
-- ==== Proof.KT3.lean ====
/- Hand-written. One trip of the multiplying loop: wait for the copy two steps back, form the product tile, start its copy. -/
module

public import proofs.«01_k».proof.Proof.KRing

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [BitOps F]

local notation "𝕄" => MT nD τ sig Unit (Elt F) ℕ (Pipeline.UD sig nD τ) ℕ

theorem trip3 (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole)
    (hc : k0_cond3 i = 1#1) (k : Fin k0_t3_loop.trips) (s : Fin 2) (hs : s.val = (k.val + 6) % 2) (u u' : Fin 504) (hu : u.val = 14 * ((i 0).val - 1) + (k.val + 6))
    (fy : Buf (Elt F) (DY.view.loc (c : Thread nD τ))) (hy : Done V ((i 0).val - 1) 6 fy)
    (fx : Buf (Elt F) (XV.view.loc (c : Thread nD τ))) (hx : XDone V fx) (W : Waits sig Unit) (Q : Unit → sProp 𝕄) :
    iprop(inflS V c s u' ∗ aheadS (F := F) c u
        ∗ (DY.view.loc (c : Thread nD τ) ↦{fullShare} fy) ∗ (XV.view.loc (c : Thread nD τ) ↦{fullShare} fx) ∗ owes (c : Thread nD τ) 0 W
        ∗ (iprop((DY.view.loc (c : Thread nD τ) ↦{fullShare} fy) ∗ (XV.view.loc (c : Thread nD τ) ↦{fullShare} fx) ∗ (∃ W', owes (c : Thread nD τ) 0 W') ∗ behindS V c u' ∗ inflS V c s u) -∗ Q ()))
      ⊢ wp frame (wpE (defs₀ (F := F)) Variants.none (c : Thread nD τ) none) Set.univ
          (k0_t3_body (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5 hc k ()) Q := by
  have hi := (cond3_iff i).mp hc
  have hk : k.val < 8 := k.isLt
  have hw := cond5_true i k
  have hcanonC' := canonCell s (k0_off17 k) ((k0_off17_eq k).trans (by rw [hs])) (k0_off17_inb i k hc hw)
  have hcanonC := canonCell s (k0_off22 k) ((k0_off22_eq k).trans (by rw [hs])) (k0_off22_inb i k hc)
  have hcanonS := canonSlot s (k0_off24 k) ((k0_off24_eq k).trans (by rw [hs])) (k0_off24_inb i k hc)
  have hcanonP := canonPiece u (k0_off23 i k) ((off23_eq i k hc).trans (by
    have e1 : u.val / 14 = (i 0).val - 1 := by omega
    have e2 : u.val % 14 = (k.val + 6) := by omega
    rw [e1, e2])) (k0_off23_inb i k hc)
  unfold k0_t3_body
  iintro ⟨⟨%fd', %fs, %hG, Hfl⟩, ⟨%fd, Hd⟩, Hy, Hx, HO, HQ⟩
  sl_exec
  sl_step
  iapply HQ
  isplitl [Hy]; · iexact Hy
  isplitl [Hx]; · iexact Hx
  isplitl [HO]; · iexists _; iexact HO
  isplitl [Hfl_dst]
  · iexists _; isplitr
    · ipureintro; exact hG
    · iexact Hfl_dst
  iexists _, _
  isplitr [Hfl]
  swap
  · iexact Hfl
  · ipureintro
    exact trivial

end Cert.Kernel.Hand
-- ==== Proof.KT4.lean ====
/- Hand-written. One trip of the multiplying loop: wait for the copy two steps back, form the product tile, start its copy. -/
module

public import proofs.«01_k».proof.Proof.KRing

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [BitOps F]

local notation "𝕄" => MT nD τ sig Unit (Elt F) ℕ (Pipeline.UD sig nD τ) ℕ

theorem trip4 (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole)
    (hc : k0_cond6 i = 1#1) (k : Fin k0_t4_loop.trips) (s : Fin 2) (hs : s.val = k.val % 2) (u u' : Fin 504) (hu : u.val = 14 * ((i 0).val - 1) + k.val)
    (fy : Buf (Elt F) (DY.view.loc (c : Thread nD τ))) (hy : Done V ((i 0).val - 1) 6 fy)
    (fx : Buf (Elt F) (XV.view.loc (c : Thread nD τ))) (hx : XDone V fx) (W : Waits sig Unit) (Q : Unit → sProp 𝕄) :
    iprop(inflS V c s u' ∗ aheadS (F := F) c u
        ∗ (DY.view.loc (c : Thread nD τ) ↦{fullShare} fy) ∗ (XV.view.loc (c : Thread nD τ) ↦{fullShare} fx) ∗ owes (c : Thread nD τ) 0 W
        ∗ (iprop((DY.view.loc (c : Thread nD τ) ↦{fullShare} fy) ∗ (XV.view.loc (c : Thread nD τ) ↦{fullShare} fx) ∗ (∃ W', owes (c : Thread nD τ) 0 W') ∗ behindS V c u' ∗ inflS V c s u) -∗ Q ()))
      ⊢ wp frame (wpE (defs₀ (F := F)) Variants.none (c : Thread nD τ) none) Set.univ
          (k0_t4_body (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5 hc k ()) Q := by
  have hi := (cond6_iff i).mp hc
  have hk : k.val < 14 := k.isLt
  have hw := cond7_true i k hc
  have hcanonC' := canonCell s (k0_off25 k) ((k0_off25_eq k).trans (by rw [hs])) (k0_off25_inb i k hc hw)
  have hcanonC := canonCell s (k0_off30 k) ((k0_off30_eq k).trans (by rw [hs])) (k0_off30_inb i k hc)
  have hcanonS := canonSlot s (k0_off32 k) ((k0_off32_eq k).trans (by rw [hs])) (k0_off32_inb i k hc)
  have hcanonP := canonPiece u (k0_off31 i k) ((off31_eq i k hc).trans (by
    have e1 : u.val / 14 = (i 0).val - 1 := by omega
    have e2 : u.val % 14 = k.val := by omega
    rw [e1, e2])) (k0_off31_inb i k hc)
  unfold k0_t4_body
  iintro ⟨⟨%fd', %fs, %hG, Hfl⟩, ⟨%fd, Hd⟩, Hy, Hx, HO, HQ⟩
  sl_exec
  sl_step
  iapply HQ
  isplitl [Hy]; · iexact Hy
  isplitl [Hx]; · iexact Hx
  isplitl [HO]; · iexists _; iexact HO
  isplitl [Hfl_dst]
  · iexists _; isplitr
    · ipureintro; exact hG
    · iexact Hfl_dst
  iexists _, _
  isplitr [Hfl]
  swap
  · iexact Hfl
  · ipureintro
    exact trivial

end Cert.Kernel.Hand
-- ==== Proof.KInv.lean ====
/- Hand-written. The invariants of the counted loops, and one trip of each. -/
module

public import proofs.«01_k».proof.Proof.KT1
public import proofs.«01_k».proof.Proof.KT2
public import proofs.«01_k».proof.Proof.KT3
public import proofs.«01_k».proof.Proof.KT4

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [BitOps F]

local notation "𝕄" => MT nD τ sig Unit (Elt F) ℕ (Pipeline.UD sig nD τ) ℕ

/-- Before trip `k` of the first point's quantising loop. -/
def I1 (V : Vals F) (c : Dev nD) (i : grid0.Coords) (arg1 : Memref sig .tc .vmem S256x256 .bf16) (arg2 : Memref sig .tc .vmem S1536x512 .bf16) (arg3 : Memref sig .tc .vmem S1536x512 .i8) (arg5 : Memref sig .tc .vmem S768x512 .i8)
    (f1 : Buf (Elt F) (arg1.view.loc (c : Thread nD τ))) (f2 : Buf (Elt F) (arg2.view.loc (c : Thread nD τ))) (f3 : Buf (Elt F) (arg3.view.loc (c : Thread nD τ))) (k : ℕ) (_ : Unit) : sProp 𝕄 :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (∃ f5, (arg5.view.loc (c : Thread nD τ) ↦[arg5.view.set]{fullShare} f5)) ∗ (∃ fb, (BY.view.loc (c : Thread nD τ) ↦{fullShare} fb)) ∗ (∃ fy, ⌜Done V (i 0).val k fy⌝ ∗ (DY.view.loc (c : Thread nD τ) ↦{fullShare} fy)))

/-- Before trip `k` of the loop that multiplies and quantises: the ring, the blocks, the previous tile whole in its slot and
    the first `k` chunks of this one in the other. -/
def I2 (V : Vals F) (c : Dev nD) (i : grid0.Coords) (arg1 : Memref sig .tc .vmem S256x256 .bf16) (arg2 : Memref sig .tc .vmem S1536x512 .bf16) (arg3 : Memref sig .tc .vmem S1536x512 .i8) (arg5 : Memref sig .tc .vmem S768x512 .i8)
    (f1 : Buf (Elt F) (arg1.view.loc (c : Thread nD τ))) (f2 : Buf (Elt F) (arg2.view.loc (c : Thread nD τ))) (f3 : Buf (Elt F) (arg3.view.loc (c : Thread nD τ))) (k : ℕ) (_ : Unit) : sProp 𝕄 :=
  iprop(RING V c (14 * ((i 0).val - 1) + k) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (∃ f5, (arg5.view.loc (c : Thread nD τ) ↦[arg5.view.set]{fullShare} f5)) ∗ (∃ fb, (BY.view.loc (c : Thread nD τ) ↦{fullShare} fb))
    ∗ (∃ fy, ⌜Done V ((i 0).val - 1) 6 fy ∧ Done V (i 0).val k fy⌝ ∗ (DY.view.loc (c : Thread nD τ) ↦{fullShare} fy)) ∗ (∃ fx, ⌜XDone V fx⌝ ∗ (XV.view.loc (c : Thread nD τ) ↦{fullShare} fx)) ∗ (∃ W, owes (c : Thread nD τ) 0 W))

/-- Before step `p` of a loop that multiplies tile `t` only. -/
def I34 (V : Vals F) (c : Dev nD) (t p : ℕ) (n : ℕ) : sProp 𝕄 :=
  iprop(RING V c p ∗ (∃ fy, ⌜Done V t 6 fy ∧ Done V n 6 fy⌝ ∗ (DY.view.loc (c : Thread nD τ) ↦{fullShare} fy)) ∗ (∃ fx, ⌜XDone V fx⌝ ∗ (XV.view.loc (c : Thread nD τ) ↦{fullShare} fx)) ∗ (∃ W, owes (c : Thread nD τ) 0 W))

theorem step1 (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole) (v3 : BitVec 32) (hc : k0_cond2 i = 1#1) (f1 : Buf (Elt F) (arg1.view.loc (c : Thread nD τ))) (f2 : Buf (Elt F) (arg2.view.loc (c : Thread nD τ))) (f3 : Buf (Elt F) (arg3.view.loc (c : Thread nD τ))) (hM : arg1.view.read (Elt F) f1 = V.M) (hD : arg2.view.read (Elt F) f2 = V.D (i 0).val) (hR : arg3.view.read (Elt F) f3 = V.R (i 0).val) (k : Fin k0_t1_loop.trips) :
    I1 V c i arg1 arg2 arg3 arg5 f1 f2 f3 k.val () ⊢ wp frame (wpE (defs₀ (F := F)) Variants.none (c : Thread nD τ) none) Set.univ
          (k0_t1_body (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5 v3 hc k ()) (fun a => I1 V c i arg1 arg2 arg3 arg5 f1 f2 f3 (k.val + 1) a) := by
  unfold I1
  iintro ⟨H1, H2, H3, ⟨%f5, H5⟩, ⟨%fb, Hb⟩, ⟨%fy, %hy, Hy⟩⟩
  iapply (trip1 V c i arg1 harg1 arg2 harg2 arg3 harg3 arg5 harg5 arg6 harg6 v3 hc k f1 f2 f3 f5 hM hD hR fb fy hy _)
  isplitl [H1]; · iexact H1
  isplitl [H2]; · iexact H2
  isplitl [H3]; · iexact H3
  isplitl [H5]; · iexact H5
  isplitl [Hb]; · iexact Hb
  isplitl [Hy]; · iexact Hy
  iintro ⟨H1, H2, H3, H5, Hb, Hy⟩
  isplitl [H1]; · iexact H1
  isplitl [H2]; · iexact H2
  isplitl [H3]; · iexact H3
  isplitl [H5]; · iexact H5
  isplitl [Hb]; · iexact Hb
  iexact Hy

theorem step2_zero (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole) (v0 v4 : BitVec 32) (hc : k0_cond3 i = 1#1) (f1 : Buf (Elt F) (arg1.view.loc (c : Thread nD τ))) (f2 : Buf (Elt F) (arg2.view.loc (c : Thread nD τ))) (f3 : Buf (Elt F) (arg3.view.loc (c : Thread nD τ))) (hM : arg1.view.read (Elt F) f1 = V.M) (hD : arg2.view.read (Elt F) f2 = V.D (i 0).val) (hR : arg3.view.read (Elt F) f3 = V.R (i 0).val) (k : Fin k0_t2_loop.trips) (p : ℕ) (hp : p = 14 * ((i 0).val - 1) + k.val) (hpp : p = 0) :
    I2 V c i arg1 arg2 arg3 arg5 f1 f2 f3 k.val () ⊢ wp frame (wpE (defs₀ (F := F)) Variants.none (c : Thread nD τ) none) Set.univ
          (k0_t2_body (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5 v0 v4 hc k ()) (fun a => I2 V c i arg1 arg2 arg3 arg5 f1 f2 f3 (k.val + 1) a) := by
  have hi := (cond3_iff i).mp hc
  have hk : k.val < 6 := k.isLt
  have hp5 : p < 504 := by omega
  have hs : (sl 2 p).val = k.val % 2 := by show p % 2 = _; omega
  have hu : (bk 504 p).val = 14 * ((i 0).val - 1) + k.val := (bk_val hp5).trans hp
  unfold I2
  rw [show 14 * ((i 0).val - 1) + (k.val + 1) = p + 1 by omega, ← hp]
  rw [show RING V c p = _ from AtB2_zero' 2 (freeS (F := F) c) (inflS V c) (aheadS (F := F) c) (behindS V c) p hpp, show RING V c (p + 1) = _ from AtB22_next_zero' (freeS (F := F) c) (inflS V c) (aheadS (F := F) c) (behindS V c) p hpp]
  iintro ⟨⟨⟨Ha, Hr⟩, Hs, Hf⟩, H1, H2, H3, ⟨%f5, H5⟩, ⟨%fb, Hb⟩, ⟨%fy, %hy, Hy⟩, ⟨%fx, %hx, Hx⟩, ⟨%W, HO⟩⟩
  iapply (trip2_free V c i arg1 harg1 arg2 harg2 arg3 harg3 arg5 harg5 arg6 harg6 v0 v4 hc k (by omega) (sl 2 p) hs (bk 504 p) hu f1 f2 f3 f5 hM hD hR fb fy hy.1 hy.2 fx hx W _)
  isplitl [Hs]; · iexact Hs
  isplitl [Ha]; · iexact Ha
  isplitl [H1]; · iexact H1
  isplitl [H2]; · iexact H2
  isplitl [H3]; · iexact H3
  isplitl [H5]; · iexact H5
  isplitl [Hb]; · iexact Hb
  isplitl [Hy]; · iexact Hy
  isplitl [Hx]; · iexact Hx
  isplitl [HO]; · iexact HO
  iintro ⟨H1, H2, H3, H5, Hb, Hy, Hx, HO, Hi⟩
  isplitl [Hr Hf Hi]
  · isplitl [Hr]; · iexact Hr
    isplitl [Hf]; · iexact Hf
    iexact Hi
  isplitl [H1]; · iexact H1
  isplitl [H2]; · iexact H2
  isplitl [H3]; · iexact H3
  isplitl [H5]; · iexact H5
  isplitl [Hb]; · iexact Hb
  isplitl [Hy]; · iexact Hy
  isplitl [Hx]
  · iexists _; isplitr
    · ipureintro; exact hx
    · iexact Hx
  iexact HO

theorem step2_one (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole) (v0 v4 : BitVec 32) (hc : k0_cond3 i = 1#1) (f1 : Buf (Elt F) (arg1.view.loc (c : Thread nD τ))) (f2 : Buf (Elt F) (arg2.view.loc (c : Thread nD τ))) (f3 : Buf (Elt F) (arg3.view.loc (c : Thread nD τ))) (hM : arg1.view.read (Elt F) f1 = V.M) (hD : arg2.view.read (Elt F) f2 = V.D (i 0).val) (hR : arg3.view.read (Elt F) f3 = V.R (i 0).val) (k : Fin k0_t2_loop.trips) (p : ℕ) (hp : p = 14 * ((i 0).val - 1) + k.val) (hpp : p = 1) :
    I2 V c i arg1 arg2 arg3 arg5 f1 f2 f3 k.val () ⊢ wp frame (wpE (defs₀ (F := F)) Variants.none (c : Thread nD τ) none) Set.univ
          (k0_t2_body (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5 v0 v4 hc k ()) (fun a => I2 V c i arg1 arg2 arg3 arg5 f1 f2 f3 (k.val + 1) a) := by
  have hi := (cond3_iff i).mp hc
  have hk : k.val < 6 := k.isLt
  have hp5 : p < 504 := by omega
  have hs : (sl 2 p).val = k.val % 2 := by show p % 2 = _; omega
  have hu : (bk 504 p).val = 14 * ((i 0).val - 1) + k.val := (bk_val hp5).trans hp
  unfold I2
  rw [show 14 * ((i 0).val - 1) + (k.val + 1) = p + 1 by omega, ← hp]
  rw [show RING V c p = _ from AtB22_one' (freeS (F := F) c) (inflS V c) (aheadS (F := F) c) (behindS V c) p hpp (by decide), show RING V c (p + 1) = _ from AtB22_next_one' (freeS (F := F) c) (inflS V c) (aheadS (F := F) c) (behindS V c) p hpp]
  iintro ⟨⟨⟨Ha, Hr⟩, Hs, Hf⟩, H1, H2, H3, ⟨%f5, H5⟩, ⟨%fb, Hb⟩, ⟨%fy, %hy, Hy⟩, ⟨%fx, %hx, Hx⟩, ⟨%W, HO⟩⟩
  iapply (trip2_free V c i arg1 harg1 arg2 harg2 arg3 harg3 arg5 harg5 arg6 harg6 v0 v4 hc k (by omega) (sl 2 p) hs (bk 504 p) hu f1 f2 f3 f5 hM hD hR fb fy hy.1 hy.2 fx hx W _)
  isplitl [Hs]; · iexact Hs
  isplitl [Ha]; · iexact Ha
  isplitl [H1]; · iexact H1
  isplitl [H2]; · iexact H2
  isplitl [H3]; · iexact H3
  isplitl [H5]; · iexact H5
  isplitl [Hb]; · iexact Hb
  isplitl [Hy]; · iexact Hy
  isplitl [Hx]; · iexact Hx
  isplitl [HO]; · iexact HO
  iintro ⟨H1, H2, H3, H5, Hb, Hy, Hx, HO, Hi⟩
  isplitl [Hr Hf Hi]
  · isplitl [Hr]; · iexact Hr
    isplitl [Hf]; · iexact Hf
    iexact Hi
  isplitl [H1]; · iexact H1
  isplitl [H2]; · iexact H2
  isplitl [H3]; · iexact H3
  isplitl [H5]; · iexact H5
  isplitl [Hb]; · iexact Hb
  isplitl [Hy]; · iexact Hy
  isplitl [Hx]
  · iexists _; isplitr
    · ipureintro; exact hx
    · iexact Hx
  iexact HO

theorem step2_wait (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole) (v0 v4 : BitVec 32) (hc : k0_cond3 i = 1#1) (f1 : Buf (Elt F) (arg1.view.loc (c : Thread nD τ))) (f2 : Buf (Elt F) (arg2.view.loc (c : Thread nD τ))) (f3 : Buf (Elt F) (arg3.view.loc (c : Thread nD τ))) (hM : arg1.view.read (Elt F) f1 = V.M) (hD : arg2.view.read (Elt F) f2 = V.D (i 0).val) (hR : arg3.view.read (Elt F) f3 = V.R (i 0).val) (k : Fin k0_t2_loop.trips) (p : ℕ) (hp : p = 14 * ((i 0).val - 1) + k.val) (hpp : 2 ≤ p) :
    I2 V c i arg1 arg2 arg3 arg5 f1 f2 f3 k.val () ⊢ wp frame (wpE (defs₀ (F := F)) Variants.none (c : Thread nD τ) none) Set.univ
          (k0_t2_body (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5 v0 v4 hc k ()) (fun a => I2 V c i arg1 arg2 arg3 arg5 f1 f2 f3 (k.val + 1) a) := by
  have hi := (cond3_iff i).mp hc
  have hk : k.val < 6 := k.isLt
  have hp5 : p < 504 := by omega
  have hs : (sl 2 p).val = k.val % 2 := by show p % 2 = _; omega
  have hu : (bk 504 p).val = 14 * ((i 0).val - 1) + k.val := (bk_val hp5).trans hp
  unfold I2
  rw [show 14 * ((i 0).val - 1) + (k.val + 1) = p + 1 by omega, ← hp]
  rw [show RING V c p = _ from AtB22_here (freeS (F := F) c) (inflS V c) (aheadS (F := F) c) (behindS V c) p hpp hp5, show RING V c (p + 1) = _ from AtB22_next (freeS (F := F) c) (inflS V c) (aheadS (F := F) c) (behindS V c) p hpp hp5]
  iintro ⟨⟨⟨Ha, Hr⟩, Hh, Hs, Hf⟩, H1, H2, H3, ⟨%f5, H5⟩, ⟨%fb, Hb⟩, ⟨%fy, %hy, Hy⟩, ⟨%fx, %hx, Hx⟩, ⟨%W, HO⟩⟩
  iapply (trip2_wait V c i arg1 harg1 arg2 harg2 arg3 harg3 arg5 harg5 arg6 harg6 v0 v4 hc k (by omega) (bk 504 (p - 2)) (sl 2 p) hs (bk 504 p) hu f1 f2 f3 f5 hM hD hR fb fy hy.1 hy.2 fx hx W _)
  isplitl [Hs]; · iexact Hs
  isplitl [Ha]; · iexact Ha
  isplitl [H1]; · iexact H1
  isplitl [H2]; · iexact H2
  isplitl [H3]; · iexact H3
  isplitl [H5]; · iexact H5
  isplitl [Hb]; · iexact Hb
  isplitl [Hy]; · iexact Hy
  isplitl [Hx]; · iexact Hx
  isplitl [HO]; · iexact HO
  iintro ⟨H1, H2, H3, H5, Hb, Hy, Hx, HO, Hn, Hi⟩
  isplitl [Hr Hh Hn Hf Hi]
  · isplitl [Hr]; · iexact Hr
    isplitl [Hn Hh]
    · isplitl [Hn]; · iexact Hn
      iexact Hh
    isplitl [Hf]; · iexact Hf
    iexact Hi
  isplitl [H1]; · iexact H1
  isplitl [H2]; · iexact H2
  isplitl [H3]; · iexact H3
  isplitl [H5]; · iexact H5
  isplitl [Hb]; · iexact Hb
  isplitl [Hy]; · iexact Hy
  isplitl [Hx]
  · iexists _; isplitr
    · ipureintro; exact hx
    · iexact Hx
  iexact HO

theorem step2 (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole) (v0 v4 : BitVec 32) (hc : k0_cond3 i = 1#1) (f1 : Buf (Elt F) (arg1.view.loc (c : Thread nD τ))) (f2 : Buf (Elt F) (arg2.view.loc (c : Thread nD τ))) (f3 : Buf (Elt F) (arg3.view.loc (c : Thread nD τ))) (hM : arg1.view.read (Elt F) f1 = V.M) (hD : arg2.view.read (Elt F) f2 = V.D (i 0).val) (hR : arg3.view.read (Elt F) f3 = V.R (i 0).val) (k : Fin k0_t2_loop.trips) :
    I2 V c i arg1 arg2 arg3 arg5 f1 f2 f3 k.val () ⊢ wp frame (wpE (defs₀ (F := F)) Variants.none (c : Thread nD τ) none) Set.univ
          (k0_t2_body (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5 v0 v4 hc k ()) (fun a => I2 V c i arg1 arg2 arg3 arg5 f1 f2 f3 (k.val + 1) a) := by
  rcases Nat.lt_or_ge (14 * ((i 0).val - 1) + k.val) 2 with h | h
  · rcases Nat.eq_zero_or_pos (14 * ((i 0).val - 1) + k.val) with h0 | h0
    · exact step2_zero V c i arg1 harg1 arg2 harg2 arg3 harg3 arg5 harg5 arg6 harg6 v0 v4 hc f1 f2 f3 hM hD hR k _ rfl h0
    · exact step2_one V c i arg1 harg1 arg2 harg2 arg3 harg3 arg5 harg5 arg6 harg6 v0 v4 hc f1 f2 f3 hM hD hR k _ rfl (by omega)
  · exact step2_wait V c i arg1 harg1 arg2 harg2 arg3 harg3 arg5 harg5 arg6 harg6 v0 v4 hc f1 f2 f3 hM hD hR k _ rfl h

theorem step3 (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole) (hc : k0_cond3 i = 1#1) (k : Fin k0_t3_loop.trips) :
    I34 V c ((i 0).val - 1) (14 * ((i 0).val - 1) + (k.val + 6)) (i 0).val ⊢ wp frame (wpE (defs₀ (F := F)) Variants.none (c : Thread nD τ) none) Set.univ
          (k0_t3_body (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5 hc k ()) (fun _ => I34 V c ((i 0).val - 1) (14 * ((i 0).val - 1) + (k.val + 1 + 6)) (i 0).val) := by
  have hi := (cond3_iff i).mp hc
  have hk : k.val < 8 := k.isLt
  obtain ⟨p, hp⟩ : ∃ p, p = 14 * ((i 0).val - 1) + (k.val + 6) := ⟨_, rfl⟩
  have hp5 : p < 504 := by omega
  have hp2 : 2 ≤ p := by omega
  have hs : (sl 2 p).val = (k.val + 6) % 2 := by show p % 2 = _; omega
  have hu : (bk 504 p).val = 14 * ((i 0).val - 1) + (k.val + 6) := (bk_val hp5).trans hp
  rw [show 14 * ((i 0).val - 1) + (k.val + 1 + 6) = p + 1 by omega, ← hp]
  unfold I34
  rw [show RING V c p = _ from AtB22_here (freeS (F := F) c) (inflS V c) (aheadS (F := F) c) (behindS V c) p hp2 hp5, show RING V c (p + 1) = _ from AtB22_next (freeS (F := F) c) (inflS V c) (aheadS (F := F) c) (behindS V c) p hp2 hp5]
  iintro ⟨⟨⟨Ha, Hr⟩, Hh, Hs, Hf⟩, ⟨%fy, %hy, Hy⟩, ⟨%fx, %hx, Hx⟩, ⟨%W, HO⟩⟩
  iapply (trip3 V c i arg1 harg1 arg2 harg2 arg3 harg3 arg5 harg5 arg6 harg6 hc k (sl 2 p) hs (bk 504 p) (bk 504 (p - 2)) hu fy hy.1 fx hx W _)
  isplitl [Hs]; · iexact Hs
  isplitl [Ha]; · iexact Ha
  isplitl [Hy]; · iexact Hy
  isplitl [Hx]; · iexact Hx
  isplitl [HO]; · iexact HO
  iintro ⟨Hy, Hx, HO, Hn, Hi⟩
  isplitl [Hr Hh Hn Hf Hi]
  · isplitl [Hr]; · iexact Hr
    isplitl [Hn Hh]
    · isplitl [Hn]; · iexact Hn
      iexact Hh
    isplitl [Hf]; · iexact Hf
    iexact Hi
  isplitl [Hy]
  · iexists _; isplitr
    · ipureintro; exact hy
    · iexact Hy
  isplitl [Hx]
  · iexists _; isplitr
    · ipureintro; exact hx
    · iexact Hx
  iexact HO

theorem step4 (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole) (hc : k0_cond6 i = 1#1) (k : Fin k0_t4_loop.trips) :
    I34 V c ((i 0).val - 1) (14 * ((i 0).val - 1) + (k.val)) ((i 0).val - 1) ⊢ wp frame (wpE (defs₀ (F := F)) Variants.none (c : Thread nD τ) none) Set.univ
          (k0_t4_body (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5 hc k ()) (fun _ => I34 V c ((i 0).val - 1) (14 * ((i 0).val - 1) + (k.val + 1)) ((i 0).val - 1)) := by
  have hi := (cond6_iff i).mp hc
  have hk : k.val < 14 := k.isLt
  obtain ⟨p, hp⟩ : ∃ p, p = 14 * ((i 0).val - 1) + (k.val) := ⟨_, rfl⟩
  have hp5 : p < 504 := by omega
  have hp2 : 2 ≤ p := by omega
  have hs : (sl 2 p).val = (k.val) % 2 := by show p % 2 = _; omega
  have hu : (bk 504 p).val = 14 * ((i 0).val - 1) + (k.val) := (bk_val hp5).trans hp
  rw [show 14 * ((i 0).val - 1) + (k.val + 1) = p + 1 by omega, ← hp]
  unfold I34
  rw [show RING V c p = _ from AtB22_here (freeS (F := F) c) (inflS V c) (aheadS (F := F) c) (behindS V c) p hp2 hp5, show RING V c (p + 1) = _ from AtB22_next (freeS (F := F) c) (inflS V c) (aheadS (F := F) c) (behindS V c) p hp2 hp5]
  iintro ⟨⟨⟨Ha, Hr⟩, Hh, Hs, Hf⟩, ⟨%fy, %hy, Hy⟩, ⟨%fx, %hx, Hx⟩, ⟨%W, HO⟩⟩
  iapply (trip4 V c i arg1 harg1 arg2 harg2 arg3 harg3 arg5 harg5 arg6 harg6 hc k (sl 2 p) hs (bk 504 p) (bk 504 (p - 2)) hu fy hy.1 fx hx W _)
  isplitl [Hs]; · iexact Hs
  isplitl [Ha]; · iexact Ha
  isplitl [Hy]; · iexact Hy
  isplitl [Hx]; · iexact Hx
  isplitl [HO]; · iexact HO
  iintro ⟨Hy, Hx, HO, Hn, Hi⟩
  isplitl [Hr Hh Hn Hf Hi]
  · isplitl [Hr]; · iexact Hr
    isplitl [Hn Hh]
    · isplitl [Hn]; · iexact Hn
      iexact Hh
    isplitl [Hf]; · iexact Hf
    iexact Hi
  isplitl [Hy]
  · iexists _; isplitr
    · ipureintro; exact hy
    · iexact Hy
  isplitl [Hx]
  · iexists _; isplitr
    · ipureintro; exact hx
    · iexact Hx
  iexact HO

end Cert.Kernel.Hand
-- ==== Proof.KB0.lean ====
/- Hand-written. The body at the first point: the words of `x` are copied in while tile 0 is quantised. -/
module

public import proofs.«01_k».proof.Proof.KInv

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [BitOps F]

local notation "𝕄" => MT nD τ sig Unit (Elt F) ℕ (Pipeline.UD sig nD τ) ℕ

theorem cond1_iff : ∀ i : grid0.Coords, Scalar.cmpi .ne (Scalar.extui (Scalar.cmpi .eq (BitVec.ofNat 32 (i 0).val) 0#32) : BitVec 32) 0#32 = 1#1 ↔ (i 0).val = 0 := by decide +kernel

theorem body_first (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole) (hi : (i 0).val = 0)
    (f1 : Buf (Elt F) (arg1.view.loc (c : Thread nD τ))) (f2 : Buf (Elt F) (arg2.view.loc (c : Thread nD τ))) (f3 : Buf (Elt F) (arg3.view.loc (c : Thread nD τ))) (f5 : Buf (Elt F) (arg5.view.loc (c : Thread nD τ))) (f6 : Buf (Elt F) (arg6.view.loc (c : Thread nD τ)))
    (hM : arg1.view.read (Elt F) f1 = V.M) (hD : arg2.view.read (Elt F) f2 = V.D (i 0).val) (hR : arg3.view.read (Elt F) f3 = V.R (i 0).val)
    (fxh : Buf (Elt F) (XH.view.loc (c : Thread nD τ))) (hX : XH.view.read (Elt F) fxh = V.X)
    (fx : Buf (Elt F) (XV.view.loc (c : Thread nD τ))) (fy : Buf (Elt F) (DY.view.loc (c : Thread nD τ))) (fb : Buf (Elt F) (BY.view.loc (c : Thread nD τ)))
    (W : Waits sig Unit) (Q : PUnit → sProp 𝕄) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg5.view.loc (c : Thread nD τ) ↦[arg5.view.set]{fullShare} f5) ∗ (arg6.view.loc (c : Thread nD τ) ↦[arg6.view.set]{fullShare} f6)
        ∗ (XH.view.loc (c : Thread nD τ) ↦{fullShare} fxh) ∗ (XV.view.loc (c : Thread nD τ) ↦{fullShare} fx) ∗ (DY.view.loc (c : Thread nD τ) ↦{fullShare} fy) ∗ (BY.view.loc (c : Thread nD τ) ↦{fullShare} fb) ∗ semVal ((c : Thread nD τ), SemLoc.dma (cc0_scratch4 : DmaSems sig S_).sem) 0 ∗ owes (c : Thread nD τ) 0 W
        ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (∃ f5, (arg5.view.loc (c : Thread nD τ) ↦[arg5.view.set]{fullShare} f5)) ∗ (∃ f6, (arg6.view.loc (c : Thread nD τ) ↦[arg6.view.set]{fullShare} f6))
            ∗ (XH.view.loc (c : Thread nD τ) ↦{fullShare} fxh) ∗ (∃ fx, ⌜XDone V fx⌝ ∗ (XV.view.loc (c : Thread nD τ) ↦{fullShare} fx)) ∗ (∃ fy, ⌜Done V (i 0).val 6 fy⌝ ∗ (DY.view.loc (c : Thread nD τ) ↦{fullShare} fy)) ∗ (∃ fb, (BY.view.loc (c : Thread nD τ) ↦{fullShare} fb)) ∗ semVal ((c : Thread nD τ), SemLoc.dma (cc0_scratch4 : DmaSems sig S_).sem) 0 ∗ (∃ W', owes (c : Thread nD τ) 0 W')) -∗ Q ⟨⟩))
      ⊢ wp frame (wpE (defs₀ (F := F)) Variants.none (c : Thread nD τ) none) Set.univ (cc0_wgrad (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5) Q := by
  have h1 := (cond1_iff i).mpr hi
  have h2 := (cond2_iff i).mpr hi
  have h3 : ¬ k0_cond3 i = 1#1 := fun h => by have := (cond3_iff i).mp h; omega
  have h6 : ¬ k0_cond6 i = 1#1 := fun h => by have := (cond6_iff i).mp h; omega
  rw [cc0_wgrad_eq_skeleton]; unfold cc0_wgrad_skel
  iintro ⟨H1, H2, H3, H5, H6, HXH, HXV, HY, HB, HS, HO, HQ⟩
  sl_exec
  sl_for (I1 V c i arg1 arg2 arg3 arg5 f1 f2 f3) $$ [H1 H2 H3 H5 HB HY]
  · intro k acc
    exact step1 V c i arg1 harg1 arg2 harg2 arg3 harg3 arg5 harg5 arg6 harg6 _ h2 f1 f2 f3 hM hD hR k
  · unfold I1
    isplitl [H1]; · iexact H1
    isplitl [H2]; · iexact H2
    isplitl [H3]; · iexact H3
    isplitl [H5]; · iexists _; iexact H5
    isplitl [HB]; · iexists _; iexact HB
    iexists _
    isplitr [HY]
    swap
    · iexact HY
    · ipureintro; exact trivial
  unfold I1
  iintro %acc ⟨H1, H2, H3, ⟨%g5, H5⟩, ⟨%gb, HB⟩, ⟨%gy, %hgy, HY⟩⟩
  sl_exec
  sl_step
  iapply HQ
  isplitl [H1]; · iexact H1
  isplitl [H2]; · iexact H2
  isplitl [H3]; · iexact H3
  isplitl [H5]; · iexists _; iexact H5
  isplitl [H6]; · iexists _; iexact H6
  isplitl [HXH]; · iexact HXH
  isplitl [HXV]
  · iexists _
    isplitr [HXV]
    swap
    · iexact HXV
    · ipureintro
      exact trivial
  isplitl [HY]
  · iexists _
    isplitr [HY]
    swap
    · iexact HY
    · ipureintro; exact hgy
  isplitl [HB]; · iexists _; iexact HB
  isplitl [HS]; · iexact HS
  iexists _; iexact HO

end Cert.Kernel.Hand
-- ==== Proof.KB1.lean ====
/- Hand-written. The body at a middle point: tile `i` is quantised while the first six products of tile `i - 1` are formed, then the other eight. -/
module

public import proofs.«01_k».proof.Proof.KInv

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [BitOps F]

local notation "𝕄" => MT nD τ sig Unit (Elt F) ℕ (Pipeline.UD sig nD τ) ℕ

theorem cond1_iff' : ∀ i : grid0.Coords, Scalar.cmpi .ne (Scalar.extui (Scalar.cmpi .eq (BitVec.ofNat 32 (i 0).val) 0#32) : BitVec 32) 0#32 = 1#1 ↔ (i 0).val = 0 := by decide +kernel

theorem body_mid (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole) (hi : 0 < (i 0).val ∧ (i 0).val < 36)
    (f1 : Buf (Elt F) (arg1.view.loc (c : Thread nD τ))) (f2 : Buf (Elt F) (arg2.view.loc (c : Thread nD τ))) (f3 : Buf (Elt F) (arg3.view.loc (c : Thread nD τ))) (f5 : Buf (Elt F) (arg5.view.loc (c : Thread nD τ))) (f6 : Buf (Elt F) (arg6.view.loc (c : Thread nD τ)))
    (hM : arg1.view.read (Elt F) f1 = V.M) (hD : arg2.view.read (Elt F) f2 = V.D (i 0).val) (hR : arg3.view.read (Elt F) f3 = V.R (i 0).val)
    (fb : Buf (Elt F) (BY.view.loc (c : Thread nD τ)))
    (W : Waits sig Unit) (Q : PUnit → sProp 𝕄) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg5.view.loc (c : Thread nD τ) ↦[arg5.view.set]{fullShare} f5) ∗ (arg6.view.loc (c : Thread nD τ) ↦[arg6.view.set]{fullShare} f6)
        ∗ (∃ fx, ⌜XDone V fx⌝ ∗ (XV.view.loc (c : Thread nD τ) ↦{fullShare} fx)) ∗ (∃ fy, ⌜Done V ((i 0).val - 1) 6 fy⌝ ∗ (DY.view.loc (c : Thread nD τ) ↦{fullShare} fy)) ∗ (BY.view.loc (c : Thread nD τ) ↦{fullShare} fb) ∗ RING V c (14 * ((i 0).val - 1)) ∗ owes (c : Thread nD τ) 0 W
        ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (∃ f5, (arg5.view.loc (c : Thread nD τ) ↦[arg5.view.set]{fullShare} f5)) ∗ (∃ f6, (arg6.view.loc (c : Thread nD τ) ↦[arg6.view.set]{fullShare} f6))
            ∗ (∃ fx, ⌜XDone V fx⌝ ∗ (XV.view.loc (c : Thread nD τ) ↦{fullShare} fx)) ∗ (∃ fy, ⌜Done V (i 0).val 6 fy⌝ ∗ (DY.view.loc (c : Thread nD τ) ↦{fullShare} fy)) ∗ (∃ fb, (BY.view.loc (c : Thread nD τ) ↦{fullShare} fb)) ∗ RING V c (14 * (i 0).val) ∗ (∃ W', owes (c : Thread nD τ) 0 W')) -∗ Q ⟨⟩))
      ⊢ wp frame (wpE (defs₀ (F := F)) Variants.none (c : Thread nD τ) none) Set.univ (cc0_wgrad (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5) Q := by
  have h1 : ¬ Scalar.cmpi .ne (Scalar.extui (Scalar.cmpi .eq (BitVec.ofNat 32 (i 0).val) 0#32) : BitVec 32) 0#32 = 1#1 := fun h => by have := (cond1_iff' i).mp h; omega
  have h2 : ¬ k0_cond2 i = 1#1 := fun h => by have := (cond2_iff i).mp h; omega
  have h3 := (cond3_iff i).mpr hi
  have h6 : ¬ k0_cond6 i = 1#1 := fun h => by have := (cond6_iff i).mp h; omega
  rw [cc0_wgrad_eq_skeleton]; unfold cc0_wgrad_skel
  iintro ⟨H1, H2, H3, H5, H6, HX, ⟨%fy, %hy, HY⟩, HB, HR, HO, HQ⟩
  sl_exec
  sl_for (I2 V c i arg1 arg2 arg3 arg5 f1 f2 f3) $$ [H1 H2 H3 H5 HB HX HY HR HO]
  · intro k acc
    exact step2 V c i arg1 harg1 arg2 harg2 arg3 harg3 arg5 harg5 arg6 harg6 _ _ h3 f1 f2 f3 hM hD hR k
  · unfold I2
    isplitl [HR]; · iexact HR
    isplitl [H1]; · iexact H1
    isplitl [H2]; · iexact H2
    isplitl [H3]; · iexact H3
    isplitl [H5]; · iexists _; iexact H5
    isplitl [HB]; · iexists _; iexact HB
    isplitl [HY]
    · iexists _
      isplitr [HY]
      swap
      · iexact HY
      · ipureintro; exact ⟨hy, trivial⟩
    isplitl [HX]; · iexact HX
    iexists _; iexact HO
  unfold I2
  iintro %acc ⟨HR, H1, H2, H3, ⟨%g5, H5⟩, ⟨%gb, HB⟩, ⟨%gy, %hgy, HY⟩, HX, ⟨%W1, HO⟩⟩
  sl_exec
  sl_for (fun k _ => I34 V c ((i 0).val - 1) (14 * ((i 0).val - 1) + (k + 6)) (i 0).val) $$ [HX HY HR HO]
  · intro k acc
    refine (step3 V c i arg1 harg1 arg2 harg2 arg3 harg3 arg5 harg5 arg6 harg6 h3 k).trans ?_
    exact .rfl
  · unfold I34
    isplitl [HR]; · iexact HR
    isplitl [HY]
    · iexists _
      isplitr [HY]
      swap
      · iexact HY
      · ipureintro; exact hgy
    isplitl [HX]; · iexact HX
    iexists _; iexact HO
  unfold I34
  iintro %acc2 ⟨HR, ⟨%ky, %hky, HY⟩, HX, HO⟩
  sl_exec
  sl_step
  iapply HQ
  isplitl [H1]; · iexact H1
  isplitl [H2]; · iexact H2
  isplitl [H3]; · iexact H3
  isplitl [H5]; · iexists _; iexact H5
  isplitl [H6]; · iexists _; iexact H6
  isplitl [HX]; · iexact HX
  isplitl [HY]
  · iexists _
    isplitr [HY]
    swap
    · iexact HY
    · ipureintro; exact hky.2
  isplitl [HB]; · iexists _; iexact HB
  isplitl [HR]
  · iapply (Entails.of_eq (congrArg (fun p => RING V c p) (show 14 * ((i 0).val - 1) + (Scf.trips k0_t3_loop.lb k0_t3_loop.ub k0_t3_loop.st + 6) = 14 * (i 0).val by rw [show Scf.trips k0_t3_loop.lb k0_t3_loop.ub k0_t3_loop.st = 8 from by decide]; omega)))
    iexact HR
  iexact HO

end Cert.Kernel.Hand
-- ==== Proof.KB2.lean ====
/- Hand-written. The body at the last point: the fourteen products of the last tile, then the last two copies are awaited. -/
module

public import proofs.«01_k».proof.Proof.KInv

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [BitOps F]

local notation "𝕄" => MT nD τ sig Unit (Elt F) ℕ (Pipeline.UD sig nD τ) ℕ

theorem cond1_iff'' : ∀ i : grid0.Coords, Scalar.cmpi .ne (Scalar.extui (Scalar.cmpi .eq (BitVec.ofNat 32 (i 0).val) 0#32) : BitVec 32) 0#32 = 1#1 ↔ (i 0).val = 0 := by decide +kernel

theorem body_last (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole) (hi : (i 0).val = 36) (W : Waits sig Unit) (Q : PUnit → sProp 𝕄) :
    iprop((∃ fx, ⌜XDone V fx⌝ ∗ (XV.view.loc (c : Thread nD τ) ↦{fullShare} fx)) ∗ (∃ fy, ⌜Done V ((i 0).val - 1) 6 fy⌝ ∗ (DY.view.loc (c : Thread nD τ) ↦{fullShare} fy)) ∗ RING V c (14 * ((i 0).val - 1)) ∗ owes (c : Thread nD τ) 0 W
        ∗ (iprop((∃ fx, (XV.view.loc (c : Thread nD τ) ↦{fullShare} fx)) ∗ (∃ fy, (DY.view.loc (c : Thread nD τ) ↦{fullShare} fy)) ∗ AtBEnd (freeS (F := F) c) (behindS V c) ∗ (∃ W', owes (c : Thread nD τ) 0 W')) -∗ Q ⟨⟩))
      ⊢ wp frame (wpE (defs₀ (F := F)) Variants.none (c : Thread nD τ) none) Set.univ (cc0_wgrad (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5) Q := by
  have h1 : ¬ Scalar.cmpi .ne (Scalar.extui (Scalar.cmpi .eq (BitVec.ofNat 32 (i 0).val) 0#32) : BitVec 32) 0#32 = 1#1 := fun h => by have := (cond1_iff'' i).mp h; omega
  have h2 : ¬ k0_cond2 i = 1#1 := fun h => by have := (cond2_iff i).mp h; omega
  have h3 : ¬ k0_cond3 i = 1#1 := fun h => by have := (cond3_iff i).mp h; omega
  have h6 := (cond6_iff i).mpr hi
  have hcanonC0 := canonCell 0 ![0] rfl inb_S2_S1_0
  have hcanonC1 := canonCell 1 ![1] rfl inb_S2_S1_1
  rw [cc0_wgrad_eq_skeleton]; unfold cc0_wgrad_skel
  iintro ⟨HX, ⟨%fy, %hy, HY⟩, HR, HO, HQ⟩
  sl_exec
  sl_for (fun k _ => I34 V c ((i 0).val - 1) (14 * ((i 0).val - 1) + k) ((i 0).val - 1)) $$ [HX HY HR HO]
  · intro k acc
    refine (step4 V c i arg1 harg1 arg2 harg2 arg3 harg3 arg5 harg5 arg6 harg6 h6 k).trans ?_
    exact .rfl
  · unfold I34
    isplitl [HR]; · iexact HR
    isplitl [HY]
    · iexists _
      isplitr [HY]
      swap
      · iexact HY
      · ipureintro; exact ⟨hy, hy⟩
    isplitl [HX]; · iexact HX
    iexists _; iexact HO
  unfold I34
  iintro %acc2 ⟨HR, ⟨%ky, %hky, HY⟩, ⟨%kx, %hkx, HX⟩, ⟨%W2, HO⟩⟩
  ihave HR' := (Entails.of_eq ((congrArg (fun p => RING V c p) (show 14 * ((i 0).val - 1) + Scf.trips k0_t4_loop.lb k0_t4_loop.ub k0_t4_loop.st = 504 by rw [show Scf.trips k0_t4_loop.lb k0_t4_loop.ub k0_t4_loop.st = 14 from by decide]; omega)).trans
    (AtB22_end' (freeS (F := F) c) (inflS V c) (aheadS (F := F) c) (behindS V c) 504 rfl (by decide)))) $$ HR
  icases HR' with ⟨HBe, ⟨%fd0, %fs0, %hl0, HF0⟩, ⟨%fd1, %fs1, %hl1, HF1⟩⟩
  sl_exec
  sl_step
  iapply HQ
  isplitl [HX]; · iexists _; iexact HX
  isplitl [HY]; · iexists _; iexact HY
  isplitr [HO]
  swap
  · iexists _; iexact HO
  iapply (Entails.of_eq (AtB22_epilogue' (NB := 504) (freeS (F := F) c) (behindS V c) 504 rfl (by decide)).symm)
  isplitl [HF0_dst HF1_dst HBe]
  · isplitl [HF0_dst]
    · iexists _
      isplitr [HF0_dst]
      swap
      · iexact HF0_dst
      · ipureintro; exact hl0
    isplitl [HF1_dst]
    · iexists _
      isplitr [HF1_dst]
      swap
      · iexact HF1_dst
      · ipureintro; exact hl1
    iexact HBe
  isplitl [HF0 HF0_src]
  · isplitl [HF0]; · iexact HF0
    iexists _; iexact HF0_src
  isplitl [HF1]; · iexact HF1
  iexists _; iexact HF1_src

end Cert.Kernel.Hand
-- ==== Proof.KSplit.lean ====
/- Hand-written. The product `dw` as its 504 tiles and the staging buffer as its two halves: split, and joined at known contents. -/
module

public import proofs.«01_k».proof.Proof.KRing
public import Idealize.ShloMosaic.Lib.ViewIndex

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [BitOps F]

local notation "𝕄" => MT nD τ sig Unit (Elt F) ℕ (Pipeline.UD sig nD τ) ℕ

theorem off_piece (u : Fin 504) (a : Fin 2) : (![(u.val / 14) * 512, (u.val % 14) * 512] : Fin 2 → ℕ) a = (![u.val / 14, u.val % 14] : Fin 2 → ℕ) a * S512x512.size a := by
  fin_cases a <;> rfl

theorem piece_disjoint (u u' : Fin 504) (h : u ≠ u') : Disjoint (rpiece u).set (rpiece u').set :=
  boxes_disjoint_of_ne (s := S18432x7168) S512x512.size (fun u : Fin 504 => ![(u.val / 14) * 512, (u.val % 14) * 512]) inb_piece
    (fun u : Fin 504 => ![u.val / 14, u.val % 14]) off_piece u u' fun e => h (Fin.ext (by
      have h0 : u.val / 14 = u'.val / 14 := congrFun e (0 : Fin 2)
      have h1 : u.val % 14 = u'.val % 14 := congrFun e (1 : Fin 2)
      omega))

/-- The tile an element of `dw` is in. -/
def tileOf (x : S18432x7168.Idx) : Fin 504 := ⟨14 * ((x 0 : Fin 18432).val / 512) + (x 1 : Fin 7168).val / 512, by
  have h0 : (x 0 : Fin 18432).val < 18432 := (x 0 : Fin 18432).isLt
  have h1 : (x 1 : Fin 7168).val < 7168 := (x 1 : Fin 7168).isLt
  omega⟩

theorem mem_tileOf (x : S18432x7168.Idx) : x ∈ (rpiece (tileOf x)).set := by
  rw [Rect.mem_set_unit]
  have h1 : (x 1 : Fin 7168).val < 7168 := (x 1 : Fin 7168).isLt
  intro a
  fin_cases a
  · show (14 * ((x 0).val / 512) + (x 1).val / 512) / 14 * 512 ≤ (x 0).val ∧ (x 0).val < (14 * ((x 0).val / 512) + (x 1).val / 512) / 14 * 512 + 512
    omega
  · show (14 * ((x 0).val / 512) + (x 1).val / 512) % 14 * 512 ≤ (x 1).val ∧ (x 1).val < (14 * ((x 0).val / 512) + (x 1).val / 512) % 14 * 512 + 512
    omega

theorem piece_cover : Finset.univ.biUnion (fun u : Fin 504 => (rpiece u).set) = (Finset.univ : Finset S18432x7168.Idx) := by
  refine Finset.eq_univ_iff_forall.mpr fun x => ?_
  rw [Finset.mem_biUnion]
  exact ⟨tileOf x, Finset.mem_univ _, mem_tileOf x⟩

theorem slot_disjoint (s s' : Fin 2) (h : s ≠ s') : Disjoint (rslot s).set (rslot s').set :=
  boxes_disjoint_of_ne (s := S2x512x512) S1x512x512.size (fun s : Fin 2 => ![s.val, 0, 0]) inb_slot
    (fun s : Fin 2 => ![s.val, 0, 0]) (fun s a => by fin_cases a <;> revert s <;> decide) s s' fun e => h (Fin.ext (congrFun e (0 : Fin 3)))

theorem slot_cover : Finset.univ.biUnion (fun s : Fin 2 => (rslot s).set) = (Finset.univ : Finset S2x512x512.Idx) := by
  refine Finset.eq_univ_iff_forall.mpr fun x => ?_
  rw [Finset.mem_biUnion]
  refine ⟨(x 0 : Fin 2), Finset.mem_univ _, ?_⟩
  rw [Rect.mem_set_unit]
  have h1 : (x 1 : Fin 512).val < 512 := (x 1 : Fin 512).isLt
  have h2 : (x 2 : Fin 512).val < 512 := (x 2 : Fin 512).isLt
  intro a
  fin_cases a
  · show (x 0).val ≤ (x 0).val ∧ (x 0).val < (x 0).val + 1
    omega
  · show 0 ≤ (x 1).val ∧ (x 1).val < 0 + 512
    omega
  · show 0 ≤ (x 2).val ∧ (x 2).val < 0 + 512
    omega

theorem pieceM_set (u : Fin 504) : (pieceM u).view.set = (rpiece u).set := by
  unfold pieceM
  exact View.set_slice_whole _ _
theorem slotM_set (s : Fin 2) : (slotM s).view.set = (rslot s).set := by
  unfold slotM
  rw [show ((OU.slice (rslot s) (fun _ => rfl)).squeeze S512x512 squeezes_S1x512x512_S512x512).view.set = (OU.slice (rslot s) (fun _ => rfl)).view.set from Memref.set_view_squeeze _ _]
  exact View.set_slice_whole _ _

/-- `dw` whole at anything is every tile at something. -/
theorem dw_split (c : Dev nD) : iprop(∃ f, (DW.view.loc (c : Thread nD τ) ↦{fullShare} f)) ⊢ (bigSep Finset.univ (aheadS (F := F) c) : sProp 𝕄) :=
  pieces_split (fun u => (rpiece u).set) piece_disjoint piece_cover
    (fun u (f : Buf (Elt F) (DW.view.loc (c : Thread nD τ))) => (pieceM u).view.loc (c : Thread nD τ) ↦[(pieceM u).view.set]{fullShare} f)
    (fun u f => by rw [pieceM_set]; rfl)

theorem slots_split (c : Dev nD) : iprop(∃ f, (OU.view.loc (c : Thread nD τ) ↦{fullShare} f)) ⊢ (bigSep Finset.univ (fun s : Fin 2 => iprop(∃ f, (slotM s).view.loc (c : Thread nD τ) ↦[(slotM s).view.set]{fullShare} f)) : sProp 𝕄) :=
  pieces_split (fun s : Fin 2 => (rslot s).set) slot_disjoint slot_cover
    (fun s (f : Buf (Elt F) (OU.view.loc (c : Thread nD τ))) => (slotM s).view.loc (c : Thread nD τ) ↦[(slotM s).view.set]{fullShare} f)
    (fun s f => by rw [slotM_set]; rfl)

theorem slots_join (c : Dev nD) (f₀ : Buf (Elt F) (OU.view.loc (c : Thread nD τ))) : (bigSep Finset.univ (fun s : Fin 2 => iprop(∃ f, (slotM s).view.loc (c : Thread nD τ) ↦[(slotM s).view.set]{fullShare} f)) : sProp 𝕄) ⊢ iprop(∃ f, (OU.view.loc (c : Thread nD τ) ↦{fullShare} f)) :=
  pieces_join (fun s : Fin 2 => (rslot s).set) slot_disjoint slot_cover
    (fun s (f : Buf (Elt F) (OU.view.loc (c : Thread nD τ))) => (slotM s).view.loc (c : Thread nD τ) ↦[(slotM s).view.set]{fullShare} f)
    (fun s f => by rw [slotM_set]; rfl) f₀

/-- The tiles are `dw` whole at something. -/
theorem dw_join (V : Vals F) (c : Dev nD) (f₀ : Buf (Elt F) (DW.view.loc (c : Thread nD τ))) : (bigSep Finset.univ (behindS V c) : sProp 𝕄) ⊢ iprop(∃ f, (DW.view.loc (c : Thread nD τ) ↦{fullShare} f)) := by
  have h1 : (bigSep Finset.univ (behindS V c) : sProp 𝕄) ⊢ bigSep Finset.univ (fun u => iprop(∃ f : Buf (Elt F) ((pieceM u).view.loc (c : Thread nD τ)), (pieceM u).view.loc (c : Thread nD τ) ↦[(pieceM u).view.set]{fullShare} f)) := by
    refine BI.bigSep_mono (s := Finset.univ) fun u _ => ?_
    show iprop(∃ f : Buf (Elt F) ((pieceM u).view.loc (c : Thread nD τ)), ⌜Landed V u f⌝ ∗ (pieceM u).view.loc (c : Thread nD τ) ↦[(pieceM u).view.set]{fullShare} f) ⊢ _
    iintro ⟨%f, -, H⟩
    iexists f
    iexact H
  exact h1.trans (pieces_join (fun u => (rpiece u).set) piece_disjoint piece_cover
    (fun u (f : Buf (Elt F) (DW.view.loc (c : Thread nD τ))) => (pieceM u).view.loc (c : Thread nD τ) ↦[(pieceM u).view.set]{fullShare} f)
    (fun u f => by rw [pieceM_set]; rfl) f₀)

end Cert.Kernel.Hand
-- ==== Proof.KLch.lean ====
/- Hand-written. The launch of the kernel: what the invariant between the grid points holds, the body obligation, the run and the frame. -/
module

public import proofs.«01_k».proof.Proof.KB0
public import proofs.«01_k».proof.Proof.KB1
public import proofs.«01_k».proof.Proof.KB2
public import proofs.«01_k».proof.Proof.KSplit
public import Idealize.ShloMosaic.Lib.Pipeline.FrameBody
public import Idealize.ShloMosaic.Lib.Pipeline.Frame

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [BitOps F]

local notation "𝕄" => MT nD τ sig Unit (Elt F) ℕ (Pipeline.UD sig nD τ) ℕ

open Idealize.ShloMosaic.Pipeline (Dat Cfg Window BodyObligation BodyObligationLoose cellOf)

variable (m : (ℓ : Loc nD τ sig) → Buf (Elt F) ℓ) (ρ : Dev nD → PrngReg)

set_option maxHeartbeats 800000 in
theorem hmain (𝒱₀ : Variants) : Pipeline.HMain (Ix := Unit) (Name := ℕ) (U := Pipeline.UD sig nD τ) (Lvl := ℕ) cfgs 0 defs₀ 𝒱₀ m (main (F := F)) (Gen.V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-! ## What the region reads -/

theorem coord0 : ∀ t : Fin cfg0.N, ((grid0.coords t) 0).val = t.val := by decide +kernel

/-- A family over the grid points, read at a number. -/
def atN {α : Type} (f : Fin 37 → α) (n : ℕ) : α := if h : n < 37 then f ⟨n, h⟩ else f 0
theorem atN_val {α : Type} (f : Fin 37 → α) (t : Fin 37) : atN f t.val = f t := dif_pos t.isLt

def blkD (c : Dev nD) (t : Fin 37) : Vec F S1536x512 .bf16 := iblk m c 1 t
def blkR (c : Dev nD) (t : Fin 37) : Vec F S1536x512 .i8 := iblk m c 2 t

/-- The blocks the body is handed, by the grid point. -/
def VV (c : Dev nD) : Vals F where
  M := iblk m c 0 (0 : Fin 37)
  D := atN (blkD m c)
  R := atN (blkR m c)
  X := XH.view.read (Elt F) (Gen.V m c main_arg0)

theorem VV_M (c : Dev nD) (t : Fin cfg0.N) : (iblk m c 0 t : Vec F S256x256 .bf16) = (VV m c).M := rfl
theorem VV_D (c : Dev nD) (t : Fin cfg0.N) : (iblk m c 1 t : Vec F S1536x512 .bf16) = (VV m c).D ((grid0.coords t) 0).val := by
  rw [coord0]
  exact (atN_val (blkD m c) t).symm
theorem VV_R (c : Dev nD) (t : Fin cfg0.N) : (iblk m c 2 t : Vec F S1536x512 .i8) = (VV m c).R ((grid0.coords t) 0).val := by
  rw [coord0]
  exact (atN_val (blkR m c) t).symm

/-! ## The invariant -/

/-- The buffers whose contents depend on how far the kernel is: before the first point, between two points, at the end. -/
def ST (V : Vals F) (c : Dev nD) (n : ℕ) : sProp 𝕄 :=
  if n = 0 then iprop((∃ fx, (XV.view.loc (c : Thread nD τ) ↦{fullShare} fx)) ∗ (∃ fy, (DY.view.loc (c : Thread nD τ) ↦{fullShare} fy)) ∗ RING V c 0)
  else if n < 37 then iprop((∃ fx, ⌜XDone V fx⌝ ∗ (XV.view.loc (c : Thread nD τ) ↦{fullShare} fx)) ∗ (∃ fy, ⌜Done V (n - 1) 6 fy⌝ ∗ (DY.view.loc (c : Thread nD τ) ↦{fullShare} fy)) ∗ RING V c (14 * (n - 1)))
  else iprop((∃ fx, (XV.view.loc (c : Thread nD τ) ↦{fullShare} fx)) ∗ (∃ fy, (DY.view.loc (c : Thread nD τ) ↦{fullShare} fy)) ∗ AtBEnd (freeS (F := F) c) (behindS V c))

theorem ST_zero (V : Vals F) (c : Dev nD) (n : ℕ) (h : n = 0) : ST V c n = iprop((∃ fx, (XV.view.loc (c : Thread nD τ) ↦{fullShare} fx)) ∗ (∃ fy, (DY.view.loc (c : Thread nD τ) ↦{fullShare} fy)) ∗ RING V c 0) := if_pos h
theorem ST_mid (V : Vals F) (c : Dev nD) (n : ℕ) (h : 0 < n ∧ n < 37) : ST V c n = iprop((∃ fx, ⌜XDone V fx⌝ ∗ (XV.view.loc (c : Thread nD τ) ↦{fullShare} fx)) ∗ (∃ fy, ⌜Done V (n - 1) 6 fy⌝ ∗ (DY.view.loc (c : Thread nD τ) ↦{fullShare} fy)) ∗ RING V c (14 * (n - 1))) :=
  (if_neg (by omega)).trans (if_pos h.2)
theorem ST_end (V : Vals F) (c : Dev nD) (n : ℕ) (h : n = 37) : ST V c n = iprop((∃ fx, (XV.view.loc (c : Thread nD τ) ↦{fullShare} fx)) ∗ (∃ fy, (DY.view.loc (c : Thread nD τ) ↦{fullShare} fy)) ∗ AtBEnd (freeS (F := F) c) (behindS V c)) :=
  (if_neg (by omega)).trans (if_neg (by omega))

def Phi (c : Dev nD) (n : ℕ) : sProp 𝕄 :=
  iprop((XH.view.loc (c : Thread nD τ) ↦{fullShare} Gen.V m c main_arg0) ∗ (∃ r, prngReg c r) ∗ semVal ((c : Thread nD τ), SemLoc.dma (cc0_scratch4 : DmaSems sig S_).sem) 0 ∗ (∃ fb, (BY.view.loc (c : Thread nD τ) ↦{fullShare} fb)) ∗ ST (VV m c) c n)

def dats (_ : Fin 1) (c : Dev nD) : Dat τ (Elt F) Unit ℕ (Pipeline.UD sig nD τ) ℕ cfg0 c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
  Φ t := Phi m c t.val
  q _ := fullShare
  owed _ := 0

theorem A_eq (c : Dev nD) (w : Fin cfg0.W) : (dats m 0 c).A w = Gen.V m c (Pipeline.arrRef spec0 w) := by
  dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by
    rw [show (dats m 0 c).after 0 t = iblk m c 0 t from rfl]; unfold Dat.blockOf iblk; rw [A_eq]; try rfl) t d).trans
    (by unfold Dat.fetched Dat.blockOf iblk; rw [A_eq]; try rfl)

theorem before_1 (c : Dev nD) (t : Fin cfg0.N) (d) : (dats m 0 c).before 1 t d = iblk m c 1 t :=
  ((dats m 0 c).before_in_eq_fetched 1 rfl (fun _ => rfl) (fun _ _ _ => rfl) (fun t => by
    rw [show (dats m 0 c).after 1 t = iblk m c 1 t from rfl]; unfold Dat.blockOf iblk; rw [A_eq]; try rfl) t d).trans
    (by unfold Dat.fetched Dat.blockOf iblk; rw [A_eq]; try rfl)

theorem before_2 (c : Dev nD) (t : Fin cfg0.N) (d) : (dats m 0 c).before 2 t d = iblk m c 2 t :=
  ((dats m 0 c).before_in_eq_fetched 2 rfl (fun _ => rfl) (fun _ _ _ => rfl) (fun t => by
    rw [show (dats m 0 c).after 2 t = iblk m c 2 t from rfl]; unfold Dat.blockOf iblk; rw [A_eq]; try rfl) t d).trans
    (by unfold Dat.fetched Dat.blockOf iblk; rw [A_eq]; try rfl)

/-! ## The body obligation -/

abbrev fgt : Fin cfg0.W → Bool := fun w => (![false, false, false, true, true] : Fin 5 → Bool) w

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ X, owns (c : Thread nD τ) (win0_3.stage (cfg0.slots t 3)) fullShare X)
    ∗ (∃ X, owns (c : Thread nD τ) (win0_4.stage (cfg0.slots t 4)) fullShare X))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ (∃ X, owns (c : Thread nD τ) (win0_3.stage (cfg0.slots t 3)) fullShare X)
    ∗ (∃ X, owns (c : Thread nD τ) (win0_4.stage (cfg0.slots t 4)) fullShare X))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).after 0 t = iblk m c 0 t from rfl, show (dats m 0 c).after 1 t = iblk m c 1 t from rfl, show (dats m 0 c).after 2 t = iblk m c 2 t from rfl]
  rw [show (dats m 0 c).Φ t.succ = Phi m c (t.val + 1) from rfl, show (dats m 0 c).Φ t.castSucc = Phi m c t.val from rfl]
  unfold Dat.owesAt Pipeline.owesWithin Phi
  rw [show (dats m 0 c).owed t.castSucc = 0 from rfl, show (dats m 0 c).owed t.succ = 0 from rfl]
  have ht : t.val < 37 := t.isLt
  have hc := coord0 t
  unfold owns
  rcases (show t.val = 0 ∨ (0 < t.val ∧ t.val < 36) ∨ t.val = 36 by omega) with h | h | h
  · rw [ST_zero _ _ _ h, ST_mid _ _ (t.val + 1) (by omega)]
    iintro ⟨⟨HXH, Hg, HS, ⟨%fb, HB⟩, ⟨%fx, HXV⟩, ⟨%fy, HDY⟩, HR⟩, ⟨%W, -, HW⟩, ⟨%d1, %f1, %e1, H1⟩, ⟨%d2, %f2, %e2, H2⟩, ⟨%d3, %f3, %e3, H3⟩, ⟨%X5, %f5, -, H5⟩, ⟨%X6, %f6, -, H6⟩⟩
    iapply (body_first (VV m c) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) (by omega) f1 f2 f3 f5 f6 (e1.trans (VV_M m c t)) (e2.trans (VV_D m c t)) (e3.trans (VV_R m c t)) (Gen.V m c main_arg0) rfl fx fy fb W _)
    isplitl [H1]; · iexact H1
    isplitl [H2]; · iexact H2
    isplitl [H3]; · iexact H3
    isplitl [H5]; · iexact H5
    isplitl [H6]; · iexact H6
    isplitl [HXH]; · iexact HXH
    isplitl [HXV]; · iexact HXV
    isplitl [HDY]; · iexact HDY
    isplitl [HB]; · iexact HB
    isplitl [HS]; · iexact HS
    isplitl [HW]; · iexact HW
    iintro ⟨H1, H2, H3, ⟨%g5, H5⟩, ⟨%g6, H6⟩, HXH, HXV, HDY, ⟨%gb, HB⟩, HS, ⟨%W', HW⟩⟩
    isplitl [HXH Hg HS HB HXV HDY HR]
    · isplitl [HXH]; · iexact HXH
      isplitl [Hg]; · iexact Hg
      isplitl [HS]; · iexact HS
      isplitl [HB]; · iexists _; iexact HB
      isplitl [HXV]; · iexact HXV
      isplitl [HDY]
      · iapply (Entails.of_eq (by rw [show t.val + 1 - 1 = (grid0.coords t 0).val by omega])); iexact HDY
      iapply (Entails.of_eq (congrArg (fun p => RING (VV m c) c p) (by omega : 0 = 14 * (t.val + 1 - 1)))); iexact HR
    isplitl [HW]
    · iexists W'; isplitr; · ipureintro; exact fun _ _ => Or.inl trivial
      iexact HW
    isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    isplitl [H5]
    · iexists _, _; isplitr; swap; · iexact H5
      ipureintro; rfl
    iexists _, _; isplitr; swap; · iexact H6
    ipureintro; rfl
  · rw [ST_mid _ _ _ (by omega : 0 < t.val ∧ t.val < 37), ST_mid _ _ (t.val + 1) (by omega)]
    iintro ⟨⟨HXH, Hg, HS, ⟨%fb, HB⟩, HXV, HDY, HR⟩, ⟨%W, -, HW⟩, ⟨%d1, %f1, %e1, H1⟩, ⟨%d2, %f2, %e2, H2⟩, ⟨%d3, %f3, %e3, H3⟩, ⟨%X5, %f5, -, H5⟩, ⟨%X6, %f6, -, H6⟩⟩
    iapply (body_mid (VV m c) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) (by omega) f1 f2 f3 f5 f6 (e1.trans (VV_M m c t)) (e2.trans (VV_D m c t)) (e3.trans (VV_R m c t)) fb W _)
    isplitl [H1]; · iexact H1
    isplitl [H2]; · iexact H2
    isplitl [H3]; · iexact H3
    isplitl [H5]; · iexact H5
    isplitl [H6]; · iexact H6
    isplitl [HXV]; · iexact HXV
    isplitl [HDY]; · iapply (Entails.of_eq (by rw [hc])); iexact HDY
    isplitl [HB]; · iexact HB
    isplitl [HR]; · iapply (Entails.of_eq (congrArg (fun p => RING (VV m c) c p) (by omega : 14 * (t.val - 1) = 14 * ((grid0.coords t 0).val - 1)))); iexact HR
    isplitl [HW]; · iexact HW
    iintro ⟨H1, H2, H3, ⟨%g5, H5⟩, ⟨%g6, H6⟩, HXV, HDY, ⟨%gb, HB⟩, HR, ⟨%W', HW⟩⟩
    isplitl [HXH Hg HS HB HXV HDY HR]
    · isplitl [HXH]; · iexact HXH
      isplitl [Hg]; · iexact Hg
      isplitl [HS]; · iexact HS
      isplitl [HB]; · iexists _; iexact HB
      isplitl [HXV]; · iexact HXV
      isplitl [HDY]
      · iapply (Entails.of_eq (by rw [show t.val + 1 - 1 = (grid0.coords t 0).val by omega])); iexact HDY
      iapply (Entails.of_eq (congrArg (fun p => RING (VV m c) c p) (by omega : 14 * (grid0.coords t 0).val = 14 * (t.val + 1 - 1)))); iexact HR
    isplitl [HW]
    · iexists W'; isplitr; · ipureintro; exact fun _ _ => Or.inl trivial
      iexact HW
    isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    isplitl [H5]
    · iexists _, _; isplitr; swap; · iexact H5
      ipureintro; rfl
    iexists _, _; isplitr; swap; · iexact H6
    ipureintro; rfl
  · rw [ST_mid _ _ _ (by omega : 0 < t.val ∧ t.val < 37), ST_end _ _ (t.val + 1) (by omega)]
    iintro ⟨⟨HXH, Hg, HS, ⟨%fb, HB⟩, HXV, HDY, HR⟩, ⟨%W, -, HW⟩, ⟨%d1, %f1, %e1, H1⟩, ⟨%d2, %f2, %e2, H2⟩, ⟨%d3, %f3, %e3, H3⟩, ⟨%X5, %f5, -, H5⟩, ⟨%X6, %f6, -, H6⟩⟩
    iapply (body_last (VV m c) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) (by omega) W _)
    isplitl [HXV]; · iexact HXV
    isplitl [HDY]; · iapply (Entails.of_eq (by rw [hc])); iexact HDY
    isplitl [HR]; · iapply (Entails.of_eq (congrArg (fun p => RING (VV m c) c p) (by omega : 14 * (t.val - 1) = 14 * ((grid0.coords t 0).val - 1)))); iexact HR
    isplitl [HW]; · iexact HW
    iintro ⟨HXV, HDY, HR, ⟨%W', HW⟩⟩
    isplitl [HXH Hg HS HB HXV HDY HR]
    · isplitl [HXH]; · iexact HXH
      isplitl [Hg]; · iexact Hg
      isplitl [HS]; · iexact HS
      isplitl [HB]; · iexists _; iexact HB
      isplitl [HXV]; · iexact HXV
      isplitl [HDY]; · iexact HDY
      iexact HR
    isplitl [HW]
    · iexists W'; isplitr; · ipureintro; exact fun _ _ => Or.inl trivial
      iexact HW
    isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    isplitl [H5]
    · iexists _, _; isplitr; swap; · iexact H5
      ipureintro; rfl
    iexists _, _; isplitr; swap; · iexact H6
    ipureintro; rfl

theorem defs₀_row (t : Fin cfg0.N) :
    defs₀ (F := F) .tc cfg0.body (cfg0.bodyArgs t (cfg0.slots t)) = bodyAt0 t := by
  unfold defs₀; rw [Defs.onTc_tc]

set_option maxHeartbeats 2000000 in
theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

/-! ## The launch -/

abbrev osem0 : Fin 3 → SemLoc sig := fun j => (![SemLoc.dma 9, SemLoc.dma 10, SemLoc.dma 11] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cc0_scratch4 : DmaSems sig S_).sem) 0 ∗ semVal ((c : Thread nD τ), SemLoc.dma (cellW 0).sem) 0 ∗ semVal ((c : Thread nD τ), SemLoc.dma (cellW 1).sem) 0) := by
  rw [Pipeline.ownSems0_eq_of_list c osem0 [0, 1, 2] (by decide) (by decide)]; rfl
def H0 : Finset (Ref sig .tc) := {main_arg0}
def R0 : Finset (Ref sig .tc) := {main_v28_2}
theorem H0_sub : H0 ⊆ Pipeline.restRefs sig spec0 := by decide
theorem R0_sub : R0 ⊆ Pipeline.restRefs sig spec0 \ H0 := by decide

theorem hbm_eq (c : Dev nD) : (bigSep H0 (fun b => ((c : Thread nD τ).loc b) ↦{fullShare} Gen.V m c b) : sProp 𝕄)
    = (XH.view.loc (c : Thread nD τ) ↦{fullShare} Gen.V m c main_arg0) := by
  rw [BI.bigSep_eq_bigSepL_of_eq [main_arg0] (by decide) (by decide)]; rfl
theorem owned_eq (c : Dev nD) : (Pipeline.owned R0 c : sProp 𝕄) = iprop(∃ f, (DW.view.loc (c : Thread nD τ) ↦{fullShare} f)) := by
  unfold Pipeline.owned; rw [BI.bigSep_eq_bigSepL_of_eq [main_v28_2] (by decide) (by decide)]
  rfl

theorem PhiG_eq (c : Dev nD) :
    (Pipeline.ΦDR osem0 spec0 H0 R0 (Gen.V m) c : sProp 𝕄)
      = iprop(((∃ fx, (XV.view.loc (c : Thread nD τ) ↦{fullShare} fx)) ∗ (∃ fy, (DY.view.loc (c : Thread nD τ) ↦{fullShare} fy)) ∗ (∃ fb, (BY.view.loc (c : Thread nD τ) ↦{fullShare} fb)) ∗ (∃ fo, (OU.view.loc (c : Thread nD τ) ↦{fullShare} fo)))
          ∗ (∃ r, prngReg c r)
          ∗ (semVal ((c : Thread nD τ), SemLoc.dma (cc0_scratch4 : DmaSems sig S_).sem) 0 ∗ semVal ((c : Thread nD τ), SemLoc.dma (cellW 0).sem) 0 ∗ semVal ((c : Thread nD τ), SemLoc.dma (cellW 1).sem) 0)
          ∗ (XH.view.loc (c : Thread nD τ) ↦{fullShare} Gen.V m c main_arg0)
          ∗ (∃ f, (DW.view.loc (c : Thread nD τ) ↦{fullShare} f))) := by
  rw [Pipeline.ΦDR_eq, scopedRest0_eq, ownSems00_eq, hbm_eq, owned_eq]

theorem hin (c : Dev nD) : Pipeline.ΦDR osem0 spec0 H0 R0 (Gen.V m) c ⊢ (dats m 0 c).Φ 0 := by
  rw [PhiG_eq, show (dats m 0 c).Φ 0 = Phi m c 0 from rfl]
  unfold Phi
  rw [ST_zero _ _ _ rfl]
  iintro ⟨⟨HX, HY, HB, HO⟩, Hg, ⟨HS, HS0, HS1⟩, HH, HD⟩
  ihave Ha := (dw_split (F := F) c) $$ HD
  ihave Ho := (slots_split (F := F) c) $$ HO
  isplitl [HH]; · iexact HH
  isplitl [Hg]; · iexact Hg
  isplitl [HS]; · iexact HS
  isplitl [HB]; · iexact HB
  isplitl [HX]; · iexact HX
  isplitl [HY]; · iexact HY
  iapply (Entails.of_eq (show iprop(bigSep Finset.univ (aheadS (F := F) c) ∗ bigSep Finset.univ (freeS (F := F) c)) = RING (VV m c) c 0 from (AtB_zero ..).symm))
  isplitl [Ha]; · iexact Ha
  iapply (Entails.of_eq (bigSep_fin2 (freeS (F := F) c)).symm)
  ihave Ho2 := (Entails.of_eq (bigSep_fin2 (fun s : Fin 2 => iprop(∃ f, (slotM s).view.loc (c : Thread nD τ) ↦[(slotM s).view.set]{fullShare} f)))) $$ Ho
  icases Ho2 with ⟨Ho0, Ho1⟩
  isplitl [HS0 Ho0]
  · isplitl [HS0]; · iexact HS0
    iexact Ho0
  · isplitl [HS1]; · iexact HS1
    iexact Ho1

theorem hout (c : Dev nD) : (dats m 0 c).Φ (Fin.last cfg0.N) ⊢ Pipeline.ΦDR osem0 spec0 H0 R0 (Gen.V m) c := by
  rw [PhiG_eq, show (dats m 0 c).Φ (Fin.last cfg0.N) = Phi m c 37 from rfl]
  unfold Phi
  rw [ST_end _ _ _ rfl]
  iintro ⟨HH, Hg, HS, HB, HX, HY, HR⟩
  ihave HR2 := (Entails.of_eq (show AtBEnd (freeS (F := F) c) (behindS (VV m c) c) = iprop(bigSep Finset.univ (behindS (VV m c) c) ∗ bigSep Finset.univ (freeS (F := F) c)) from rfl)) $$ HR
  icases HR2 with ⟨Hb, Hf⟩
  ihave Hd := (dw_join (VV m c) c (Gen.V m c main_v28_2)) $$ Hb
  ihave Hf2 := (Entails.of_eq (bigSep_fin2 (freeS (F := F) c))) $$ Hf
  icases Hf2 with ⟨Hf0, Hf1⟩
  icases Hf0 with ⟨HS0, ⟨%g0, Ho0⟩⟩
  icases Hf1 with ⟨HS1, ⟨%g1, Ho1⟩⟩
  isplitl [HX HY HB Ho0 Ho1]
  · isplitl [HX]; · iexact HX
    isplitl [HY]; · iexact HY
    isplitl [HB]; · iexact HB
    iapply (slots_join (F := F) c g0)
    iapply (Entails.of_eq (bigSep_fin2 (fun s : Fin 2 => iprop(∃ f, (slotM s).view.loc (c : Thread nD τ) ↦[(slotM s).view.set]{fullShare} f))).symm)
    isplitl [Ho0]; · iexists _; iexact Ho0
    iexists _; iexact Ho1
  isplitl [Hg]; · iexact Hg
  isplitl [HS HS0 HS1]
  · isplitl [HS]; · iexact HS
    isplitl [HS0]; · iexact HS0
    iexact HS1
  isplitl [HH]; · iexact HH
  iexact Hd

set_option backward.isDefEq.respectTransparency.types false in
theorem run_main : θ_run defs (onTc (τ := τ) (main (F := F))) (s₀ m ρ) (fun r => Pipeline.RDat.FramePostR cfg0 (fun c => (dats m 0 c).toRForget fgt) R0 (Gen.V m) r ∧ r.2.sem = fun _ => 0) :=
  Pipeline.θ_run_frame_dmaR_forget (Q' := _) cfgs (dats m) (0 : Fin 1) launch0 osem0 defs₀ Variants.none fgt ownSemFacts0 H0 R0 H0_sub R0_sub m ρ main
    (hbody := fun c => body_obligation m c) (hshare := fun c => (dats m 0 c).share_full fun _ => rfl)
    (howed := fun _ _ => rfl) (V := Gen.V m) (hmain := hmain m Variants.none) (hA := A_eq m)
    (hin := hin m) (hout := hout m)

/-- The arguments unchanged, every counter at zero. -/
theorem frame : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨
      ((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c),
      ((h.1 c).2 main_arg3 (Finset.mem_sdiff.mpr ⟨Pipeline.mem_restRefs_of main_arg3 (by decide) (by decide), by decide⟩)).trans (V_main_arg3 m c)⟩, h.2⟩) (run_main m ρ)

end Cert.Kernel.Hand
-- ==== Proof.Chunk.lean ====
/- Hand-written. What one trip of the quantising loops computes from the rotation, the 256 rows of `dy` and the 256 rows
   of random bytes it reads: the decoded chunk, its packed codes, its scale bytes — at the first point (`ca`) and at the
   later points (`cb`), and that the two are the same functions. -/
module

public import proofs.«01_k».proof.Proof.Gen.KernelIdeal.Skeleton

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- An intermediate value of a chunk at the first point. -/
def ca_0 (M : Vec F S256x256 .bf16) (D : Vec F S256x512 .bf16) (R : Vec F S256x512 .i8) : FVec F S256x512 .f32 :=
  k0_pay8 M D
/-- An intermediate value of a chunk at the first point. -/
def ca_1 (M : Vec F S256x256 .bf16) (D : Vec F S256x512 .bf16) (R : Vec F S256x512 .i8) : IVec S256x512 8 :=
  k0_pay9 R
/-- An intermediate value of a chunk at the first point. -/
def ca_2 (M : Vec F S256x256 .bf16) (D : Vec F S256x512 .bf16) (R : Vec F S256x512 .i8) : FVec F S8x512 .f32 :=
  k0_pay10 M D
/-- An intermediate value of a chunk at the first point. -/
def ca_3 (M : Vec F S256x256 .bf16) (D : Vec F S256x512 .bf16) (R : Vec F S256x512 .i8) : IVec S8x512 32 :=
  k0_pay11 M D
/-- An intermediate value of a chunk at the first point. -/
def ca_4 (M : Vec F S256x256 .bf16) (D : Vec F S256x512 .bf16) (R : Vec F S256x512 .i8) : IVec S8x512 32 :=
  k0_pay12 M D
/-- An intermediate value of a chunk at the first point. -/
def ca_5 (M : Vec F S256x256 .bf16) (D : Vec F S256x512 .bf16) (R : Vec F S256x512 .i8) : IVec S8x512 32 :=
  k0_pay13 M D
/-- An intermediate value of a chunk at the first point. -/
def ca_6 (M : Vec F S256x256 .bf16) (D : Vec F S256x512 .bf16) (R : Vec F S256x512 .i8) : IVec S8x512 32 :=
  k0_pay16 (ca_2 M D R) (ca_3 M D R) (ca_4 M D R) (ca_5 M D R)
/-- An intermediate value of a chunk at the first point. -/
def ca_7 (M : Vec F S256x256 .bf16) (D : Vec F S256x512 .bf16) (R : Vec F S256x512 .i8) : IVec S8x512 32 :=
  k0_pay17 (ca_2 M D R) (ca_3 M D R) (ca_4 M D R) (ca_5 M D R)
/-- An intermediate value of a chunk at the first point. -/
def ca_8 (M : Vec F S256x256 .bf16) (D : Vec F S256x512 .bf16) (R : Vec F S256x512 .i8) : FVec F S256x512 .f32 :=
  k0_pay18 (ca_0 M D R) (ca_7 M D R)
/-- An intermediate value of a chunk at the first point. -/
def ca_9 (M : Vec F S256x256 .bf16) (D : Vec F S256x512 .bf16) (R : Vec F S256x512 .i8) : FVec F S256x512 .f32 :=
  k0_pay19 (ca_0 M D R) (ca_7 M D R)
/-- An intermediate value of a chunk at the first point. -/
def ca_10 (M : Vec F S256x256 .bf16) (D : Vec F S256x512 .bf16) (R : Vec F S256x512 .i8) : IVec S256x512 32 :=
  k0_pay20 (ca_0 M D R) (ca_7 M D R)
/-- An intermediate value of a chunk at the first point. -/
def ca_11 (M : Vec F S256x256 .bf16) (D : Vec F S256x512 .bf16) (R : Vec F S256x512 .i8) : IVec S256x512 32 :=
  k0_pay21 (ca_0 M D R) (ca_7 M D R)
/-- An intermediate value of a chunk at the first point. -/
def ca_12 (M : Vec F S256x256 .bf16) (D : Vec F S256x512 .bf16) (R : Vec F S256x512 .i8) : FVec F S256x512 .f32 :=
  k0_pay23 (ca_1 M D R) (ca_8 M D R) (ca_9 M D R) (ca_10 M D R) (ca_11 M D R)
/-- An intermediate value of a chunk at the first point. -/
def ca_13 (M : Vec F S256x256 .bf16) (D : Vec F S256x512 .bf16) (R : Vec F S256x512 .i8) : IVec S256x512 1 :=
  k0_pay24 (ca_1 M D R) (ca_8 M D R) (ca_9 M D R) (ca_10 M D R) (ca_11 M D R)
/-- An intermediate value of a chunk at the first point. -/
def ca_14 (M : Vec F S256x256 .bf16) (D : Vec F S256x512 .bf16) (R : Vec F S256x512 .i8) : IVec S256x512 1 :=
  k0_pay33 (ca_12 M D R)
/-- An intermediate value of a chunk at the first point. -/
def ca_15 (M : Vec F S256x256 .bf16) (D : Vec F S256x512 .bf16) (R : Vec F S256x512 .i8) : FVec F S256x512 .f32 :=
  k0_pay34 (ca_12 M D R) k0_pay26
/-- An intermediate value of a chunk at the first point. -/
def ca_16 (M : Vec F S256x256 .bf16) (D : Vec F S256x512 .bf16) (R : Vec F S256x512 .i8) : IVec S256x512 32 :=
  k0_pay35 (ca_12 M D R) k0_pay25
/-- An intermediate value of a chunk at the first point. -/
def ca_17 (M : Vec F S256x256 .bf16) (D : Vec F S256x512 .bf16) (R : Vec F S256x512 .i8) : FVec F S256x512 .bf16 :=
  k0_pay36 (ca_13 M D R) (ca_14 M D R) (ca_15 M D R)
/-- An intermediate value of a chunk at the first point. -/
def ca_18 (M : Vec F S256x256 .bf16) (D : Vec F S256x512 .bf16) (R : Vec F S256x512 .i8) : IVec S8x512 32 :=
  k0_pay39 (ca_6 M D R)
/-- An intermediate value of a chunk at the first point. -/
def ca_19 (M : Vec F S256x256 .bf16) (D : Vec F S256x512 .bf16) (R : Vec F S256x512 .i8) : FVec F S32x512 .bf16 :=
  k0_pay40 (ca_6 M D R)
/-- The decoded chunk, as the first point stores it. -/
def caY (M : Vec F S256x256 .bf16) (D : Vec F S256x512 .bf16) (R : Vec F S256x512 .i8) : Vec F S1x256x2x256 .bf16 :=
  k0_pay41 (ca_17 M D R) (ca_18 M D R) (ca_19 M D R)
/-- The codes of the chunk. -/
def caC (M : Vec F S256x256 .bf16) (D : Vec F S256x512 .bf16) (R : Vec F S256x512 .i8) : IVec S128x512 8 :=
  k0_pay37 (ca_13 M D R) (ca_16 M D R)
/-- The scale bytes of the chunk. -/
def caB (M : Vec F S256x256 .bf16) (D : Vec F S256x512 .bf16) (R : Vec F S256x512 .i8) : IVec S8x512 32 :=
  k0_pay38 (ca_6 M D R)
/-- An intermediate value of a chunk at a later point. -/
def cb_0 (M : Vec F S256x256 .bf16) (D : Vec F S256x512 .bf16) (R : Vec F S256x512 .i8) : FVec F S256x256 .bf16 :=
  k0_pay43 M
/-- An intermediate value of a chunk at a later point. -/
def cb_1 (M : Vec F S256x256 .bf16) (D : Vec F S256x512 .bf16) (R : Vec F S256x512 .i8) : FVec F S256x512 .f32 :=
  k0_pay44 (cb_0 M D R) D
/-- An intermediate value of a chunk at a later point. -/
def cb_2 (M : Vec F S256x256 .bf16) (D : Vec F S256x512 .bf16) (R : Vec F S256x512 .i8) : IVec S256x512 8 :=
  k0_pay45 R
/-- An intermediate value of a chunk at a later point. -/
def cb_3 (M : Vec F S256x256 .bf16) (D : Vec F S256x512 .bf16) (R : Vec F S256x512 .i8) : FVec F S8x512 .f32 :=
  k0_pay46 (cb_0 M D R) D
/-- An intermediate value of a chunk at a later point. -/
def cb_4 (M : Vec F S256x256 .bf16) (D : Vec F S256x512 .bf16) (R : Vec F S256x512 .i8) : IVec S8x512 32 :=
  k0_pay47 (cb_0 M D R) D
/-- An intermediate value of a chunk at a later point. -/
def cb_5 (M : Vec F S256x256 .bf16) (D : Vec F S256x512 .bf16) (R : Vec F S256x512 .i8) : IVec S8x512 32 :=
  k0_pay48 (cb_0 M D R) D
/-- An intermediate value of a chunk at a later point. -/
def cb_6 (M : Vec F S256x256 .bf16) (D : Vec F S256x512 .bf16) (R : Vec F S256x512 .i8) : FVec F S8x512 .f32 :=
  k0_pay49 (cb_0 M D R) D
/-- An intermediate value of a chunk at a later point. -/
def cb_7 (M : Vec F S256x256 .bf16) (D : Vec F S256x512 .bf16) (R : Vec F S256x512 .i8) : IVec S8x512 32 :=
  k0_pay52 (cb_3 M D R) (cb_4 M D R) (cb_5 M D R) (cb_6 M D R)
/-- An intermediate value of a chunk at a later point. -/
def cb_8 (M : Vec F S256x256 .bf16) (D : Vec F S256x512 .bf16) (R : Vec F S256x512 .i8) : FVec F S256x512 .f32 :=
  k0_pay53 (cb_1 M D R) (cb_3 M D R) (cb_4 M D R) (cb_5 M D R) (cb_6 M D R)
/-- An intermediate value of a chunk at a later point. -/
def cb_9 (M : Vec F S256x256 .bf16) (D : Vec F S256x512 .bf16) (R : Vec F S256x512 .i8) : FVec F S256x512 .f32 :=
  k0_pay54 (cb_1 M D R) (cb_3 M D R) (cb_4 M D R) (cb_5 M D R) (cb_6 M D R)
/-- An intermediate value of a chunk at a later point. -/
def cb_10 (M : Vec F S256x256 .bf16) (D : Vec F S256x512 .bf16) (R : Vec F S256x512 .i8) : IVec S256x512 32 :=
  k0_pay55 (cb_9 M D R)
/-- An intermediate value of a chunk at a later point. -/
def cb_11 (M : Vec F S256x256 .bf16) (D : Vec F S256x512 .bf16) (R : Vec F S256x512 .i8) : IVec S256x512 32 :=
  k0_pay56 (cb_9 M D R)
/-- An intermediate value of a chunk at a later point. -/
def cb_12 (M : Vec F S256x256 .bf16) (D : Vec F S256x512 .bf16) (R : Vec F S256x512 .i8) : FVec F S256x512 .f32 :=
  k0_pay58 (cb_2 M D R) (cb_8 M D R) (cb_9 M D R) (cb_10 M D R) (cb_11 M D R) 23#32
/-- An intermediate value of a chunk at a later point. -/
def cb_13 (M : Vec F S256x256 .bf16) (D : Vec F S256x512 .bf16) (R : Vec F S256x512 .i8) : IVec S256x512 1 :=
  k0_pay59 (cb_2 M D R) (cb_8 M D R) (cb_9 M D R) (cb_10 M D R) (cb_11 M D R) 23#32
/-- An intermediate value of a chunk at a later point. -/
def cb_14 (M : Vec F S256x256 .bf16) (D : Vec F S256x512 .bf16) (R : Vec F S256x512 .i8) : IVec S256x512 1 :=
  k0_pay62 (cb_2 M D R) (cb_8 M D R) (cb_9 M D R) (cb_10 M D R) (cb_11 M D R) 23#32
/-- An intermediate value of a chunk at a later point. -/
def cb_15 (M : Vec F S256x256 .bf16) (D : Vec F S256x512 .bf16) (R : Vec F S256x512 .i8) : IVec S256x512 1 :=
  k0_pay63 (cb_2 M D R) (cb_8 M D R) (cb_9 M D R) (cb_10 M D R) (cb_11 M D R) 23#32
/-- An intermediate value of a chunk at a later point. -/
def cb_16 (M : Vec F S256x256 .bf16) (D : Vec F S256x512 .bf16) (R : Vec F S256x512 .i8) : IVec S256x512 1 :=
  k0_pay64 (cb_2 M D R) (cb_8 M D R) (cb_9 M D R) (cb_10 M D R) (cb_11 M D R) 23#32
/-- An intermediate value of a chunk at a later point. -/
def cb_17 (M : Vec F S256x256 .bf16) (D : Vec F S256x512 .bf16) (R : Vec F S256x512 .i8) : FVec F S256x512 .f32 :=
  k0_pay69 (cb_12 M D R) k0_pay61 (cb_14 M D R) (cb_15 M D R) (cb_16 M D R) (FloatOps.ofBits FTy.f32 1071644672#32)
/-- An intermediate value of a chunk at a later point. -/
def cb_18 (M : Vec F S256x256 .bf16) (D : Vec F S256x512 .bf16) (R : Vec F S256x512 .i8) : IVec S256x512 32 :=
  k0_pay70 (cb_12 M D R) (cb_13 M D R) k0_pay60 (cb_14 M D R) (cb_15 M D R) (cb_16 M D R) (FloatOps.ofBits FTy.f32 1071644672#32)
/-- An intermediate value of a chunk at a later point. -/
def cb_19 (M : Vec F S256x256 .bf16) (D : Vec F S256x512 .bf16) (R : Vec F S256x512 .i8) : FVec F S256x512 .f32 :=
  k0_pay71 (cb_12 M D R) k0_pay61 (cb_14 M D R) (cb_15 M D R) (cb_16 M D R) (FloatOps.ofBits FTy.f32 1071644672#32)
/-- An intermediate value of a chunk at a later point. -/
def cb_20 (M : Vec F S256x256 .bf16) (D : Vec F S256x512 .bf16) (R : Vec F S256x512 .i8) : FVec F S256x512 .bf16 :=
  k0_pay72 (cb_13 M D R) (cb_17 M D R) (cb_19 M D R)
/-- An intermediate value of a chunk at a later point. -/
def cb_21 (M : Vec F S256x256 .bf16) (D : Vec F S256x512 .bf16) (R : Vec F S256x512 .i8) : IVec S8x512 32 :=
  k0_pay75 (cb_7 M D R)
/-- An intermediate value of a chunk at a later point. -/
def cb_22 (M : Vec F S256x256 .bf16) (D : Vec F S256x512 .bf16) (R : Vec F S256x512 .i8) : FVec F S32x512 .bf16 :=
  k0_pay76 (cb_7 M D R) (cb_13 M D R) (cb_17 M D R) (cb_19 M D R)
/-- An intermediate value of a chunk at a later point. -/
def cb_23 (M : Vec F S256x256 .bf16) (D : Vec F S256x512 .bf16) (R : Vec F S256x512 .i8) : FVec F S32x512 .bf16 :=
  k0_pay77 (cb_7 M D R) (cb_13 M D R) (cb_17 M D R) (cb_19 M D R)
/-- An intermediate value of a chunk at a later point. -/
def cb_24 (M : Vec F S256x256 .bf16) (D : Vec F S256x512 .bf16) (R : Vec F S256x512 .i8) : IVec S1x512 32 :=
  k0_pay78 (cb_7 M D R)
/-- The decoded chunk, as a later point stores it. -/
def cbY (M : Vec F S256x256 .bf16) (D : Vec F S256x512 .bf16) (R : Vec F S256x512 .i8) : Vec F S1x256x2x256 .bf16 :=
  k0_pay3 (cb_20 M D R) (cb_21 M D R) (cb_22 M D R) (cb_23 M D R) (cb_24 M D R)
/-- The codes of the chunk. -/
def cbC (M : Vec F S256x256 .bf16) (D : Vec F S256x512 .bf16) (R : Vec F S256x512 .i8) : IVec S128x512 8 :=
  k0_pay73 (cb_18 M D R)
/-- The scale bytes of the chunk. -/
def cbB (M : Vec F S256x256 .bf16) (D : Vec F S256x512 .bf16) (R : Vec F S256x512 .i8) : IVec S8x512 32 :=
  k0_pay74 (cb_7 M D R)

set_option maxRecDepth 65536 in
theorem caY_eq : caY (F := F) = cbY := rfl
set_option maxRecDepth 65536 in
theorem caC_eq : caC (F := F) = cbC := rfl
set_option maxRecDepth 65536 in
theorem caB_eq : caB (F := F) = cbB := rfl

end Cert.KernelIdeal.Hand
-- ==== Proof.Fam.lean ====
/- Hand-written. The names the frame proof gives to the kernel's operands, and the ring of write-behind copies: the
   product `dw` is held as 504 tiles, one per step (36 row blocks times 14 column blocks), and the two halves of the
   staging buffer alternate between the steps. -/
module

public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import Idealize.ShloMosaic.Lib.Ring
public import Idealize.ShloMosaic.Lib.Exec
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [FloatOps F]

local notation "𝕄" => MT nD τ sig Unit (Elt F) ℕ (Pipeline.UD sig nD τ) ℕ

/-- The operands in fixed places: the packed words of `x` (in HBM and, copied, in VMEM), the product `dw` in HBM, the
    decoded tile buffer, the scale bytes, the staging buffer of the products. -/
abbrev XH : Memref sig .tc .hbm S768x7168 .i32 := Memref.whole main_arg0
abbrev DW : Memref sig .tc .hbm S18432x7168 .f32 := Memref.whole main_v28_2
abbrev XV : Memref sig .tc .vmem S768x7168 .i32 := Memref.whole cc0_scratch0
abbrev DY : Memref sig .tc .vmem S2x256x2x1536 .bf16 := Memref.whole cc0_scratch1
abbrev BY : Memref sig .tc .vmem S48x512 .i32 := Memref.whole cc0_scratch2
abbrev OU : Memref sig .tc .vmem S2x512x512 .f32 := Memref.whole cc0_scratch3

theorem inb_cell (s : Fin 2) : ∀ a, (![s.val] : Fin 1 → ℕ) a + S1.size a ≤ S2.size a := by
  revert s; decide
theorem inb_slot (s : Fin 2) : ∀ a, (![s.val, 0, 0] : Fin 3 → ℕ) a + S1x512x512.size a ≤ S2x512x512.size a := by
  revert s; decide

/-- The semaphore cell of slot `s`, and the slot. -/
def cellW (s : Fin 2) : DmaSems sig S_ := (cc0_scratch5.slice (Rect.unit (s := S2) ![s.val] S1.size (inb_cell s))).squeeze S_ squeezes_S1_S_
abbrev rslot (s : Fin 2) : Rect S2x512x512 := Rect.unit (s := S2x512x512) ![s.val, 0, 0] S1x512x512.size (inb_slot s)
def slotM (s : Fin 2) : Memref sig .tc .vmem S512x512 .f32 :=
  (OU.slice (rslot s) (fun _ => rfl)).squeeze S512x512 squeezes_S1x512x512_S512x512

theorem inb_piece (u : Fin 504) : ∀ a, (![(u.val / 14) * 512, (u.val % 14) * 512] : Fin 2 → ℕ) a + S512x512.size a ≤ S18432x7168.size a := by
  have h := u.isLt
  intro a; fin_cases a
  · show u.val / 14 * 512 + 512 ≤ 18432; omega
  · show u.val % 14 * 512 + 512 ≤ 7168; omega
/-- The tile of `dw` that step `u` writes. -/
abbrev rpiece (u : Fin 504) : Rect S18432x7168 := Rect.unit (s := S18432x7168) ![(u.val / 14) * 512, (u.val % 14) * 512] S512x512.size (inb_piece u)
def pieceM (u : Fin 504) : Memref sig .tc .hbm S512x512 .f32 := DW.slice (rpiece u) (fun _ => rfl)

/-- A column block of the packed words is inside. -/
theorem inb_xcol (j : ℕ) (h : j < 14) : ∀ a, (![0, j * 512] : Fin 2 → ℕ) a + S768x512.size a ≤ S768x7168.size a := by
  intro a; fin_cases a
  · show 0 + 768 ≤ 768; omega
  · show j * 512 + 512 ≤ 7168; omega

section Vals
variable (c : Dev nD)

/-- A slot free: its cell at zero, the slot at anything. -/
abbrev freeS (c : Dev nD) (s : Fin 2) : sProp 𝕄 :=
  iprop(semVal ((c : Thread nD τ), SemLoc.dma (cellW s).sem) 0 ∗ (∃ f, (slotM s).view.loc (c : Thread nD τ) ↦[(slotM s).view.set]{fullShare} f))
/-- The tile of step `u` not yet written. -/
abbrev aheadS (c : Dev nD) (u : Fin 504) : sProp 𝕄 :=
  iprop(∃ f, (pieceM u).view.loc (c : Thread nD τ) ↦[(pieceM u).view.set]{fullShare} f)

end Vals

end Cert.KernelIdeal.Hand
-- ==== Proof.S1.lean ====
module

public import proofs.«01_k».proof.Proof.Fam
public import Idealize.ShloMosaic.Lib.Pipeline.Value

@[expose] public section
namespace Cert.KernelIdeal.Hand

open Cert.KernelIdeal Cert.KernelIdeal.Gen
open Idealize.ShloMosaic Idealize.ShloMosaic.TcCoe Idealize.ShloMosaic.Tactic

variable {F : FTy → Type} [FloatOps F]
theorem casts_slot : S1x512x512.ShapeCasts S512x512 := by decide
/-- What a step's copy lands: the product stored into the slot, as a plain matrix. -/
theorem land (u : Fin 504) (s : Fin 2) (fd : (pieceM u).view.ty.Contents (Elt F)) (fs : OU.view.ty.Contents (Elt F))
    (off : Fin 3 → ℕ) (hoff : off = ![s.val, 0, 0]) (inb : ∀ a, off a + S1x512x512.size a ≤ S2x512x512.size a) (v : FVec F S1x512x512 .f32) :
    (pieceM u).view.read (Elt F) ((pieceM u).view.writes (Elt F) fd
      [⟨Rect.whole S512x512, ReadAs.same.apply ((slotM s).view.read (Elt F)
        (View.write (Elt F) (OU.access (Rect.unit (s := S2x512x512) off S1x512x512.size inb)) fs v Finset.univ))⟩])
      = shapeCast S512x512 v casts_slot := by
  subst hoff
  rw [View.read_writes_whole]
  change (slotM s).view.read (Elt F) _ = _
  unfold slotM
  rw [Memref.read_squeeze_slice _ _ _ _ casts_slot]
  congr 1
  exact View.read_write_univ (v := OU.access (rslot s)) fs v
end Cert.KernelIdeal.Hand
-- ==== Proof.Vals.lean ====
/- Hand-written. The values the invariants of the kernel track: the decoded tile of `dy` in its slot, chunk by chunk, the
   packed words of `x`, and the product tile each step copies out; with what one store of a chunk does to them. -/
module

public import proofs.«01_k».proof.Proof.Chunk
public import proofs.«01_k».proof.Proof.S1
public import Idealize.ShloMosaic.Lib.WritesUnit
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic

variable {F : FTy → Type} [FloatOps F]

/-- What the kernel reads: the rotation, the row tiles of `dy` and of the random bytes, the packed words of `x`. -/
structure Vals (F : FTy → Type) where
  M : Vec F S256x256 .bf16
  D : ℕ → Vec F S1536x512 .bf16
  R : ℕ → Vec F S1536x512 .i8
  X : Vec F S768x7168 .i32

theorem inb_rows (k : Fin 6) : ∀ a, (![256 * k.val, 0] : Fin 2 → ℕ) a + S256x512.size a ≤ S1536x512.size a := by
  revert k; decide

/-- Rows `256 k` to `256 k + 255` of a tile. -/
def rowsOf {α : Type} (D : S1536x512.Idx → α) (k : Fin 6) : S256x512.Idx → α :=
  fun x => D ((Rect.unit (s := S1536x512) ![256 * k.val, 0] S256x512.size (inb_rows k)).emb x)

/-- The decoded chunk `k` of tile `s`. -/
def chunk (V : Vals F) (s : ℕ) (k : Fin 6) : Vec F S1x256x2x256 .bf16 := cbY V.M (rowsOf (V.D s) k) (rowsOf (V.R s) k)

/-- The index `(0, a, p, l)` of a chunk. -/
def idxChunk (a : Fin 256) (p : Fin 2) (l : Fin 256) : S1x256x2x256.Idx := fun x => match x with
  | 0 => (0 : Fin 1) | 1 => a | 2 => p | 3 => l
/-- The index `(0, a, p, l)` of a tile. -/
def idxTile (a : Fin 256) (p : Fin 2) (l : Fin 1536) : S1x256x2x1536.Idx := fun x => match x with
  | 0 => (0 : Fin 1) | 1 => a | 2 => p | 3 => l

theorem div_lt6 (l : Fin 1536) : l.val / 256 < 6 := by have := l.isLt; omega

/-- The decoded tile `s`: its six chunks side by side along the tokens. -/
def tileY (V : Vals F) (s : ℕ) : Vec F S1x256x2x1536 .bf16 := fun j =>
  chunk V s ⟨(j 3 : Fin 1536).val / 256, div_lt6 (j 3)⟩ (idxChunk (j 1) (j 2) ⟨(j 3 : Fin 1536).val % 256, Nat.mod_lt _ (by decide)⟩)

/-- The first `n` chunks of tile `s` are in the slot of `s`. -/
def Done (V : Vals F) (s n : ℕ) (fy : DY.view.ty.Contents (Elt F)) : Prop :=
  ∀ j : S2x256x2x1536.Idx, (j 0).val = s % 2 → (j 3).val < 256 * n → DY.view.read (Elt F) fy j = tileY V s (idxTile (j 1) (j 2) (j 3))

theorem done_zero (V : Vals F) (s : ℕ) (fy : DY.view.ty.Contents (Elt F)) : Done V s 0 fy := fun j _ h => absurd h (by omega)

theorem done_step (V : Vals F) (s : ℕ) (k : Fin 6) (fy : DY.view.ty.Contents (Elt F)) (h : Done V s k.val fy)
    (off : Fin 4 → ℕ) (hoff : off = ![s % 2, 0, 0, 256 * k.val]) (inb : ∀ a, off a + S1x256x2x256.size a ≤ S2x256x2x1536.size a)
    (v : Vec F S1x256x2x256 .bf16) (hv : v = chunk V s k) :
    Done V s (k.val + 1) (DY.view.writes (Elt F) fy [⟨Rect.unit (s := S2x256x2x1536) off S1x256x2x256.size inb, v⟩]) := by
  intro j h0 h3
  by_cases hlt : (j 3).val < 256 * k.val
  · rw [View.read_writes_cons_unit_of_not_mem DY.view fy inb v [] j hoff 3 (Or.inl hlt)]
    exact h j h0 hlt
  · have h3' : (j 3).val - 256 * k.val < 256 := by omega
    rw [View.read_writes_cons_unit_of_mem DY.view fy inb v [] j (idxChunk (j 1) (j 2) ⟨(j 3).val - 256 * k.val, h3'⟩) hoff (fun a => by
      fin_cases a
      · show (j 0).val = s % 2 + 0; omega
      · show (j 1).val = 0 + (j 1).val; omega
      · show (j 2).val = 0 + (j 2).val; omega
      · show (j 3).val = 256 * k.val + ((j 3).val - 256 * k.val); omega)]
    subst hv
    unfold tileY
    have e1 : (⟨(j 3).val / 256, div_lt6 (j 3)⟩ : Fin 6) = k := Fin.ext (by show (j 3).val / 256 = k.val; omega)
    have e2 : (⟨(j 3).val % 256, Nat.mod_lt _ (by decide)⟩ : Fin 256) = ⟨(j 3).val - 256 * k.val, h3'⟩ := Fin.ext (by show (j 3).val % 256 = (j 3).val - 256 * k.val; omega)
    show _ = chunk V s ⟨(j 3).val / 256, div_lt6 (j 3)⟩ (idxChunk (j 1) (j 2) ⟨(j 3).val % 256, Nat.mod_lt _ (by decide)⟩)
    rw [e1, e2]

theorem done_other (V : Vals F) (s s' n : ℕ) (fy : DY.view.ty.Contents (Elt F)) (h : Done V s n fy) (hs : s % 2 ≠ s' % 2) (x : ℕ)
    (off : Fin 4 → ℕ) (hoff : off = ![s' % 2, 0, 0, x]) (inb : ∀ a, off a + S1x256x2x256.size a ≤ S2x256x2x1536.size a)
    (v : Vec F S1x256x2x256 .bf16) :
    Done V s n (DY.view.writes (Elt F) fy [⟨Rect.unit (s := S2x256x2x1536) off S1x256x2x256.size inb, v⟩]) := by
  intro j h0 h3
  rw [View.read_writes_cons_unit_of_not_mem DY.view fy inb v [] j hoff 0 (by
    show (j 0).val < s' % 2 ∨ s' % 2 + 1 ≤ (j 0).val; omega)]
  exact h j h0 h3

theorem done_read (V : Vals F) (s : ℕ) (fy : DY.view.ty.Contents (Elt F)) (h : Done V s 6 fy)
    (off : Fin 4 → ℕ) (hoff : off = ![s % 2, 0, 0, 0]) (inb : ∀ a, off a + S1x256x2x1536.size a ≤ S2x256x2x1536.size a) :
    View.readAt (Elt F) DY.view (Rect.unit (s := S2x256x2x1536) off S1x256x2x1536.size inb).toLoadRect fy = tileY V s := by
  subst hoff
  funext x
  have hx3 : (x 3).val < 1536 := (x 3).isLt
  have hx0 : (x 0).val = 0 := by have : (x 0).val < 1 := (x 0).isLt; omega
  have key := h ((Rect.unit (s := S2x256x2x1536) _ S1x256x2x1536.size inb).emb x)
    (by show s % 2 + 1 * (x 0).val = s % 2; omega) (by show 0 + 1 * (x 3).val < 256 * 6; omega)
  refine (show _ = DY.view.read (Elt F) fy ((Rect.unit (s := S2x256x2x1536) _ S1x256x2x1536.size inb).emb x) from rfl).trans (key.trans ?_)
  congr 1
  funext a
  fin_cases a
  · exact Fin.ext (by show 0 = (x 0).val; omega)
  · exact Fin.ext (by show 0 + 1 * (x 1).val = (x 1).val; omega)
  · exact Fin.ext (by show 0 + 1 * (x 2).val = (x 2).val; omega)
  · exact Fin.ext (by show 0 + 1 * (x 3).val = (x 3).val; omega)

/-- The packed codes of chunk `k` of tile `s`. -/
def chunkC (V : Vals F) (s : ℕ) (k : Fin 6) : IVec S128x512 8 := cbC V.M (rowsOf (V.D s) k) (rowsOf (V.R s) k)
/-- The scale bytes of chunk `k` of tile `s`, as words. -/
def chunkB (V : Vals F) (s : ℕ) (k : Fin 6) : IVec S8x512 32 := cbB V.M (rowsOf (V.D s) k) (rowsOf (V.R s) k)

theorem rowC_lt (r : Fin 768) : r.val / 128 < 6 := by have := r.isLt; omega
theorem rowB_lt (r : Fin 48) : r.val / 8 < 6 := by have := r.isLt; omega

/-- The packed codes of tile `s`: its chunks one below the other. -/
def tileC (V : Vals F) (s : ℕ) : IVec S768x512 8 := fun j =>
  chunkC V s ⟨(j 0 : Fin 768).val / 128, rowC_lt (j 0)⟩ (ix2 ⟨(j 0 : Fin 768).val % 128, Nat.mod_lt _ (by decide)⟩ (j 1))
/-- The scale bytes of tile `s`, as words. -/
def tileB (V : Vals F) (s : ℕ) : IVec S48x512 32 := fun j =>
  chunkB V s ⟨(j 0 : Fin 48).val / 8, rowB_lt (j 0)⟩ (ix2 ⟨(j 0 : Fin 48).val % 8, Nat.mod_lt _ (by decide)⟩ (j 1))

theorem rowS_lt (a : Fin 2) (b : Fin 24) : 24 * a.val + b.val < 48 := by have := a.isLt; have := b.isLt; omega

/-- The scales of tile `s` as stored: the low eight bits of each word, in two batches. -/
def tileS (V : Vals F) (s : ℕ) : IVec S2x24x512 8 := fun j =>
  (tileB V s (ix2 ⟨24 * (j 0 : Fin 2).val + (j 1 : Fin 24).val, rowS_lt (j 0) (j 1)⟩ (j 2))).setWidth 8

/-- The first `n` chunks of codes of tile `s` are in a block. -/
def DoneC (V : Vals F) (s n : ℕ) {arg5 : Memref sig .tc .vmem S768x512 .i8} (f5 : arg5.view.ty.Contents (Elt F)) : Prop :=
  ∀ j : S768x512.Idx, (j 0).val < 128 * n → arg5.view.read (Elt F) f5 j = tileC V s j
/-- The first `n` chunks of scale words of tile `s` are in their buffer. -/
def DoneB (V : Vals F) (s n : ℕ) (fb : BY.view.ty.Contents (Elt F)) : Prop :=
  ∀ j : S48x512.Idx, (j 0).val < 8 * n → BY.view.read (Elt F) fb j = tileB V s j

theorem doneC_zero (V : Vals F) (s : ℕ) {arg5 : Memref sig .tc .vmem S768x512 .i8} (f5 : arg5.view.ty.Contents (Elt F)) : DoneC V s 0 f5 := fun j h => absurd h (by omega)
theorem doneB_zero (V : Vals F) (s : ℕ) (fb : BY.view.ty.Contents (Elt F)) : DoneB V s 0 fb := fun j h => absurd h (by omega)

theorem doneC_step (V : Vals F) (s : ℕ) (k : Fin 6) {arg5 : Memref sig .tc .vmem S768x512 .i8} (f5 : arg5.view.ty.Contents (Elt F)) (h : DoneC V s k.val f5)
    (off : Fin 2 → ℕ) (hoff : off = ![128 * k.val, 0]) (inb : ∀ a, off a + S128x512.size a ≤ S768x512.size a)
    (v : Vec F S128x512 .i8) (hv : v = chunkC V s k) :
    DoneC V s (k.val + 1) (arg5.view.writes (Elt F) f5 [⟨Rect.unit (s := S768x512) off S128x512.size inb, v⟩]) := by
  intro j h0
  by_cases hlt : (j 0).val < 128 * k.val
  · rw [View.read_writes_cons_unit_of_not_mem arg5.view f5 inb v [] j hoff 0 (Or.inl hlt)]
    exact h j hlt
  · have h3' : (j 0).val - 128 * k.val < 128 := by omega
    rw [View.read_writes_cons_unit_of_mem arg5.view f5 inb v [] j (ix2 ⟨(j 0).val - 128 * k.val, h3'⟩ (j 1)) hoff (fun a => by
      fin_cases a
      · show (j 0).val = 128 * k.val + ((j 0).val - 128 * k.val); omega
      · show (j 1).val = 0 + (j 1).val; omega)]
    subst hv
    have e1 : (⟨(j 0).val / 128, rowC_lt (j 0)⟩ : Fin 6) = k := Fin.ext (by show (j 0).val / 128 = k.val; omega)
    have e2 : (⟨(j 0).val % 128, Nat.mod_lt _ (by decide)⟩ : Fin 128) = ⟨(j 0).val - 128 * k.val, h3'⟩ := Fin.ext (by show (j 0).val % 128 = (j 0).val - 128 * k.val; omega)
    show _ = chunkC V s ⟨(j 0).val / 128, rowC_lt (j 0)⟩ (ix2 ⟨(j 0).val % 128, Nat.mod_lt _ (by decide)⟩ (j 1))
    rw [e1, e2]

theorem doneB_step (V : Vals F) (s : ℕ) (k : Fin 6) (fb : BY.view.ty.Contents (Elt F)) (h : DoneB V s k.val fb)
    (off : Fin 2 → ℕ) (hoff : off = ![8 * k.val, 0]) (inb : ∀ a, off a + S8x512.size a ≤ S48x512.size a)
    (v : Vec F S8x512 .i32) (hv : v = chunkB V s k) :
    DoneB V s (k.val + 1) (BY.view.writes (Elt F) fb [⟨Rect.unit (s := S48x512) off S8x512.size inb, v⟩]) := by
  intro j h0
  by_cases hlt : (j 0).val < 8 * k.val
  · rw [View.read_writes_cons_unit_of_not_mem BY.view fb inb v [] j hoff 0 (Or.inl hlt)]
    exact h j hlt
  · have h3' : (j 0).val - 8 * k.val < 8 := by omega
    rw [View.read_writes_cons_unit_of_mem BY.view fb inb v [] j (ix2 ⟨(j 0).val - 8 * k.val, h3'⟩ (j 1)) hoff (fun a => by
      fin_cases a
      · show (j 0).val = 8 * k.val + ((j 0).val - 8 * k.val); omega
      · show (j 1).val = 0 + (j 1).val; omega)]
    subst hv
    have e1 : (⟨(j 0).val / 8, rowB_lt (j 0)⟩ : Fin 6) = k := Fin.ext (by show (j 0).val / 8 = k.val; omega)
    have e2 : (⟨(j 0).val % 8, Nat.mod_lt _ (by decide)⟩ : Fin 8) = ⟨(j 0).val - 8 * k.val, h3'⟩ := Fin.ext (by show (j 0).val % 8 = (j 0).val - 8 * k.val; omega)
    show _ = chunkB V s ⟨(j 0).val / 8, rowB_lt (j 0)⟩ (ix2 ⟨(j 0).val % 8, Nat.mod_lt _ (by decide)⟩ (j 1))
    rw [e1, e2]

theorem doneC_all (V : Vals F) (s : ℕ) {arg5 : Memref sig .tc .vmem S768x512 .i8} (f5 : arg5.view.ty.Contents (Elt F)) (h : DoneC V s 6 f5) :
    arg5.view.read (Elt F) f5 = tileC V s := funext fun j => h j (by have : (j 0).val < 768 := (j 0).isLt; omega)

/-- Twenty-four rows of scale words read back. -/
theorem doneB_read (V : Vals F) (s : ℕ) (fb : BY.view.ty.Contents (Elt F)) (h : DoneB V s 6 fb) (b : ℕ) (x : S24x512.Idx) (hb : b + (x 0).val < 48)
    (off : Fin 2 → ℕ) (hoff : off = ![b, 0]) (inb : ∀ a, off a + S24x512.size a ≤ S48x512.size a) :
    View.readAt (Elt F) BY.view (Rect.unit (s := S48x512) off S24x512.size inb).toLoadRect fb x = tileB V s (ix2 ⟨b + (x 0).val, hb⟩ (x 1)) := by
  subst hoff
  have key := h ((Rect.unit (s := S48x512) _ S24x512.size inb).emb x) (by show b + 1 * (x 0).val < 8 * 6; omega)
  refine (show _ = BY.view.read (Elt F) fb ((Rect.unit (s := S48x512) _ S24x512.size inb).emb x) from rfl).trans (key.trans ?_)
  congr 1
  funext a
  fin_cases a
  · exact Fin.ext (by show b + 1 * (x 0).val = b + (x 0).val; omega)
  · exact Fin.ext (by show 0 + 1 * (x 1).val = (x 1).val; omega)

theorem pay4_apply (v : Vec F S24x512 .i32) (j : S1x24x512.Idx) : k0_pay4 (F := F) v j = (v (ix2 (j 1) (j 2))).setWidth 8 := by
  pointwise [k0_pay4]
theorem pay5_apply (v : Vec F S24x512 .i32) (j : S1x24x512.Idx) : k0_pay5 (F := F) v j = (v (ix2 (j 1) (j 2))).setWidth 8 := by
  pointwise [k0_pay5]

/-- The two stores of the scales leave the tile's scales. -/
theorem scales_read (V : Vals F) (s : ℕ) {arg6 : Memref sig .tc .vmem S2x24x512 .i8} (f6 : arg6.view.ty.Contents (Elt F)) (fb : BY.view.ty.Contents (Elt F)) (h : DoneB V s 6 fb)
    (i0 : ∀ a, (![0, 0, 0] : Fin 3 → ℕ) a + S1x24x512.size a ≤ S2x24x512.size a) (i1 : ∀ a, (![1, 0, 0] : Fin 3 → ℕ) a + S1x24x512.size a ≤ S2x24x512.size a)
    (b0 : ∀ a, (![0, 0] : Fin 2 → ℕ) a + S24x512.size a ≤ S48x512.size a) (b1 : ∀ a, (![24, 0] : Fin 2 → ℕ) a + S24x512.size a ≤ S48x512.size a) :
    arg6.view.read (Elt F) (arg6.view.writes (Elt F) f6 [
      ⟨Rect.unit (s := S2x24x512) ![1, 0, 0] S1x24x512.size i1, k0_pay5 (F := F) (View.readAt (Elt F) BY.view (Rect.unit (s := S48x512) ![24, 0] S24x512.size b1).toLoadRect fb)⟩,
      ⟨Rect.unit (s := S2x24x512) ![0, 0, 0] S1x24x512.size i0, k0_pay4 (F := F) (View.readAt (Elt F) BY.view (Rect.unit (s := S48x512) ![0, 0] S24x512.size b0).toLoadRect fb)⟩]) = tileS V s := by
  funext j
  have h0 : (j 0).val < 2 := (j 0).isLt
  have h1 : (j 1).val < 24 := (j 1).isLt
  by_cases hj : (j 0).val = 1
  · rw [View.read_writes_cons_unit_of_mem arg6.view f6 i1 _ _ j (ix3 0 (j 1) (j 2)) rfl (fun a => by
      fin_cases a
      · show (j 0).val = 1 + 0; omega
      · show (j 1).val = 0 + (j 1).val; omega
      · show (j 2).val = 0 + (j 2).val; omega), pay5_apply]
    refine congrArg (BitVec.setWidth 8) ((doneB_read V s fb h 24 (ix2 (j 1) (j 2)) (by show 24 + (j 1).val < 48; omega) _ rfl b1).trans ?_)
    exact congrArg (tileB V s) (congrArg (fun z => ix2 z (j 2)) (Fin.ext (by show 24 + (j 1).val = 24 * (j 0).val + (j 1).val; omega)))
  · rw [View.read_writes_cons_unit_of_not_mem arg6.view f6 i1 _ _ j rfl 0 (Or.inl (by show (j 0).val < 1; omega)),
      View.read_writes_cons_unit_of_mem arg6.view f6 i0 _ _ j (ix3 0 (j 1) (j 2)) rfl (fun a => by
      fin_cases a
      · show (j 0).val = 0 + 0; omega
      · show (j 1).val = 0 + (j 1).val; omega
      · show (j 2).val = 0 + (j 2).val; omega), pay4_apply]
    refine congrArg (BitVec.setWidth 8) ((doneB_read V s fb h 0 (ix2 (j 1) (j 2)) (by show 0 + (j 1).val < 48; omega) _ rfl b0).trans ?_)
    exact congrArg (tileB V s) (congrArg (fun z => ix2 z (j 2)) (Fin.ext (by show 0 + (j 1).val = 24 * (j 0).val + (j 1).val; omega)))

/-- The words of `x` are in VMEM. -/
def XDone (V : Vals F) (fx : XV.view.ty.Contents (Elt F)) : Prop := XV.view.read (Elt F) fx = V.X

/-- The column block `j` of the words of `x`. -/
def xblk (V : Vals F) (j : Fin 14) : Vec F S768x512 .i32 :=
  fun x => V.X ((Rect.unit (s := S768x7168) ![0, j.val * 512] S768x512.size (inb_xcol j.val j.isLt)).emb x)

theorem xdone_read (V : Vals F) (fx : XV.view.ty.Contents (Elt F)) (h : XDone V fx) (j : Fin 14)
    (off : Fin 2 → ℕ) (hoff : off = ![0, j.val * 512]) (inb : ∀ a, off a + S768x512.size a ≤ S768x7168.size a) :
    View.readAt (Elt F) XV.view (Rect.unit (s := S768x7168) off S768x512.size inb).toLoadRect fx = xblk V j := by
  subst hoff
  funext x
  exact (show _ = XV.view.read (Elt F) fx ((Rect.unit (s := S768x7168) _ S768x512.size inb).emb x) from rfl).trans (by rw [h]; rfl)

theorem mod_lt14 (u : Fin 504) : u.val % 14 < 14 := Nat.mod_lt _ (by decide)

/-- The product tile of step `u`. -/
def GG (V : Vals F) (u : Fin 504) : FVec F S512x512 .f32 :=
  shapeCast S512x512 (k0_pay6 (tileY V (u.val / 14)) (xblk V ⟨u.val % 14, mod_lt14 u⟩)) casts_slot

/-- The tile of step `u` reads the product. -/
def Landed (V : Vals F) (u : Fin 504) (fd : (pieceM u).view.ty.Contents (Elt F)) : Prop := (pieceM u).view.read (Elt F) fd = GG V u

theorem landed (V : Vals F) (u : Fin 504) (s : Fin 2) (t : ℕ) (j : Fin 14) (hu : u.val = 14 * t + j.val) (fd : (pieceM u).view.ty.Contents (Elt F)) (fs : OU.view.ty.Contents (Elt F))
    (fy : DY.view.ty.Contents (Elt F)) (hy : Done V t 6 fy) (fx : XV.view.ty.Contents (Elt F)) (hx : XDone V fx)
    (off : Fin 3 → ℕ) (hoff : off = ![s.val, 0, 0]) (inb : ∀ a, off a + S1x512x512.size a ≤ S2x512x512.size a)
    (offy : Fin 4 → ℕ) (hoffy : offy = ![t % 2, 0, 0, 0]) (inby : ∀ a, offy a + S1x256x2x1536.size a ≤ S2x256x2x1536.size a)
    (offx : Fin 2 → ℕ) (hoffx : offx = ![0, j.val * 512]) (inbx : ∀ a, offx a + S768x512.size a ≤ S768x7168.size a) :
    Landed V u ((pieceM u).view.writes (Elt F) fd
      [⟨Rect.whole S512x512, ReadAs.same.apply ((slotM s).view.read (Elt F)
        (View.write (Elt F) (OU.access (Rect.unit (s := S2x512x512) off S1x512x512.size inb)) fs
          (k0_pay6 (View.readAt (Elt F) DY.view (Rect.unit (s := S2x256x2x1536) offy S1x256x2x1536.size inby).toLoadRect fy)
            (View.readAt (Elt F) XV.view (Rect.unit (s := S768x7168) offx S768x512.size inbx).toLoadRect fx)) Finset.univ))⟩]) := by
  unfold Landed
  rw [land u s fd fs off hoff inb, done_read V t fy hy offy hoffy inby, xdone_read V fx hx j offx hoffx inbx]
  have e1 : u.val / 14 = t := by have := j.isLt; omega
  have e2 : (⟨u.val % 14, mod_lt14 u⟩ : Fin 14) = j := Fin.ext (by show u.val % 14 = j.val; have := j.isLt; omega)
  unfold GG
  rw [e1, e2]

end Cert.KernelIdeal.Hand
-- ==== Proof.Ring.lean ====
/- Hand-written. The ring of write-behind copies: the two halves of the staging buffer, the tiles of `dw` ahead of the ring, in
   flight and behind it. -/
module

public import proofs.«01_k».proof.Proof.Vals
public import Idealize.ShloMosaic.Lib.Ring.WriteBehind

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [FloatOps F]

local notation "𝕄" => MT nD τ sig Unit (Elt F) ℕ (Pipeline.UD sig nD τ) ℕ

/-- The copy of step `u` in flight from slot `s`: what lands is the product tile of the step. -/
abbrev inflS (V : Vals F) (c : Dev nD) (s : Fin 2) (u : Fin 504) : sProp 𝕄 :=
  iprop(∃ fd : Buf (Elt F) ((pieceM u).view.loc (c : Thread nD τ)), ∃ fs : Buf (Elt F) ((slotM s).view.loc (c : Thread nD τ)),
    ⌜Landed V u fd⌝
    ∗ Transfers.Flight (countersEmb (U := Pipeline.UD sig nD τ)) (c : Thread nD τ) (SemLoc.dma (cellW s).sem) () 32768
        iprop(((pieceM u).view.loc (c : Thread nD τ) ↦[(pieceM u).view.set]{fullShare} fd)
          ∗ ((slotM s).view.loc (c : Thread nD τ) ↦[(slotM s).view.set]{fullShare} fs)))
/-- The tile of step `u` written. -/
abbrev behindS (V : Vals F) (c : Dev nD) (u : Fin 504) : sProp 𝕄 :=
  iprop(∃ f : Buf (Elt F) ((pieceM u).view.loc (c : Thread nD τ)), ⌜Landed V u f⌝ ∗ (pieceM u).view.loc (c : Thread nD τ) ↦[(pieceM u).view.set]{fullShare} f)

/-- The ring before step `p`. -/
abbrev RING (V : Vals F) (c : Dev nD) (p : ℕ) : sProp 𝕄 :=
  AtB (n := 2) (NB := 504) 2 (freeS (F := F) c) (inflS V c) (aheadS (F := F) c) (behindS V c) p

/-! ## The kernel's spelling of cells, slots and tiles -/

theorem canonCell (s : Fin 2) (off : Fin 1 → ℕ) (h : off = ![s.val]) (inb : ∀ a, off a + S1.size a ≤ S2.size a) :
    (cc0_scratch5.slice (Rect.unit (s := S2) off S1.size inb)).squeeze S_ squeezes_S1_S_ = cellW s := by subst h; rfl
theorem canonSlot (s : Fin 2) (off : Fin 3 → ℕ) (h : off = ![s.val, 0, 0]) (inb : ∀ a, off a + S1x512x512.size a ≤ S2x512x512.size a) :
    (OU.slice (Rect.unit (s := S2x512x512) off S1x512x512.size inb) (fun _ => rfl)).squeeze S512x512 squeezes_S1x512x512_S512x512 = slotM s := by
  subst h; rfl
theorem canonPiece (u : Fin 504) (off : Fin 2 → ℕ) (h : off = ![(u.val / 14) * 512, (u.val % 14) * 512])
    (inb : ∀ a, off a + S512x512.size a ≤ S18432x7168.size a) :
    DW.slice (Rect.unit (s := S18432x7168) off S512x512.size inb) (fun _ => rfl) = pieceM u := by subst h; rfl

theorem off11_eq : ∀ (i : grid0.Coords) (k : Fin k0_t2_loop.trips), k0_cond3 i = 1#1 → k0_off11 i k = ![((i 0).val - 1) * 512, k.val * 512] := by decide +kernel
theorem off23_eq : ∀ (i : grid0.Coords) (k : Fin k0_t3_loop.trips), k0_cond3 i = 1#1 → k0_off23 i k = ![((i 0).val - 1) * 512, (k.val + 6) * 512] := by decide +kernel
theorem off31_eq : ∀ (i : grid0.Coords) (k : Fin k0_t4_loop.trips), k0_cond6 i = 1#1 → k0_off31 i k = ![((i 0).val - 1) * 512, k.val * 512] := by decide +kernel
theorem cond2_iff : ∀ i : grid0.Coords, k0_cond2 i = 1#1 ↔ (i 0).val = 0 := by decide +kernel
theorem cond3_iff : ∀ i : grid0.Coords, k0_cond3 i = 1#1 ↔ (0 < (i 0).val ∧ (i 0).val < 36) := by decide +kernel
theorem cond6_iff : ∀ i : grid0.Coords, k0_cond6 i = 1#1 ↔ (i 0).val = 36 := by decide +kernel
theorem cond4_iff : ∀ (i : grid0.Coords) (k : Fin k0_t2_loop.trips), k0_cond4 i k = 1#1 ↔ (1 < (i 0).val ∨ 2 ≤ k.val) := by decide +kernel
theorem cond5_true : ∀ (i : grid0.Coords) (k : Fin k0_t3_loop.trips), k0_cond5 i k = 1#1 := by decide +kernel
theorem cond7_true : ∀ (i : grid0.Coords) (k : Fin k0_t4_loop.trips), k0_cond6 i = 1#1 → k0_cond7 i k = 1#1 := by decide +kernel
theorem lt37 (i : grid0.Coords) : (i 0).val < 37 := (i 0).isLt

/-! ## What the loads of the blocks read -/

theorem rd_whole (arg1 : Memref sig .tc .vmem S256x256 .bf16) (f : arg1.view.ty.Contents (Elt F)) (off : Fin 2 → ℕ) (h : off = ![0, 0]) (inb : ∀ a, off a + S256x256.size a ≤ S256x256.size a) :
    View.readAt (Elt F) arg1.view (Rect.unit (s := S256x256) off S256x256.size inb).toLoadRect f = arg1.view.read (Elt F) f := by
  subst h
  funext x
  refine (show _ = arg1.view.read (Elt F) f ((Rect.unit (s := S256x256) _ S256x256.size inb).emb x) from rfl).trans (congrArg (arg1.view.read (Elt F) f) (funext fun a => ?_))
  fin_cases a
  · exact Fin.ext (by show 0 + 1 * (x 0).val = (x 0).val; omega)
  · exact Fin.ext (by show 0 + 1 * (x 1).val = (x 1).val; omega)
theorem rd_rows {e : EltTy} (arg : Memref sig .tc .vmem S1536x512 e) (f : arg.view.ty.Contents (Elt F)) (k : Fin 6) (off : Fin 2 → ℕ) (h : off = ![256 * k.val, 0]) (inb : ∀ a, off a + S256x512.size a ≤ S1536x512.size a) :
    View.readAt (Elt F) arg.view (Rect.unit (s := S1536x512) off S256x512.size inb).toLoadRect f = rowsOf (arg.view.read (Elt F) f) k := by
  subst h; rfl

end Cert.KernelIdeal.Hand
-- ==== Proof.T1.lean ====
/- Hand-written. One trip of the quantising loop of the first point. -/
module

public import proofs.«01_k».proof.Proof.Ring

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [FloatOps F]

local notation "𝕄" => MT nD τ sig Unit (Elt F) ℕ (Pipeline.UD sig nD τ) ℕ

theorem trip1 (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole)
    (v3 : BitVec 32)
    (hc : k0_cond2 i = 1#1) (k : Fin k0_t1_loop.trips)
    (f1 : Buf (Elt F) (arg1.view.loc (c : Thread nD τ))) (f2 : Buf (Elt F) (arg2.view.loc (c : Thread nD τ))) (f3 : Buf (Elt F) (arg3.view.loc (c : Thread nD τ))) (f5 : Buf (Elt F) (arg5.view.loc (c : Thread nD τ)))
    (hM : arg1.view.read (Elt F) f1 = V.M) (hD : arg2.view.read (Elt F) f2 = V.D (i 0).val) (hR : arg3.view.read (Elt F) f3 = V.R (i 0).val)
    (fb : Buf (Elt F) (BY.view.loc (c : Thread nD τ)))
    (fy : Buf (Elt F) (DY.view.loc (c : Thread nD τ))) (hy' : Done V (i 0).val k.val fy) (h5 : DoneC V (i 0).val k.val f5) (hb : DoneB V (i 0).val k.val fb) (Q : Unit → sProp 𝕄) :
    iprop((arg1.view.loc (c : Thread nD τ) ↦[arg1.view.set]{fullShare} f1) ∗ (arg2.view.loc (c : Thread nD τ) ↦[arg2.view.set]{fullShare} f2)
        ∗ (arg3.view.loc (c : Thread nD τ) ↦[arg3.view.set]{fullShare} f3) ∗ (arg5.view.loc (c : Thread nD τ) ↦[arg5.view.set]{fullShare} f5)
        ∗ (BY.view.loc (c : Thread nD τ) ↦{fullShare} fb)
        ∗ (DY.view.loc (c : Thread nD τ) ↦{fullShare} fy)
        ∗ (iprop((arg1.view.loc (c : Thread nD τ) ↦[arg1.view.set]{fullShare} f1) ∗ (arg2.view.loc (c : Thread nD τ) ↦[arg2.view.set]{fullShare} f2)
            ∗ (arg3.view.loc (c : Thread nD τ) ↦[arg3.view.set]{fullShare} f3) ∗ (∃ f5, ⌜DoneC V (i 0).val (k.val + 1) f5⌝ ∗ (arg5.view.loc (c : Thread nD τ) ↦[arg5.view.set]{fullShare} f5))
            ∗ (∃ fb, ⌜DoneB V (i 0).val (k.val + 1) fb⌝ ∗ (BY.view.loc (c : Thread nD τ) ↦{fullShare} fb))
            ∗ (∃ fy, ⌜Done V (i 0).val (k.val + 1) fy⌝ ∗ (DY.view.loc (c : Thread nD τ) ↦{fullShare} fy))) -∗ Q ()))
      ⊢ wp frame (wpE (defs₀ (F := F)) Variants.none (c : Thread nD τ) none) Set.univ
          (k0_t1_body (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5 v3 hc k ()) Q := by
  have hi := (cond2_iff i).mp hc
  have hk : k.val < 6 := k.isLt
  unfold k0_t1_body
  iintro ⟨H1, H2, H3, H5, Hb, Hy, HQ⟩
  sl_exec
  sl_step
  iapply HQ
  isplitl [H1]; · iexact H1
  isplitl [H2]; · iexact H2
  isplitl [H3]; · iexact H3
  isplitl [H5]
  · iexists _
    isplitr [H5]
    swap
    · iexact H5
    · ipureintro
      refine doneC_step V (i 0).val k f5 h5 _ (k0_off2_eq k) _ _ ?_
      unfold chunkC
      rw [← hM, ← hD, ← hR, ← rd_rows arg2 f2 k (k0_off1 k) (k0_off1_eq k) (k0_off1_inb i k hc), ← rd_rows arg3 f3 k (k0_off1 k) (k0_off1_eq k) (k0_off1_inb i k hc), ← rd_whole arg1 f1 ![0, 0] rfl inb_S256x256_S256x256_0_0, ← caC_eq]
      rfl
  isplitl [Hb]
  · iexists _
    isplitr [Hb]
    swap
    · iexact Hb
    · ipureintro
      refine doneB_step V (i 0).val k fb hb _ (k0_off3_eq k) _ _ ?_
      unfold chunkB
      rw [← hM, ← hD, ← hR, ← rd_rows arg2 f2 k (k0_off1 k) (k0_off1_eq k) (k0_off1_inb i k hc), ← rd_rows arg3 f3 k (k0_off1 k) (k0_off1_eq k) (k0_off1_inb i k hc), ← rd_whole arg1 f1 ![0, 0] rfl inb_S256x256_S256x256_0_0, ← caB_eq]
      rfl
  iexists _
  isplitr [Hy]
  swap
  · iexact Hy
  · ipureintro
    refine done_step V (i 0).val k fy hy' _ (k0_off4_eq i k) _ _ ?_
    unfold chunk
    rw [← hM, ← hD, ← hR, ← rd_rows arg2 f2 k (k0_off1 k) (k0_off1_eq k) (k0_off1_inb i k hc), ← rd_rows arg3 f3 k (k0_off1 k) (k0_off1_eq k) (k0_off1_inb i k hc), ← rd_whole arg1 f1 ![0, 0] rfl inb_S256x256_S256x256_0_0, ← caY_eq]
    rfl

end Cert.KernelIdeal.Hand
-- ==== Proof.T2.lean ====
/- Hand-written. One trip of the loop that multiplies and quantises: the product tile of the step (waiting for the copy two steps back,
   but for the first two steps) and the next chunk of the tile of `dy`. -/
module

public import proofs.«01_k».proof.Proof.Ring

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [FloatOps F]

local notation "𝕄" => MT nD τ sig Unit (Elt F) ℕ (Pipeline.UD sig nD τ) ℕ

theorem trip2_free (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole)
    (v0 v4 : BitVec 32)
    (hc : k0_cond3 i = 1#1) (k : Fin k0_t2_loop.trips) (hf : ¬ (1 < (i 0).val ∨ 2 ≤ k.val)) (s : Fin 2) (hs : s.val = k.val % 2) (u : Fin 504) (hu : u.val = 14 * ((i 0).val - 1) + k.val)
    (f1 : Buf (Elt F) (arg1.view.loc (c : Thread nD τ))) (f2 : Buf (Elt F) (arg2.view.loc (c : Thread nD τ))) (f3 : Buf (Elt F) (arg3.view.loc (c : Thread nD τ))) (f5 : Buf (Elt F) (arg5.view.loc (c : Thread nD τ)))
    (hM : arg1.view.read (Elt F) f1 = V.M) (hD : arg2.view.read (Elt F) f2 = V.D (i 0).val) (hR : arg3.view.read (Elt F) f3 = V.R (i 0).val)
    (fb : Buf (Elt F) (BY.view.loc (c : Thread nD τ)))
    (fy : Buf (Elt F) (DY.view.loc (c : Thread nD τ))) (hy : Done V ((i 0).val - 1) 6 fy) (hy' : Done V (i 0).val k.val fy) (h5 : DoneC V (i 0).val k.val f5) (hb : DoneB V (i 0).val k.val fb)
    (fx : Buf (Elt F) (XV.view.loc (c : Thread nD τ))) (hx : XDone V fx) (W : Waits sig Unit) (Q : Unit → sProp 𝕄) :
    iprop(freeS (F := F) c s ∗ aheadS (F := F) c u
        ∗ (arg1.view.loc (c : Thread nD τ) ↦[arg1.view.set]{fullShare} f1) ∗ (arg2.view.loc (c : Thread nD τ) ↦[arg2.view.set]{fullShare} f2)
        ∗ (arg3.view.loc (c : Thread nD τ) ↦[arg3.view.set]{fullShare} f3) ∗ (arg5.view.loc (c : Thread nD τ) ↦[arg5.view.set]{fullShare} f5)
        ∗ (BY.view.loc (c : Thread nD τ) ↦{fullShare} fb)
        ∗ (DY.view.loc (c : Thread nD τ) ↦{fullShare} fy) ∗ (XV.view.loc (c : Thread nD τ) ↦{fullShare} fx) ∗ owes (c : Thread nD τ) 0 W
        ∗ (iprop((arg1.view.loc (c : Thread nD τ) ↦[arg1.view.set]{fullShare} f1) ∗ (arg2.view.loc (c : Thread nD τ) ↦[arg2.view.set]{fullShare} f2)
            ∗ (arg3.view.loc (c : Thread nD τ) ↦[arg3.view.set]{fullShare} f3) ∗ (∃ f5, ⌜DoneC V (i 0).val (k.val + 1) f5⌝ ∗ (arg5.view.loc (c : Thread nD τ) ↦[arg5.view.set]{fullShare} f5))
            ∗ (∃ fb, ⌜DoneB V (i 0).val (k.val + 1) fb⌝ ∗ (BY.view.loc (c : Thread nD τ) ↦{fullShare} fb))
            ∗ (∃ fy, ⌜Done V ((i 0).val - 1) 6 fy ∧ Done V (i 0).val (k.val + 1) fy⌝ ∗ (DY.view.loc (c : Thread nD τ) ↦{fullShare} fy)) ∗ (XV.view.loc (c : Thread nD τ) ↦{fullShare} fx) ∗ (∃ W', owes (c : Thread nD τ) 0 W') ∗ inflS V c s u) -∗ Q ()))
      ⊢ wp frame (wpE (defs₀ (F := F)) Variants.none (c : Thread nD τ) none) Set.univ
          (k0_t2_body (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5 v0 v4 hc k ()) Q := by
  have hi := (cond3_iff i).mp hc
  have hk : k.val < 6 := k.isLt
  have h4 : ¬ k0_cond4 i k = 1#1 := fun h => hf ((cond4_iff i k).mp h)
  have hcanonC := canonCell s (k0_off10 k) ((k0_off10_eq k).trans (by rw [hs])) (k0_off10_inb i k hc)
  have hcanonS := canonSlot s (k0_off12 k) ((k0_off12_eq k).trans (by rw [hs])) (k0_off12_inb i k hc)
  have hcanonP := canonPiece u (k0_off11 i k) ((off11_eq i k hc).trans (by
    have e1 : u.val / 14 = (i 0).val - 1 := by omega
    have e2 : u.val % 14 = k.val := by omega
    rw [e1, e2])) (k0_off11_inb i k hc)
  unfold k0_t2_body
  iintro ⟨⟨Hc, ⟨%fs, Hs⟩⟩, ⟨%fd, Hd⟩, H1, H2, H3, H5, Hb, Hy, Hx, HO, HQ⟩
  sl_exec
  sl_step
  iapply HQ
  isplitl [H1]; · iexact H1
  isplitl [H2]; · iexact H2
  isplitl [H3]; · iexact H3
  isplitl [H5]
  · iexists _
    isplitr [H5]
    swap
    · iexact H5
    · ipureintro
      refine doneC_step V (i 0).val k f5 h5 _ (k0_off14_eq k) _ _ ?_
      unfold chunkC
      rw [← hM, ← hD, ← hR, ← rd_rows arg2 f2 k (k0_off13 k) (k0_off13_eq k) (k0_off13_inb i k hc), ← rd_rows arg3 f3 k (k0_off13 k) (k0_off13_eq k) (k0_off13_inb i k hc), ← rd_whole arg1 f1 ![0, 0] rfl inb_S256x256_S256x256_0_0]
      rfl
  isplitl [Hb]
  · iexists _
    isplitr [Hb]
    swap
    · iexact Hb
    · ipureintro
      refine doneB_step V (i 0).val k fb hb _ (k0_off15_eq k) _ _ ?_
      unfold chunkB
      rw [← hM, ← hD, ← hR, ← rd_rows arg2 f2 k (k0_off13 k) (k0_off13_eq k) (k0_off13_inb i k hc), ← rd_rows arg3 f3 k (k0_off13 k) (k0_off13_eq k) (k0_off13_inb i k hc), ← rd_whole arg1 f1 ![0, 0] rfl inb_S256x256_S256x256_0_0]
      rfl
  isplitl [Hy]
  · iexists _
    isplitr [Hy]
    swap
    · iexact Hy
    · ipureintro
      refine ⟨done_other V _ (i 0).val 6 fy hy (by omega) _ _ (k0_off16_eq i k) _ _, done_step V (i 0).val k fy hy' _ (k0_off16_eq i k) _ _ ?_⟩
      unfold chunk
      rw [← hM, ← hD, ← hR, ← rd_rows arg2 f2 k (k0_off13 k) (k0_off13_eq k) (k0_off13_inb i k hc), ← rd_rows arg3 f3 k (k0_off13 k) (k0_off13_eq k) (k0_off13_inb i k hc), ← rd_whole arg1 f1 ![0, 0] rfl inb_S256x256_S256x256_0_0]
      rfl
  isplitl [Hx]; · iexact Hx
  isplitl [HO]; · iexists _; iexact HO
  iexists _, _
  isplitr [Hc]
  swap
  · iexact Hc
  · ipureintro
    exact landed V u s ((i 0).val - 1) ⟨k.val, by omega⟩ hu fd fs fy hy fx hx _ ((k0_off9_eq k).trans (by rw [hs])) _
      _ ((k0_off7_eq i).trans (by rw [show 1 - (i 0).val % 2 = ((i 0).val - 1) % 2 by omega])) _
      _ ((k0_off8_eq k).trans (by rw [show 512 * k.val = k.val * 512 by omega])) _

theorem trip2_wait (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole)
    (v0 v4 : BitVec 32)
    (hc : k0_cond3 i = 1#1) (k : Fin k0_t2_loop.trips) (hf : 1 < (i 0).val ∨ 2 ≤ k.val) (u' : Fin 504) (s : Fin 2) (hs : s.val = k.val % 2) (u : Fin 504) (hu : u.val = 14 * ((i 0).val - 1) + k.val)
    (f1 : Buf (Elt F) (arg1.view.loc (c : Thread nD τ))) (f2 : Buf (Elt F) (arg2.view.loc (c : Thread nD τ))) (f3 : Buf (Elt F) (arg3.view.loc (c : Thread nD τ))) (f5 : Buf (Elt F) (arg5.view.loc (c : Thread nD τ)))
    (hM : arg1.view.read (Elt F) f1 = V.M) (hD : arg2.view.read (Elt F) f2 = V.D (i 0).val) (hR : arg3.view.read (Elt F) f3 = V.R (i 0).val)
    (fb : Buf (Elt F) (BY.view.loc (c : Thread nD τ)))
    (fy : Buf (Elt F) (DY.view.loc (c : Thread nD τ))) (hy : Done V ((i 0).val - 1) 6 fy) (hy' : Done V (i 0).val k.val fy) (h5 : DoneC V (i 0).val k.val f5) (hb : DoneB V (i 0).val k.val fb)
    (fx : Buf (Elt F) (XV.view.loc (c : Thread nD τ))) (hx : XDone V fx) (W : Waits sig Unit) (Q : Unit → sProp 𝕄) :
    iprop(inflS V c s u' ∗ aheadS (F := F) c u
        ∗ (arg1.view.loc (c : Thread nD τ) ↦[arg1.view.set]{fullShare} f1) ∗ (arg2.view.loc (c : Thread nD τ) ↦[arg2.view.set]{fullShare} f2)
        ∗ (arg3.view.loc (c : Thread nD τ) ↦[arg3.view.set]{fullShare} f3) ∗ (arg5.view.loc (c : Thread nD τ) ↦[arg5.view.set]{fullShare} f5)
        ∗ (BY.view.loc (c : Thread nD τ) ↦{fullShare} fb)
        ∗ (DY.view.loc (c : Thread nD τ) ↦{fullShare} fy) ∗ (XV.view.loc (c : Thread nD τ) ↦{fullShare} fx) ∗ owes (c : Thread nD τ) 0 W
        ∗ (iprop((arg1.view.loc (c : Thread nD τ) ↦[arg1.view.set]{fullShare} f1) ∗ (arg2.view.loc (c : Thread nD τ) ↦[arg2.view.set]{fullShare} f2)
            ∗ (arg3.view.loc (c : Thread nD τ) ↦[arg3.view.set]{fullShare} f3) ∗ (∃ f5, ⌜DoneC V (i 0).val (k.val + 1) f5⌝ ∗ (arg5.view.loc (c : Thread nD τ) ↦[arg5.view.set]{fullShare} f5))
            ∗ (∃ fb, ⌜DoneB V (i 0).val (k.val + 1) fb⌝ ∗ (BY.view.loc (c : Thread nD τ) ↦{fullShare} fb))
            ∗ (∃ fy, ⌜Done V ((i 0).val - 1) 6 fy ∧ Done V (i 0).val (k.val + 1) fy⌝ ∗ (DY.view.loc (c : Thread nD τ) ↦{fullShare} fy)) ∗ (XV.view.loc (c : Thread nD τ) ↦{fullShare} fx) ∗ (∃ W', owes (c : Thread nD τ) 0 W') ∗ behindS V c u' ∗ inflS V c s u) -∗ Q ()))
      ⊢ wp frame (wpE (defs₀ (F := F)) Variants.none (c : Thread nD τ) none) Set.univ
          (k0_t2_body (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5 v0 v4 hc k ()) Q := by
  have hi := (cond3_iff i).mp hc
  have hk : k.val < 6 := k.isLt
  have h4 : k0_cond4 i k = 1#1 := (cond4_iff i k).mpr hf
  have hcanonC' := canonCell s (k0_off5 k) ((k0_off5_eq k).trans (by rw [hs])) (k0_off5_inb i k hc h4)
  have hcanonC := canonCell s (k0_off10 k) ((k0_off10_eq k).trans (by rw [hs])) (k0_off10_inb i k hc)
  have hcanonS := canonSlot s (k0_off12 k) ((k0_off12_eq k).trans (by rw [hs])) (k0_off12_inb i k hc)
  have hcanonP := canonPiece u (k0_off11 i k) ((off11_eq i k hc).trans (by
    have e1 : u.val / 14 = (i 0).val - 1 := by omega
    have e2 : u.val % 14 = k.val := by omega
    rw [e1, e2])) (k0_off11_inb i k hc)
  unfold k0_t2_body
  iintro ⟨⟨%fd', %fs, %hG, Hc⟩, ⟨%fd, Hd⟩, H1, H2, H3, H5, Hb, Hy, Hx, HO, HQ⟩
  sl_exec
  sl_step
  iapply HQ
  isplitl [H1]; · iexact H1
  isplitl [H2]; · iexact H2
  isplitl [H3]; · iexact H3
  isplitl [H5]
  · iexists _
    isplitr [H5]
    swap
    · iexact H5
    · ipureintro
      refine doneC_step V (i 0).val k f5 h5 _ (k0_off14_eq k) _ _ ?_
      unfold chunkC
      rw [← hM, ← hD, ← hR, ← rd_rows arg2 f2 k (k0_off13 k) (k0_off13_eq k) (k0_off13_inb i k hc), ← rd_rows arg3 f3 k (k0_off13 k) (k0_off13_eq k) (k0_off13_inb i k hc), ← rd_whole arg1 f1 ![0, 0] rfl inb_S256x256_S256x256_0_0]
      rfl
  isplitl [Hb]
  · iexists _
    isplitr [Hb]
    swap
    · iexact Hb
    · ipureintro
      refine doneB_step V (i 0).val k fb hb _ (k0_off15_eq k) _ _ ?_
      unfold chunkB
      rw [← hM, ← hD, ← hR, ← rd_rows arg2 f2 k (k0_off13 k) (k0_off13_eq k) (k0_off13_inb i k hc), ← rd_rows arg3 f3 k (k0_off13 k) (k0_off13_eq k) (k0_off13_inb i k hc), ← rd_whole arg1 f1 ![0, 0] rfl inb_S256x256_S256x256_0_0]
      rfl
  isplitl [Hy]
  · iexists _
    isplitr [Hy]
    swap
    · iexact Hy
    · ipureintro
      refine ⟨done_other V _ (i 0).val 6 fy hy (by omega) _ _ (k0_off16_eq i k) _ _, done_step V (i 0).val k fy hy' _ (k0_off16_eq i k) _ _ ?_⟩
      unfold chunk
      rw [← hM, ← hD, ← hR, ← rd_rows arg2 f2 k (k0_off13 k) (k0_off13_eq k) (k0_off13_inb i k hc), ← rd_rows arg3 f3 k (k0_off13 k) (k0_off13_eq k) (k0_off13_inb i k hc), ← rd_whole arg1 f1 ![0, 0] rfl inb_S256x256_S256x256_0_0]
      rfl
  isplitl [Hx]; · iexact Hx
  isplitl [HO]; · iexists _; iexact HO
  isplitl [Hc_dst]
  · iexists _; isplitr
    · ipureintro; exact hG
    · iexact Hc_dst
  iexists _, _
  isplitr [Hc]
  swap
  · iexact Hc
  · ipureintro
    exact landed V u s ((i 0).val - 1) ⟨k.val, by omega⟩ hu fd fs fy hy fx hx _ ((k0_off9_eq k).trans (by rw [hs])) _
      _ ((k0_off7_eq i).trans (by rw [show 1 - (i 0).val % 2 = ((i 0).val - 1) % 2 by omega])) _
      _ ((k0_off8_eq k).trans (by rw [show 512 * k.val = k.val * 512 by omega])) _

end Cert.KernelIdeal.Hand
-- ==== Proof.T3.lean ====
/- Hand-written. One trip of the multiplying loop: wait for the copy two steps back, form the product tile, start its copy. -/
module

public import proofs.«01_k».proof.Proof.Ring

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [FloatOps F]

local notation "𝕄" => MT nD τ sig Unit (Elt F) ℕ (Pipeline.UD sig nD τ) ℕ

theorem trip3 (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole)
    (hc : k0_cond3 i = 1#1) (k : Fin k0_t3_loop.trips) (s : Fin 2) (hs : s.val = (k.val + 6) % 2) (u u' : Fin 504) (hu : u.val = 14 * ((i 0).val - 1) + (k.val + 6))
    (fy : Buf (Elt F) (DY.view.loc (c : Thread nD τ))) (hy : Done V ((i 0).val - 1) 6 fy)
    (fx : Buf (Elt F) (XV.view.loc (c : Thread nD τ))) (hx : XDone V fx) (W : Waits sig Unit) (Q : Unit → sProp 𝕄) :
    iprop(inflS V c s u' ∗ aheadS (F := F) c u
        ∗ (DY.view.loc (c : Thread nD τ) ↦{fullShare} fy) ∗ (XV.view.loc (c : Thread nD τ) ↦{fullShare} fx) ∗ owes (c : Thread nD τ) 0 W
        ∗ (iprop((DY.view.loc (c : Thread nD τ) ↦{fullShare} fy) ∗ (XV.view.loc (c : Thread nD τ) ↦{fullShare} fx) ∗ (∃ W', owes (c : Thread nD τ) 0 W') ∗ behindS V c u' ∗ inflS V c s u) -∗ Q ()))
      ⊢ wp frame (wpE (defs₀ (F := F)) Variants.none (c : Thread nD τ) none) Set.univ
          (k0_t3_body (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5 hc k ()) Q := by
  have hi := (cond3_iff i).mp hc
  have hk : k.val < 8 := k.isLt
  have hw := cond5_true i k
  have hcanonC' := canonCell s (k0_off17 k) ((k0_off17_eq k).trans (by rw [hs])) (k0_off17_inb i k hc hw)
  have hcanonC := canonCell s (k0_off22 k) ((k0_off22_eq k).trans (by rw [hs])) (k0_off22_inb i k hc)
  have hcanonS := canonSlot s (k0_off24 k) ((k0_off24_eq k).trans (by rw [hs])) (k0_off24_inb i k hc)
  have hcanonP := canonPiece u (k0_off23 i k) ((off23_eq i k hc).trans (by
    have e1 : u.val / 14 = (i 0).val - 1 := by omega
    have e2 : u.val % 14 = (k.val + 6) := by omega
    rw [e1, e2])) (k0_off23_inb i k hc)
  unfold k0_t3_body
  iintro ⟨⟨%fd', %fs, %hG, Hfl⟩, ⟨%fd, Hd⟩, Hy, Hx, HO, HQ⟩
  sl_exec
  sl_step
  iapply HQ
  isplitl [Hy]; · iexact Hy
  isplitl [Hx]; · iexact Hx
  isplitl [HO]; · iexists _; iexact HO
  isplitl [Hfl_dst]
  · iexists _; isplitr
    · ipureintro; exact hG
    · iexact Hfl_dst
  iexists _, _
  isplitr [Hfl]
  swap
  · iexact Hfl
  · ipureintro
    exact landed V u s ((i 0).val - 1) ⟨(k.val + 6), by omega⟩ hu fd fs fy hy fx hx _ ((k0_off21_eq k).trans (by rw [hs])) _
      _ ((k0_off19_eq i).trans (by rw [show 1 - (i 0).val % 2 = ((i 0).val - 1) % 2 by omega])) _
      _ ((k0_off20_eq k).trans (by rw [show 512 * k.val + 3072 = ((k.val + 6)) * 512 by omega])) _

end Cert.KernelIdeal.Hand
-- ==== Proof.T4.lean ====
/- Hand-written. One trip of the multiplying loop: wait for the copy two steps back, form the product tile, start its copy. -/
module

public import proofs.«01_k».proof.Proof.Ring

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [FloatOps F]

local notation "𝕄" => MT nD τ sig Unit (Elt F) ℕ (Pipeline.UD sig nD τ) ℕ

theorem trip4 (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole)
    (hc : k0_cond6 i = 1#1) (k : Fin k0_t4_loop.trips) (s : Fin 2) (hs : s.val = k.val % 2) (u u' : Fin 504) (hu : u.val = 14 * ((i 0).val - 1) + k.val)
    (fy : Buf (Elt F) (DY.view.loc (c : Thread nD τ))) (hy : Done V ((i 0).val - 1) 6 fy)
    (fx : Buf (Elt F) (XV.view.loc (c : Thread nD τ))) (hx : XDone V fx) (W : Waits sig Unit) (Q : Unit → sProp 𝕄) :
    iprop(inflS V c s u' ∗ aheadS (F := F) c u
        ∗ (DY.view.loc (c : Thread nD τ) ↦{fullShare} fy) ∗ (XV.view.loc (c : Thread nD τ) ↦{fullShare} fx) ∗ owes (c : Thread nD τ) 0 W
        ∗ (iprop((DY.view.loc (c : Thread nD τ) ↦{fullShare} fy) ∗ (XV.view.loc (c : Thread nD τ) ↦{fullShare} fx) ∗ (∃ W', owes (c : Thread nD τ) 0 W') ∗ behindS V c u' ∗ inflS V c s u) -∗ Q ()))
      ⊢ wp frame (wpE (defs₀ (F := F)) Variants.none (c : Thread nD τ) none) Set.univ
          (k0_t4_body (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5 hc k ()) Q := by
  have hi := (cond6_iff i).mp hc
  have hk : k.val < 14 := k.isLt
  have hw := cond7_true i k hc
  have hcanonC' := canonCell s (k0_off25 k) ((k0_off25_eq k).trans (by rw [hs])) (k0_off25_inb i k hc hw)
  have hcanonC := canonCell s (k0_off30 k) ((k0_off30_eq k).trans (by rw [hs])) (k0_off30_inb i k hc)
  have hcanonS := canonSlot s (k0_off32 k) ((k0_off32_eq k).trans (by rw [hs])) (k0_off32_inb i k hc)
  have hcanonP := canonPiece u (k0_off31 i k) ((off31_eq i k hc).trans (by
    have e1 : u.val / 14 = (i 0).val - 1 := by omega
    have e2 : u.val % 14 = k.val := by omega
    rw [e1, e2])) (k0_off31_inb i k hc)
  unfold k0_t4_body
  iintro ⟨⟨%fd', %fs, %hG, Hfl⟩, ⟨%fd, Hd⟩, Hy, Hx, HO, HQ⟩
  sl_exec
  sl_step
  iapply HQ
  isplitl [Hy]; · iexact Hy
  isplitl [Hx]; · iexact Hx
  isplitl [HO]; · iexists _; iexact HO
  isplitl [Hfl_dst]
  · iexists _; isplitr
    · ipureintro; exact hG
    · iexact Hfl_dst
  iexists _, _
  isplitr [Hfl]
  swap
  · iexact Hfl
  · ipureintro
    exact landed V u s ((i 0).val - 1) ⟨k.val, by omega⟩ hu fd fs fy hy fx hx _ ((k0_off29_eq k).trans (by rw [hs])) _
      _ ((k0_off27_eq i).trans (by rw [show 1 - (i 0).val % 2 = ((i 0).val - 1) % 2 by omega])) _
      _ ((k0_off28_eq k).trans (by rw [show 512 * k.val = (k.val) * 512 by omega])) _

end Cert.KernelIdeal.Hand
-- ==== Proof.Inv.lean ====
/- Hand-written. The invariants of the counted loops, and one trip of each. -/
module

public import proofs.«01_k».proof.Proof.T1
public import proofs.«01_k».proof.Proof.T2
public import proofs.«01_k».proof.Proof.T3
public import proofs.«01_k».proof.Proof.T4

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [FloatOps F]

local notation "𝕄" => MT nD τ sig Unit (Elt F) ℕ (Pipeline.UD sig nD τ) ℕ

/-- Before trip `k` of the first point's quantising loop. -/
def I1 (V : Vals F) (c : Dev nD) (i : grid0.Coords) (arg1 : Memref sig .tc .vmem S256x256 .bf16) (arg2 : Memref sig .tc .vmem S1536x512 .bf16) (arg3 : Memref sig .tc .vmem S1536x512 .i8) (arg5 : Memref sig .tc .vmem S768x512 .i8)
    (f1 : Buf (Elt F) (arg1.view.loc (c : Thread nD τ))) (f2 : Buf (Elt F) (arg2.view.loc (c : Thread nD τ))) (f3 : Buf (Elt F) (arg3.view.loc (c : Thread nD τ))) (k : ℕ) (_ : Unit) : sProp 𝕄 :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (∃ f5, ⌜DoneC V (i 0).val k f5⌝ ∗ (arg5.view.loc (c : Thread nD τ) ↦[arg5.view.set]{fullShare} f5)) ∗ (∃ fb, ⌜DoneB V (i 0).val k fb⌝ ∗ (BY.view.loc (c : Thread nD τ) ↦{fullShare} fb)) ∗ (∃ fy, ⌜Done V (i 0).val k fy⌝ ∗ (DY.view.loc (c : Thread nD τ) ↦{fullShare} fy)))

/-- Before trip `k` of the loop that multiplies and quantises: the ring, the blocks, the previous tile whole in its slot and
    the first `k` chunks of this one in the other. -/
def I2 (V : Vals F) (c : Dev nD) (i : grid0.Coords) (arg1 : Memref sig .tc .vmem S256x256 .bf16) (arg2 : Memref sig .tc .vmem S1536x512 .bf16) (arg3 : Memref sig .tc .vmem S1536x512 .i8) (arg5 : Memref sig .tc .vmem S768x512 .i8)
    (f1 : Buf (Elt F) (arg1.view.loc (c : Thread nD τ))) (f2 : Buf (Elt F) (arg2.view.loc (c : Thread nD τ))) (f3 : Buf (Elt F) (arg3.view.loc (c : Thread nD τ))) (k : ℕ) (_ : Unit) : sProp 𝕄 :=
  iprop(RING V c (14 * ((i 0).val - 1) + k) ∗ (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (∃ f5, ⌜DoneC V (i 0).val k f5⌝ ∗ (arg5.view.loc (c : Thread nD τ) ↦[arg5.view.set]{fullShare} f5)) ∗ (∃ fb, ⌜DoneB V (i 0).val k fb⌝ ∗ (BY.view.loc (c : Thread nD τ) ↦{fullShare} fb))
    ∗ (∃ fy, ⌜Done V ((i 0).val - 1) 6 fy ∧ Done V (i 0).val k fy⌝ ∗ (DY.view.loc (c : Thread nD τ) ↦{fullShare} fy)) ∗ (∃ fx, ⌜XDone V fx⌝ ∗ (XV.view.loc (c : Thread nD τ) ↦{fullShare} fx)) ∗ (∃ W, owes (c : Thread nD τ) 0 W))

/-- Before step `p` of a loop that multiplies tile `t` only. -/
def I34 (V : Vals F) (c : Dev nD) (t p : ℕ) (n : ℕ) : sProp 𝕄 :=
  iprop(RING V c p ∗ (∃ fy, ⌜Done V t 6 fy ∧ Done V n 6 fy⌝ ∗ (DY.view.loc (c : Thread nD τ) ↦{fullShare} fy)) ∗ (∃ fx, ⌜XDone V fx⌝ ∗ (XV.view.loc (c : Thread nD τ) ↦{fullShare} fx)) ∗ (∃ W, owes (c : Thread nD τ) 0 W))

theorem step1 (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole) (v3 : BitVec 32) (hc : k0_cond2 i = 1#1) (f1 : Buf (Elt F) (arg1.view.loc (c : Thread nD τ))) (f2 : Buf (Elt F) (arg2.view.loc (c : Thread nD τ))) (f3 : Buf (Elt F) (arg3.view.loc (c : Thread nD τ))) (hM : arg1.view.read (Elt F) f1 = V.M) (hD : arg2.view.read (Elt F) f2 = V.D (i 0).val) (hR : arg3.view.read (Elt F) f3 = V.R (i 0).val) (k : Fin k0_t1_loop.trips) :
    I1 V c i arg1 arg2 arg3 arg5 f1 f2 f3 k.val () ⊢ wp frame (wpE (defs₀ (F := F)) Variants.none (c : Thread nD τ) none) Set.univ
          (k0_t1_body (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5 v3 hc k ()) (fun a => I1 V c i arg1 arg2 arg3 arg5 f1 f2 f3 (k.val + 1) a) := by
  unfold I1
  iintro ⟨H1, H2, H3, ⟨%f5, %h5, H5⟩, ⟨%fb, %hb, Hb⟩, ⟨%fy, %hy, Hy⟩⟩
  iapply (trip1 V c i arg1 harg1 arg2 harg2 arg3 harg3 arg5 harg5 arg6 harg6 v3 hc k f1 f2 f3 f5 hM hD hR fb fy hy h5 hb _)
  isplitl [H1]; · iexact H1
  isplitl [H2]; · iexact H2
  isplitl [H3]; · iexact H3
  isplitl [H5]; · iexact H5
  isplitl [Hb]; · iexact Hb
  isplitl [Hy]; · iexact Hy
  iintro ⟨H1, H2, H3, H5, Hb, Hy⟩
  isplitl [H1]; · iexact H1
  isplitl [H2]; · iexact H2
  isplitl [H3]; · iexact H3
  isplitl [H5]; · iexact H5
  isplitl [Hb]; · iexact Hb
  iexact Hy

theorem step2_zero (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole) (v0 v4 : BitVec 32) (hc : k0_cond3 i = 1#1) (f1 : Buf (Elt F) (arg1.view.loc (c : Thread nD τ))) (f2 : Buf (Elt F) (arg2.view.loc (c : Thread nD τ))) (f3 : Buf (Elt F) (arg3.view.loc (c : Thread nD τ))) (hM : arg1.view.read (Elt F) f1 = V.M) (hD : arg2.view.read (Elt F) f2 = V.D (i 0).val) (hR : arg3.view.read (Elt F) f3 = V.R (i 0).val) (k : Fin k0_t2_loop.trips) (p : ℕ) (hp : p = 14 * ((i 0).val - 1) + k.val) (hpp : p = 0) :
    I2 V c i arg1 arg2 arg3 arg5 f1 f2 f3 k.val () ⊢ wp frame (wpE (defs₀ (F := F)) Variants.none (c : Thread nD τ) none) Set.univ
          (k0_t2_body (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5 v0 v4 hc k ()) (fun a => I2 V c i arg1 arg2 arg3 arg5 f1 f2 f3 (k.val + 1) a) := by
  have hi := (cond3_iff i).mp hc
  have hk : k.val < 6 := k.isLt
  have hp5 : p < 504 := by omega
  have hs : (sl 2 p).val = k.val % 2 := by show p % 2 = _; omega
  have hu : (bk 504 p).val = 14 * ((i 0).val - 1) + k.val := (bk_val hp5).trans hp
  unfold I2
  rw [show 14 * ((i 0).val - 1) + (k.val + 1) = p + 1 by omega, ← hp]
  rw [show RING V c p = _ from AtB2_zero' 2 (freeS (F := F) c) (inflS V c) (aheadS (F := F) c) (behindS V c) p hpp, show RING V c (p + 1) = _ from AtB22_next_zero' (freeS (F := F) c) (inflS V c) (aheadS (F := F) c) (behindS V c) p hpp]
  iintro ⟨⟨⟨Ha, Hr⟩, Hs, Hf⟩, H1, H2, H3, ⟨%f5, %h5, H5⟩, ⟨%fb, %hb, Hb⟩, ⟨%fy, %hy, Hy⟩, ⟨%fx, %hx, Hx⟩, ⟨%W, HO⟩⟩
  iapply (trip2_free V c i arg1 harg1 arg2 harg2 arg3 harg3 arg5 harg5 arg6 harg6 v0 v4 hc k (by omega) (sl 2 p) hs (bk 504 p) hu f1 f2 f3 f5 hM hD hR fb fy hy.1 hy.2 h5 hb fx hx W _)
  isplitl [Hs]; · iexact Hs
  isplitl [Ha]; · iexact Ha
  isplitl [H1]; · iexact H1
  isplitl [H2]; · iexact H2
  isplitl [H3]; · iexact H3
  isplitl [H5]; · iexact H5
  isplitl [Hb]; · iexact Hb
  isplitl [Hy]; · iexact Hy
  isplitl [Hx]; · iexact Hx
  isplitl [HO]; · iexact HO
  iintro ⟨H1, H2, H3, H5, Hb, Hy, Hx, HO, Hi⟩
  isplitl [Hr Hf Hi]
  · isplitl [Hr]; · iexact Hr
    isplitl [Hf]; · iexact Hf
    iexact Hi
  isplitl [H1]; · iexact H1
  isplitl [H2]; · iexact H2
  isplitl [H3]; · iexact H3
  isplitl [H5]; · iexact H5
  isplitl [Hb]; · iexact Hb
  isplitl [Hy]; · iexact Hy
  isplitl [Hx]
  · iexists _; isplitr
    · ipureintro; exact hx
    · iexact Hx
  iexact HO

theorem step2_one (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole) (v0 v4 : BitVec 32) (hc : k0_cond3 i = 1#1) (f1 : Buf (Elt F) (arg1.view.loc (c : Thread nD τ))) (f2 : Buf (Elt F) (arg2.view.loc (c : Thread nD τ))) (f3 : Buf (Elt F) (arg3.view.loc (c : Thread nD τ))) (hM : arg1.view.read (Elt F) f1 = V.M) (hD : arg2.view.read (Elt F) f2 = V.D (i 0).val) (hR : arg3.view.read (Elt F) f3 = V.R (i 0).val) (k : Fin k0_t2_loop.trips) (p : ℕ) (hp : p = 14 * ((i 0).val - 1) + k.val) (hpp : p = 1) :
    I2 V c i arg1 arg2 arg3 arg5 f1 f2 f3 k.val () ⊢ wp frame (wpE (defs₀ (F := F)) Variants.none (c : Thread nD τ) none) Set.univ
          (k0_t2_body (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5 v0 v4 hc k ()) (fun a => I2 V c i arg1 arg2 arg3 arg5 f1 f2 f3 (k.val + 1) a) := by
  have hi := (cond3_iff i).mp hc
  have hk : k.val < 6 := k.isLt
  have hp5 : p < 504 := by omega
  have hs : (sl 2 p).val = k.val % 2 := by show p % 2 = _; omega
  have hu : (bk 504 p).val = 14 * ((i 0).val - 1) + k.val := (bk_val hp5).trans hp
  unfold I2
  rw [show 14 * ((i 0).val - 1) + (k.val + 1) = p + 1 by omega, ← hp]
  rw [show RING V c p = _ from AtB22_one' (freeS (F := F) c) (inflS V c) (aheadS (F := F) c) (behindS V c) p hpp (by decide), show RING V c (p + 1) = _ from AtB22_next_one' (freeS (F := F) c) (inflS V c) (aheadS (F := F) c) (behindS V c) p hpp]
  iintro ⟨⟨⟨Ha, Hr⟩, Hs, Hf⟩, H1, H2, H3, ⟨%f5, %h5, H5⟩, ⟨%fb, %hb, Hb⟩, ⟨%fy, %hy, Hy⟩, ⟨%fx, %hx, Hx⟩, ⟨%W, HO⟩⟩
  iapply (trip2_free V c i arg1 harg1 arg2 harg2 arg3 harg3 arg5 harg5 arg6 harg6 v0 v4 hc k (by omega) (sl 2 p) hs (bk 504 p) hu f1 f2 f3 f5 hM hD hR fb fy hy.1 hy.2 h5 hb fx hx W _)
  isplitl [Hs]; · iexact Hs
  isplitl [Ha]; · iexact Ha
  isplitl [H1]; · iexact H1
  isplitl [H2]; · iexact H2
  isplitl [H3]; · iexact H3
  isplitl [H5]; · iexact H5
  isplitl [Hb]; · iexact Hb
  isplitl [Hy]; · iexact Hy
  isplitl [Hx]; · iexact Hx
  isplitl [HO]; · iexact HO
  iintro ⟨H1, H2, H3, H5, Hb, Hy, Hx, HO, Hi⟩
  isplitl [Hr Hf Hi]
  · isplitl [Hr]; · iexact Hr
    isplitl [Hf]; · iexact Hf
    iexact Hi
  isplitl [H1]; · iexact H1
  isplitl [H2]; · iexact H2
  isplitl [H3]; · iexact H3
  isplitl [H5]; · iexact H5
  isplitl [Hb]; · iexact Hb
  isplitl [Hy]; · iexact Hy
  isplitl [Hx]
  · iexists _; isplitr
    · ipureintro; exact hx
    · iexact Hx
  iexact HO

theorem step2_wait (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole) (v0 v4 : BitVec 32) (hc : k0_cond3 i = 1#1) (f1 : Buf (Elt F) (arg1.view.loc (c : Thread nD τ))) (f2 : Buf (Elt F) (arg2.view.loc (c : Thread nD τ))) (f3 : Buf (Elt F) (arg3.view.loc (c : Thread nD τ))) (hM : arg1.view.read (Elt F) f1 = V.M) (hD : arg2.view.read (Elt F) f2 = V.D (i 0).val) (hR : arg3.view.read (Elt F) f3 = V.R (i 0).val) (k : Fin k0_t2_loop.trips) (p : ℕ) (hp : p = 14 * ((i 0).val - 1) + k.val) (hpp : 2 ≤ p) :
    I2 V c i arg1 arg2 arg3 arg5 f1 f2 f3 k.val () ⊢ wp frame (wpE (defs₀ (F := F)) Variants.none (c : Thread nD τ) none) Set.univ
          (k0_t2_body (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5 v0 v4 hc k ()) (fun a => I2 V c i arg1 arg2 arg3 arg5 f1 f2 f3 (k.val + 1) a) := by
  have hi := (cond3_iff i).mp hc
  have hk : k.val < 6 := k.isLt
  have hp5 : p < 504 := by omega
  have hs : (sl 2 p).val = k.val % 2 := by show p % 2 = _; omega
  have hu : (bk 504 p).val = 14 * ((i 0).val - 1) + k.val := (bk_val hp5).trans hp
  unfold I2
  rw [show 14 * ((i 0).val - 1) + (k.val + 1) = p + 1 by omega, ← hp]
  rw [show RING V c p = _ from AtB22_here (freeS (F := F) c) (inflS V c) (aheadS (F := F) c) (behindS V c) p hpp hp5, show RING V c (p + 1) = _ from AtB22_next (freeS (F := F) c) (inflS V c) (aheadS (F := F) c) (behindS V c) p hpp hp5]
  iintro ⟨⟨⟨Ha, Hr⟩, Hh, Hs, Hf⟩, H1, H2, H3, ⟨%f5, %h5, H5⟩, ⟨%fb, %hb, Hb⟩, ⟨%fy, %hy, Hy⟩, ⟨%fx, %hx, Hx⟩, ⟨%W, HO⟩⟩
  iapply (trip2_wait V c i arg1 harg1 arg2 harg2 arg3 harg3 arg5 harg5 arg6 harg6 v0 v4 hc k (by omega) (bk 504 (p - 2)) (sl 2 p) hs (bk 504 p) hu f1 f2 f3 f5 hM hD hR fb fy hy.1 hy.2 h5 hb fx hx W _)
  isplitl [Hs]; · iexact Hs
  isplitl [Ha]; · iexact Ha
  isplitl [H1]; · iexact H1
  isplitl [H2]; · iexact H2
  isplitl [H3]; · iexact H3
  isplitl [H5]; · iexact H5
  isplitl [Hb]; · iexact Hb
  isplitl [Hy]; · iexact Hy
  isplitl [Hx]; · iexact Hx
  isplitl [HO]; · iexact HO
  iintro ⟨H1, H2, H3, H5, Hb, Hy, Hx, HO, Hn, Hi⟩
  isplitl [Hr Hh Hn Hf Hi]
  · isplitl [Hr]; · iexact Hr
    isplitl [Hn Hh]
    · isplitl [Hn]; · iexact Hn
      iexact Hh
    isplitl [Hf]; · iexact Hf
    iexact Hi
  isplitl [H1]; · iexact H1
  isplitl [H2]; · iexact H2
  isplitl [H3]; · iexact H3
  isplitl [H5]; · iexact H5
  isplitl [Hb]; · iexact Hb
  isplitl [Hy]; · iexact Hy
  isplitl [Hx]
  · iexists _; isplitr
    · ipureintro; exact hx
    · iexact Hx
  iexact HO

theorem step2 (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole) (v0 v4 : BitVec 32) (hc : k0_cond3 i = 1#1) (f1 : Buf (Elt F) (arg1.view.loc (c : Thread nD τ))) (f2 : Buf (Elt F) (arg2.view.loc (c : Thread nD τ))) (f3 : Buf (Elt F) (arg3.view.loc (c : Thread nD τ))) (hM : arg1.view.read (Elt F) f1 = V.M) (hD : arg2.view.read (Elt F) f2 = V.D (i 0).val) (hR : arg3.view.read (Elt F) f3 = V.R (i 0).val) (k : Fin k0_t2_loop.trips) :
    I2 V c i arg1 arg2 arg3 arg5 f1 f2 f3 k.val () ⊢ wp frame (wpE (defs₀ (F := F)) Variants.none (c : Thread nD τ) none) Set.univ
          (k0_t2_body (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5 v0 v4 hc k ()) (fun a => I2 V c i arg1 arg2 arg3 arg5 f1 f2 f3 (k.val + 1) a) := by
  rcases Nat.lt_or_ge (14 * ((i 0).val - 1) + k.val) 2 with h | h
  · rcases Nat.eq_zero_or_pos (14 * ((i 0).val - 1) + k.val) with h0 | h0
    · exact step2_zero V c i arg1 harg1 arg2 harg2 arg3 harg3 arg5 harg5 arg6 harg6 v0 v4 hc f1 f2 f3 hM hD hR k _ rfl h0
    · exact step2_one V c i arg1 harg1 arg2 harg2 arg3 harg3 arg5 harg5 arg6 harg6 v0 v4 hc f1 f2 f3 hM hD hR k _ rfl (by omega)
  · exact step2_wait V c i arg1 harg1 arg2 harg2 arg3 harg3 arg5 harg5 arg6 harg6 v0 v4 hc f1 f2 f3 hM hD hR k _ rfl h

theorem step3 (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole) (hc : k0_cond3 i = 1#1) (k : Fin k0_t3_loop.trips) :
    I34 V c ((i 0).val - 1) (14 * ((i 0).val - 1) + (k.val + 6)) (i 0).val ⊢ wp frame (wpE (defs₀ (F := F)) Variants.none (c : Thread nD τ) none) Set.univ
          (k0_t3_body (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5 hc k ()) (fun _ => I34 V c ((i 0).val - 1) (14 * ((i 0).val - 1) + (k.val + 1 + 6)) (i 0).val) := by
  have hi := (cond3_iff i).mp hc
  have hk : k.val < 8 := k.isLt
  obtain ⟨p, hp⟩ : ∃ p, p = 14 * ((i 0).val - 1) + (k.val + 6) := ⟨_, rfl⟩
  have hp5 : p < 504 := by omega
  have hp2 : 2 ≤ p := by omega
  have hs : (sl 2 p).val = (k.val + 6) % 2 := by show p % 2 = _; omega
  have hu : (bk 504 p).val = 14 * ((i 0).val - 1) + (k.val + 6) := (bk_val hp5).trans hp
  rw [show 14 * ((i 0).val - 1) + (k.val + 1 + 6) = p + 1 by omega, ← hp]
  unfold I34
  rw [show RING V c p = _ from AtB22_here (freeS (F := F) c) (inflS V c) (aheadS (F := F) c) (behindS V c) p hp2 hp5, show RING V c (p + 1) = _ from AtB22_next (freeS (F := F) c) (inflS V c) (aheadS (F := F) c) (behindS V c) p hp2 hp5]
  iintro ⟨⟨⟨Ha, Hr⟩, Hh, Hs, Hf⟩, ⟨%fy, %hy, Hy⟩, ⟨%fx, %hx, Hx⟩, ⟨%W, HO⟩⟩
  iapply (trip3 V c i arg1 harg1 arg2 harg2 arg3 harg3 arg5 harg5 arg6 harg6 hc k (sl 2 p) hs (bk 504 p) (bk 504 (p - 2)) hu fy hy.1 fx hx W _)
  isplitl [Hs]; · iexact Hs
  isplitl [Ha]; · iexact Ha
  isplitl [Hy]; · iexact Hy
  isplitl [Hx]; · iexact Hx
  isplitl [HO]; · iexact HO
  iintro ⟨Hy, Hx, HO, Hn, Hi⟩
  isplitl [Hr Hh Hn Hf Hi]
  · isplitl [Hr]; · iexact Hr
    isplitl [Hn Hh]
    · isplitl [Hn]; · iexact Hn
      iexact Hh
    isplitl [Hf]; · iexact Hf
    iexact Hi
  isplitl [Hy]
  · iexists _; isplitr
    · ipureintro; exact hy
    · iexact Hy
  isplitl [Hx]
  · iexists _; isplitr
    · ipureintro; exact hx
    · iexact Hx
  iexact HO

theorem step4 (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole) (hc : k0_cond6 i = 1#1) (k : Fin k0_t4_loop.trips) :
    I34 V c ((i 0).val - 1) (14 * ((i 0).val - 1) + (k.val)) ((i 0).val - 1) ⊢ wp frame (wpE (defs₀ (F := F)) Variants.none (c : Thread nD τ) none) Set.univ
          (k0_t4_body (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5 hc k ()) (fun _ => I34 V c ((i 0).val - 1) (14 * ((i 0).val - 1) + (k.val + 1)) ((i 0).val - 1)) := by
  have hi := (cond6_iff i).mp hc
  have hk : k.val < 14 := k.isLt
  obtain ⟨p, hp⟩ : ∃ p, p = 14 * ((i 0).val - 1) + (k.val) := ⟨_, rfl⟩
  have hp5 : p < 504 := by omega
  have hp2 : 2 ≤ p := by omega
  have hs : (sl 2 p).val = (k.val) % 2 := by show p % 2 = _; omega
  have hu : (bk 504 p).val = 14 * ((i 0).val - 1) + (k.val) := (bk_val hp5).trans hp
  rw [show 14 * ((i 0).val - 1) + (k.val + 1) = p + 1 by omega, ← hp]
  unfold I34
  rw [show RING V c p = _ from AtB22_here (freeS (F := F) c) (inflS V c) (aheadS (F := F) c) (behindS V c) p hp2 hp5, show RING V c (p + 1) = _ from AtB22_next (freeS (F := F) c) (inflS V c) (aheadS (F := F) c) (behindS V c) p hp2 hp5]
  iintro ⟨⟨⟨Ha, Hr⟩, Hh, Hs, Hf⟩, ⟨%fy, %hy, Hy⟩, ⟨%fx, %hx, Hx⟩, ⟨%W, HO⟩⟩
  iapply (trip4 V c i arg1 harg1 arg2 harg2 arg3 harg3 arg5 harg5 arg6 harg6 hc k (sl 2 p) hs (bk 504 p) (bk 504 (p - 2)) hu fy hy.1 fx hx W _)
  isplitl [Hs]; · iexact Hs
  isplitl [Ha]; · iexact Ha
  isplitl [Hy]; · iexact Hy
  isplitl [Hx]; · iexact Hx
  isplitl [HO]; · iexact HO
  iintro ⟨Hy, Hx, HO, Hn, Hi⟩
  isplitl [Hr Hh Hn Hf Hi]
  · isplitl [Hr]; · iexact Hr
    isplitl [Hn Hh]
    · isplitl [Hn]; · iexact Hn
      iexact Hh
    isplitl [Hf]; · iexact Hf
    iexact Hi
  isplitl [Hy]
  · iexists _; isplitr
    · ipureintro; exact hy
    · iexact Hy
  isplitl [Hx]
  · iexists _; isplitr
    · ipureintro; exact hx
    · iexact Hx
  iexact HO

end Cert.KernelIdeal.Hand
-- ==== Proof.B0.lean ====
/- Hand-written. The body at the first point: the words of `x` are copied in while tile 0 is quantised. -/
module

public import proofs.«01_k».proof.Proof.Inv

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [FloatOps F]

local notation "𝕄" => MT nD τ sig Unit (Elt F) ℕ (Pipeline.UD sig nD τ) ℕ

theorem cond1_iff : ∀ i : grid0.Coords, Scalar.cmpi .ne (Scalar.extui (Scalar.cmpi .eq (BitVec.ofNat 32 (i 0).val) 0#32) : BitVec 32) 0#32 = 1#1 ↔ (i 0).val = 0 := by decide +kernel

theorem body_first (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole) (hi : (i 0).val = 0)
    (f1 : Buf (Elt F) (arg1.view.loc (c : Thread nD τ))) (f2 : Buf (Elt F) (arg2.view.loc (c : Thread nD τ))) (f3 : Buf (Elt F) (arg3.view.loc (c : Thread nD τ))) (f5 : Buf (Elt F) (arg5.view.loc (c : Thread nD τ))) (f6 : Buf (Elt F) (arg6.view.loc (c : Thread nD τ)))
    (hM : arg1.view.read (Elt F) f1 = V.M) (hD : arg2.view.read (Elt F) f2 = V.D (i 0).val) (hR : arg3.view.read (Elt F) f3 = V.R (i 0).val)
    (fxh : Buf (Elt F) (XH.view.loc (c : Thread nD τ))) (hX : XH.view.read (Elt F) fxh = V.X)
    (fx : Buf (Elt F) (XV.view.loc (c : Thread nD τ))) (fy : Buf (Elt F) (DY.view.loc (c : Thread nD τ))) (fb : Buf (Elt F) (BY.view.loc (c : Thread nD τ)))
    (W : Waits sig Unit) (Q : PUnit → sProp 𝕄) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg5.view.loc (c : Thread nD τ) ↦[arg5.view.set]{fullShare} f5) ∗ (arg6.view.loc (c : Thread nD τ) ↦[arg6.view.set]{fullShare} f6)
        ∗ (XH.view.loc (c : Thread nD τ) ↦{fullShare} fxh) ∗ (XV.view.loc (c : Thread nD τ) ↦{fullShare} fx) ∗ (DY.view.loc (c : Thread nD τ) ↦{fullShare} fy) ∗ (BY.view.loc (c : Thread nD τ) ↦{fullShare} fb) ∗ semVal ((c : Thread nD τ), SemLoc.dma (cc0_scratch4 : DmaSems sig S_).sem) 0 ∗ owes (c : Thread nD τ) 0 W
        ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (∃ f5, ⌜arg5.view.read (Elt F) f5 = tileC V (i 0).val⌝ ∗ (arg5.view.loc (c : Thread nD τ) ↦[arg5.view.set]{fullShare} f5)) ∗ (∃ f6, ⌜arg6.view.read (Elt F) f6 = tileS V (i 0).val⌝ ∗ (arg6.view.loc (c : Thread nD τ) ↦[arg6.view.set]{fullShare} f6))
            ∗ (XH.view.loc (c : Thread nD τ) ↦{fullShare} fxh) ∗ (∃ fx, ⌜XDone V fx⌝ ∗ (XV.view.loc (c : Thread nD τ) ↦{fullShare} fx)) ∗ (∃ fy, ⌜Done V (i 0).val 6 fy⌝ ∗ (DY.view.loc (c : Thread nD τ) ↦{fullShare} fy)) ∗ (∃ fb, (BY.view.loc (c : Thread nD τ) ↦{fullShare} fb)) ∗ semVal ((c : Thread nD τ), SemLoc.dma (cc0_scratch4 : DmaSems sig S_).sem) 0 ∗ (∃ W', owes (c : Thread nD τ) 0 W')) -∗ Q ⟨⟩))
      ⊢ wp frame (wpE (defs₀ (F := F)) Variants.none (c : Thread nD τ) none) Set.univ (cc0_wgrad (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5) Q := by
  have h1 := (cond1_iff i).mpr hi
  have h2 := (cond2_iff i).mpr hi
  have h3 : ¬ k0_cond3 i = 1#1 := fun h => by have := (cond3_iff i).mp h; omega
  have h6 : ¬ k0_cond6 i = 1#1 := fun h => by have := (cond6_iff i).mp h; omega
  rw [cc0_wgrad_eq_skeleton]; unfold cc0_wgrad_skel
  iintro ⟨H1, H2, H3, H5, H6, HXH, HXV, HY, HB, HS, HO, HQ⟩
  sl_exec
  sl_for (I1 V c i arg1 arg2 arg3 arg5 f1 f2 f3) $$ [H1 H2 H3 H5 HB HY]
  · intro k acc
    exact step1 V c i arg1 harg1 arg2 harg2 arg3 harg3 arg5 harg5 arg6 harg6 _ h2 f1 f2 f3 hM hD hR k
  · unfold I1
    isplitl [H1]; · iexact H1
    isplitl [H2]; · iexact H2
    isplitl [H3]; · iexact H3
    isplitl [H5]
    · iexists _
      isplitr [H5]
      swap
      · iexact H5
      · ipureintro; exact doneC_zero V _ _
    isplitl [HB]
    · iexists _
      isplitr [HB]
      swap
      · iexact HB
      · ipureintro; exact doneB_zero V _ _
    iexists _
    isplitr [HY]
    swap
    · iexact HY
    · ipureintro; exact done_zero V _ _
  unfold I1
  iintro %acc ⟨H1, H2, H3, ⟨%g5, %h5, H5⟩, ⟨%gb, %hgb, HB⟩, ⟨%gy, %hgy, HY⟩⟩
  sl_exec
  sl_step
  iapply HQ
  isplitl [H1]; · iexact H1
  isplitl [H2]; · iexact H2
  isplitl [H3]; · iexact H3
  isplitl [H5]
  · iexists _
    isplitr [H5]
    swap
    · iexact H5
    · ipureintro; exact doneC_all V _ _ h5
  isplitl [H6]
  · iexists _
    isplitr [H6]
    swap
    · iexact H6
    · ipureintro; exact scales_read V _ _ gb hgb _ _ _ _
  isplitl [HXH]; · iexact HXH
  isplitl [HXV]
  · iexists _
    isplitr [HXV]
    swap
    · iexact HXV
    · ipureintro
      unfold XDone
      exact (View.read_write_univ _ _).trans hX
  isplitl [HY]
  · iexists _
    isplitr [HY]
    swap
    · iexact HY
    · ipureintro; exact hgy
  isplitl [HB]; · iexists _; iexact HB
  isplitl [HS]; · iexact HS
  iexists _; iexact HO

end Cert.KernelIdeal.Hand
-- ==== Proof.B1.lean ====
/- Hand-written. The body at a middle point: tile `i` is quantised while the first six products of tile `i - 1` are formed, then the other eight. -/
module

public import proofs.«01_k».proof.Proof.Inv

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [FloatOps F]

local notation "𝕄" => MT nD τ sig Unit (Elt F) ℕ (Pipeline.UD sig nD τ) ℕ

theorem cond1_iff' : ∀ i : grid0.Coords, Scalar.cmpi .ne (Scalar.extui (Scalar.cmpi .eq (BitVec.ofNat 32 (i 0).val) 0#32) : BitVec 32) 0#32 = 1#1 ↔ (i 0).val = 0 := by decide +kernel

theorem body_mid (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole) (hi : 0 < (i 0).val ∧ (i 0).val < 36)
    (f1 : Buf (Elt F) (arg1.view.loc (c : Thread nD τ))) (f2 : Buf (Elt F) (arg2.view.loc (c : Thread nD τ))) (f3 : Buf (Elt F) (arg3.view.loc (c : Thread nD τ))) (f5 : Buf (Elt F) (arg5.view.loc (c : Thread nD τ))) (f6 : Buf (Elt F) (arg6.view.loc (c : Thread nD τ)))
    (hM : arg1.view.read (Elt F) f1 = V.M) (hD : arg2.view.read (Elt F) f2 = V.D (i 0).val) (hR : arg3.view.read (Elt F) f3 = V.R (i 0).val)
    (fb : Buf (Elt F) (BY.view.loc (c : Thread nD τ)))
    (W : Waits sig Unit) (Q : PUnit → sProp 𝕄) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg5.view.loc (c : Thread nD τ) ↦[arg5.view.set]{fullShare} f5) ∗ (arg6.view.loc (c : Thread nD τ) ↦[arg6.view.set]{fullShare} f6)
        ∗ (∃ fx, ⌜XDone V fx⌝ ∗ (XV.view.loc (c : Thread nD τ) ↦{fullShare} fx)) ∗ (∃ fy, ⌜Done V ((i 0).val - 1) 6 fy⌝ ∗ (DY.view.loc (c : Thread nD τ) ↦{fullShare} fy)) ∗ (BY.view.loc (c : Thread nD τ) ↦{fullShare} fb) ∗ RING V c (14 * ((i 0).val - 1)) ∗ owes (c : Thread nD τ) 0 W
        ∗ (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (∃ f5, ⌜arg5.view.read (Elt F) f5 = tileC V (i 0).val⌝ ∗ (arg5.view.loc (c : Thread nD τ) ↦[arg5.view.set]{fullShare} f5)) ∗ (∃ f6, ⌜arg6.view.read (Elt F) f6 = tileS V (i 0).val⌝ ∗ (arg6.view.loc (c : Thread nD τ) ↦[arg6.view.set]{fullShare} f6))
            ∗ (∃ fx, ⌜XDone V fx⌝ ∗ (XV.view.loc (c : Thread nD τ) ↦{fullShare} fx)) ∗ (∃ fy, ⌜Done V (i 0).val 6 fy⌝ ∗ (DY.view.loc (c : Thread nD τ) ↦{fullShare} fy)) ∗ (∃ fb, (BY.view.loc (c : Thread nD τ) ↦{fullShare} fb)) ∗ RING V c (14 * (i 0).val) ∗ (∃ W', owes (c : Thread nD τ) 0 W')) -∗ Q ⟨⟩))
      ⊢ wp frame (wpE (defs₀ (F := F)) Variants.none (c : Thread nD τ) none) Set.univ (cc0_wgrad (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5) Q := by
  have h1 : ¬ Scalar.cmpi .ne (Scalar.extui (Scalar.cmpi .eq (BitVec.ofNat 32 (i 0).val) 0#32) : BitVec 32) 0#32 = 1#1 := fun h => by have := (cond1_iff' i).mp h; omega
  have h2 : ¬ k0_cond2 i = 1#1 := fun h => by have := (cond2_iff i).mp h; omega
  have h3 := (cond3_iff i).mpr hi
  have h6 : ¬ k0_cond6 i = 1#1 := fun h => by have := (cond6_iff i).mp h; omega
  rw [cc0_wgrad_eq_skeleton]; unfold cc0_wgrad_skel
  iintro ⟨H1, H2, H3, H5, H6, HX, ⟨%fy, %hy, HY⟩, HB, HR, HO, HQ⟩
  sl_exec
  sl_for (I2 V c i arg1 arg2 arg3 arg5 f1 f2 f3) $$ [H1 H2 H3 H5 HB HX HY HR HO]
  · intro k acc
    exact step2 V c i arg1 harg1 arg2 harg2 arg3 harg3 arg5 harg5 arg6 harg6 _ _ h3 f1 f2 f3 hM hD hR k
  · unfold I2
    isplitl [HR]; · iexact HR
    isplitl [H1]; · iexact H1
    isplitl [H2]; · iexact H2
    isplitl [H3]; · iexact H3
    isplitl [H5]
    · iexists _
      isplitr [H5]
      swap
      · iexact H5
      · ipureintro; exact doneC_zero V _ _
    isplitl [HB]
    · iexists _
      isplitr [HB]
      swap
      · iexact HB
      · ipureintro; exact doneB_zero V _ _
    isplitl [HY]
    · iexists _
      isplitr [HY]
      swap
      · iexact HY
      · ipureintro; exact ⟨hy, done_zero V _ _⟩
    isplitl [HX]; · iexact HX
    iexists _; iexact HO
  unfold I2
  iintro %acc ⟨HR, H1, H2, H3, ⟨%g5, %h5, H5⟩, ⟨%gb, %hgb, HB⟩, ⟨%gy, %hgy, HY⟩, HX, ⟨%W1, HO⟩⟩
  sl_exec
  sl_for (fun k _ => I34 V c ((i 0).val - 1) (14 * ((i 0).val - 1) + (k + 6)) (i 0).val) $$ [HX HY HR HO]
  · intro k acc
    refine (step3 V c i arg1 harg1 arg2 harg2 arg3 harg3 arg5 harg5 arg6 harg6 h3 k).trans ?_
    exact .rfl
  · unfold I34
    isplitl [HR]; · iexact HR
    isplitl [HY]
    · iexists _
      isplitr [HY]
      swap
      · iexact HY
      · ipureintro; exact hgy
    isplitl [HX]; · iexact HX
    iexists _; iexact HO
  unfold I34
  iintro %acc2 ⟨HR, ⟨%ky, %hky, HY⟩, HX, HO⟩
  sl_exec
  sl_step
  iapply HQ
  isplitl [H1]; · iexact H1
  isplitl [H2]; · iexact H2
  isplitl [H3]; · iexact H3
  isplitl [H5]
  · iexists _
    isplitr [H5]
    swap
    · iexact H5
    · ipureintro; exact doneC_all V _ _ h5
  isplitl [H6]
  · iexists _
    isplitr [H6]
    swap
    · iexact H6
    · ipureintro; exact scales_read V _ _ gb hgb _ _ _ _
  isplitl [HX]; · iexact HX
  isplitl [HY]
  · iexists _
    isplitr [HY]
    swap
    · iexact HY
    · ipureintro; exact hky.2
  isplitl [HB]; · iexists _; iexact HB
  isplitl [HR]
  · iapply (Entails.of_eq (congrArg (fun p => RING V c p) (show 14 * ((i 0).val - 1) + (Scf.trips k0_t3_loop.lb k0_t3_loop.ub k0_t3_loop.st + 6) = 14 * (i 0).val by rw [show Scf.trips k0_t3_loop.lb k0_t3_loop.ub k0_t3_loop.st = 8 from by decide]; omega)))
    iexact HR
  iexact HO

end Cert.KernelIdeal.Hand
-- ==== Proof.B2.lean ====
/- Hand-written. The body at the last point: the fourteen products of the last tile, then the last two copies are awaited. -/
module

public import proofs.«01_k».proof.Proof.Inv

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [FloatOps F]

local notation "𝕄" => MT nD τ sig Unit (Elt F) ℕ (Pipeline.UD sig nD τ) ℕ

theorem cond1_iff'' : ∀ i : grid0.Coords, Scalar.cmpi .ne (Scalar.extui (Scalar.cmpi .eq (BitVec.ofNat 32 (i 0).val) 0#32) : BitVec 32) 0#32 = 1#1 ↔ (i 0).val = 0 := by decide +kernel

theorem body_last (V : Vals F) (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S1536x512 .i8) (harg3 : arg3.IsWhole) (arg5 : Memref sig .tc .vmem S768x512 .i8) (harg5 : arg5.IsWhole) (arg6 : Memref sig .tc .vmem S2x24x512 .i8) (harg6 : arg6.IsWhole) (hi : (i 0).val = 36) (W : Waits sig Unit) (Q : PUnit → sProp 𝕄) :
    iprop((∃ fx, ⌜XDone V fx⌝ ∗ (XV.view.loc (c : Thread nD τ) ↦{fullShare} fx)) ∗ (∃ fy, ⌜Done V ((i 0).val - 1) 6 fy⌝ ∗ (DY.view.loc (c : Thread nD τ) ↦{fullShare} fy)) ∗ RING V c (14 * ((i 0).val - 1)) ∗ owes (c : Thread nD τ) 0 W
        ∗ (iprop((∃ fx, (XV.view.loc (c : Thread nD τ) ↦{fullShare} fx)) ∗ (∃ fy, (DY.view.loc (c : Thread nD τ) ↦{fullShare} fy)) ∗ AtBEnd (freeS (F := F) c) (behindS V c) ∗ (∃ W', owes (c : Thread nD τ) 0 W')) -∗ Q ⟨⟩))
      ⊢ wp frame (wpE (defs₀ (F := F)) Variants.none (c : Thread nD τ) none) Set.univ (cc0_wgrad (F := F) i arg1 harg1 arg2 harg2 arg3 harg3 XH (Memref.isWhole_whole _) arg5 harg5 arg6 harg6 DW (Memref.isWhole_whole _) XV (Memref.isWhole_whole _) DY (Memref.isWhole_whole _) BY (Memref.isWhole_whole _) OU (Memref.isWhole_whole _) cc0_scratch4 cc0_scratch5) Q := by
  have h1 : ¬ Scalar.cmpi .ne (Scalar.extui (Scalar.cmpi .eq (BitVec.ofNat 32 (i 0).val) 0#32) : BitVec 32) 0#32 = 1#1 := fun h => by have := (cond1_iff'' i).mp h; omega
  have h2 : ¬ k0_cond2 i = 1#1 := fun h => by have := (cond2_iff i).mp h; omega
  have h3 : ¬ k0_cond3 i = 1#1 := fun h => by have := (cond3_iff i).mp h; omega
  have h6 := (cond6_iff i).mpr hi
  have hcanonC0 := canonCell 0 ![0] rfl inb_S2_S1_0
  have hcanonC1 := canonCell 1 ![1] rfl inb_S2_S1_1
  rw [cc0_wgrad_eq_skeleton]; unfold cc0_wgrad_skel
  iintro ⟨HX, ⟨%fy, %hy, HY⟩, HR, HO, HQ⟩
  sl_exec
  sl_for (fun k _ => I34 V c ((i 0).val - 1) (14 * ((i 0).val - 1) + k) ((i 0).val - 1)) $$ [HX HY HR HO]
  · intro k acc
    refine (step4 V c i arg1 harg1 arg2 harg2 arg3 harg3 arg5 harg5 arg6 harg6 h6 k).trans ?_
    exact .rfl
  · unfold I34
    isplitl [HR]; · iexact HR
    isplitl [HY]
    · iexists _
      isplitr [HY]
      swap
      · iexact HY
      · ipureintro; exact ⟨hy, hy⟩
    isplitl [HX]; · iexact HX
    iexists _; iexact HO
  unfold I34
  iintro %acc2 ⟨HR, ⟨%ky, %hky, HY⟩, ⟨%kx, %hkx, HX⟩, ⟨%W2, HO⟩⟩
  ihave HR' := (Entails.of_eq ((congrArg (fun p => RING V c p) (show 14 * ((i 0).val - 1) + Scf.trips k0_t4_loop.lb k0_t4_loop.ub k0_t4_loop.st = 504 by rw [show Scf.trips k0_t4_loop.lb k0_t4_loop.ub k0_t4_loop.st = 14 from by decide]; omega)).trans
    (AtB22_end' (freeS (F := F) c) (inflS V c) (aheadS (F := F) c) (behindS V c) 504 rfl (by decide)))) $$ HR
  icases HR' with ⟨HBe, ⟨%fd0, %fs0, %hl0, HF0⟩, ⟨%fd1, %fs1, %hl1, HF1⟩⟩
  sl_exec
  sl_step
  iapply HQ
  isplitl [HX]; · iexists _; iexact HX
  isplitl [HY]; · iexists _; iexact HY
  isplitr [HO]
  swap
  · iexists _; iexact HO
  iapply (Entails.of_eq (AtB22_epilogue' (NB := 504) (freeS (F := F) c) (behindS V c) 504 rfl (by decide)).symm)
  isplitl [HF0_dst HF1_dst HBe]
  · isplitl [HF0_dst]
    · iexists _
      isplitr [HF0_dst]
      swap
      · iexact HF0_dst
      · ipureintro; exact hl0
    isplitl [HF1_dst]
    · iexists _
      isplitr [HF1_dst]
      swap
      · iexact HF1_dst
      · ipureintro; exact hl1
    iexact HBe
  isplitl [HF0 HF0_src]
  · isplitl [HF0]; · iexact HF0
    iexists _; iexact HF0_src
  isplitl [HF1]; · iexact HF1
  iexists _; iexact HF1_src

end Cert.KernelIdeal.Hand
-- ==== Proof.Split.lean ====
/- Hand-written. The product `dw` as its 504 tiles and the staging buffer as its two halves: split, and joined at known contents. -/
module

public import proofs.«01_k».proof.Proof.Ring
public import Idealize.ShloMosaic.Lib.ViewIndex

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [FloatOps F]

local notation "𝕄" => MT nD τ sig Unit (Elt F) ℕ (Pipeline.UD sig nD τ) ℕ

theorem off_piece (u : Fin 504) (a : Fin 2) : (![(u.val / 14) * 512, (u.val % 14) * 512] : Fin 2 → ℕ) a = (![u.val / 14, u.val % 14] : Fin 2 → ℕ) a * S512x512.size a := by
  fin_cases a <;> rfl

theorem piece_disjoint (u u' : Fin 504) (h : u ≠ u') : Disjoint (rpiece u).set (rpiece u').set :=
  boxes_disjoint_of_ne (s := S18432x7168) S512x512.size (fun u : Fin 504 => ![(u.val / 14) * 512, (u.val % 14) * 512]) inb_piece
    (fun u : Fin 504 => ![u.val / 14, u.val % 14]) off_piece u u' fun e => h (Fin.ext (by
      have h0 : u.val / 14 = u'.val / 14 := congrFun e (0 : Fin 2)
      have h1 : u.val % 14 = u'.val % 14 := congrFun e (1 : Fin 2)
      omega))

/-- The tile an element of `dw` is in. -/
def tileOf (x : S18432x7168.Idx) : Fin 504 := ⟨14 * ((x 0 : Fin 18432).val / 512) + (x 1 : Fin 7168).val / 512, by
  have h0 : (x 0 : Fin 18432).val < 18432 := (x 0 : Fin 18432).isLt
  have h1 : (x 1 : Fin 7168).val < 7168 := (x 1 : Fin 7168).isLt
  omega⟩

theorem mem_tileOf (x : S18432x7168.Idx) : x ∈ (rpiece (tileOf x)).set := by
  rw [Rect.mem_set_unit]
  have h1 : (x 1 : Fin 7168).val < 7168 := (x 1 : Fin 7168).isLt
  intro a
  fin_cases a
  · show (14 * ((x 0).val / 512) + (x 1).val / 512) / 14 * 512 ≤ (x 0).val ∧ (x 0).val < (14 * ((x 0).val / 512) + (x 1).val / 512) / 14 * 512 + 512
    omega
  · show (14 * ((x 0).val / 512) + (x 1).val / 512) % 14 * 512 ≤ (x 1).val ∧ (x 1).val < (14 * ((x 0).val / 512) + (x 1).val / 512) % 14 * 512 + 512
    omega

theorem piece_cover : Finset.univ.biUnion (fun u : Fin 504 => (rpiece u).set) = (Finset.univ : Finset S18432x7168.Idx) := by
  refine Finset.eq_univ_iff_forall.mpr fun x => ?_
  rw [Finset.mem_biUnion]
  exact ⟨tileOf x, Finset.mem_univ _, mem_tileOf x⟩

theorem slot_disjoint (s s' : Fin 2) (h : s ≠ s') : Disjoint (rslot s).set (rslot s').set :=
  boxes_disjoint_of_ne (s := S2x512x512) S1x512x512.size (fun s : Fin 2 => ![s.val, 0, 0]) inb_slot
    (fun s : Fin 2 => ![s.val, 0, 0]) (fun s a => by fin_cases a <;> revert s <;> decide) s s' fun e => h (Fin.ext (congrFun e (0 : Fin 3)))

theorem slot_cover : Finset.univ.biUnion (fun s : Fin 2 => (rslot s).set) = (Finset.univ : Finset S2x512x512.Idx) := by
  refine Finset.eq_univ_iff_forall.mpr fun x => ?_
  rw [Finset.mem_biUnion]
  refine ⟨(x 0 : Fin 2), Finset.mem_univ _, ?_⟩
  rw [Rect.mem_set_unit]
  have h1 : (x 1 : Fin 512).val < 512 := (x 1 : Fin 512).isLt
  have h2 : (x 2 : Fin 512).val < 512 := (x 2 : Fin 512).isLt
  intro a
  fin_cases a
  · show (x 0).val ≤ (x 0).val ∧ (x 0).val < (x 0).val + 1
    omega
  · show 0 ≤ (x 1).val ∧ (x 1).val < 0 + 512
    omega
  · show 0 ≤ (x 2).val ∧ (x 2).val < 0 + 512
    omega

theorem pieceM_set (u : Fin 504) : (pieceM u).view.set = (rpiece u).set := by
  unfold pieceM
  exact View.set_slice_whole _ _
theorem slotM_set (s : Fin 2) : (slotM s).view.set = (rslot s).set := by
  unfold slotM
  rw [show ((OU.slice (rslot s) (fun _ => rfl)).squeeze S512x512 squeezes_S1x512x512_S512x512).view.set = (OU.slice (rslot s) (fun _ => rfl)).view.set from Memref.set_view_squeeze _ _]
  exact View.set_slice_whole _ _

/-- `dw` whole at anything is every tile at something. -/
theorem dw_split (c : Dev nD) : iprop(∃ f, (DW.view.loc (c : Thread nD τ) ↦{fullShare} f)) ⊢ (bigSep Finset.univ (aheadS (F := F) c) : sProp 𝕄) :=
  pieces_split (fun u => (rpiece u).set) piece_disjoint piece_cover
    (fun u (f : Buf (Elt F) (DW.view.loc (c : Thread nD τ))) => (pieceM u).view.loc (c : Thread nD τ) ↦[(pieceM u).view.set]{fullShare} f)
    (fun u f => by rw [pieceM_set]; rfl)

theorem slots_split (c : Dev nD) : iprop(∃ f, (OU.view.loc (c : Thread nD τ) ↦{fullShare} f)) ⊢ (bigSep Finset.univ (fun s : Fin 2 => iprop(∃ f, (slotM s).view.loc (c : Thread nD τ) ↦[(slotM s).view.set]{fullShare} f)) : sProp 𝕄) :=
  pieces_split (fun s : Fin 2 => (rslot s).set) slot_disjoint slot_cover
    (fun s (f : Buf (Elt F) (OU.view.loc (c : Thread nD τ))) => (slotM s).view.loc (c : Thread nD τ) ↦[(slotM s).view.set]{fullShare} f)
    (fun s f => by rw [slotM_set]; rfl)

theorem slots_join (c : Dev nD) (f₀ : Buf (Elt F) (OU.view.loc (c : Thread nD τ))) : (bigSep Finset.univ (fun s : Fin 2 => iprop(∃ f, (slotM s).view.loc (c : Thread nD τ) ↦[(slotM s).view.set]{fullShare} f)) : sProp 𝕄) ⊢ iprop(∃ f, (OU.view.loc (c : Thread nD τ) ↦{fullShare} f)) :=
  pieces_join (fun s : Fin 2 => (rslot s).set) slot_disjoint slot_cover
    (fun s (f : Buf (Elt F) (OU.view.loc (c : Thread nD τ))) => (slotM s).view.loc (c : Thread nD τ) ↦[(slotM s).view.set]{fullShare} f)
    (fun s f => by rw [slotM_set]; rfl) f₀

/-- The whole product. -/
def DWF (V : Vals F) : FVec F S18432x7168 .f32 := fun x => GG V (tileOf x) (fun a => match a with
  | 0 => (⟨(x 0 : Fin 18432).val % 512, Nat.mod_lt _ (by decide)⟩ : Fin 512)
  | 1 => (⟨(x 1 : Fin 7168).val % 512, Nat.mod_lt _ (by decide)⟩ : Fin 512))

theorem DWF_tile (V : Vals F) (u : Fin 504) (y : S512x512.Idx) : DWF V ((rpiece u).emb y) = GG V u y := by
  have hu := u.isLt
  have h0 : (y 0 : Fin 512).val < 512 := (y 0 : Fin 512).isLt
  have h1 : (y 1 : Fin 512).val < 512 := (y 1 : Fin 512).isLt
  have e : tileOf ((rpiece u).emb y) = u := Fin.ext (by
    show 14 * ((u.val / 14 * 512 + 1 * (y 0).val) / 512) + (u.val % 14 * 512 + 1 * (y 1).val) / 512 = u.val
    omega)
  unfold DWF
  rw [e]
  congr 1
  funext a
  fin_cases a
  · exact Fin.ext (by show (u.val / 14 * 512 + 1 * (y 0).val) % 512 = (y 0).val; omega)
  · exact Fin.ext (by show (u.val % 14 * 512 + 1 * (y 1).val) % 512 = (y 1).val; omega)

/-- The tiles, each holding its product, are `dw` whole at the product. -/
theorem dw_join (V : Vals F) (c : Dev nD) : (bigSep Finset.univ (behindS V c) : sProp 𝕄) ⊢ (DW.view.loc (c : Thread nD τ) ↦{fullShare} (DWF V : Buf (Elt F) (DW.view.loc (c : Thread nD τ)))) := by
  rw [pointsTo_blocks (fun u => (rpiece u).set) piece_disjoint piece_cover]
  refine BI.bigSep_mono (s := Finset.univ) fun u _ => ?_
  show iprop(∃ f : Buf (Elt F) ((pieceM u).view.loc (c : Thread nD τ)), ⌜Landed V u f⌝ ∗ (pieceM u).view.loc (c : Thread nD τ) ↦[(pieceM u).view.set]{fullShare} f) ⊢ _
  iintro ⟨%f, %hf, H⟩
  have hc : ((pieceM u).view.loc (c : Thread nD τ) ↦[(pieceM u).view.set]{fullShare} f : sProp 𝕄)
      = (DW.view.loc (c : Thread nD τ) ↦[(rpiece u).set]{fullShare} (DWF V : Buf (Elt F) (DW.view.loc (c : Thread nD τ)))) := by
    rw [pieceM_set]
    refine pointsTo_congr fun x hx => ?_
    rw [← View.set_slice_whole DW.view.ref (rpiece u)] at hx
    obtain ⟨y, hy⟩ := View.exists_of_mem_set_slice hx
    subst hy
    exact (congrFun hf y).trans (DWF_tile V u y).symm
  iapply (Entails.of_eq hc)
  iexact H

end Cert.KernelIdeal.Hand
-- ==== Proof.Lch.lean ====
/- Hand-written. The launch of the kernel: what the invariant between the grid points holds, the body obligation, the run, and
   what the run leaves in the results. -/
module

public import proofs.«01_k».proof.Proof.B0
public import proofs.«01_k».proof.Proof.B1
public import proofs.«01_k».proof.Proof.B2
public import proofs.«01_k».proof.Proof.Split
public import Idealize.ShloMosaic.Lib.Pipeline.FrameBody
public import Idealize.ShloMosaic.Lib.Pipeline.FrameValue
public import Idealize.ShloMosaic.Lib.Pipeline.ValueKit.Geometry

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Ring

variable {F : FTy → Type} [FloatOps F]

local notation "𝕄" => MT nD τ sig Unit (Elt F) ℕ (Pipeline.UD sig nD τ) ℕ

open Idealize.ShloMosaic.Pipeline (Dat Cfg Window BodyObligation BodyObligationLoose cellOf)

variable (m : (ℓ : Loc nD τ sig) → Buf (Elt F) ℓ) (ρ : Dev nD → PrngReg)

set_option maxHeartbeats 800000 in
theorem hmain (𝒱₀ : Variants) : Pipeline.HMain (Ix := Unit) (Name := ℕ) (U := Pipeline.UD sig nD τ) (Lvl := ℕ) cfgs 0 defs₀ 𝒱₀ m (main (F := F)) (Gen.V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-! ## What the region reads -/

theorem coord0 : ∀ t : Fin cfg0.N, ((grid0.coords t) 0).val = t.val := by decide +kernel

/-- A family over the grid points, read at a number. -/
def atN {α : Type} (f : Fin 37 → α) (n : ℕ) : α := if h : n < 37 then f ⟨n, h⟩ else f 0
theorem atN_val {α : Type} (f : Fin 37 → α) (t : Fin 37) : atN f t.val = f t := dif_pos t.isLt

def blkD (c : Dev nD) (t : Fin 37) : Vec F S1536x512 .bf16 := iblk m c 1 t
def blkR (c : Dev nD) (t : Fin 37) : Vec F S1536x512 .i8 := iblk m c 2 t

/-- The blocks the body is handed, by the grid point. -/
def VV (c : Dev nD) : Vals F where
  M := iblk m c 0 (0 : Fin 37)
  D := atN (blkD m c)
  R := atN (blkR m c)
  X := XH.view.read (Elt F) (Gen.V m c main_arg0)

theorem VV_M (c : Dev nD) (t : Fin cfg0.N) : (iblk m c 0 t : Vec F S256x256 .bf16) = (VV m c).M := rfl
theorem VV_D (c : Dev nD) (t : Fin cfg0.N) : (iblk m c 1 t : Vec F S1536x512 .bf16) = (VV m c).D ((grid0.coords t) 0).val := by
  rw [coord0]
  exact (atN_val (blkD m c) t).symm
theorem VV_R (c : Dev nD) (t : Fin cfg0.N) : (iblk m c 2 t : Vec F S1536x512 .i8) = (VV m c).R ((grid0.coords t) 0).val := by
  rw [coord0]
  exact (atN_val (blkR m c) t).symm

/-! ## The invariant -/

/-- The buffers whose contents depend on how far the kernel is: before the first point, between two points, at the end. -/
def ST (V : Vals F) (c : Dev nD) (n : ℕ) : sProp 𝕄 :=
  if n = 0 then iprop((∃ fx, (XV.view.loc (c : Thread nD τ) ↦{fullShare} fx)) ∗ (∃ fy, (DY.view.loc (c : Thread nD τ) ↦{fullShare} fy)) ∗ RING V c 0)
  else if n < 37 then iprop((∃ fx, ⌜XDone V fx⌝ ∗ (XV.view.loc (c : Thread nD τ) ↦{fullShare} fx)) ∗ (∃ fy, ⌜Done V (n - 1) 6 fy⌝ ∗ (DY.view.loc (c : Thread nD τ) ↦{fullShare} fy)) ∗ RING V c (14 * (n - 1)))
  else iprop((∃ fx, (XV.view.loc (c : Thread nD τ) ↦{fullShare} fx)) ∗ (∃ fy, (DY.view.loc (c : Thread nD τ) ↦{fullShare} fy)) ∗ AtBEnd (freeS (F := F) c) (behindS V c))

theorem ST_zero (V : Vals F) (c : Dev nD) (n : ℕ) (h : n = 0) : ST V c n = iprop((∃ fx, (XV.view.loc (c : Thread nD τ) ↦{fullShare} fx)) ∗ (∃ fy, (DY.view.loc (c : Thread nD τ) ↦{fullShare} fy)) ∗ RING V c 0) := if_pos h
theorem ST_mid (V : Vals F) (c : Dev nD) (n : ℕ) (h : 0 < n ∧ n < 37) : ST V c n = iprop((∃ fx, ⌜XDone V fx⌝ ∗ (XV.view.loc (c : Thread nD τ) ↦{fullShare} fx)) ∗ (∃ fy, ⌜Done V (n - 1) 6 fy⌝ ∗ (DY.view.loc (c : Thread nD τ) ↦{fullShare} fy)) ∗ RING V c (14 * (n - 1))) :=
  (if_neg (by omega)).trans (if_pos h.2)
theorem ST_end (V : Vals F) (c : Dev nD) (n : ℕ) (h : n = 37) : ST V c n = iprop((∃ fx, (XV.view.loc (c : Thread nD τ) ↦{fullShare} fx)) ∗ (∃ fy, (DY.view.loc (c : Thread nD τ) ↦{fullShare} fy)) ∗ AtBEnd (freeS (F := F) c) (behindS V c)) :=
  (if_neg (by omega)).trans (if_neg (by omega))

def Phi (c : Dev nD) (n : ℕ) : sProp 𝕄 :=
  iprop((XH.view.loc (c : Thread nD τ) ↦{fullShare} Gen.V m c main_arg0) ∗ (∃ r, prngReg c r) ∗ semVal ((c : Thread nD τ), SemLoc.dma (cc0_scratch4 : DmaSems sig S_).sem) 0 ∗ (∃ fb, (BY.view.loc (c : Thread nD τ) ↦{fullShare} fb)) ∗ ST (VV m c) c n)

def dats (_ : Fin 1) (c : Dev nD) : Dat τ (Elt F) Unit ℕ (Pipeline.UD sig nD τ) ℕ cfg0 c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => tileC (VV m c) (min t.val 35)
    | ⟨4, _⟩ => tileS (VV m c) (min t.val 35)
  Φ t := Phi m c t.val
  q _ := fullShare
  owed _ := 0

theorem A_eq (c : Dev nD) (w : Fin cfg0.W) : (dats m 0 c).A w = Gen.V m c (Pipeline.arrRef spec0 w) := by
  dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by
    rw [show (dats m 0 c).after 0 t = iblk m c 0 t from rfl]; unfold Dat.blockOf iblk; rw [A_eq]; try rfl) t d).trans
    (by unfold Dat.fetched Dat.blockOf iblk; rw [A_eq]; try rfl)

theorem before_1 (c : Dev nD) (t : Fin cfg0.N) (d) : (dats m 0 c).before 1 t d = iblk m c 1 t :=
  ((dats m 0 c).before_in_eq_fetched 1 rfl (fun _ => rfl) (fun _ _ _ => rfl) (fun t => by
    rw [show (dats m 0 c).after 1 t = iblk m c 1 t from rfl]; unfold Dat.blockOf iblk; rw [A_eq]; try rfl) t d).trans
    (by unfold Dat.fetched Dat.blockOf iblk; rw [A_eq]; try rfl)

theorem before_2 (c : Dev nD) (t : Fin cfg0.N) (d) : (dats m 0 c).before 2 t d = iblk m c 2 t :=
  ((dats m 0 c).before_in_eq_fetched 2 rfl (fun _ => rfl) (fun _ _ _ => rfl) (fun t => by
    rw [show (dats m 0 c).after 2 t = iblk m c 2 t from rfl]; unfold Dat.blockOf iblk; rw [A_eq]; try rfl) t d).trans
    (by unfold Dat.fetched Dat.blockOf iblk; rw [A_eq]; try rfl)

/-! ## The body obligation -/

/-- The two windows the body writes: at the last point, where it leaves them, they hold what it left at the point before. -/
theorem before_last (w : Fin cfg0.W) (hw : (cfg0.win w).isOut = true) (hi : ∀ t : Fin cfg0.N, t.val = 35 → (cfg0.win w).flush t = false ∧ cfg0.idle w (cfg0.grid.coords t) = false)
    (hc : ∀ (i : cfg0.grid.Coords) a, (cfg0.win w).clip i a = none) (c : Dev nD) (t : Fin cfg0.N) (ht : t.val = 36) (d) :
    (dats m 0 c).before w t d = (dats m 0 c).after w ⟨t.val - 1, Nat.lt_of_le_of_lt (Nat.sub_le _ _) t.isLt⟩ := by
  obtain ⟨hf, hl⟩ := hi ⟨t.val - 1, Nat.lt_of_le_of_lt (Nat.sub_le _ _) t.isLt⟩ (by show t.val - 1 = 35; omega)
  rw [(dats m 0 c).before_of_pos w t (by omega) ((cfg0.win w).fetch_out hw t), hf, if_neg Bool.false_ne_true]
  unfold Dat.left
  rw [hl]
  unfold Dat.kept
  rw [Pipeline.fill_of_clip_none w _ (hc _) d ((dats m 0 c).after w _), Window.fill_cut]

theorem out_facts : ∀ t : Fin cfg0.N, (t.val = 35 → (win0_3.flush t = false ∧ cfg0.idle 3 (cfg0.grid.coords t) = false) ∧ (win0_4.flush t = false ∧ cfg0.idle 4 (cfg0.grid.coords t) = false))
    ∧ (cfg0.idle 3 (cfg0.grid.coords t) = true → win0_3.flush t = true) ∧ (cfg0.idle 4 (cfg0.grid.coords t) = true → win0_4.flush t = true) := by decide +kernel

theorem before_last3 (c : Dev nD) (t : Fin cfg0.N) (ht : t.val = 36) (d) : (dats m 0 c).before 3 t d = tileC (VV m c) (min t.val 35) :=
  (before_last m 3 rfl (fun t h => ((out_facts t).1 h).1) (fun _ _ => rfl) c t ht d).trans (by
    show tileC (VV m c) (min (t.val - 1) 35) = _
    rw [show min (t.val - 1) 35 = min t.val 35 by omega])
theorem before_last4 (c : Dev nD) (t : Fin cfg0.N) (ht : t.val = 36) (d) : (dats m 0 c).before 4 t d = tileS (VV m c) (min t.val 35) :=
  (before_last m 4 rfl (fun t h => ((out_facts t).1 h).2) (fun _ _ => rfl) c t ht d).trans (by
    show tileS (VV m c) (min (t.val - 1) 35) = _
    rw [show min (t.val - 1) 35 = min t.val 35 by omega])

theorem leaves_of (w : Fin cfg0.W) (c : Dev nD) (t : Fin cfg0.N) (h : cfg0.idle w (cfg0.grid.coords t) = true → (cfg0.win w).flush t = true) :
    owns (c : Thread nD τ) ((cfg0.win w).stage (cfg0.slots t w)) fullShare ((dats m 0 c).after w t) ⊢ (dats m 0 c).leavesExact w t := by
  unfold Dat.leavesExact
  cases e : cfg0.idle w (cfg0.grid.coords t)
  · exact .rfl
  · rw [h e]

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).after 0 t = iblk m c 0 t from rfl, show (dats m 0 c).after 1 t = iblk m c 1 t from rfl, show (dats m 0 c).after 2 t = iblk m c 2 t from rfl,
    show (dats m 0 c).after 3 t = tileC (VV m c) (min t.val 35) from rfl, show (dats m 0 c).after 4 t = tileS (VV m c) (min t.val 35) from rfl]
  rw [show (dats m 0 c).Φ t.succ = Phi m c (t.val + 1) from rfl, show (dats m 0 c).Φ t.castSucc = Phi m c t.val from rfl]
  unfold Dat.owesAt Pipeline.owesWithin Phi
  rw [show (dats m 0 c).owed t.castSucc = 0 from rfl, show (dats m 0 c).owed t.succ = 0 from rfl]
  have ht : t.val < 37 := t.isLt
  have hc := coord0 t
  unfold owns
  rcases (show t.val = 0 ∨ (0 < t.val ∧ t.val < 36) ∨ t.val = 36 by omega) with h | h | h
  · rw [ST_zero _ _ _ h, ST_mid _ _ (t.val + 1) (by omega)]
    iintro ⟨⟨HXH, Hg, HS, ⟨%fb, HB⟩, ⟨%fx, HXV⟩, ⟨%fy, HDY⟩, HR⟩, ⟨%W, -, HW⟩, ⟨%d1, %f1, %e1, H1⟩, ⟨%d2, %f2, %e2, H2⟩, ⟨%d3, %f3, %e3, H3⟩, ⟨%d5, %f5, %e5, H5⟩, ⟨%d6, %f6, %e6, H6⟩⟩
    iapply (body_first (VV m c) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) (by omega) f1 f2 f3 f5 f6 (e1.trans (VV_M m c t)) (e2.trans (VV_D m c t)) (e3.trans (VV_R m c t)) (Gen.V m c main_arg0) rfl fx fy fb W _)
    isplitl [H1]; · iexact H1
    isplitl [H2]; · iexact H2
    isplitl [H3]; · iexact H3
    isplitl [H5]; · iexact H5
    isplitl [H6]; · iexact H6
    isplitl [HXH]; · iexact HXH
    isplitl [HXV]; · iexact HXV
    isplitl [HDY]; · iexact HDY
    isplitl [HB]; · iexact HB
    isplitl [HS]; · iexact HS
    isplitl [HW]; · iexact HW
    iintro ⟨H1, H2, H3, ⟨%g5, %h5, H5⟩, ⟨%g6, %h6, H6⟩, HXH, HXV, HDY, ⟨%gb, HB⟩, HS, ⟨%W', HW⟩⟩
    isplitl [HXH Hg HS HB HXV HDY HR]
    · isplitl [HXH]; · iexact HXH
      isplitl [Hg]; · iexact Hg
      isplitl [HS]; · iexact HS
      isplitl [HB]; · iexists _; iexact HB
      isplitl [HXV]; · iexact HXV
      isplitl [HDY]
      · iapply (Entails.of_eq (by rw [show t.val + 1 - 1 = (grid0.coords t 0).val by omega])); iexact HDY
      iapply (Entails.of_eq (congrArg (fun p => RING (VV m c) c p) (by omega : 0 = 14 * (t.val + 1 - 1)))); iexact HR
    isplitl [HW]
    · iexists W'; isplitr; · ipureintro; exact fun _ _ => Or.inl trivial
      iexact HW
    isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    isplitl [H5]
    · iexists _; isplitr; swap; · iexact H5
      ipureintro; exact h5.trans (by rw [show (grid0.coords t 0).val = min t.val 35 by omega])
    iexists _; isplitr; swap; · iexact H6
    ipureintro; exact h6.trans (by rw [show (grid0.coords t 0).val = min t.val 35 by omega])
  · rw [ST_mid _ _ _ (by omega : 0 < t.val ∧ t.val < 37), ST_mid _ _ (t.val + 1) (by omega)]
    iintro ⟨⟨HXH, Hg, HS, ⟨%fb, HB⟩, HXV, HDY, HR⟩, ⟨%W, -, HW⟩, ⟨%d1, %f1, %e1, H1⟩, ⟨%d2, %f2, %e2, H2⟩, ⟨%d3, %f3, %e3, H3⟩, ⟨%d5, %f5, %e5, H5⟩, ⟨%d6, %f6, %e6, H6⟩⟩
    iapply (body_mid (VV m c) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) (by omega) f1 f2 f3 f5 f6 (e1.trans (VV_M m c t)) (e2.trans (VV_D m c t)) (e3.trans (VV_R m c t)) fb W _)
    isplitl [H1]; · iexact H1
    isplitl [H2]; · iexact H2
    isplitl [H3]; · iexact H3
    isplitl [H5]; · iexact H5
    isplitl [H6]; · iexact H6
    isplitl [HXV]; · iexact HXV
    isplitl [HDY]; · iapply (Entails.of_eq (by rw [hc])); iexact HDY
    isplitl [HB]; · iexact HB
    isplitl [HR]; · iapply (Entails.of_eq (congrArg (fun p => RING (VV m c) c p) (by omega : 14 * (t.val - 1) = 14 * ((grid0.coords t 0).val - 1)))); iexact HR
    isplitl [HW]; · iexact HW
    iintro ⟨H1, H2, H3, ⟨%g5, %h5, H5⟩, ⟨%g6, %h6, H6⟩, HXV, HDY, ⟨%gb, HB⟩, HR, ⟨%W', HW⟩⟩
    isplitl [HXH Hg HS HB HXV HDY HR]
    · isplitl [HXH]; · iexact HXH
      isplitl [Hg]; · iexact Hg
      isplitl [HS]; · iexact HS
      isplitl [HB]; · iexists _; iexact HB
      isplitl [HXV]; · iexact HXV
      isplitl [HDY]
      · iapply (Entails.of_eq (by rw [show t.val + 1 - 1 = (grid0.coords t 0).val by omega])); iexact HDY
      iapply (Entails.of_eq (congrArg (fun p => RING (VV m c) c p) (by omega : 14 * (grid0.coords t 0).val = 14 * (t.val + 1 - 1)))); iexact HR
    isplitl [HW]
    · iexists W'; isplitr; · ipureintro; exact fun _ _ => Or.inl trivial
      iexact HW
    isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    isplitl [H5]
    · iexists _; isplitr; swap; · iexact H5
      ipureintro; exact h5.trans (by rw [show (grid0.coords t 0).val = min t.val 35 by omega])
    iexists _; isplitr; swap; · iexact H6
    ipureintro; exact h6.trans (by rw [show (grid0.coords t 0).val = min t.val 35 by omega])
  · rw [ST_mid _ _ _ (by omega : 0 < t.val ∧ t.val < 37), ST_end _ _ (t.val + 1) (by omega)]
    iintro ⟨⟨HXH, Hg, HS, ⟨%fb, HB⟩, HXV, HDY, HR⟩, ⟨%W, -, HW⟩, ⟨%d1, %f1, %e1, H1⟩, ⟨%d2, %f2, %e2, H2⟩, ⟨%d3, %f3, %e3, H3⟩, ⟨%d5, %f5, %e5, H5⟩, ⟨%d6, %f6, %e6, H6⟩⟩
    iapply (body_last (VV m c) c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3)) _ (hstage0_4 ((cfg0.slots t 4).cast nbuf0_4)) (by omega) W _)
    isplitl [HXV]; · iexact HXV
    isplitl [HDY]; · iapply (Entails.of_eq (by rw [hc])); iexact HDY
    isplitl [HR]; · iapply (Entails.of_eq (congrArg (fun p => RING (VV m c) c p) (by omega : 14 * (t.val - 1) = 14 * ((grid0.coords t 0).val - 1)))); iexact HR
    isplitl [HW]; · iexact HW
    iintro ⟨HXV, HDY, HR, ⟨%W', HW⟩⟩
    isplitl [HXH Hg HS HB HXV HDY HR]
    · isplitl [HXH]; · iexact HXH
      isplitl [Hg]; · iexact Hg
      isplitl [HS]; · iexact HS
      isplitl [HB]; · iexists _; iexact HB
      isplitl [HXV]; · iexact HXV
      isplitl [HDY]; · iexact HDY
      iexact HR
    isplitl [HW]
    · iexists W'; isplitr; · ipureintro; exact fun _ _ => Or.inl trivial
      iexact HW
    isplitl [H1]
    · iexists f1; isplitr; · ipureintro; exact e1
      iexact H1
    isplitl [H2]
    · iexists f2; isplitr; · ipureintro; exact e2
      iexact H2
    isplitl [H3]
    · iexists f3; isplitr; · ipureintro; exact e3
      iexact H3
    isplitl [H5]
    · iexists _; isplitr; swap; · iexact H5
      ipureintro; exact e5.trans (before_last3 m c t h d5)
    iexists _; isplitr; swap; · iexact H6
    ipureintro; exact e6.trans (before_last4 m c t h d6)

theorem defs₀_row (t : Fin cfg0.N) :
    defs₀ (F := F) .tc cfg0.body (cfg0.bodyArgs t (cfg0.slots t)) = bodyAt0 t := by
  unfold defs₀; rw [Defs.onTc_tc]

set_option maxHeartbeats 2000000 in
theorem body_obligation (c : Dev nD) : BodyObligationLoose (dats (F := F) m 0 c) (defs₀ (F := F)) Variants.none () Set.univ := fun t => by
  rw [bigSep_W0, bigSep_W0, defs₀_row]
  refine triple_restated (sound_body m c t) rfl (Entails.of_eq rfl) fun _ => ?_
  unfold bodyPost
  iintro ⟨HP, HW, H1, H2, H3, H5, H6⟩
  isplitl [HP]; · iexact HP
  isplitl [HW]; · iexact HW
  isplitl [H1]; · iapply ((Entails.of_eq rfl : owns (c : Thread nD τ) (win0_0.stage (cfg0.slots t 0)) fullShare ((dats m 0 c).after 0 t) ⊢ (dats m 0 c).leaves 0 t)); iexact H1
  isplitl [H2]; · iapply ((Entails.of_eq rfl : owns (c : Thread nD τ) (win0_1.stage (cfg0.slots t 1)) fullShare ((dats m 0 c).after 1 t) ⊢ (dats m 0 c).leaves 1 t)); iexact H2
  isplitl [H3]; · iapply ((Entails.of_eq rfl : owns (c : Thread nD τ) (win0_2.stage (cfg0.slots t 2)) fullShare ((dats m 0 c).after 2 t) ⊢ (dats m 0 c).leaves 2 t)); iexact H3
  isplitl [H5]
  · iapply ((leaves_of m 3 c t (out_facts t).2.1).trans ((dats m 0 c).leaves_intro 3 t)); iexact H5
  iapply ((leaves_of m 4 c t (out_facts t).2.2).trans ((dats m 0 c).leaves_intro 4 t)); iexact H6

/-! ## The launch -/

abbrev osem0 : Fin 3 → SemLoc sig := fun j => (![SemLoc.dma 9, SemLoc.dma 10, SemLoc.dma 11] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cc0_scratch4 : DmaSems sig S_).sem) 0 ∗ semVal ((c : Thread nD τ), SemLoc.dma (cellW 0).sem) 0 ∗ semVal ((c : Thread nD τ), SemLoc.dma (cellW 1).sem) 0) := by
  rw [Pipeline.ownSems0_eq_of_list c osem0 [0, 1, 2] (by decide) (by decide)]; rfl
def H0 : Finset (Ref sig .tc) := {main_arg0}
def R0 : Finset (Ref sig .tc) := {main_v28_2}
theorem H0_sub : H0 ⊆ Pipeline.restRefs sig spec0 := by decide
theorem R0_sub : R0 ⊆ Pipeline.restRefs sig spec0 \ H0 := by decide

/-- What the run leaves in the buffers the body writes itself: `dw` at the product. -/
def GR (c : Dev nD) (b : Ref sig .tc) : Buf (Elt F) ((c : Thread nD τ).loc b) :=
  if h : b = main_v28_2 then h ▸ (DWF (VV m c) : Buf (Elt F) (DW.view.loc (c : Thread nD τ))) else Gen.V m c b

theorem hbm_eq (c : Dev nD) : (bigSep H0 (fun b => ((c : Thread nD τ).loc b) ↦{fullShare} Gen.V m c b) : sProp 𝕄)
    = (XH.view.loc (c : Thread nD τ) ↦{fullShare} Gen.V m c main_arg0) := by
  rw [BI.bigSep_eq_bigSepL_of_eq [main_arg0] (by decide) (by decide)]; rfl
theorem routed_eq (c : Dev nD) (G : (b : Ref sig .tc) → Buf (Elt F) ((c : Thread nD τ).loc b)) : (Pipeline.routed R0 c G : sProp 𝕄)
    = (DW.view.loc (c : Thread nD τ) ↦{fullShare} G main_v28_2) := by
  unfold Pipeline.routed; rw [BI.bigSep_eq_bigSepL_of_eq [main_v28_2] (by decide) (by decide)]; rfl

theorem PhiG_eq (c : Dev nD) (G : (c : Dev nD) → (b : Ref sig .tc) → Buf (Elt F) ((c : Thread nD τ).loc b)) :
    (Pipeline.ΦDRG osem0 spec0 H0 R0 (Gen.V m) G c : sProp 𝕄)
      = iprop(((∃ fx, (XV.view.loc (c : Thread nD τ) ↦{fullShare} fx)) ∗ (∃ fy, (DY.view.loc (c : Thread nD τ) ↦{fullShare} fy)) ∗ (∃ fb, (BY.view.loc (c : Thread nD τ) ↦{fullShare} fb)) ∗ (∃ fo, (OU.view.loc (c : Thread nD τ) ↦{fullShare} fo)))
          ∗ (∃ r, prngReg c r)
          ∗ (semVal ((c : Thread nD τ), SemLoc.dma (cc0_scratch4 : DmaSems sig S_).sem) 0 ∗ semVal ((c : Thread nD τ), SemLoc.dma (cellW 0).sem) 0 ∗ semVal ((c : Thread nD τ), SemLoc.dma (cellW 1).sem) 0)
          ∗ (XH.view.loc (c : Thread nD τ) ↦{fullShare} Gen.V m c main_arg0)
          ∗ (DW.view.loc (c : Thread nD τ) ↦{fullShare} G c main_v28_2)) := by
  rw [Pipeline.ΦDRG_eq, scopedRest0_eq, ownSems00_eq, hbm_eq, routed_eq]

theorem hin (c : Dev nD) : Pipeline.ΦDRG osem0 spec0 H0 R0 (Gen.V m) (Gen.V m) c ⊢ (dats m 0 c).Φ 0 := by
  rw [PhiG_eq, show (dats m 0 c).Φ 0 = Phi m c 0 from rfl]
  unfold Phi
  rw [ST_zero _ _ _ rfl]
  iintro ⟨⟨HX, HY, HB, HO⟩, Hg, ⟨HS, HS0, HS1⟩, HH, HD⟩
  ihave Ha := (dw_split (F := F) c) $$ [HD]
  · iexists _; iexact HD
  ihave Ho := (slots_split (F := F) c) $$ HO
  isplitl [HH]; · iexact HH
  isplitl [Hg]; · iexact Hg
  isplitl [HS]; · iexact HS
  isplitl [HB]; · iexact HB
  isplitl [HX]; · iexact HX
  isplitl [HY]; · iexact HY
  iapply (Entails.of_eq (show iprop(bigSep Finset.univ (aheadS (F := F) c) ∗ bigSep Finset.univ (freeS (F := F) c)) = RING (VV m c) c 0 from (AtB_zero ..).symm))
  isplitl [Ha]; · iexact Ha
  iapply (Entails.of_eq (bigSep_fin2 (freeS (F := F) c)).symm)
  ihave Ho2 := (Entails.of_eq (bigSep_fin2 (fun s : Fin 2 => iprop(∃ f, (slotM s).view.loc (c : Thread nD τ) ↦[(slotM s).view.set]{fullShare} f)))) $$ Ho
  icases Ho2 with ⟨Ho0, Ho1⟩
  isplitl [HS0 Ho0]
  · isplitl [HS0]; · iexact HS0
    iexact Ho0
  · isplitl [HS1]; · iexact HS1
    iexact Ho1

theorem hout (c : Dev nD) : (dats m 0 c).Φ (Fin.last cfg0.N) ⊢ Pipeline.ΦDRG osem0 spec0 H0 R0 (Gen.V m) (GR m) c := by
  rw [PhiG_eq, show (dats m 0 c).Φ (Fin.last cfg0.N) = Phi m c 37 from rfl]
  unfold Phi
  rw [ST_end _ _ _ rfl]
  iintro ⟨HH, Hg, HS, HB, HX, HY, HR⟩
  ihave HR2 := (Entails.of_eq (show AtBEnd (freeS (F := F) c) (behindS (VV m c) c) = iprop(bigSep Finset.univ (behindS (VV m c) c) ∗ bigSep Finset.univ (freeS (F := F) c)) from rfl)) $$ HR
  icases HR2 with ⟨Hb, Hf⟩
  ihave Hd := (dw_join (VV m c) c) $$ Hb
  ihave Hf2 := (Entails.of_eq (bigSep_fin2 (freeS (F := F) c))) $$ Hf
  icases Hf2 with ⟨Hf0, Hf1⟩
  icases Hf0 with ⟨HS0, ⟨%g0, Ho0⟩⟩
  icases Hf1 with ⟨HS1, ⟨%g1, Ho1⟩⟩
  isplitl [HX HY HB Ho0 Ho1]
  · isplitl [HX]; · iexact HX
    isplitl [HY]; · iexact HY
    isplitl [HB]; · iexact HB
    iapply (slots_join (F := F) c g0)
    iapply (Entails.of_eq (bigSep_fin2 (fun s : Fin 2 => iprop(∃ f, (slotM s).view.loc (c : Thread nD τ) ↦[(slotM s).view.set]{fullShare} f))).symm)
    isplitl [Ho0]; · iexists _; iexact Ho0
    iexists _; iexact Ho1
  isplitl [Hg]; · iexact Hg
  isplitl [HS HS0 HS1]
  · isplitl [HS]; · iexact HS
    isplitl [HS0]; · iexact HS0
    iexact HS1
  isplitl [HH]; · iexact HH
  iexact Hd

set_option backward.isDefEq.respectTransparency.types false in
theorem run_main : θ_run defs (onTc (τ := τ) (main (F := F))) (s₀ m ρ) (fun r => Pipeline.FramePostRG cfgs (dats m) (0 : Fin 1) R0 (Gen.V m) (GR m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => body_obligation m c) (hshare := fun c => (dats m 0 c).share_full fun _ => rfl)
    (howed := fun _ _ => rfl) (V := Gen.V m) (hmain := hmain m Variants.none) (hA := A_eq m) (G := GR m)
    (hin := hin m) (hout := hout m)

/-- The codes, tile by tile. -/
def CF (V : Vals F) : IVec S768x18432 8 := fun i => tileC V ((i 1).val / 512) (ix2 (i 0) ⟨(i 1).val % 512, Nat.mod_lt _ (by decide)⟩)
/-- The scale bytes, tile by tile. -/
def SF (V : Vals F) : IVec S2x24x18432 8 := fun i => tileS V ((i 2).val / 512) (ix3 (i 0) (i 1) ⟨(i 2).val % 512, Nat.mod_lt _ (by decide)⟩)

theorem out_index : ∀ t : Fin cfg0.N, win0_3.index t (0 : Fin 2) = 0 ∧ win0_3.index t (1 : Fin 2) = min t.val 35
    ∧ win0_4.index t (0 : Fin 3) = 0 ∧ win0_4.index t (1 : Fin 3) = 0 ∧ win0_4.index t (2 : Fin 3) = min t.val 35 :=
  (by decide +kernel : ∀ t : Fin grid0.N, _)

theorem arr3 (c : Dev nD) : (dats m 0 c).arrAt 3 cfg0.N = (CF (VV m c) : Buf (Elt F) ((c : Thread nD τ).loc main_v28_0)) := by
  refine (dats m 0 c).arrAt_eq_of_covers 3 _ (by decide +kernel) fun t hf y => ?_
  obtain ⟨e0, e1, -⟩ := out_index t
  have hy : (y 1).val < 512 := (y 1).isLt
  show tileC (VV m c) (min t.val 35) ((cfg0.win 3).xinj (cfg0.grid.coords t) y) = CF (VV m c) (((cfg0.win 3).blk t).view.emb y)
  have k1 : ((((cfg0.win 3).blk t).view.emb y) 1).val = min t.val 35 * 512 + (y 1).val := by
    show win0_3.index t (1 : Fin 2) * 512 + 1 * (y 1).val = _; rw [e1, Nat.one_mul]
  have k0 : ((((cfg0.win 3).blk t).view.emb y) 0).val = (y 0).val := by
    show win0_3.index t (0 : Fin 2) * 768 + 1 * (y 0).val = _; rw [e0]; omega
  unfold CF
  rw [show ((((cfg0.win 3).blk t).view.emb y) 1).val / 512 = min t.val 35 by omega]
  congr 1
  funext a; apply Fin.ext
  match a with
  | ⟨0, _⟩ => exact k0.symm
  | ⟨1, _⟩ => show (y 1).val = ((((cfg0.win 3).blk t).view.emb y) 1).val % 512; omega

theorem arr4 (c : Dev nD) : (dats m 0 c).arrAt 4 cfg0.N = (SF (VV m c) : Buf (Elt F) ((c : Thread nD τ).loc main_v28_1)) := by
  refine (dats m 0 c).arrAt_eq_of_covers 4 _ (by decide +kernel) fun t hf y => ?_
  obtain ⟨-, -, e0, e1, e2⟩ := out_index t
  have hy : (y 2).val < 512 := (y 2).isLt
  show tileS (VV m c) (min t.val 35) ((cfg0.win 4).xinj (cfg0.grid.coords t) y) = SF (VV m c) (((cfg0.win 4).blk t).view.emb y)
  have k2 : ((((cfg0.win 4).blk t).view.emb y) 2).val = min t.val 35 * 512 + (y 2).val := by
    show win0_4.index t (2 : Fin 3) * 512 + 1 * (y 2).val = _; rw [e2, Nat.one_mul]
  have k1 : ((((cfg0.win 4).blk t).view.emb y) 1).val = (y 1).val := by
    show win0_4.index t (1 : Fin 3) * 24 + 1 * (y 1).val = _; rw [e1]; omega
  have k0 : ((((cfg0.win 4).blk t).view.emb y) 0).val = (y 0).val := by
    show win0_4.index t (0 : Fin 3) * 2 + 1 * (y 0).val = _; rw [e0]; omega
  unfold SF
  rw [show ((((cfg0.win 4).blk t).view.emb y) 2).val / 512 = min t.val 35 by omega]
  congr 1
  funext a; apply Fin.ext
  match a with
  | ⟨0, _⟩ => exact k0.symm
  | ⟨1, _⟩ => exact k1.symm
  | ⟨2, _⟩ => show (y 2).val = ((((cfg0.win 4).blk t).view.emb y) 2).val % 512; omega

/-- The arguments unchanged, every counter at zero, and the three results. -/
theorem run_dw : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v28_2) = (DWF (VV m c) : Buf (Elt F) (DW.view.loc (c : Thread nD τ)))
      ∧ r.2.mem ((c.tc : Thread nD τ).loc main_v28_0) = (CF (VV m c) : Buf (Elt F) ((c : Thread nD τ).loc main_v28_0))
      ∧ r.2.mem ((c.tc : Thread nD τ).loc main_v28_1) = (SF (VV m c) : Buf (Elt F) ((c : Thread nD τ).loc main_v28_1)))
      ∧ r.2.sem = fun _ => 0) :=
  (θ_run defs _ _).mono (fun _ h => ⟨fun c => ⟨
      ((h.1.1 c).2 main_arg0 (Finset.mem_sdiff.mpr ⟨Pipeline.mem_restRefs_of main_arg0 (by decide) (by decide), by decide⟩)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      h.1.2 c main_v28_2 (by decide), ((h.1.1 c).1 3).trans (arr3 m c), ((h.1.1 c).1 4).trans (arr4 m c)⟩, h.2⟩) (run_main m ρ)

end Cert.KernelIdeal.Hand
-- ==== Proof.Expo.lean ====
/- Hand-written. The kernel's scalar functions at the ideal instance — the exponent search, the scale byte, its inverse,
   the rounding — and that the kernel's vectors apply them element by element; with what the exponent search finds. -/
module

public import proofs.«01_k».proof.Proof.Chunk
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic

/-- The float of exponent field `b` and fraction zero. -/
def thr (b : BitVec 32) : EReal := Ideal.ofBits .f32 (IntOp.shli .vector b 23#32)
/-- One step of the exponent search. -/
def stepE (a : EReal) (ex w : BitVec 32) : BitVec 32 :=
  Scalar.select (Ideal.cmp .oge a (thr (IntOp.addi ex w))) (IntOp.addi ex w) ex
/-- The exponent field found for `a`. -/
def expo (a : EReal) : BitVec 32 :=
  stepE a (stepE a (stepE a (stepE a (stepE a (stepE a (stepE a (stepE a 0#32 128#32) 64#32) 32#32) 16#32) 8#32) 4#32) 2#32) 1#32
/-- The scale byte of a group with scaled maximum `p`. -/
def byteF (p : EReal) : BitVec 32 :=
  IntOp.andi (Scalar.select (IntOp.cmpi .eq (expo p) 0#32) 127#32 (IntOp.addi (expo p) 1#32)) 255#32
/-- The factor a group is scaled by. -/
def invF (p : EReal) : EReal :=
  thr (Scalar.select (IntOp.cmpi .eq (expo p) 0#32) 127#32 (IntOp.subi 253#32 (expo p))) * Ideal.ofBits .f32 0x3F7FFFFE#32
/-- The magnitude after the random shift. -/
def vF (y : EReal) (rb : BitVec 8) : EReal :=
  min (max (max y (-y) + (Ideal.ofBits .f32 0x42FF0000#32 - (((rb.setWidth 32).toInt : ℝ) : EReal)) * Ideal.ofBits .f32 0x3B000000#32
    * max (thr (expo (max y (-y)))) (Ideal.ofBits .f32 0x3F800000#32)) (thr (expo (max y (-y))))) (Ideal.ofBits .f32 0x40C00000#32)
/-- The same with the sign. -/
def sF (y : EReal) (rb : BitVec 8) : EReal :=
  Scalar.select (Ideal.cmp .olt y (Ideal.ofBits .f32 0#32)) (Ideal.ofBits .f32 0#32 - vF y rb) (vF y rb)
/-- The table of fp4 magnitudes. -/
def tabE (t : EReal) : EReal :=
  Scalar.select (Ideal.cmp .ogt t (Ideal.ofBits .f32 0x40A00000#32)) (Ideal.ofBits .f32 0x40C00000#32)
  (Scalar.select (Ideal.cmp .oge t (Ideal.ofBits .f32 0x40600000#32)) (Ideal.ofBits .f32 0x40800000#32)
  (Scalar.select (Ideal.cmp .ogt t (Ideal.ofBits .f32 0x40200000#32)) (Ideal.ofBits .f32 0x40400000#32)
  (Scalar.select (Ideal.cmp .oge t (Ideal.ofBits .f32 0x3FE00000#32)) (Ideal.ofBits .f32 0x40000000#32)
  (Scalar.select (Ideal.cmp .ogt t (Ideal.ofBits .f32 0x3FA00000#32)) (Ideal.ofBits .f32 0x3FC00000#32)
  (Scalar.select (Ideal.cmp .oge t (Ideal.ofBits .f32 0x3F400000#32)) (Ideal.ofBits .f32 0x3F800000#32)
  (Scalar.select (Ideal.cmp .ogt t (Ideal.ofBits .f32 0x3E800000#32)) (Ideal.ofBits .f32 0x3F000000#32)
  (Ideal.ofBits .f32 0#32)))))))
/-- The fp4 value of a scaled element. -/
def valF (y : EReal) (rb : BitVec 8) : EReal :=
  Scalar.select (Ideal.cmp .olt (sF y rb) (Ideal.ofBits .f32 0#32))
    (Ideal.ofBits .f32 0#32 - tabE (max (sF y rb) (-(sF y rb)))) (tabE (max (sF y rb) (-(sF y rb))))

section Vec
variable {F : FTy → Type} [FloatOps F] {s : Shape}

/-- One step of the exponent search on a vector. -/
def stepV (a : FVec F s .f32) (ex : IVec s 32) (w : BitVec 32) : IVec s 32 :=
  select (cmpf .oge a (bitcastToFloat .f32 (shli (addi ex (broadcast s w)) (broadcast s 23#32)))) (addi ex (broadcast s w)) ex
/-- The exponent fields of a vector. -/
def expoV (a : FVec F s .f32) : IVec s 32 :=
  stepV a (stepV a (stepV a (stepV a (stepV a (stepV a (stepV a (stepV a (broadcast s 0#32) 128#32) 64#32) 32#32) 16#32) 8#32) 4#32) 2#32) 1#32
/-- The scale bytes of a vector of scaled maxima. -/
def byteV (p : FVec F s .f32) : IVec s 32 :=
  andi (select (cmpi .eq (expoV p) (broadcast s 0#32)) (broadcast s 127#32) (addi (expoV p) (broadcast s 1#32))) (broadcast s 255#32)
/-- The factors of a vector of scaled maxima. -/
def invV (p : FVec F s .f32) : FVec F s .f32 :=
  mulf (bitcastToFloat .f32 (shli (select (cmpi .eq (expoV p) (broadcast s 0#32)) (broadcast s 127#32) (subi (broadcast s 253#32) (expoV p))) (broadcast s 23#32)))
    (broadcast s (Scalar.ofBits .f32 0x3F7FFFFE#32))
/-- The magnitudes after the random shift. -/
def vV (t : FVec F s .f32) (base : FVec F s .f32) (rb : IVec s 8) : FVec F s .f32 :=
  minimumf (maximumf (addf t (mulf (mulf (subf (broadcast s (Scalar.ofBits .f32 0x42FF0000#32)) (sitofp .f32 (extui 32 rb natLt_8_32)))
    (broadcast s (Scalar.ofBits .f32 0x3B000000#32))) (maximumf base (broadcast s (Scalar.ofBits .f32 0x3F800000#32))))) base)
    (broadcast s (Scalar.ofBits .f32 0x40C00000#32))
/-- The same with the sign. -/
def sV (y v : FVec F s .f32) : FVec F s .f32 :=
  select (cmpf .olt y (broadcast s (Scalar.ofBits .f32 0#32))) (subf (broadcast s (Scalar.ofBits .f32 0#32)) v) v
/-- The table on a vector. -/
def tabV (t : FVec F s .f32) : FVec F s .f32 :=
  select (cmpf .ogt t (broadcast s (Scalar.ofBits .f32 0x40A00000#32))) (broadcast s (Scalar.ofBits .f32 0x40C00000#32))
  (select (cmpf .oge t (broadcast s (Scalar.ofBits .f32 0x40600000#32))) (broadcast s (Scalar.ofBits .f32 0x40800000#32))
  (select (cmpf .ogt t (broadcast s (Scalar.ofBits .f32 0x40200000#32))) (broadcast s (Scalar.ofBits .f32 0x40400000#32))
  (select (cmpf .oge t (broadcast s (FloatOps.ofBits .f32 0x3FE00000#32))) (broadcast s (Scalar.ofBits .f32 0x40000000#32))
  (select (cmpf .ogt t (broadcast s (Scalar.ofBits .f32 0x3FA00000#32))) (broadcast s (Scalar.ofBits .f32 0x3FC00000#32))
  (select (cmpf .oge t (broadcast s (Scalar.ofBits .f32 0x3F400000#32))) (broadcast s (Scalar.ofBits .f32 0x3F800000#32))
  (select (cmpf .ogt t (broadcast s (Scalar.ofBits .f32 0x3E800000#32))) (broadcast s (Scalar.ofBits .f32 0x3F000000#32))
  (broadcast s (Scalar.ofBits .f32 0#32))))))))
/-- The fp4 values of the signed vector. -/
def valV (v : FVec F s .f32) : FVec F s .bf16 :=
  truncf .bf16 (select (cmpf .olt v (broadcast s (Scalar.ofBits .f32 0#32))) (subf (broadcast s (Scalar.ofBits .f32 0#32)) (tabV (absf v))) (tabV (absf v))) bitsLt_bf16_f32

set_option maxRecDepth 65536 in
theorem cb_7_eq (M : Vec F S256x256 .bf16) (D : Vec F S256x512 .bf16) (R : Vec F S256x512 .i8) : cb_7 M D R = byteV (cb_3 M D R) := rfl
set_option maxRecDepth 65536 in
theorem cb_8_eq (M : Vec F S256x256 .bf16) (D : Vec F S256x512 .bf16) (R : Vec F S256x512 .i8) :
    cb_8 M D R = shapeCast S256x512 (mulf (shapeCast S8x32x512 (cb_1 M D R) shapeCasts_S256x512_S8x32x512)
      (broadcastTo S8x32x512 (shapeCast S8x1x512 (invV (cb_3 M D R)) shapeCasts_S8x512_S8x1x512) broadcasts_S8x1x512_S8x32x512))
      shapeCasts_S8x32x512_S256x512 := rfl
set_option maxRecDepth 65536 in
theorem pay57_eq (M : Vec F S256x256 .bf16) (D : Vec F S256x512 .bf16) (R : Vec F S256x512 .i8) :
    k0_pay57 (cb_2 M D R) (cb_8 M D R) (cb_9 M D R) (cb_10 M D R) (cb_11 M D R) 23#32
      = sV (cb_8 M D R) (vV (absf (cb_8 M D R)) (bitcastToFloat .f32 (shli (expoV (absf (cb_8 M D R))) (broadcast S256x512 23#32))) (k0_pay45 (F := F) R)) := rfl
set_option maxRecDepth 65536 in
theorem cb_20_eq (M : Vec F S256x256 .bf16) (D : Vec F S256x512 .bf16) (R : Vec F S256x512 .i8) :
    cb_20 M D R = valV (k0_pay57 (cb_2 M D R) (cb_8 M D R) (cb_9 M D R) (cb_10 M D R) (cb_11 M D R) 23#32) := rfl
end Vec

theorem stepV_apply {s : Shape} (a : FVec Ideal s .f32) (ex : IVec s 32) (w : BitVec 32) (x : s.Idx) : stepV a ex w x = stepE (a x) (ex x) w := rfl
theorem expoV_apply {s : Shape} (a : FVec Ideal s .f32) (x : s.Idx) : expoV a x = expo (a x) := by
  simp only [expoV, stepV_apply]; rfl
theorem byteV_apply {s : Shape} (p : FVec Ideal s .f32) (x : s.Idx) : byteV p x = byteF (p x) := by
  unfold byteV byteF; rw [← expoV_apply p x]; rfl
theorem invV_apply {s : Shape} (p : FVec Ideal s .f32) (x : s.Idx) : invV p x = invF (p x) := by
  unfold invV invF; rw [← expoV_apply p x]; rfl
theorem sV_apply {s : Shape} (y : FVec Ideal s .f32) (rb : IVec s 8) (x : s.Idx) :
    sV y (vV (absf y) (bitcastToFloat .f32 (shli (expoV (absf y)) (broadcast s 23#32))) rb) x = sF (y x) (rb x) := by
  unfold sF vF
  rw [show max (y x) (-(y x)) = absf y x from rfl, ← expoV_apply (absf y) x]; rfl
theorem tabV_apply {s : Shape} (t : FVec Ideal s .f32) (x : s.Idx) : tabV t x = tabE (t x) := rfl
theorem valV_apply {s : Shape} (v : FVec Ideal s .f32) (x : s.Idx) : valV v x =
    Scalar.select (Ideal.cmp .olt (v x) (Ideal.ofBits .f32 0#32)) (Ideal.ofBits .f32 0#32 - tabE (max (v x) (-(v x)))) (tabE (max (v x) (-(v x)))) := rfl

theorem cb_20_apply (M : Vec Ideal S256x256 .bf16) (D : Vec Ideal S256x512 .bf16) (R : Vec Ideal S256x512 .i8) (x : S256x512.Idx) :
    cb_20 M D R x = valF (cb_8 M D R x) (k0_pay45 (F := Ideal) R x) := by
  rw [cb_20_eq, pay57_eq, valV_apply, sV_apply]; rfl

theorem toNat_shl (n : ℕ) (h : n < 256) : (IntOp.shli .vector (BitVec.ofNat 32 n) 23#32).toNat = n * 2 ^ 23 := by
  unfold IntOp.shli
  rw [if_pos (by decide)]
  simp only [BitVec.shiftLeft_eq', BitVec.toNat_shiftLeft, BitVec.toNat_ofNat, Nat.shiftLeft_eq]
  simp
  omega

/-- The float of exponent field `n`. -/
theorem thr_eq (n : ℕ) (h1 : 1 ≤ n) (h : n < 255) : thr (BitVec.ofNat 32 n) = (((2 : ℝ) ^ ((n : ℤ) - 127) : ℝ) : EReal) := by
  have hn := toNat_shl n (by omega)
  unfold thr
  generalize IntOp.shli .vector (BitVec.ofNat 32 n) 23#32 = b at hn
  show Ideal.ieee 8 23 b = _
  unfold Ideal.ieee
  have hex : (b.extractLsb' 23 8).toNat = n := by
    simp only [BitVec.extractLsb'_toNat, hn, Nat.shiftRight_eq_div_pow]; omega
  have hfr : (b.extractLsb' 0 23).toNat = 0 := by
    simp only [BitVec.extractLsb'_toNat, hn, Nat.shiftRight_eq_div_pow]; omega
  have hsg : (b.extractLsb' (8 + 23) 1 == 1#1) = false := by
    rw [beq_eq_false_iff_ne]
    intro hc
    have := congrArg BitVec.toNat hc
    simp only [BitVec.extractLsb'_toNat, hn, Nat.shiftRight_eq_div_pow, BitVec.toNat_ofNat] at this
    omega
  simp only [hex, hfr, hsg]
  rw [if_neg (by omega), if_neg (by omega)]
  congr 1
  have e : (n : ℤ) - (2 ^ (8 - 1) - 1) - ((23 : ℕ) : ℤ) = ((n : ℤ) - 127) + (-23) := by norm_num; ring
  rw [e, zpow_add₀ (by norm_num)]
  simp
  norm_num
  ring

theorem thr_zero : thr 0#32 = 0 := by
  have h : (IntOp.shli .vector 0#32 23#32 : BitVec 32) = 0#32 := by decide
  refine (congrArg (fun b : BitVec 32 => Ideal.ofBits .f32 b) h).trans ?_
  simp [Ideal.ofBits, Ideal.ieee]

theorem stepE_spec (a : EReal) (n w : ℕ) (hw : 1 ≤ w) (hn : n + 2 * w ≤ 256) (hlo : n = 0 ∨ thr (BitVec.ofNat 32 n) ≤ a)
    (hhi : n + 2 * w = 256 ∨ a < thr (BitVec.ofNat 32 (n + 2 * w))) :
    ∃ m, stepE a (BitVec.ofNat 32 n) (BitVec.ofNat 32 w) = BitVec.ofNat 32 m ∧ m + w ≤ 256 ∧ (m = 0 ∨ thr (BitVec.ofNat 32 m) ≤ a)
      ∧ (m + w = 256 ∨ a < thr (BitVec.ofNat 32 (m + w))) := by
  unfold stepE
  have e : IntOp.addi (BitVec.ofNat 32 n) (BitVec.ofNat 32 w) = BitVec.ofNat 32 (n + w) := by
    unfold IntOp.addi; rw [BitVec.ofNat_add]
  rw [e]
  by_cases c : thr (BitVec.ofNat 32 (n + w)) ≤ a
  · refine ⟨n + w, ?_, by omega, Or.inr c, ?_⟩
    · simp [Scalar.select, Ideal.cmp, c]
    · rw [show n + w + w = n + 2 * w by ring]; exact hhi
  · refine ⟨n, ?_, by omega, hlo, Or.inr (not_le.mp c)⟩
    simp [Scalar.select, Ideal.cmp, c]

/-- What the exponent search finds. -/
theorem expo_spec (a : EReal) : ∃ n, expo a = BitVec.ofNat 32 n ∧ n ≤ 255 ∧ (n = 0 ∨ thr (BitVec.ofNat 32 n) ≤ a)
    ∧ (n = 255 ∨ a < thr (BitVec.ofNat 32 (n + 1))) := by
  obtain ⟨n1, e1, b1, l1, u1⟩ := stepE_spec a 0 128 (by norm_num) (by norm_num) (Or.inl rfl) (Or.inl rfl)
  obtain ⟨n2, e2, b2, l2, u2⟩ := stepE_spec a n1 64 (by norm_num) b1 l1 u1
  obtain ⟨n3, e3, b3, l3, u3⟩ := stepE_spec a n2 32 (by norm_num) b2 l2 u2
  obtain ⟨n4, e4, b4, l4, u4⟩ := stepE_spec a n3 16 (by norm_num) b3 l3 u3
  obtain ⟨n5, e5, b5, l5, u5⟩ := stepE_spec a n4 8 (by norm_num) b4 l4 u4
  obtain ⟨n6, e6, b6, l6, u6⟩ := stepE_spec a n5 4 (by norm_num) b5 l5 u5
  obtain ⟨n7, e7, b7, l7, u7⟩ := stepE_spec a n6 2 (by norm_num) b6 l6 u6
  obtain ⟨n8, e8, b8, l8, u8⟩ := stepE_spec a n7 1 (by norm_num) b7 l7 u7
  refine ⟨n8, ?_, by omega, l8, u8.imp (fun h => by omega) id⟩
  unfold expo
  rw [e1, e2, e3, e4, e5, e6, e7, e8]

/-- For a real below `2 ^ 126` the search finds the field of the power of two at or below it, and `0` below `2 ^ (-126)`. -/
theorem expo_real (a : ℝ) (h : a < (2 : ℝ) ^ (126 : ℤ)) : ∃ n : ℕ, expo (a : EReal) = BitVec.ofNat 32 n ∧ n ≤ 252
    ∧ (n = 0 ∨ (2 : ℝ) ^ ((n : ℤ) - 127) ≤ a) ∧ a < (2 : ℝ) ^ ((n : ℤ) - 126) := by
  obtain ⟨n, e, hn, hl, hu⟩ := expo_spec (a : EReal)
  have hmono : ∀ m : ℕ, 253 ≤ m → (2 : ℝ) ^ (126 : ℤ) ≤ (2 : ℝ) ^ ((m : ℤ) - 127) := fun m hm =>
    zpow_le_zpow_right₀ (by norm_num) (by omega)
  have hn2 : n ≤ 252 := by
    by_contra hc
    rcases hl with h0 | hl
    · omega
    rcases Nat.lt_or_ge n 255 with h5 | h5
    · rw [thr_eq n (by omega) h5, EReal.coe_le_coe_iff] at hl
      have := hmono n (by omega); linarith
    · have e5 : n = 255 := by omega
      subst e5
      have : thr (BitVec.ofNat 32 255) = ⊤ := by
        have h : (IntOp.shli .vector 255#32 23#32 : BitVec 32) = 0x7F800000#32 := by decide
        refine (congrArg (fun b : BitVec 32 => Ideal.ofBits .f32 b) h).trans ?_
        simp [Ideal.ofBits, Ideal.ieee]
      rw [this] at hl
      exact absurd hl (by simp)
  refine ⟨n, e, hn2, ?_, ?_⟩
  · rcases hl with h0 | hl
    · exact Or.inl h0
    · rcases Nat.eq_zero_or_pos n with h0 | h0
      · exact Or.inl h0
      · rw [thr_eq n h0 (by omega), EReal.coe_le_coe_iff] at hl; exact Or.inr hl
  · rcases hu with h5 | hu
    · omega
    · rw [thr_eq (n + 1) (by omega) (by omega), EReal.coe_lt_coe_iff] at hu
      rw [show ((n : ℤ) - 126) = (((n + 1 : ℕ) : ℤ) - 127) by push_cast; ring]
      exact hu

end Cert.KernelIdeal.Hand
-- ==== Proof.Scal.lean ====
/- Hand-written. The rounding of one scaled magnitude, over the reals: shifting it by the random part of half a step and
   rounding to the nearest fp4 value is rounding it down or up by comparing its place in the step with the random
   threshold, provided the place and the threshold are further apart than the scale's shortfall `2 ^ (-23)`. -/
module

public import Idealize.ShloMosaic.PureOps.Ideal
public import Mathlib.Tactic.Linarith
public import Mathlib.Tactic.NormNum
public import Mathlib.Tactic.Ring

@[expose] public section

noncomputable section

namespace Cert.KernelIdeal.Hand

/-- The fp4 magnitude nearest to `v`, ties to the even code. -/
def tabR (v : ℝ) : ℝ :=
  if 5 < v then 6 else if 7 / 2 ≤ v then 4 else if 5 / 2 < v then 3 else if 7 / 4 ≤ v then 2
  else if 5 / 4 < v then 3 / 2 else if 3 / 4 ≤ v then 1 else if 1 / 4 < v then 1 / 2 else 0

/-- The distance between neighbouring fp4 magnitudes at `t`. -/
def stR (t : ℝ) : ℝ := if t < 2 then 1 / 2 else if t < 4 then 1 else 2

theorem tab0 {v : ℝ} (h : v ≤ 1 / 4) : tabR v = 0 := by
  unfold tabR; repeat rw [if_neg (by linarith)]
theorem tab1 {v : ℝ} (h : 1 / 4 < v) (h' : v < 3 / 4) : tabR v = 1 / 2 := by
  unfold tabR; rw [if_neg (by linarith), if_neg (by linarith), if_neg (by linarith), if_neg (by linarith), if_neg (by linarith), if_neg (by linarith), if_pos (by linarith)]
theorem tab2 {v : ℝ} (h : 3 / 4 ≤ v) (h' : v ≤ 5 / 4) : tabR v = 1 := by
  unfold tabR; rw [if_neg (by linarith), if_neg (by linarith), if_neg (by linarith), if_neg (by linarith), if_neg (by linarith), if_pos (by linarith)]
theorem tab3 {v : ℝ} (h : 5 / 4 < v) (h' : v < 7 / 4) : tabR v = 3 / 2 := by
  unfold tabR; rw [if_neg (by linarith), if_neg (by linarith), if_neg (by linarith), if_neg (by linarith), if_pos (by linarith)]
theorem tab4 {v : ℝ} (h : 7 / 4 ≤ v) (h' : v ≤ 5 / 2) : tabR v = 2 := by
  unfold tabR; rw [if_neg (by linarith), if_neg (by linarith), if_neg (by linarith), if_pos (by linarith)]
theorem tab5 {v : ℝ} (h : 5 / 2 < v) (h' : v < 7 / 2) : tabR v = 3 := by
  unfold tabR; rw [if_neg (by linarith), if_neg (by linarith), if_pos (by linarith)]
theorem tab6 {v : ℝ} (h : 7 / 2 ≤ v) (h' : v ≤ 5) : tabR v = 4 := by
  unfold tabR; rw [if_neg (by linarith), if_pos (by linarith)]
theorem tab7 {v : ℝ} (h : 5 < v) : tabR v = 6 := by
  unfold tabR; rw [if_pos h]

/-- What the octave below `t'` gives: the shift's factor `w` and the floor `b`. -/
theorem octave {t' b : ℝ} (h6 : t' < 6) (h4 : 4 ≤ t' → b = 4) (h2 : 2 ≤ t' → t' < 4 → b = 2)
    (h1 : 1 ≤ t' → t' < 2 → b = 1) (h0 : t' < 1 → b ≤ 1 / 2) (h00 : t' < 1 / 2 → b ≤ 1 / 4) :
    (4 ≤ t' ∧ b = 4 ∧ max b 1 = 4) ∨ (2 ≤ t' ∧ t' < 4 ∧ b = 2 ∧ max b 1 = 2) ∨ (1 ≤ t' ∧ t' < 2 ∧ b = 1 ∧ max b 1 = 1)
      ∨ (1 / 2 ≤ t' ∧ t' < 1 ∧ b ≤ 1 / 2 ∧ max b 1 = 1) ∨ (t' < 1 / 2 ∧ b ≤ 1 / 4 ∧ max b 1 = 1) := by
  by_cases c4 : 4 ≤ t'
  · exact Or.inl ⟨c4, h4 c4, by rw [h4 c4]; norm_num⟩
  by_cases c2 : 2 ≤ t'
  · exact Or.inr (Or.inl ⟨c2, by linarith, h2 c2 (by linarith), by rw [h2 c2 (by linarith)]; norm_num⟩)
  by_cases c1 : 1 ≤ t'
  · exact Or.inr (Or.inr (Or.inl ⟨c1, by linarith, h1 c1 (by linarith), by rw [h1 c1 (by linarith)]; norm_num⟩))
  by_cases c0 : 1 / 2 ≤ t'
  · exact Or.inr (Or.inr (Or.inr (Or.inl ⟨c0, by linarith, h0 (by linarith), max_eq_right (by have := h0 (by linarith); linarith)⟩)))
  · exact Or.inr (Or.inr (Or.inr (Or.inr ⟨by linarith, h00 (by linarith), max_eq_right (by have := h00 (by linarith); linarith)⟩)))

set_option maxHeartbeats 2000000 in
theorem scal {t n θ t' b : ℝ} (ht0 : 0 ≤ t) (ht6 : t < 6) (hn0 : 0 ≤ n) (hn : n ≤ 255) (hθ : θ = (n + 1 / 2) / 256)
    (ht' : t' = t * (1 - 1 / 8388608)) (h4 : 4 ≤ t' → b = 4) (h2 : 2 ≤ t' → t' < 4 → b = 2)
    (h1 : 1 ≤ t' → t' < 2 → b = 1) (h0 : t' < 1 → b ≤ 1 / 2) (h00 : t' < 1 / 2 → b ≤ 1 / 4)
    (gap : t / stR t ≤ (⌊t / stR t⌋ : ℝ) + θ ∨ (⌊t / stR t⌋ : ℝ) + θ < t / stR t * (1 - 1 / 8388608)) :
    tabR (min (max (t' + (255 / 2 - n) * (1 / 512) * max b 1) b) 6)
      = min (((⌊t / stR t⌋ : ℝ) + if θ < t / stR t - (⌊t / stR t⌋ : ℝ) then 1 else 0) * stR t) 6 := by
  have ho := octave (by linarith) h4 h2 h1 h0 h00
  have hθ0 : 0 < θ := by rw [hθ]; linarith
  have hθ1 : θ < 1 := by rw [hθ]; linarith
  clear h4 h2 h1 h0 h00
  by_cases c4 : 4 ≤ t
  · have e : stR t = 2 := by unfold stR; rw [if_neg (by linarith), if_neg (by linarith)]
    rw [e] at gap ⊢
    have f : ⌊t / 2⌋ = 2 := by rw [Int.floor_eq_iff]; push_cast; constructor <;> linarith
    rw [f] at gap ⊢; push_cast at gap ⊢
    by_cases up : θ < t / 2 - 2
    · rw [if_pos up, tab7]
      · norm_num
      · rcases gap with gap | gap
        · linarith
        rw [lt_min_iff, lt_max_iff]; refine ⟨Or.inl ?_, by norm_num⟩
        rcases ho with ⟨_, hb, hw⟩ | ⟨_, _, hb, hw⟩ | ⟨_, _, hb, hw⟩ | ⟨_, _, hb, hw⟩ | ⟨_, hb, hw⟩ <;> rw [hw] <;> linarith
    · rw [if_neg up, tab6]
      · norm_num
      · rw [le_min_iff, le_max_iff]; refine ⟨?_, by norm_num⟩
        rcases ho with ⟨_, hb, hw⟩ | ⟨_, _, hb, hw⟩ | ⟨_, _, hb, hw⟩ | ⟨_, _, hb, hw⟩ | ⟨_, hb, hw⟩ <;> rw [hw] <;>
          first | (left; linarith) | (right; linarith)
      · rw [min_le_iff, max_le_iff]; left
        rcases ho with ⟨_, hb, hw⟩ | ⟨_, _, hb, hw⟩ | ⟨_, _, hb, hw⟩ | ⟨_, _, hb, hw⟩ | ⟨_, hb, hw⟩ <;> rw [hw] <;> constructor <;> linarith
  by_cases c3 : 3 ≤ t
  · have e : stR t = 1 := by unfold stR; rw [if_neg (by linarith), if_pos (by linarith)]
    rw [e, div_one] at gap ⊢
    have f : ⌊t⌋ = 3 := by rw [Int.floor_eq_iff]; push_cast; constructor <;> linarith
    rw [f] at gap ⊢; push_cast at gap ⊢
    by_cases up : θ < t - 3
    · rw [if_pos up, tab6]
      · norm_num
      · rcases gap with gap | gap
        · linarith
        rw [le_min_iff, le_max_iff]; refine ⟨Or.inl ?_, by norm_num⟩
        rcases ho with ⟨_, hb, hw⟩ | ⟨_, _, hb, hw⟩ | ⟨_, _, hb, hw⟩ | ⟨_, _, hb, hw⟩ | ⟨_, hb, hw⟩ <;> rw [hw] <;> linarith
      · rw [min_le_iff, max_le_iff]; left
        rcases ho with ⟨_, hb, hw⟩ | ⟨_, _, hb, hw⟩ | ⟨_, _, hb, hw⟩ | ⟨_, _, hb, hw⟩ | ⟨_, hb, hw⟩ <;> rw [hw] <;> constructor <;> linarith
    · rw [if_neg up, tab5]
      · norm_num
      · rw [lt_min_iff, lt_max_iff]; refine ⟨?_, by norm_num⟩
        rcases ho with ⟨_, hb, hw⟩ | ⟨_, _, hb, hw⟩ | ⟨_, _, hb, hw⟩ | ⟨_, _, hb, hw⟩ | ⟨_, hb, hw⟩ <;> rw [hw] <;>
          first | (left; linarith) | (right; linarith)
      · rw [min_lt_iff, max_lt_iff]; left
        rcases ho with ⟨_, hb, hw⟩ | ⟨_, _, hb, hw⟩ | ⟨_, _, hb, hw⟩ | ⟨_, _, hb, hw⟩ | ⟨_, hb, hw⟩ <;> rw [hw] <;> constructor <;> linarith
  by_cases c2 : 2 ≤ t
  · have e : stR t = 1 := by unfold stR; rw [if_neg (by linarith), if_pos (by linarith)]
    rw [e, div_one] at gap ⊢
    have f : ⌊t⌋ = 2 := by rw [Int.floor_eq_iff]; push_cast; constructor <;> linarith
    rw [f] at gap ⊢; push_cast at gap ⊢
    by_cases up : θ < t - 2
    · rw [if_pos up, tab5]
      · norm_num
      · rcases gap with gap | gap
        · linarith
        rw [lt_min_iff, lt_max_iff]; refine ⟨Or.inl ?_, by norm_num⟩
        rcases ho with ⟨_, hb, hw⟩ | ⟨_, _, hb, hw⟩ | ⟨_, _, hb, hw⟩ | ⟨_, _, hb, hw⟩ | ⟨_, hb, hw⟩ <;> rw [hw] <;> linarith
      · rw [min_lt_iff, max_lt_iff]; left
        rcases ho with ⟨_, hb, hw⟩ | ⟨_, _, hb, hw⟩ | ⟨_, _, hb, hw⟩ | ⟨_, _, hb, hw⟩ | ⟨_, hb, hw⟩ <;> rw [hw] <;> constructor <;> linarith
    · rw [if_neg up, tab4]
      · norm_num
      · rw [le_min_iff, le_max_iff]; refine ⟨?_, by norm_num⟩
        rcases ho with ⟨_, hb, hw⟩ | ⟨_, _, hb, hw⟩ | ⟨_, _, hb, hw⟩ | ⟨_, _, hb, hw⟩ | ⟨_, hb, hw⟩ <;> rw [hw] <;>
          first | (left; linarith) | (right; linarith)
      · rw [min_le_iff, max_le_iff]; left
        rcases ho with ⟨_, hb, hw⟩ | ⟨_, _, hb, hw⟩ | ⟨_, _, hb, hw⟩ | ⟨_, _, hb, hw⟩ | ⟨_, hb, hw⟩ <;> rw [hw] <;> constructor <;> linarith
  have e : stR t = 1 / 2 := by unfold stR; rw [if_pos (by linarith)]
  have e2 : t / (1 / 2) = 2 * t := by ring
  rw [e, e2] at gap ⊢
  by_cases c1 : 3 / 2 ≤ t
  · have f : ⌊2 * t⌋ = 3 := by rw [Int.floor_eq_iff]; push_cast; constructor <;> linarith
    rw [f] at gap ⊢; push_cast at gap ⊢
    by_cases up : θ < 2 * t - 3
    · rw [if_pos up, tab4]
      · norm_num
      · rcases gap with gap | gap
        · linarith
        rw [le_min_iff, le_max_iff]; refine ⟨Or.inl ?_, by norm_num⟩
        rcases ho with ⟨_, hb, hw⟩ | ⟨_, _, hb, hw⟩ | ⟨_, _, hb, hw⟩ | ⟨_, _, hb, hw⟩ | ⟨_, hb, hw⟩ <;> rw [hw] <;> linarith
      · rw [min_le_iff, max_le_iff]; left
        rcases ho with ⟨_, hb, hw⟩ | ⟨_, _, hb, hw⟩ | ⟨_, _, hb, hw⟩ | ⟨_, _, hb, hw⟩ | ⟨_, hb, hw⟩ <;> rw [hw] <;> constructor <;> linarith
    · rw [if_neg up, tab3]
      · norm_num
      · rw [lt_min_iff, lt_max_iff]; refine ⟨?_, by norm_num⟩
        rcases ho with ⟨_, hb, hw⟩ | ⟨_, _, hb, hw⟩ | ⟨_, _, hb, hw⟩ | ⟨_, _, hb, hw⟩ | ⟨_, hb, hw⟩ <;> rw [hw] <;>
          first | (left; linarith) | (right; linarith)
      · rw [min_lt_iff, max_lt_iff]; left
        rcases ho with ⟨_, hb, hw⟩ | ⟨_, _, hb, hw⟩ | ⟨_, _, hb, hw⟩ | ⟨_, _, hb, hw⟩ | ⟨_, hb, hw⟩ <;> rw [hw] <;> constructor <;> linarith
  by_cases c0 : 1 ≤ t
  · have f : ⌊2 * t⌋ = 2 := by rw [Int.floor_eq_iff]; push_cast; constructor <;> linarith
    rw [f] at gap ⊢; push_cast at gap ⊢
    by_cases up : θ < 2 * t - 2
    · rw [if_pos up, tab3]
      · norm_num
      · rcases gap with gap | gap
        · linarith
        rw [lt_min_iff, lt_max_iff]; refine ⟨Or.inl ?_, by norm_num⟩
        rcases ho with ⟨_, hb, hw⟩ | ⟨_, _, hb, hw⟩ | ⟨_, _, hb, hw⟩ | ⟨_, _, hb, hw⟩ | ⟨_, hb, hw⟩ <;> rw [hw] <;> linarith
      · rw [min_lt_iff, max_lt_iff]; left
        rcases ho with ⟨_, hb, hw⟩ | ⟨_, _, hb, hw⟩ | ⟨_, _, hb, hw⟩ | ⟨_, _, hb, hw⟩ | ⟨_, hb, hw⟩ <;> rw [hw] <;> constructor <;> linarith
    · rw [if_neg up, tab2]
      · norm_num
      · rw [le_min_iff, le_max_iff]; refine ⟨?_, by norm_num⟩
        rcases ho with ⟨_, hb, hw⟩ | ⟨_, _, hb, hw⟩ | ⟨_, _, hb, hw⟩ | ⟨_, _, hb, hw⟩ | ⟨_, hb, hw⟩ <;> rw [hw] <;>
          first | (left; linarith) | (right; linarith)
      · rw [min_le_iff, max_le_iff]; left
        rcases ho with ⟨_, hb, hw⟩ | ⟨_, _, hb, hw⟩ | ⟨_, _, hb, hw⟩ | ⟨_, _, hb, hw⟩ | ⟨_, hb, hw⟩ <;> rw [hw] <;> constructor <;> linarith
  by_cases ch : 1 / 2 ≤ t
  · have f : ⌊2 * t⌋ = 1 := by rw [Int.floor_eq_iff]; push_cast; constructor <;> linarith
    rw [f] at gap ⊢; push_cast at gap ⊢
    by_cases up : θ < 2 * t - 1
    · rw [if_pos up, tab2]
      · norm_num
      · rcases gap with gap | gap
        · linarith
        rw [le_min_iff, le_max_iff]; refine ⟨Or.inl ?_, by norm_num⟩
        rcases ho with ⟨_, hb, hw⟩ | ⟨_, _, hb, hw⟩ | ⟨_, _, hb, hw⟩ | ⟨_, _, hb, hw⟩ | ⟨_, hb, hw⟩ <;> rw [hw] <;> linarith
      · rw [min_le_iff, max_le_iff]; left
        rcases ho with ⟨_, hb, hw⟩ | ⟨_, _, hb, hw⟩ | ⟨_, _, hb, hw⟩ | ⟨_, _, hb, hw⟩ | ⟨_, hb, hw⟩ <;> rw [hw] <;> constructor <;> linarith
    · rw [if_neg up, tab1]
      · norm_num
      · rw [lt_min_iff, lt_max_iff]; refine ⟨?_, by norm_num⟩
        rcases ho with ⟨_, hb, hw⟩ | ⟨_, _, hb, hw⟩ | ⟨_, _, hb, hw⟩ | ⟨_, _, hb, hw⟩ | ⟨_, hb, hw⟩ <;> rw [hw] <;>
          first | (left; linarith) | (right; linarith)
      · rw [min_lt_iff, max_lt_iff]; left
        rcases ho with ⟨_, hb, hw⟩ | ⟨_, _, hb, hw⟩ | ⟨_, _, hb, hw⟩ | ⟨_, _, hb, hw⟩ | ⟨_, hb, hw⟩ <;> rw [hw] <;> constructor <;> linarith
  · have f : ⌊2 * t⌋ = 0 := by rw [Int.floor_eq_iff]; push_cast; constructor <;> linarith
    rw [f] at gap ⊢; push_cast at gap ⊢
    by_cases up : θ < 2 * t - 0
    · rw [if_pos up, tab1]
      · norm_num
      · rcases gap with gap | gap
        · linarith
        rw [lt_min_iff, lt_max_iff]; refine ⟨Or.inl ?_, by norm_num⟩
        rcases ho with ⟨_, hb, hw⟩ | ⟨_, _, hb, hw⟩ | ⟨_, _, hb, hw⟩ | ⟨_, _, hb, hw⟩ | ⟨_, hb, hw⟩ <;> rw [hw] <;> linarith
      · rw [min_lt_iff, max_lt_iff]; left
        rcases ho with ⟨_, hb, hw⟩ | ⟨_, _, hb, hw⟩ | ⟨_, _, hb, hw⟩ | ⟨_, _, hb, hw⟩ | ⟨_, hb, hw⟩ <;> rw [hw] <;> constructor <;> linarith
    · rw [if_neg up, tab0]
      · norm_num
      · rw [min_le_iff, max_le_iff]; left
        rcases ho with ⟨_, hb, hw⟩ | ⟨_, _, hb, hw⟩ | ⟨_, _, hb, hw⟩ | ⟨_, _, hb, hw⟩ | ⟨_, hb, hw⟩ <;> rw [hw] <;> constructor <;> linarith

end Cert.KernelIdeal.Hand
-- ==== Proof.Fp4.lean ====
/- Hand-written. One element of the quantiser on both sides, over the extended reals: what the kernel decodes from a
   rotated element, its group's maximum and its random byte is what the reference decodes, under the precondition. -/
module

public import proofs.«01_k».proof.Proof.Expo
public import proofs.«01_k».proof.Proof.Scal
public import Mathlib.Analysis.SpecialFunctions.Pow.Real

@[expose] public section

noncomputable section

namespace Cert.KernelIdeal.Hand

open Cert.KernelIdeal Cert.KernelIdeal.Gen
open Idealize.ShloMosaic

theorem k0 : Ideal.ofBits .f32 0x00000000#32 = ((0 : ℝ) : EReal) := by simp [Ideal.ofBits, Ideal.ieee]
theorem kS : Ideal.ofBits .f32 0x3F7FFFFE#32 = ((1 - 1 / 8388608 : ℝ) : EReal) := by
  rw [show (1 - 1 / 8388608 : ℝ) = 8388607 / 8388608 by norm_num]
  simp [Ideal.ofBits, Ideal.ieee, ← EReal.coe_mul, ← EReal.coe_pow]; try norm_num
theorem k127 : Ideal.ofBits .f32 0x42FF0000#32 = ((255 / 2 : ℝ) : EReal) := by
  simp [Ideal.ofBits, Ideal.ieee, ← EReal.coe_mul, ← EReal.coe_pow]; try norm_num
theorem k512 : Ideal.ofBits .f32 0x3B000000#32 = ((1 / 512 : ℝ) : EReal) := by
  simp [Ideal.ofBits, Ideal.ieee, ← EReal.coe_mul, ← EReal.coe_pow]; try norm_num
theorem kq : Ideal.ofBits .f32 0x3E800000#32 = ((1 / 4 : ℝ) : EReal) := by
  simp [Ideal.ofBits, Ideal.ieee, ← EReal.coe_mul, ← EReal.coe_pow]; try norm_num
theorem kh : Ideal.ofBits .f32 0x3F000000#32 = ((1 / 2 : ℝ) : EReal) := by
  simp [Ideal.ofBits, Ideal.ieee, ← EReal.coe_mul, ← EReal.coe_pow]; try norm_num
theorem k3q : Ideal.ofBits .f32 0x3F400000#32 = ((3 / 4 : ℝ) : EReal) := by
  simp [Ideal.ofBits, Ideal.ieee, ← EReal.coe_mul, ← EReal.coe_pow]; try norm_num
theorem k1 : Ideal.ofBits .f32 0x3F800000#32 = ((1 : ℝ) : EReal) := by
  simp [Ideal.ofBits, Ideal.ieee, ← EReal.coe_mul, ← EReal.coe_pow]; try norm_num
theorem k5q : Ideal.ofBits .f32 0x3FA00000#32 = ((5 / 4 : ℝ) : EReal) := by
  simp [Ideal.ofBits, Ideal.ieee, ← EReal.coe_mul, ← EReal.coe_pow]; try norm_num
theorem k3h : Ideal.ofBits .f32 0x3FC00000#32 = ((3 / 2 : ℝ) : EReal) := by
  simp [Ideal.ofBits, Ideal.ieee, ← EReal.coe_mul, ← EReal.coe_pow]; try norm_num
theorem k7q : Ideal.ofBits .f32 0x3FE00000#32 = ((7 / 4 : ℝ) : EReal) := by
  simp [Ideal.ofBits, Ideal.ieee, ← EReal.coe_mul, ← EReal.coe_pow]; try norm_num
theorem k2 : Ideal.ofBits .f32 0x40000000#32 = ((2 : ℝ) : EReal) := by
  simp [Ideal.ofBits, Ideal.ieee, ← EReal.coe_mul, ← EReal.coe_pow]; try norm_num
theorem k5h : Ideal.ofBits .f32 0x40200000#32 = ((5 / 2 : ℝ) : EReal) := by
  simp [Ideal.ofBits, Ideal.ieee, ← EReal.coe_mul, ← EReal.coe_pow]; try norm_num
theorem k3 : Ideal.ofBits .f32 0x40400000#32 = ((3 : ℝ) : EReal) := by
  simp [Ideal.ofBits, Ideal.ieee, ← EReal.coe_mul, ← EReal.coe_pow]; try norm_num
theorem k7h : Ideal.ofBits .f32 0x40600000#32 = ((7 / 2 : ℝ) : EReal) := by
  simp [Ideal.ofBits, Ideal.ieee, ← EReal.coe_mul, ← EReal.coe_pow]; try norm_num
theorem k4 : Ideal.ofBits .f32 0x40800000#32 = ((4 : ℝ) : EReal) := by
  simp [Ideal.ofBits, Ideal.ieee, ← EReal.coe_mul, ← EReal.coe_pow]; try norm_num
theorem k5 : Ideal.ofBits .f32 0x40A00000#32 = ((5 : ℝ) : EReal) := by
  simp [Ideal.ofBits, Ideal.ieee, ← EReal.coe_mul, ← EReal.coe_pow]; try norm_num
theorem k6 : Ideal.ofBits .f32 0x40C00000#32 = ((6 : ℝ) : EReal) := by
  simp [Ideal.ofBits, Ideal.ieee, ← EReal.coe_mul, ← EReal.coe_pow]; try norm_num
theorem k256 : Ideal.ofBits .f32 0x43800000#32 = ((256 : ℝ) : EReal) := by
  simp [Ideal.ofBits, Ideal.ieee, ← EReal.coe_mul, ← EReal.coe_pow]; try norm_num
theorem kc6 : Ideal.ofBits .f32 0x3E2AAAAB#32 = ((11184811 / 67108864 : ℝ) : EReal) := by
  simp [Ideal.ofBits, Ideal.ieee, ← EReal.coe_mul, ← EReal.coe_pow]; try norm_num
theorem klo : Ideal.ofBits .f32 0x00800000#32 = (((2 : ℝ) ^ (-126 : ℤ) : ℝ) : EReal) := by
  simp [Ideal.ofBits, Ideal.ieee, ← EReal.coe_mul, ← EReal.coe_pow]; try norm_num
theorem khi : Ideal.ofBits .f32 0x7E800000#32 = (((2 : ℝ) ^ (126 : ℤ) : ℝ) : EReal) := by
  simp [Ideal.ofBits, Ideal.ieee, ← EReal.coe_mul, ← EReal.coe_pow]; try norm_num

theorem sel_ge {α : Type} (x y : EReal) (A B : α) : Scalar.select (Ideal.cmp .oge x y) A B = if y ≤ x then A else B := by
  by_cases h : y ≤ x <;> simp [Scalar.select, Ideal.cmp, h]
theorem sel_gt {α : Type} (x y : EReal) (A B : α) : Scalar.select (Ideal.cmp .ogt x y) A B = if y < x then A else B := by
  by_cases h : y < x <;> simp [Scalar.select, Ideal.cmp, h]
theorem sel_lt {α : Type} (x y : EReal) (A B : α) : Scalar.select (Ideal.cmp .olt x y) A B = if x < y then A else B := by
  by_cases h : x < y <;> simp [Scalar.select, Ideal.cmp, h]
theorem sel_eq {α : Type} (x y : EReal) (A B : α) : Scalar.select (Ideal.cmp .oeq x y) A B = if x = y then A else B := by
  by_cases h : x = y <;> simp [Scalar.select, Ideal.cmp, h]

theorem coe_max' (a b : ℝ) : max (a : EReal) (b : EReal) = ((max a b : ℝ) : EReal) := (EReal.coe_strictMono.monotone.map_max).symm
theorem coe_min' (a b : ℝ) : min (a : EReal) (b : EReal) = ((min a b : ℝ) : EReal) := (EReal.coe_strictMono.monotone.map_min).symm
theorem coe_abs' (a : ℝ) : max (a : EReal) (-(a : EReal)) = ((|a| : ℝ) : EReal) := by
  rw [← EReal.coe_neg, coe_max']; rfl
theorem coe_ite' (c : Prop) [Decidable c] (a b : ℝ) : (if c then (a : EReal) else (b : EReal)) = ((if c then a else b : ℝ) : EReal) := by
  split_ifs <;> rfl

theorem tabE_coe (v : ℝ) : tabE (v : EReal) = ((tabR v : ℝ) : EReal) := by
  unfold tabE tabR
  simp only [sel_ge, sel_gt, k0, kq, kh, k3q, k1, k5q, k3h, k7q, k2, k5h, k3, k7h, k4, k5, k6, EReal.coe_le_coe_iff, EReal.coe_lt_coe_iff, coe_ite']

/-- The octave below a magnitude, as the kernel reads it. -/
theorem base_spec (t : ℝ) (ht0 : 0 ≤ t) (ht6 : t < 6) : ∃ b : ℝ, thr (expo (t : EReal)) = (b : EReal) ∧ 0 ≤ b ∧ (4 ≤ t → b = 4)
    ∧ (2 ≤ t → t < 4 → b = 2) ∧ (1 ≤ t → t < 2 → b = 1) ∧ (t < 1 → b ≤ 1 / 2) ∧ (t < 1 / 2 → b ≤ 1 / 4) := by
  obtain ⟨n, e, hn, hl, hu⟩ := expo_real t (lt_trans ht6 (by norm_num))
  rw [e]
  rcases Nat.eq_zero_or_pos n with h0 | h0
  · subst h0
    have hu' : t < 1 / 4 := lt_trans hu (by norm_num)
    refine ⟨0, thr_zero, le_refl _, fun h => ?_, fun h _ => ?_, fun h _ => ?_, fun _ => by norm_num, fun _ => by norm_num⟩ <;> linarith
  · have hl' : (2 : ℝ) ^ ((n : ℤ) - 127) ≤ t := hl.resolve_left (by omega)
    have key : ∀ k : ℤ, (2 : ℝ) ^ k ≤ t → k ≤ (n : ℤ) - 127 := fun k hk => by
      have : (2 : ℝ) ^ k < (2 : ℝ) ^ ((n : ℤ) - 126) := lt_of_le_of_lt hk hu
      rw [zpow_lt_zpow_iff_right₀ (by norm_num)] at this; omega
    have key' : ∀ k : ℤ, t < (2 : ℝ) ^ k → (n : ℤ) - 127 < k := fun k hk => by
      have : (2 : ℝ) ^ ((n : ℤ) - 127) < (2 : ℝ) ^ k := lt_of_le_of_lt hl' hk
      rwa [zpow_lt_zpow_iff_right₀ (by norm_num)] at this
    refine ⟨_, thr_eq n h0 (by omega), by positivity, fun h => ?_, fun h h' => ?_, fun h h' => ?_, fun h => ?_, fun h => ?_⟩
    · have h1 := key 2 (by norm_num; linarith)
      have h2 := key' 3 (by norm_num; linarith)
      rw [show (n : ℤ) - 127 = 2 by omega]; norm_num
    · have h1 := key 1 (by norm_num; linarith)
      have h2 := key' 2 (by norm_num; linarith)
      rw [show (n : ℤ) - 127 = 1 by omega]; norm_num
    · have h1 := key 0 (by norm_num; linarith)
      have h2 := key' 1 (by norm_num; linarith)
      rw [show (n : ℤ) - 127 = 0 by omega]; norm_num
    · have h2 := key' 0 (by norm_num; linarith)
      have : (2 : ℝ) ^ ((n : ℤ) - 127) ≤ (2 : ℝ) ^ (-1 : ℤ) := zpow_le_zpow_right₀ (by norm_num) (by omega)
      refine this.trans (by norm_num)
    · have h2 := key' (-1) (by norm_num; linarith)
      have : (2 : ℝ) ^ ((n : ℤ) - 127) ≤ (2 : ℝ) ^ (-2 : ℤ) := zpow_le_zpow_right₀ (by norm_num) (by omega)
      refine this.trans (by norm_num)

theorem rb_int (rb : BitVec 8) : (rb.setWidth 32).toInt = (rb.toNat : ℤ) := by
  have h := rb.isLt
  rw [BitVec.toInt_eq_toNat_of_lt] <;> simp <;> omega

/-- The magnitude the reference rounds `y` to. -/
def magR (t : ℝ) (θ : ℝ) : ℝ :=
  min (((⌊t / stR t⌋ : ℝ) + if θ < t / stR t - (⌊t / stR t⌋ : ℝ) then 1 else 0) * stR t) 6
/-- The random threshold. -/
def thR (rb : BitVec 8) : ℝ := ((rb.toNat : ℝ) + 1 / 2) / 256

/-- The shifted magnitude before the table, and what the table makes of it. -/
theorem sF_coe (y : ℝ) (rb : BitVec 8) (hy : |y| < 6)
    (gap : |y| / stR |y| ≤ (⌊|y| / stR |y|⌋ : ℝ) + thR rb ∨ (⌊|y| / stR |y|⌋ : ℝ) + thR rb < |y| / stR |y| * (1 - 1 / 8388608)) :
    ∃ V : ℝ, 0 ≤ V ∧ sF ((y * (1 - 1 / 8388608) : ℝ) : EReal) rb = ((if y < 0 then 0 - V else V : ℝ) : EReal) ∧ tabR V = magR |y| (thR rb) := by
  have hy0 := abs_nonneg y
  have ht' : |y * (1 - 1 / 8388608)| = |y| * (1 - 1 / 8388608) := by rw [abs_mul, abs_of_pos (by norm_num : (0 : ℝ) < 1 - 1 / 8388608)]
  obtain ⟨b, hb, hb0, h4, h2, h1, h0, h00⟩ := base_spec |y * (1 - 1 / 8388608)| (abs_nonneg _) (by rw [ht']; linarith)
  have hrb : (rb.toNat : ℝ) ≤ 255 := by have := rb.isLt; exact_mod_cast (by omega : rb.toNat ≤ 255)
  have hs := scal (t := |y|) (n := (rb.toNat : ℝ)) (θ := thR rb) (b := b) hy0 hy (by positivity) hrb rfl ht' h4 h2 h1 h0 h00 gap
  have hv : vF ((y * (1 - 1 / 8388608) : ℝ) : EReal) rb
      = ((min (max (|y * (1 - 1 / 8388608)| + (255 / 2 - (rb.toNat : ℝ)) * (1 / 512) * max b 1) b) 6 : ℝ) : EReal) := by
    unfold vF
    rw [coe_abs', hb, rb_int, k127, k512, k1, k6]
    simp only [Int.cast_natCast, coe_max', coe_min', ← EReal.coe_sub, ← EReal.coe_mul, ← EReal.coe_add]
  have hV0 : 0 ≤ min (max (|y * (1 - 1 / 8388608)| + (255 / 2 - (rb.toNat : ℝ)) * (1 / 512) * max b 1) b) 6 :=
    le_min (le_trans hb0 (le_max_right _ _)) (by norm_num)
  change tabR _ = magR _ _ at hs
  generalize min (max (|y * (1 - 1 / 8388608)| + (255 / 2 - (rb.toNat : ℝ)) * (1 / 512) * max b 1) b) 6 = V at hs hv hV0
  have hsF : sF ((y * (1 - 1 / 8388608) : ℝ) : EReal) rb = ((if y < 0 then 0 - V else V : ℝ) : EReal) := by
    unfold sF
    have hc : y * (1 - 1 / 8388608) < 0 ↔ y < 0 := by constructor <;> intro h <;> linarith
    rw [hv, k0, sel_lt, ← EReal.coe_sub, coe_ite']
    simp only [EReal.coe_lt_coe_iff, hc]
  exact ⟨V, hV0, hsF, hs⟩

theorem valF_coe (y : ℝ) (rb : BitVec 8) (hy : |y| < 6)
    (gap : |y| / stR |y| ≤ (⌊|y| / stR |y|⌋ : ℝ) + thR rb ∨ (⌊|y| / stR |y|⌋ : ℝ) + thR rb < |y| / stR |y| * (1 - 1 / 8388608)) :
    valF ((y * (1 - 1 / 8388608) : ℝ) : EReal) rb = ((if y < 0 then -magR |y| (thR rb) else magR |y| (thR rb) : ℝ) : EReal) := by
  obtain ⟨V, hV0, hsF, hs⟩ := sF_coe y rb hy gap
  unfold valF
  rw [hsF, k0, sel_lt, coe_abs', tabE_coe, ← EReal.coe_sub, coe_ite']
  congr 1
  simp only [EReal.coe_lt_coe_iff]
  by_cases c : y < 0
  · simp only [if_pos c]
    rw [show |0 - V| = V by rw [zero_sub, abs_neg, abs_of_nonneg hV0], hs]
    by_cases d : 0 - V < 0
    · rw [if_pos d, zero_sub]
    · rw [if_neg d]
      have hV : V = 0 := by linarith
      rw [← hs, hV, tab0 (by norm_num), neg_zero]
  · simp only [if_neg c]
    rw [if_neg (not_lt.mpr hV0), abs_of_nonneg hV0, hs]

/-! ## The reference's element -/

/-- The scale exponent of a group with maximum `a`. -/
def eR (a : EReal) : EReal :=
  Scalar.select (Ideal.cmp .oeq a (Ideal.ofBits .f32 0x00000000#32)) (Ideal.ofBits .f32 0x00000000#32)
    (Ideal.liftRound Int.floor (Ideal.div (Ideal.log (a * Ideal.ofBits .f32 0x3E2AAAAB#32)) (Ideal.log (Ideal.ofBits .f32 0x40000000#32)))
      + Ideal.ofBits .f32 0x3F800000#32)
/-- The scaled element. -/
def yR (r e : EReal) : EReal := r * Ideal.pow (Ideal.ofBits .f32 0x40000000#32) (-e)
/-- The step of the fp4 grid at a magnitude. -/
def stE (t : EReal) : EReal :=
  Scalar.select (Ideal.cmp .olt t (Ideal.ofBits .f32 0x40000000#32)) (Ideal.ofBits .f32 0x3F000000#32)
    (Scalar.select (Ideal.cmp .olt t (Ideal.ofBits .f32 0x40800000#32)) (Ideal.ofBits .f32 0x3F800000#32) (Ideal.ofBits .f32 0x40000000#32))
/-- A magnitude in steps. -/
def zE (y : EReal) : EReal := Ideal.div (max y (-y)) (stE (max y (-y)))
/-- The threshold of a random byte. -/
def thE (rb : BitVec 8) : EReal :=
  Ideal.div ((((rb.setWidth 32).toInt : ℝ) : EReal) + Ideal.ofBits .f32 0x3F000000#32) (Ideal.ofBits .f32 0x43800000#32)
/-- The rounded magnitude. -/
def qE (y : EReal) (rb : BitVec 8) : EReal :=
  min ((Ideal.liftRound Int.floor (zE y) + ((((Ideal.cmp .olt (thE rb) (zE y - Ideal.liftRound Int.floor (zE y))).toNat : ℝ)) : EReal)) * stE (max y (-y)))
    (Ideal.ofBits .f32 0x40C00000#32)
/-- The decoded element. -/
def decE (r a : EReal) (rb : BitVec 8) : EReal :=
  Scalar.select (Ideal.cmp .olt (yR r (eR a)) (Ideal.ofBits .f32 0x00000000#32)) (-(qE (yR r (eR a)) rb)) (qE (yR r (eR a)) rb)
    * Ideal.pow (Ideal.ofBits .f32 0x40000000#32) (eR a)
/-- What the precondition says of one element. -/
def preE (r a : EReal) (rb : BitVec 8) : BitVec 1 :=
  IntOp.andi
    (IntOp.ori (Ideal.cmp .oeq (a * Ideal.ofBits .f32 0x3E2AAAAB#32) (Ideal.ofBits .f32 0x00000000#32))
      (IntOp.andi (Ideal.cmp .oge (a * Ideal.ofBits .f32 0x3E2AAAAB#32) (Ideal.ofBits .f32 0x00800000#32))
        (Ideal.cmp .olt (a * Ideal.ofBits .f32 0x3E2AAAAB#32) (Ideal.ofBits .f32 0x7E800000#32))))
    (IntOp.ori (Ideal.cmp .ole (zE (yR r (eR a))) (Ideal.liftRound Int.floor (zE (yR r (eR a))) + thE rb))
      (Ideal.cmp .ogt (zE (yR r (eR a)) * Ideal.ofBits .f32 0x3F7FFFFE#32) (Ideal.liftRound Int.floor (zE (yR r (eR a))) + thE rb)))

end Cert.KernelIdeal.Hand
-- ==== Proof.Spec.lean ====
/- Hand-written. The weight gradient as a formula over the argument arrays: the rotated tokens, the groups' maxima, the decoded
   elements of `dy` and of `x`. -/
module

public import proofs.«01_k».proof.Proof.Fp4
public import Idealize.ShloMosaic.Lib.Pointwise

@[expose] public section

noncomputable section

namespace Cert.KernelIdeal.Hand

open Idealize.ShloMosaic

abbrev DYT : Type := Vec Ideal ⟨3, ![2, 768, 18432]⟩ .bf16
abbrev SGT : Type := Vec Ideal ⟨1, ![64]⟩ .f32
abbrev RBT : Type := IVec ⟨3, ![2, 768, 18432]⟩ 8
abbrev XQT : Type := IVec ⟨2, ![768, 7168]⟩ 32

/-- Entry `(i, j)` of the rotation. -/
def mRot (sg : SGT) (i j : Fin 64) : EReal :=
  Scalar.select (IntOp.cmpi .eq (IntOp.andi (IntOp.ctpop (IntOp.andi (BitVec.ofNat 32 i.val) (BitVec.ofNat 32 j.val))) 1#32) 0#32)
    1 (Ideal.ofBits .f32 0xBF800000#32) * sg (ix1 j) * Ideal.ofBits .f32 0x3E000000#32
/-- Token `T` of an array of two batches of 768 tokens. -/
def tok {α : Type} (v : (⟨3, ![2, 768, 18432]⟩ : Shape).Idx → α) (T : Fin 1536) (c : Fin 18432) : α :=
  v (ix3 ⟨T.val / 768, by omega⟩ ⟨T.val % 768, by omega⟩ c)
/-- The rotated token `T` at channel `c`. -/
def rRot (dy : DYT) (sg : SGT) (T : Fin 1536) (c : Fin 18432) : EReal :=
  ∑ j : Fin 64, tok dy ⟨64 * (T.val / 64) + j.val, by omega⟩ c * mRot sg ⟨T.val % 64, by omega⟩ j
/-- The largest rotated magnitude of group `G` at channel `c`. -/
def aGrp (dy : DYT) (sg : SGT) (G : Fin 48) (c : Fin 18432) : EReal :=
  Finset.univ.fold max (⊥ : EReal) fun k : Fin 32 =>
    max (rRot dy sg ⟨32 * G.val + k.val, by omega⟩ c) (-(rRot dy sg ⟨32 * G.val + k.val, by omega⟩ c))
/-- The decoded `dy`. -/
def decT (dy : DYT) (sg : SGT) (rb : RBT) (T : Fin 1536) (c : Fin 18432) : EReal :=
  decE (rRot dy sg T c) (aGrp dy sg ⟨T.val / 32, by omega⟩ c) (tok rb T c)
/-- The decoded `x`. -/
def xT (xq : XQT) (T : Fin 1536) (i : Fin 7168) : EReal :=
  Ideal.ofBits .bf16 ((xq (ix2 ⟨T.val / 2, by omega⟩ i)).extractLsb' (16 * (T.val % 2)) 16)
/-- The weight gradient at `(o, i)`. -/
def dwT (xq : XQT) (dy : DYT) (sg : SGT) (rb : RBT) (o : Fin 18432) (i : Fin 7168) : EReal :=
  ∑ T : Fin 1536, decT dy sg rb T o * xT xq T i

end Cert.KernelIdeal.Hand
-- ==== Proof.KM.lean ====
/- Hand-written. What the launch hands the kernel: the rotation by blocks, the tokens, the random bytes. -/
module

public import proofs.«01_k».proof.Proof.Lch
public import proofs.«01_k».proof.Proof.Spec
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.Tactic

section
variable {F : FTy → Type} [FloatOps F]

/-- The rotation. -/
def HM (sg : FVec F S64 .f32) : FVec F S64x64 .f32 :=
  mulf (mulf (select (cmpi .eq (andi (ctpop (andi (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0))))) (broadcastInDim S64x64 ![] bcast_S_S64x64 (constantI S_ 32 1#32))) (broadcastInDim S64x64 ![] bcast_S_S64x64 (constantI S_ 32 0#32))) (broadcastInDim S64x64 ![] bcast_S_S64x64 (constant S_ .f32 0x3F800000#32)) (broadcastInDim S64x64 ![] bcast_S_S64x64 (constant S_ .f32 0xBF800000#32)))
    (broadcastInDim S64x64 ![0, 1] bcast_S1x64_S64x64_0_1 (broadcastInDim S1x64 ![1] bcast_S64_S1x64_1 sg))) (broadcastInDim S64x64 ![] bcast_S_S64x64 (constant S_ .f32 0x3E000000#32))
/-- The four by four identity. -/
def HE : FVec F S4x4 .f32 :=
  uitofp .f32 (cmpi .eq (addi (iotaInDim S4x4 32 0) (broadcastInDim S4x4 ![] bcast_S_S4x4 (constantI S_ 32 0#32))) (iotaInDim S4x4 32 1))
/-- The rotation of 256 tokens: four rotations on the diagonal. -/
def HK (e : FVec F S4x4 .f32) (r : FVec F S64x64 .f32) : FVec F S256x256 .bf16 :=
  truncf .bf16 (shapeCast S256x256 (mulf (broadcastInDim S4x64x4x64 ![0, 1, 2, 3] bcast_S4x1x4x1_S4x64x4x64_0_1_2_3 (broadcastInDim S4x1x4x1 ![0, 2] bcast_S4x4_S4x1x4x1_0_2 e))
    (broadcastInDim S4x64x4x64 ![0, 1, 2, 3] bcast_S1x64x1x64_S4x64x4x64_0_1_2_3 (broadcastInDim S1x64x1x64 ![1, 3] bcast_S64x64_S1x64x1x64_1_3 r))) shapeCasts_S4x64x4x64_S256x256) bitsLt_bf16_f32

variable (m : (ℓ : Loc nD τ sig) → Buf (Elt F) ℓ)

set_option maxHeartbeats 2000000 in
theorem V_v25 (c : Dev nD) : Gen.V m c main_v25 = HK HE (HM (m ((c : Thread nD τ).loc main_arg2))) := by
  show StableHlo.after (List.flatten [hostOps0, hostOps0_1, hostOps0_2, hostOps0_3, hostOps0_4]) _ (Proc.devRef .tc main_v25) = _
  simp only [hostOps0, hostOps0_1, hostOps0_2, hostOps0_3, hostOps0_4, List.flatten_cons, List.flatten_nil, List.append_nil, List.cons_append, List.nil_append,
    TRef.ternary, TRef.unary, TRef.binary, TRef.reshape, TRef.toBuf, TRef.ofBuf, cast_eq]
  after_results_simp
  all_goals rfl

set_option maxHeartbeats 2000000 in
theorem V_v26 (c : Dev nD) : Gen.V m c main_v26 = shapeCast S1536x18432 (m ((c : Thread nD τ).loc main_arg1)) shapeCasts_S2x768x18432_S1536x18432 := by
  show StableHlo.after (List.flatten [hostOps0, hostOps0_1, hostOps0_2, hostOps0_3, hostOps0_4]) _ (Proc.devRef .tc main_v26) = _
  simp only [hostOps0, hostOps0_1, hostOps0_2, hostOps0_3, hostOps0_4, List.flatten_cons, List.flatten_nil, List.append_nil, List.cons_append, List.nil_append,
    TRef.ternary, TRef.unary, TRef.binary, TRef.reshape, TRef.toBuf, TRef.ofBuf, cast_eq]
  after_results_simp
  all_goals rfl

set_option maxHeartbeats 2000000 in
theorem V_v27 (c : Dev nD) : Gen.V m c main_v27 = shapeCast S1536x18432 (m ((c : Thread nD τ).loc main_arg3)) shapeCasts_S2x768x18432_S1536x18432 := by
  show StableHlo.after (List.flatten [hostOps0, hostOps0_1, hostOps0_2, hostOps0_3, hostOps0_4]) _ (Proc.devRef .tc main_v27) = _
  simp only [hostOps0, hostOps0_1, hostOps0_2, hostOps0_3, hostOps0_4, List.flatten_cons, List.flatten_nil, List.append_nil, List.cons_append, List.nil_append,
    TRef.ternary, TRef.unary, TRef.binary, TRef.reshape, TRef.toBuf, TRef.ofBuf, cast_eq]
  after_results_simp
  all_goals rfl

theorem blk_facts : ∀ t : Fin cfg0.N, win0_0.index t (0 : Fin 2) = 0 ∧ win0_0.index t (1 : Fin 2) = 0
    ∧ win0_1.index t (0 : Fin 2) = 0 ∧ win0_1.index t (1 : Fin 2) = min t.val 35 ∧ win0_2.index t (0 : Fin 2) = 0 ∧ win0_2.index t (1 : Fin 2) = min t.val 35 :=
  (by decide +kernel : ∀ t : Fin grid0.N, _)

theorem blkM_apply (c : Dev nD) (i j : Fin 256) : (VV m c).M (ix2 i j) = Gen.V m c main_v25 (ix2 i j) := by
  obtain ⟨e0, e1, _⟩ := blk_facts (0 : Fin 37)
  show Gen.V m c main_v25 (((cfg0.win 0).blk (0 : Fin 37)).view.emb (ix2 i j)) = _
  congr 1
  funext a; apply Fin.ext
  match a with
  | ⟨0, _⟩ => show win0_0.index (0 : Fin 37) (0 : Fin 2) * 256 + 1 * i.val = i.val; omega
  | ⟨1, _⟩ => show win0_0.index (0 : Fin 37) (1 : Fin 2) * 256 + 1 * j.val = j.val; omega

theorem blkD_at (c : Dev nD) (t : Fin 37) (ht : t.val < 36) (r : Fin 1536) (o : Fin 512) :
    (iblk m c 1 t : Vec F S1536x512 .bf16) (ix2 r o) = Gen.V m c main_v26 (ix2 r ⟨512 * t.val + o.val, by omega⟩) := by
  obtain ⟨_, _, e0, e1, _⟩ := blk_facts t
  show Gen.V m c main_v26 (((cfg0.win 1).blk t).view.emb (ix2 r o)) = _
  congr 1
  funext a; apply Fin.ext
  match a with
  | ⟨0, _⟩ => show win0_1.index t (0 : Fin 2) * 1536 + 1 * r.val = r.val; omega
  | ⟨1, _⟩ => show win0_1.index t (1 : Fin 2) * 512 + 1 * o.val = 512 * t.val + o.val; omega

theorem blkD_apply (c : Dev nD) (s : Fin 36) (r : Fin 1536) (o : Fin 512) :
    (VV m c).D s.val (ix2 r o) = Gen.V m c main_v26 (ix2 r ⟨512 * s.val + o.val, by omega⟩) :=
  (congrFun (atN_val (blkD m c) ⟨s.val, by omega⟩) (ix2 r o)).trans (blkD_at m c ⟨s.val, by omega⟩ s.isLt r o)

theorem blkR_at (c : Dev nD) (t : Fin 37) (ht : t.val < 36) (r : Fin 1536) (o : Fin 512) :
    (iblk m c 2 t : Vec F S1536x512 .i8) (ix2 r o) = Gen.V m c main_v27 (ix2 r ⟨512 * t.val + o.val, by omega⟩) := by
  obtain ⟨_, _, _, _, e0, e1⟩ := blk_facts t
  show Gen.V m c main_v27 (((cfg0.win 2).blk t).view.emb (ix2 r o)) = _
  congr 1
  funext a; apply Fin.ext
  match a with
  | ⟨0, _⟩ => show win0_2.index t (0 : Fin 2) * 1536 + 1 * r.val = r.val; omega
  | ⟨1, _⟩ => show win0_2.index t (1 : Fin 2) * 512 + 1 * o.val = 512 * t.val + o.val; omega

theorem blkR_apply (c : Dev nD) (s : Fin 36) (r : Fin 1536) (o : Fin 512) :
    (VV m c).R s.val (ix2 r o) = Gen.V m c main_v27 (ix2 r ⟨512 * s.val + o.val, by omega⟩) :=
  (congrFun (atN_val (blkR m c) ⟨s.val, by omega⟩) (ix2 r o)).trans (blkR_at m c ⟨s.val, by omega⟩ s.isLt r o)
end

/-! ## At the extended reals -/

theorem tok_cast {α : Type} (v : S2x768x18432.Idx → α) (r : Fin 1536) (c : Fin 18432) :
    shapeCast S1536x18432 v shapeCasts_S2x768x18432_S1536x18432 (ix2 r c) = tok v r c := by
  unfold tok
  pointwise

theorem HM_apply (sg : FVec Ideal S64 .f32) (i j : Fin 64) : HM sg (ix2 i j) = mRot sg i j := by
  unfold HM mRot
  pointwise

theorem eye_eq : ∀ a b : Fin 4, IntOp.cmpi .eq (IntOp.addi (BitVec.ofNat 32 a.val) 0#32) (BitVec.ofNat 32 b.val) = BitVec.ofBool (decide (a.val = b.val)) := by decide

theorem HE_apply (a b : Fin 4) : (HE : FVec Ideal S4x4 .f32) (ix2 a b) = if a.val = b.val then 1 else 0 := by
  show (((IntOp.cmpi .eq (IntOp.addi (BitVec.ofNat 32 a.val) 0#32) (BitVec.ofNat 32 b.val)).toNat : ℝ) : EReal) = _
  rw [eye_eq]
  by_cases h : a.val = b.val <;> simp [h]

theorem HK_apply (e : FVec Ideal S4x4 .f32) (r : FVec Ideal S64x64 .f32) (i j : Fin 256) :
    HK e r (ix2 i j) = e (ix2 ⟨i.val / 64, by omega⟩ ⟨j.val / 64, by omega⟩) * r (ix2 ⟨i.val % 64, by omega⟩ ⟨j.val % 64, by omega⟩) := by
  unfold HK
  pointwise

/-- A row of the rotation of 256 tokens, as a sum over its own 64 tokens. -/
theorem rot_sum (sg : FVec Ideal S64 .f32) (i : Fin 256) (d : Fin 256 → EReal) :
    ∑ j : Fin 256, HK HE (HM sg) (ix2 i j) * d j = ∑ j : Fin 64, d ⟨64 * (i.val / 64) + j.val, by omega⟩ * mRot sg ⟨i.val % 64, by omega⟩ j := by
  symm
  refine Finset.sum_of_injOn (fun j : Fin 64 => (⟨64 * (i.val / 64) + j.val, by omega⟩ : Fin 256)) ?_ ?_ ?_ ?_
  · intro a _ b _ h
    have := congrArg Fin.val h
    exact Fin.ext (by simpa using this)
  · intro a _; simp
  · intro j _ hj
    rw [HK_apply, HE_apply, if_neg, zero_mul, zero_mul]
    intro h
    apply hj
    refine ⟨⟨j.val % 64, by omega⟩, by simp, Fin.ext ?_⟩
    have h' : i.val / 64 = j.val / 64 := h
    show 64 * (i.val / 64) + j.val % 64 = j.val
    omega
  · intro j _
    rw [HK_apply, HE_apply, if_pos (by show i.val / 64 = (64 * (i.val / 64) + j.val) / 64; omega), one_mul, HM_apply, mul_comm]
    have e : (⟨(64 * (i.val / 64) + j.val) % 64, by omega⟩ : Fin 64) = j := Fin.ext (by show (64 * (i.val / 64) + j.val) % 64 = j.val; omega)
    show mRot sg _ j * _ = mRot sg _ (⟨(64 * (i.val / 64) + j.val) % 64, by omega⟩ : Fin 64) * _
    rw [e]

end Cert.KernelIdeal.Hand
-- ==== Proof.KQ.lean ====
/- Hand-written. A decoded chunk at an index, as the scalar functions of the rotated chunk. -/
module

public import proofs.«01_k».proof.Proof.Expo
public import Idealize.ShloMosaic.Lib.Pointwise
public import Idealize.ShloMosaic.Lib.BitcastPair

@[expose] public section

noncomputable section

namespace Cert.KernelIdeal.Hand

open Cert.KernelIdeal Cert.KernelIdeal.Gen
open Idealize.ShloMosaic Idealize.ShloMosaic.TcCoe Idealize.ShloMosaic.Tactic

variable (M : Vec Ideal S256x256 .bf16) (D : Vec Ideal S256x512 .bf16) (R : Vec Ideal S256x512 .i8)

set_option maxRecDepth 16384

theorem cb_1_apply (i : Fin 256) (o : Fin 512) : cb_1 M D R (ix2 i o) = ∑ j : Fin 256, M (ix2 i j) * D (ix2 j o) := by
  pointwise [cb_1, cb_0, k0_pay44, k0_pay43]

theorem cb_3_apply (g : Fin 8) (o : Fin 512) : cb_3 M D R (ix2 g o)
    = (Finset.univ.fold max (⊥ : EReal) fun k : Fin 32 => max (cb_1 M D R (ix2 ⟨32 * g.val + k.val, by omega⟩ o)) (-(cb_1 M D R (ix2 ⟨32 * g.val + k.val, by omega⟩ o))))
      * Ideal.ofBits .f32 0x3E2AAAAB#32 := by
  have e : cb_3 M D R = mulf (multiReduction .maximumf [1] S8x512 (shapeCast S8x32x512 (absf (cb_1 M D R)) shapeCasts_S256x512_S8x32x512) 0xFF800000#32 reduces_S8x32x512_S8x512 (.inl rfl) rfl)
    (broadcast S8x512 (Scalar.ofBits .f32 0x3E2AAAAB#32)) := rfl
  rw [e]
  generalize cb_1 M D R = C
  pointwise
  have hb : Ideal.ofBits .f32 4286578688#32 = (⊥ : EReal) := by simp [Ideal.ofBits, Ideal.ieee]
  rw [hb]
  simp only [mul_comm 32 g.val]
  rfl

theorem cb_8_apply (i : Fin 256) (o : Fin 512) : cb_8 M D R (ix2 i o) = cb_1 M D R (ix2 i o) * invF (cb_3 M D R (ix2 ⟨i.val / 32, by omega⟩ o)) := by
  rw [cb_8_eq]
  generalize cb_1 M D R = C
  generalize cb_3 M D R = A
  pointwise
  rw [invV_apply]

theorem cb_21_apply (g : Fin 8) (o : Fin 512) : cb_21 M D R (ix2 g o) =
    IntOp.ori (IntOp.shli .vector (byteF (cb_3 M D R (ix2 g o))) 7#32) (IntOp.shli .vector (IntOp.shli .vector (byteF (cb_3 M D R (ix2 g o))) 7#32) 16#32) := by
  rw [← byteV_apply, ← cb_7_eq]; rfl

/-- The bytes of a 32-row piece as the scale words give them. -/
theorem word_apply (w : IVec S1x512 32) (y : Fin 32) (o : Fin 512) :
    bitcast S32x512 16 (broadcastTo S16x512 w broadcasts_S1x512_S16x512) bitcasts_S16x512_w32_S32x512_w16 (ix2 y o)
      = (w (ix2 0 o)).extractLsb' (16 * (y.val % 2)) 16 := by
  rw [bitcast_32_16]
  pointwise
  rfl

/-- The eight pieces of a column are the column. -/
theorem ladder (Q : FVec Ideal S256x512 .bf16) (W : IVec S8x512 32) (l : Fin 256) (o : Fin 512) :
    (if h : l.val < 32 then Q (ix2 l o) * Ideal.ofBits .bf16 ((W (ix2 0 o)).extractLsb' (16 * (l.val % 2)) 16)
    else if h : l.val - 32 < 32 then Q (ix2 ⟨32 + (l.val - 32), by omega⟩ o) * Ideal.ofBits .bf16 ((W (ix2 1 o)).extractLsb' (16 * ((l.val - 32) % 2)) 16)
    else if h : l.val - 32 - 32 < 32 then Q (ix2 ⟨64 + (l.val - 32 - 32), by omega⟩ o) * Ideal.ofBits .bf16 ((W (ix2 2 o)).extractLsb' (16 * ((l.val - 32 - 32) % 2)) 16)
    else if h : l.val - 32 - 32 - 32 < 32 then Q (ix2 ⟨96 + (l.val - 32 - 32 - 32), by omega⟩ o) * Ideal.ofBits .bf16 ((W (ix2 3 o)).extractLsb' (16 * ((l.val - 32 - 32 - 32) % 2)) 16)
    else if h : l.val - 32 - 32 - 32 - 32 < 32 then Q (ix2 ⟨128 + (l.val - 32 - 32 - 32 - 32), by omega⟩ o) * Ideal.ofBits .bf16 ((W (ix2 4 o)).extractLsb' (16 * ((l.val - 32 - 32 - 32 - 32) % 2)) 16)
    else if h : l.val - 32 - 32 - 32 - 32 - 32 < 32 then Q (ix2 ⟨160 + (l.val - 32 - 32 - 32 - 32 - 32), by omega⟩ o) * Ideal.ofBits .bf16 ((W (ix2 5 o)).extractLsb' (16 * ((l.val - 32 - 32 - 32 - 32 - 32) % 2)) 16)
    else if h : l.val - 32 - 32 - 32 - 32 - 32 - 32 < 32 then Q (ix2 ⟨192 + (l.val - 32 - 32 - 32 - 32 - 32 - 32), by omega⟩ o) * Ideal.ofBits .bf16 ((W (ix2 6 o)).extractLsb' (16 * ((l.val - 32 - 32 - 32 - 32 - 32 - 32) % 2)) 16)
    else Q (ix2 ⟨224 + (l.val - 32 - 32 - 32 - 32 - 32 - 32 - 32), by omega⟩ o) * Ideal.ofBits .bf16 ((W (ix2 7 o)).extractLsb' (16 * ((l.val - 32 - 32 - 32 - 32 - 32 - 32 - 32) % 2)) 16))
      = Q (ix2 l o) * Ideal.ofBits .bf16 ((W (ix2 ⟨l.val / 32, by omega⟩ o)).extractLsb' (16 * (l.val % 2)) 16) := by
  have key : ∀ (g : Fin 8) (y : ℕ) (hy : y < 256), l.val / 32 = g.val → y = l.val → ∀ z : ℕ, z % 2 = l.val % 2 →
      Q (ix2 ⟨y, hy⟩ o) * Ideal.ofBits .bf16 ((W (ix2 g o)).extractLsb' (16 * (z % 2)) 16)
        = Q (ix2 l o) * Ideal.ofBits .bf16 ((W (ix2 ⟨l.val / 32, by omega⟩ o)).extractLsb' (16 * (l.val % 2)) 16) := by
    intro g y hy hg hl z hz
    subst hl
    rw [hz, show g = ⟨l.val / 32, by omega⟩ from Fin.ext hg.symm]
  split_ifs
  · exact key 0 l.val l.isLt (by show l.val / 32 = 0; omega) rfl _ rfl
  · exact key 1 _ _ (by show l.val / 32 = 1; omega) (by omega) _ (by omega)
  · exact key 2 _ _ (by show l.val / 32 = 2; omega) (by omega) _ (by omega)
  · exact key 3 _ _ (by show l.val / 32 = 3; omega) (by omega) _ (by omega)
  · exact key 4 _ _ (by show l.val / 32 = 4; omega) (by omega) _ (by omega)
  · exact key 5 _ _ (by show l.val / 32 = 5; omega) (by omega) _ (by omega)
  · exact key 6 _ _ (by show l.val / 32 = 6; omega) (by omega) _ (by omega)
  · exact key 7 _ _ (by show l.val / 32 = 7; omega) (by omega) _ (by omega)

set_option maxHeartbeats 2000000 in
theorem cbY_apply (a : Fin 256) (p : Fin 2) (l : Fin 256) : cbY M D R (ix4 0 a p l)
    = cb_20 M D R (ix2 l ⟨2 * a.val + p.val, by omega⟩)
      * Ideal.ofBits .bf16 ((cb_21 M D R (ix2 ⟨l.val / 32, by omega⟩ ⟨2 * a.val + p.val, by omega⟩)).extractLsb' (16 * (l.val % 2)) 16) := by
  have e22 : cb_22 M D R = mulf (extractStridedSlice S32x512 ![0, 0] (cb_20 M D R) slices_S256x512_o0_0_S32x512)
      (bitcastToFloat .bf16 (bitcast S32x512 16 (broadcastTo S16x512 (shapeCast S1x512 (extractStridedSlice S1x512 ![0, 0] (cb_21 M D R) slices_S8x512_o0_0_S1x512) shapeCasts_S1x512_S1x512) broadcasts_S1x512_S16x512) bitcasts_S16x512_w32_S32x512_w16)) := rfl
  have e23 : cb_23 M D R = mulf (extractStridedSlice S32x512 ![32, 0] (cb_20 M D R) slices_S256x512_o32_0_S32x512)
      (bitcastToFloat .bf16 (bitcast S32x512 16 (broadcastTo S16x512 (shapeCast S1x512 (extractStridedSlice S1x512 ![1, 0] (cb_21 M D R) slices_S8x512_o1_0_S1x512) shapeCasts_S1x512_S1x512) broadcasts_S1x512_S16x512) bitcasts_S16x512_w32_S32x512_w16)) := rfl
  have e24 : cb_24 M D R = shapeCast S1x512 (extractStridedSlice S1x512 ![2, 0] (cb_21 M D R) slices_S8x512_o2_0_S1x512) shapeCasts_S1x512_S1x512 := rfl
  unfold cbY
  rw [e22, e23, e24]
  generalize cb_20 M D R = Q
  generalize cb_21 M D R = W
  unfold k0_pay3
  pointwise [word_apply]
  by_cases hp0 : p.val % 2 = 0
  · rw [if_pos hp0]
    have e : (⟨2 * a.val + p.val, by omega⟩ : Fin 512) = ⟨2 * a.val, by omega⟩ := Fin.ext (by show 2 * a.val + p.val = 2 * a.val; omega)
    rw [e]
    refine Eq.trans ?_ (ladder Q W l ⟨2 * a.val, by omega⟩)
    congr 1
  · rw [if_neg hp0]
    have e : (⟨2 * a.val + p.val, by omega⟩ : Fin 512) = ⟨2 * a.val + 1, by omega⟩ := Fin.ext (by show 2 * a.val + p.val = 2 * a.val + 1; omega)
    rw [e]
    refine Eq.trans ?_ (ladder Q W l ⟨2 * a.val + 1, by omega⟩)
    congr 1

end Cert.KernelIdeal.Hand
-- ==== Proof.Pay.lean ====
/- Hand-written. One tile of the product, at an index. -/
module

public import proofs.«01_k».proof.Proof.Split
public import proofs.«01_k».proof.Proof.KQ

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

theorem xword_apply (w : IVec S768x512 32) (h) (y : Fin 1536) (o : Fin 512) :
    bitcast S1536x512 16 w h (ix2 y o) = (w (ix2 ⟨y.val / 2, by omega⟩ o)).extractLsb' (16 * (y.val % 2)) 16 := by
  rw [bitcast_32_16]
  pointwise
  congr 2
  funext a
  fin_cases a <;> rfl

theorem pay6_apply (Y : Vec Ideal S1x256x2x1536 .bf16) (X : Vec Ideal S768x512 .i32) (o i : Fin 512) :
    shapeCast S512x512 (k0_pay6 Y X) casts_slot (ix2 o i)
      = ∑ T : Fin 1536, Y (ix4 0 ⟨o.val / 2, by omega⟩ ⟨o.val % 2, by omega⟩ T)
        * Ideal.ofBits .bf16 ((X (ix2 ⟨T.val / 2, by omega⟩ i)).extractLsb' (16 * (T.val % 2)) 16) := by
  unfold k0_pay6
  pointwise [xword_apply]
  refine Finset.sum_congr rfl fun x _ => ?_
  congr 1
  have hc : ∀ (n : ℕ) (hn : n < 2), (if n = 0 then Y (ix4 0 ⟨o.val / 2, by omega⟩ 0 x) else Y (ix4 0 ⟨o.val / 2, by omega⟩ 1 x)) = Y (ix4 0 ⟨o.val / 2, by omega⟩ ⟨n, hn⟩ x) := by
    intro n hn
    match n, hn with
    | 0, _ => rfl
    | 1, _ => rfl
  exact hc _ _

end Cert.KernelIdeal.Hand
-- ==== Proof.Scl.lean ====
/- Hand-written. The scale of a group on both sides, and one element of the quantiser put together. -/
module

public import proofs.«01_k».proof.Proof.Fp4

@[expose] public section

noncomputable section

namespace Cert.KernelIdeal.Hand

open Cert.KernelIdeal Cert.KernelIdeal.Gen
open Idealize.ShloMosaic

/-- The word that holds a scale twice, from its byte. -/
def pairF (b : BitVec 32) : BitVec 32 := IntOp.ori (IntOp.shli .vector b 7#32) (IntOp.shli .vector (IntOp.shli .vector b 7#32) 16#32)

theorem pair_half : ∀ b : Fin 256, ∀ q : Fin 2, (pairF (BitVec.ofNat 32 b.val)).extractLsb' (16 * q.val) 16 = BitVec.ofNat 16 (b.val * 128) := by
  decide +kernel

theorem bf16_scale (n : ℕ) (h : 1 ≤ n) (h' : n < 255) : Ideal.ofBits .bf16 (BitVec.ofNat 16 (n * 128)) = ((2 : ℝ) ^ ((n : ℤ) - 127) : ℝ) := by
  have hn : (BitVec.ofNat 16 (n * 128)).toNat = n * 128 := by rw [BitVec.toNat_ofNat]; omega
  generalize BitVec.ofNat 16 (n * 128) = b at hn
  show Ideal.ieee 8 7 b = _
  unfold Ideal.ieee
  have hex : (b.extractLsb' 7 8).toNat = n := by
    simp only [BitVec.extractLsb'_toNat, hn, Nat.shiftRight_eq_div_pow]; omega
  have hfr : (b.extractLsb' 0 7).toNat = 0 := by
    simp only [BitVec.extractLsb'_toNat, hn, Nat.shiftRight_eq_div_pow]; omega
  have hsg : (b.extractLsb' (8 + 7) 1 == 1#1) = false := by
    rw [beq_eq_false_iff_ne]
    intro hc
    have := congrArg BitVec.toNat hc
    simp only [BitVec.extractLsb'_toNat, hn, Nat.shiftRight_eq_div_pow, BitVec.toNat_ofNat] at this
    omega
  simp only [hex, hfr, hsg]
  rw [if_neg (by omega), if_neg (by omega)]
  congr 1
  have e : (n : ℤ) - (2 ^ (8 - 1) - 1) - ((7 : ℕ) : ℤ) = ((n : ℤ) - 127) + (-7) := by norm_num; ring
  rw [e, zpow_add₀ (by norm_num)]
  simp
  norm_num
  ring

/-- A group's scale: the kernel's factor, the scale's bf16, the reference's exponent. -/
theorem scale_spec (a : EReal) (h0 : 0 ≤ a)
    (hp : a * Ideal.ofBits .f32 0x3E2AAAAB#32 = 0 ∨ (Ideal.ofBits .f32 0x00800000#32 ≤ a * Ideal.ofBits .f32 0x3E2AAAAB#32
      ∧ a * Ideal.ofBits .f32 0x3E2AAAAB#32 < Ideal.ofBits .f32 0x7E800000#32)) (q : Fin 2) :
    ∃ (E : ℤ) (x : ℝ), a = (x : EReal) ∧ x < 6 * (2 : ℝ) ^ E
      ∧ invF (a * Ideal.ofBits .f32 0x3E2AAAAB#32) = (((2 : ℝ) ^ (-E) * (1 - 1 / 8388608) : ℝ) : EReal)
      ∧ Ideal.ofBits .bf16 ((pairF (byteF (a * Ideal.ofBits .f32 0x3E2AAAAB#32))).extractLsb' (16 * q.val) 16) = (((2 : ℝ) ^ E : ℝ) : EReal)
      ∧ eR a = (((E : ℝ)) : EReal)
      ∧ ∃ n : ℕ, n < 255 ∧ byteF (a * Ideal.ofBits .f32 0x3E2AAAAB#32) = BitVec.ofNat 32 n ∧ E = (n : ℤ) - 127 := by
  rw [kc6, klo, khi] at *
  have hx : ∃ x : ℝ, a = x ∧ 0 ≤ x := by
    induction a using EReal.rec with
    | bot => exact absurd h0 (by simp)
    | coe x => exact ⟨x, rfl, by exact_mod_cast h0⟩
    | top =>
      rw [EReal.top_mul_coe_of_pos (by norm_num)] at hp
      rcases hp with h | ⟨_, h⟩
      · exact absurd h (by simp)
      · exact absurd h (by simp)
  obtain ⟨x, rfl, hx0⟩ := hx
  rw [← EReal.coe_mul] at *
  rw [show (0 : EReal) = ((0 : ℝ) : EReal) from rfl, EReal.coe_eq_coe_iff, EReal.coe_le_coe_iff, EReal.coe_lt_coe_iff] at hp
  generalize hP : x * (11184811 / 67108864) = P at *
  have hP2 : P < (2 : ℝ) ^ (126 : ℤ) := by
    rcases hp with h | h
    · rw [h]; positivity
    · exact h.2
  obtain ⟨n, en, hn, hl, hu⟩ := expo_real P hP2
  rcases hp with hz | ⟨hlo, _⟩
  · have hn0 : n = 0 := by
      by_contra hne
      have := hl.resolve_left hne
      rw [hz] at this
      exact absurd this (not_le.mpr (by positivity))
    have hxz : x = 0 := by rw [hz] at hP; linarith
    subst hn0
    refine ⟨0, x, rfl, by rw [hxz]; norm_num, ?_, ?_, ?_, 127, by norm_num, by unfold byteF; rw [en]; decide, by norm_num⟩
    · unfold invF
      rw [en, kS, show Scalar.select (IntOp.cmpi .eq (BitVec.ofNat 32 0) 0#32) 127#32 (IntOp.subi 253#32 (BitVec.ofNat 32 0)) = BitVec.ofNat 32 127 by decide,
        thr_eq 127 (by norm_num) (by norm_num), ← EReal.coe_mul]
      norm_num
    · have hb : byteF ((P : ℝ) : EReal) = BitVec.ofNat 32 127 := by
        unfold byteF; rw [en]; decide
      rw [hb, pair_half ⟨127, by norm_num⟩ q, bf16_scale 127 (by norm_num) (by norm_num)]
      norm_num
    · unfold eR
      rw [sel_eq, k0, if_pos (by rw [hxz])]
      norm_num
  · have hn1 : 1 ≤ n := by
      by_contra hne
      have : n = 0 := by omega
      subst this
      exact absurd hu (not_lt.mpr (le_trans (by norm_num) hlo))
    have hl' := hl.resolve_left (by omega)
    have hP0 : 0 < P := lt_of_lt_of_le (by positivity) hl'
    have hne : ∀ n : Fin 253, 1 ≤ n.val → Scalar.select (IntOp.cmpi .eq (BitVec.ofNat 32 n.val) 0#32) 127#32 (IntOp.subi 253#32 (BitVec.ofNat 32 n.val)) = BitVec.ofNat 32 (253 - n.val)
      ∧ IntOp.andi (Scalar.select (IntOp.cmpi .eq (BitVec.ofNat 32 n.val) 0#32) 127#32 (IntOp.addi (BitVec.ofNat 32 n.val) 1#32)) 255#32 = BitVec.ofNat 32 (n.val + 1) := by
      decide +kernel
    obtain ⟨i1, i2⟩ := hne ⟨n, by omega⟩ hn1
    refine ⟨(n : ℤ) - 126, x, rfl, ?_, ?_, ?_, ?_, n + 1, by omega, by unfold byteF; rw [en]; exact i2, by push_cast; ring⟩
    · have : x = P * (67108864 / 11184811) := by rw [← hP]; ring
      rw [this]
      nlinarith
    · unfold invF
      rw [en, kS, i1, thr_eq (253 - n) (by omega) (by omega), ← EReal.coe_mul, Nat.cast_sub (by omega)]
      have e : (((253 : ℕ) : ℤ) - (n : ℤ)) - 127 = -((n : ℤ) - 126) := by push_cast; ring
      rw [e]
    · have hb : byteF ((P : ℝ) : EReal) = BitVec.ofNat 32 (n + 1) := by
        unfold byteF; rw [en]; exact i2
      rw [hb, pair_half ⟨n + 1, by omega⟩ q, bf16_scale (n + 1) (by omega) (by omega)]
      have e : ((n + 1 : ℕ) : ℤ) - 127 = (n : ℤ) - 126 := by push_cast; ring
      rw [e]
    · unfold eR
      have hxn : ¬ ((x : EReal) = ((0 : ℝ) : EReal)) := by
        rw [EReal.coe_eq_coe_iff]; intro h; rw [h] at hP; simp at hP; linarith
      rw [sel_eq, k0, if_neg hxn, kc6, ← EReal.coe_mul, hP, k2, k1, Ideal.log_coe, if_neg (not_le.mpr hP0), Ideal.log_coe, if_neg (by norm_num),
        Ideal.div_coe (ne_of_gt (Real.log_pos (by norm_num))), ← EReal.coe_mul]
      have hL : (0 : ℝ) < Real.log 2 := Real.log_pos (by norm_num)
      have hf : ⌊Real.log P * (1 / Real.log 2)⌋ = (n : ℤ) - 127 := by
        rw [Int.floor_eq_iff, mul_one_div, le_div_iff₀ hL, div_lt_iff₀ hL]
        constructor
        · have := Real.log_le_log (by positivity) hl'
          rwa [Real.log_zpow] at this
        · have := Real.log_lt_log hP0 hu
          rw [Real.log_zpow] at this
          have e : (((n : ℤ) - 127 : ℤ) : ℝ) + 1 = (((n : ℤ) - 126 : ℤ) : ℝ) := by push_cast; ring
          rw [e]; exact this
      show ((((⌊Real.log P * (1 / Real.log 2)⌋ : ℤ) : ℝ)) : EReal) + _ = _
      have e : (((n : ℤ) - 127 : ℤ) : ℝ) + 1 = (((n : ℤ) - 126 : ℤ) : ℝ) := by push_cast; ring
      rw [hf, ← EReal.coe_add, e]

theorem pow_two (e : ℝ) (E : ℤ) (h : e = (E : ℝ)) : Ideal.pow (Ideal.ofBits .f32 0x40000000#32) (e : EReal) = (((2 : ℝ) ^ E : ℝ) : EReal) := by
  rw [k2, Ideal.pow_coe_coe, h]
  congr 1
  exact Real.rpow_intCast 2 E

theorem stE_coe (t : ℝ) : stE (t : EReal) = ((stR t : ℝ) : EReal) := by
  unfold stE stR
  simp only [sel_lt, kh, k1, k2, k4, EReal.coe_lt_coe_iff, coe_ite']

theorem stR_pos (t : ℝ) : 0 < stR t := by unfold stR; split_ifs <;> norm_num

theorem zE_coe (y : ℝ) : zE (y : EReal) = ((|y| / stR |y| : ℝ) : EReal) := by
  unfold zE
  rw [coe_abs', stE_coe, Ideal.div_coe (ne_of_gt (stR_pos _)), ← EReal.coe_mul, mul_one_div]

theorem thE_eq (rb : BitVec 8) : thE rb = ((thR rb : ℝ) : EReal) := by
  unfold thE thR
  rw [rb_int, kh, k256, ← EReal.coe_add, Ideal.div_coe (by norm_num), ← EReal.coe_mul, mul_one_div]
  push_cast; rfl

theorem qE_coe (y : ℝ) (rb : BitVec 8) : qE (y : EReal) rb = ((magR |y| (thR rb) : ℝ) : EReal) := by
  unfold qE magR
  rw [zE_coe, thE_eq, coe_abs', stE_coe, k6, Ideal.liftRound_coe, ← EReal.coe_sub]
  have hc : ((Ideal.cmp .olt ((thR rb : ℝ) : EReal) ((|y| / stR |y| - (⌊|y| / stR |y|⌋ : ℝ) : ℝ) : EReal)).toNat : ℝ)
      = if thR rb < |y| / stR |y| - (⌊|y| / stR |y|⌋ : ℝ) then 1 else 0 := by
    by_cases h : thR rb < |y| / stR |y| - (⌊|y| / stR |y|⌋ : ℝ)
    · rw [if_pos h]; simp only [Ideal.cmp, EReal.coe_lt_coe_iff, decide_eq_true h]; simp
    · rw [if_neg h]; simp only [Ideal.cmp, EReal.coe_lt_coe_iff, decide_eq_false h]; simp
  rw [hc, ← EReal.coe_add, ← EReal.coe_mul, coe_min']

theorem ofBool_and (p q : Bool) : IntOp.andi (BitVec.ofBool p) (BitVec.ofBool q) = BitVec.ofBool (p && q) := by
  revert p q; decide
theorem ofBool_or (p q : Bool) : IntOp.ori (BitVec.ofBool p) (BitVec.ofBool q) = BitVec.ofBool (p || q) := by
  revert p q; decide
theorem ofBool_one (p : Bool) : BitVec.ofBool p = 1#1 ↔ p = true := by revert p; decide

/-- One element: what the kernel decodes is what the reference decodes. -/
theorem elem_eq (r a : EReal) (rb : BitVec 8) (hr : max r (-r) ≤ a) (hp : preE r a rb = 1#1) (q : Fin 2) :
    valF (r * invF (a * Ideal.ofBits .f32 0x3E2AAAAB#32)) rb
      * Ideal.ofBits .bf16 ((pairF (byteF (a * Ideal.ofBits .f32 0x3E2AAAAB#32))).extractLsb' (16 * q.val) 16) = decE r a rb := by
  have h0 : 0 ≤ a := by
    rcases le_total 0 r with h | h
    · exact le_trans h (le_trans (le_max_left _ _) hr)
    · exact le_trans (by simpa using EReal.neg_le_neg_iff.mpr h) (le_trans (le_max_right _ _) hr)
  unfold preE at hp
  simp only [Ideal.cmp, ofBool_and, ofBool_or, ofBool_one, Bool.and_eq_true, Bool.or_eq_true, decide_eq_true_eq] at hp
  obtain ⟨hs, hg⟩ := hp
  obtain ⟨E, x, rfl, hx, hinv, hsc, he, -⟩ := scale_spec a h0 (by rw [k0] at hs; exact hs) q
  obtain ⟨ρ, rfl⟩ : ∃ ρ : ℝ, r = ρ := by
    induction r using EReal.rec with
    | bot => simp at hr
    | coe ρ => exact ⟨ρ, rfl⟩
    | top => simp at hr
  rw [coe_abs', EReal.coe_le_coe_iff] at hr
  have hE : (0 : ℝ) < 2 ^ E := by positivity
  have hy : yR (ρ : EReal) (eR (x : EReal)) = ((ρ * (2 : ℝ) ^ (-E) : ℝ) : EReal) := by
    unfold yR
    rw [he, ← EReal.coe_neg, pow_two (-(E : ℝ)) (-E) (by push_cast; rfl), ← EReal.coe_mul]
  rw [hy, zE_coe, thE_eq, Ideal.liftRound_coe, kS, ← EReal.coe_add, ← EReal.coe_mul, EReal.coe_le_coe_iff, EReal.coe_lt_coe_iff] at hg
  have hy6 : |ρ * (2 : ℝ) ^ (-E)| < 6 := by
    rw [abs_mul, abs_of_pos (by positivity : (0 : ℝ) < 2 ^ (-E)), zpow_neg, ← div_eq_mul_inv, div_lt_iff₀ hE]
    exact lt_of_le_of_lt hr hx
  have hv := valF_coe (ρ * (2 : ℝ) ^ (-E)) rb hy6 hg
  unfold decE
  rw [hinv, hsc, ← EReal.coe_mul, ← mul_assoc, hv, hy, qE_coe, he, pow_two _ E rfl, sel_lt, k0, ← EReal.coe_neg, coe_ite', ← EReal.coe_mul, ← EReal.coe_mul]
  simp only [EReal.coe_lt_coe_iff]

end Cert.KernelIdeal.Hand
-- ==== Proof.Val.lean ====
/- Hand-written. What the kernel leaves in `dw`, at an index: the product of the decoded tokens. -/
module

public import proofs.«01_k».proof.Proof.KM
public import proofs.«01_k».proof.Proof.Pay
public import proofs.«01_k».proof.Proof.Scl

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

theorem rowsOf_apply {α : Type} (D : S1536x512.Idx → α) (k : Fin 6) (i : Fin 256) (o : Fin 512) :
    rowsOf D k (ix2 i o) = D (ix2 ⟨256 * k.val + i.val, by omega⟩ o) := by
  unfold rowsOf
  congr 1
  funext a; apply Fin.ext
  match a with
  | ⟨0, _⟩ => show 256 * k.val + 1 * i.val = 256 * k.val + i.val; omega
  | ⟨1, _⟩ => show 0 + 1 * o.val = o.val; omega

theorem idxChunk_eq (a : Fin 256) (p : Fin 2) (l : Fin 256) : idxChunk a p l = ix4 0 a p l := by
  funext x; fin_cases x <;> rfl

variable (m : (ℓ : Loc nD τ sig) → Buf (Elt Ideal) ℓ) (c : Dev nD)

/-- The arguments on a device. -/
def aXq : XQT := m ((c.tc : Thread nD τ).loc main_arg0)
def aDy : DYT := m ((c.tc : Thread nD τ).loc main_arg1)
def aSg : SGT := m ((c.tc : Thread nD τ).loc main_arg2)
def aRb : RBT := m ((c.tc : Thread nD τ).loc main_arg3)

theorem dy_at (s : Fin 36) (k : Fin 6) (j : Fin 256) (o : Fin 512) :
    rowsOf ((VV m c).D s.val) k (ix2 j o) = tok (aDy m c) ⟨256 * k.val + j.val, by omega⟩ ⟨512 * s.val + o.val, by omega⟩ := by
  rw [rowsOf_apply, blkD_apply, V_v26]
  exact tok_cast (aDy m c) _ _

theorem rb_at (s : Fin 36) (k : Fin 6) (j : Fin 256) (o : Fin 512) :
    rowsOf ((VV m c).R s.val) k (ix2 j o) = tok (aRb m c) ⟨256 * k.val + j.val, by omega⟩ ⟨512 * s.val + o.val, by omega⟩ := by
  rw [rowsOf_apply, blkR_apply, V_v27]
  exact tok_cast (aRb m c) _ _

/-- The rotated chunk. -/
theorem rot_at (s : Fin 36) (k : Fin 6) (i : Fin 256) (o : Fin 512) :
    cb_1 (VV m c).M (rowsOf ((VV m c).D s.val) k) (rowsOf ((VV m c).R s.val) k) (ix2 i o)
      = rRot (aDy m c) (aSg m c) ⟨256 * k.val + i.val, by omega⟩ ⟨512 * s.val + o.val, by omega⟩ := by
  rw [cb_1_apply]
  have e : ∀ j : Fin 256, (VV m c).M (ix2 i j) * rowsOf ((VV m c).D s.val) k (ix2 j o)
      = HK (F := Ideal) HE (HM (aSg m c)) (ix2 i j) * tok (aDy m c) ⟨256 * k.val + j.val, by omega⟩ ⟨512 * s.val + o.val, by omega⟩ := by
    intro j
    rw [blkM_apply, V_v25, dy_at]
    rfl
  rw [Finset.sum_congr rfl fun j _ => e j]
  refine (rot_sum (aSg m c) i fun j => tok (aDy m c) ⟨256 * k.val + j.val, by omega⟩ ⟨512 * s.val + o.val, by omega⟩).trans ?_
  unfold rRot
  refine Finset.sum_congr rfl fun j _ => ?_
  have e1 : 256 * k.val + (64 * (i.val / 64) + j.val) = 64 * ((256 * k.val + i.val) / 64) + j.val := by omega
  have e2 : i.val % 64 = (256 * k.val + i.val) % 64 := by omega
  simp only [e1, e2]

/-- The scale's operand of a chunk. -/
theorem top_at (s : Fin 36) (k : Fin 6) (g : Fin 8) (o : Fin 512) :
    cb_3 (VV m c).M (rowsOf ((VV m c).D s.val) k) (rowsOf ((VV m c).R s.val) k) (ix2 g o)
      = aGrp (aDy m c) (aSg m c) ⟨8 * k.val + g.val, by omega⟩ ⟨512 * s.val + o.val, by omega⟩ * Ideal.ofBits .f32 0x3E2AAAAB#32 := by
  rw [cb_3_apply]
  unfold aGrp
  refine congrArg (· * Ideal.ofBits .f32 0x3E2AAAAB#32) (Finset.fold_congr fun x _ => ?_)
  rw [rot_at]
  have e : (⟨256 * k.val + (32 * g.val + x.val), by omega⟩ : Fin 1536) = ⟨32 * (8 * k.val + g.val) + x.val, by omega⟩ := Fin.ext (by show 256 * k.val + (32 * g.val + x.val) = 32 * (8 * k.val + g.val) + x.val; omega)
  show max (rRot _ _ (⟨256 * k.val + (32 * g.val + x.val), by omega⟩ : Fin 1536) _) (-(rRot _ _ (⟨256 * k.val + (32 * g.val + x.val), by omega⟩ : Fin 1536) _)) = _
  rw [e]

theorem le_aGrp (dy : DYT) (sg : SGT) (T : Fin 1536) (o : Fin 18432) : max (rRot dy sg T o) (-(rRot dy sg T o)) ≤ aGrp dy sg ⟨T.val / 32, by omega⟩ o := by
  unfold aGrp
  rw [Finset.le_fold_max]
  refine Or.inr ⟨⟨T.val % 32, by omega⟩, Finset.mem_univ _, ?_⟩
  have e : 32 * (T.val / 32) + T.val % 32 = T.val := by omega
  simp only [e]
  exact le_refl _

/-- The decoded tile. -/
theorem tile_at (hp : ∀ T o, preE (rRot (aDy m c) (aSg m c) T o) (aGrp (aDy m c) (aSg m c) ⟨T.val / 32, by omega⟩ o) (tok (aRb m c) T o) = 1#1)
    (s : Fin 36) (o : Fin 512) (T : Fin 1536) :
    tileY (VV m c) s.val (ix4 0 ⟨o.val / 2, by omega⟩ ⟨o.val % 2, by omega⟩ T) = decT (aDy m c) (aSg m c) (aRb m c) T ⟨512 * s.val + o.val, by omega⟩ := by
  show chunk (VV m c) s.val ⟨T.val / 256, div_lt6 T⟩ (idxChunk ⟨o.val / 2, by omega⟩ ⟨o.val % 2, by omega⟩ ⟨T.val % 256, by omega⟩) = _
  rw [idxChunk_eq]
  unfold chunk
  rw [cbY_apply]
  have eo : (⟨2 * (o.val / 2) + o.val % 2, by omega⟩ : Fin 512) = o := Fin.ext (by show 2 * (o.val / 2) + o.val % 2 = o.val; omega)
  have eT : (⟨256 * (T.val / 256) + T.val % 256, by omega⟩ : Fin 1536) = T := Fin.ext (by show 256 * (T.val / 256) + T.val % 256 = T.val; omega)
  have eG : (⟨8 * (T.val / 256) + T.val % 256 / 32, by omega⟩ : Fin 48) = ⟨T.val / 32, by omega⟩ := Fin.ext (by show 8 * (T.val / 256) + T.val % 256 / 32 = T.val / 32; omega)
  show cb_20 _ _ _ (ix2 _ (⟨2 * (o.val / 2) + o.val % 2, by omega⟩ : Fin 512)) * Ideal.ofBits .bf16 ((cb_21 _ _ _ (ix2 _ (⟨2 * (o.val / 2) + o.val % 2, by omega⟩ : Fin 512))).extractLsb' (16 * (T.val % 256 % 2)) 16) = _
  rw [eo, cb_20_apply, cb_8_apply, cb_21_apply, rot_at, top_at]
  have er : k0_pay45 (F := Ideal) (rowsOf ((VV m c).R s.val) ⟨T.val / 256, div_lt6 T⟩) (ix2 ⟨T.val % 256, by omega⟩ o) = tok (aRb m c) T ⟨512 * s.val + o.val, by omega⟩ := by
    have h45 : k0_pay45 (F := Ideal) (rowsOf ((VV m c).R s.val) ⟨T.val / 256, div_lt6 T⟩) = rowsOf ((VV m c).R s.val) ⟨T.val / 256, div_lt6 T⟩ := by
      unfold k0_pay45
      exact shapeCast_self _ _
    rw [h45, rb_at]
    show tok (aRb m c) (⟨256 * (T.val / 256) + T.val % 256, by omega⟩ : Fin 1536) _ = _
    rw [eT]
  rw [er]
  show valF (rRot _ _ (⟨256 * (T.val / 256) + T.val % 256, by omega⟩ : Fin 1536) _ * invF (aGrp _ _ (⟨8 * (T.val / 256) + T.val % 256 / 32, by omega⟩ : Fin 48) _ * _)) _
    * Ideal.ofBits .bf16 ((pairF (byteF (aGrp _ _ (⟨8 * (T.val / 256) + T.val % 256 / 32, by omega⟩ : Fin 48) _ * _))).extractLsb' _ 16) = _
  rw [eT, eG]
  exact elem_eq _ _ _ (le_aGrp _ _ T _) (hp T _) ⟨T.val % 256 % 2, by omega⟩

theorem x_at (j : Fin 14) (r : Fin 768) (i : Fin 512) : xblk (VV m c) j (ix2 r i) = aXq m c (ix2 r ⟨512 * j.val + i.val, by omega⟩) := by
  have e : ((VV m c).X : S768x7168.Idx → BitVec 32) = aXq m c := V_main_arg0 m c
  show (VV m c).X _ = _
  rw [e]
  congr 1
  funext a; apply Fin.ext
  match a with
  | ⟨0, _⟩ => show 0 + 1 * r.val = r.val; omega
  | ⟨1, _⟩ => show j.val * 512 + 1 * i.val = 512 * j.val + i.val; omega

/-- The kernel's `dw`. -/
theorem DWF_apply (hp : ∀ T o, preE (rRot (aDy m c) (aSg m c) T o) (aGrp (aDy m c) (aSg m c) ⟨T.val / 32, by omega⟩ o) (tok (aRb m c) T o) = 1#1)
    (o : Fin 18432) (i : Fin 7168) : DWF (VV m c) (ix2 o i) = dwT (aXq m c) (aDy m c) (aSg m c) (aRb m c) o i := by
  have e : DWF (VV m c) (ix2 o i) = GG (VV m c) ⟨14 * (o.val / 512) + i.val / 512, by omega⟩ (ix2 ⟨o.val % 512, by omega⟩ ⟨i.val % 512, by omega⟩) := by
    unfold DWF
    congr 1
    funext a
    fin_cases a <;> rfl
  rw [e]
  unfold GG
  rw [pay6_apply]
  unfold dwT
  refine Finset.sum_congr rfl fun T _ => ?_
  have es : (14 * (o.val / 512) + i.val / 512) / 14 = (⟨o.val / 512, by omega⟩ : Fin 36).val := by show _ = o.val / 512; omega
  have ej : (⟨(14 * (o.val / 512) + i.val / 512) % 14, by omega⟩ : Fin 14) = ⟨i.val / 512, by omega⟩ := Fin.ext (by show (14 * (o.val / 512) + i.val / 512) % 14 = i.val / 512; omega)
  show tileY (VV m c) ((14 * (o.val / 512) + i.val / 512) / 14) (ix4 0 ⟨(⟨o.val % 512, by omega⟩ : Fin 512).val / 2, by omega⟩ ⟨(⟨o.val % 512, by omega⟩ : Fin 512).val % 2, by omega⟩ T)
    * Ideal.ofBits .bf16 ((xblk (VV m c) (⟨(14 * (o.val / 512) + i.val / 512) % 14, by omega⟩ : Fin 14) (ix2 ⟨T.val / 2, by omega⟩ ⟨i.val % 512, by omega⟩)).extractLsb' (16 * (T.val % 2)) 16) = _
  rw [es, ej, tile_at m c hp, x_at]
  have e1 : (⟨512 * (o.val / 512) + o.val % 512, by omega⟩ : Fin 18432) = o := Fin.ext (by show 512 * (o.val / 512) + o.val % 512 = o.val; omega)
  have e2 : (⟨512 * (i.val / 512) + i.val % 512, by omega⟩ : Fin 7168) = i := Fin.ext (by show 512 * (i.val / 512) + i.val % 512 = i.val; omega)
  show decT _ _ _ T (⟨512 * (o.val / 512) + o.val % 512, by omega⟩ : Fin 18432) * Ideal.ofBits .bf16 ((aXq m c (ix2 _ (⟨512 * (i.val / 512) + i.val % 512, by omega⟩ : Fin 7168))).extractLsb' _ 16) = _
  rw [e1, e2]
  rfl

end Cert.KernelIdeal.Hand
-- ==== Proof.Code.lean ====
/- Hand-written. The codes and the scale bytes of one element and one group, on both sides: the kernel looks a code up in a
   table and clears the sign of a zero, the reference computes it from the rounded magnitude. -/
module

public import proofs.«01_k».proof.Proof.Scl
public import proofs.«01_k».proof.Proof.Spec

@[expose] public section

noncomputable section

namespace Cert.KernelIdeal.Hand

open Cert.KernelIdeal Cert.KernelIdeal.Gen
open Idealize.ShloMosaic

/-- The table of fp4 codes. -/
def codE (t : EReal) : BitVec 32 :=
  Scalar.select (Ideal.cmp .ogt t (Ideal.ofBits .f32 0x40A00000#32)) 7#32
  (Scalar.select (Ideal.cmp .oge t (Ideal.ofBits .f32 0x40600000#32)) 6#32
  (Scalar.select (Ideal.cmp .ogt t (Ideal.ofBits .f32 0x40200000#32)) 5#32
  (Scalar.select (Ideal.cmp .oge t (Ideal.ofBits .f32 0x3FE00000#32)) 4#32
  (Scalar.select (Ideal.cmp .ogt t (Ideal.ofBits .f32 0x3FA00000#32)) 3#32
  (Scalar.select (Ideal.cmp .oge t (Ideal.ofBits .f32 0x3F400000#32)) 2#32
  (Scalar.select (Ideal.cmp .ogt t (Ideal.ofBits .f32 0x3E800000#32)) 1#32 0#32))))))
/-- The code with the sign of the shifted element. -/
def csF (y : EReal) (rb : BitVec 8) : BitVec 32 :=
  Scalar.select (Ideal.cmp .olt (sF y rb) (Ideal.ofBits .f32 0#32))
    (IntOp.ori (codE (max (sF y rb) (-(sF y rb)))) 8#32) (codE (max (sF y rb) (-(sF y rb))))
/-- A code with the sign of a zero cleared. -/
def nzF (v : BitVec 32) : BitVec 32 :=
  IntOp.ori (IntOp.andi v 7#32) (IntOp.andi v (IntOp.andi (IntOp.addi (IntOp.andi v 7#32) 7#32) 8#32))

/-- The index of a rounded magnitude among the fp4 magnitudes. -/
def idxE (q : EReal) : EReal :=
  Scalar.select (Ideal.cmp .olt q (Ideal.ofBits .f32 0x40000000#32)) (Ideal.ofBits .f32 0x40000000#32 * q)
    (Scalar.select (Ideal.cmp .olt q (Ideal.ofBits .f32 0x40800000#32)) (q + Ideal.ofBits .f32 0x40000000#32)
      (Ideal.ofBits .f32 0x3F000000#32 * q + Ideal.ofBits .f32 0x40800000#32))
/-- The reference's code of an element `y` rounded to `q`. -/
def refC (y q : EReal) : BitVec 32 :=
  IntOp.ori (Ideal.fptosi 32 (idxE q))
    (IntOp.shli .host ((IntOp.andi (Ideal.cmp .olt y (Ideal.ofBits .f32 0x00000000#32)) (Ideal.cmp .ogt q (Ideal.ofBits .f32 0x00000000#32))).setWidth 32) 3#32)
/-- The reference's code from the rotated element, its group's maximum and its random byte. -/
def codT0 (r a : EReal) (rb : BitVec 8) : BitVec 32 := refC (yR r (eR a)) (qE (yR r (eR a)) rb)
/-- The reference's scale byte of a group. -/
def sclT0 (a : EReal) : BitVec 32 := Ideal.fptosi 32 (eR a + Ideal.ofBits .f32 0x42FE0000#32)

/-- The table of codes over the reals. -/
def codR (v : ℝ) : BitVec 32 :=
  if 5 < v then 7#32 else if 7 / 2 ≤ v then 6#32 else if 5 / 2 < v then 5#32 else if 7 / 4 ≤ v then 4#32
  else if 5 / 4 < v then 3#32 else if 3 / 4 ≤ v then 2#32 else if 1 / 4 < v then 1#32 else 0#32

theorem codE_coe (v : ℝ) : codE (v : EReal) = codR v := by
  unfold codE codR
  simp only [sel_ge, sel_gt, kq, k3q, k5q, k7q, k5h, k7h, k5, EReal.coe_le_coe_iff, EReal.coe_lt_coe_iff]

/-- What a magnitude's code is. -/
theorem cod_cases (v : ℝ) : (tabR v = 6 ∧ codR v = 7#32) ∨ (tabR v = 4 ∧ codR v = 6#32) ∨ (tabR v = 3 ∧ codR v = 5#32) ∨ (tabR v = 2 ∧ codR v = 4#32)
    ∨ (tabR v = 3 / 2 ∧ codR v = 3#32) ∨ (tabR v = 1 ∧ codR v = 2#32) ∨ (tabR v = 1 / 2 ∧ codR v = 1#32) ∨ (tabR v = 0 ∧ codR v = 0#32) := by
  unfold tabR codR
  split_ifs <;> simp

theorem fptosi_nat (n : ℕ) (h : n < 1000) : Ideal.fptosi 32 (((n : ℝ)) : EReal) = BitVec.ofNat 32 n := by
  have e : Ideal.fptosi 32 (((n : ℝ)) : EReal) = BitVec.ofInt 32 (max (-(2 ^ 31 : ℕ) : ℤ) (min (((2 ^ 31 : ℕ) : ℤ) - 1) (if (0 : ℝ) ≤ (n : ℝ) then ⌊(n : ℝ)⌋ else ⌈(n : ℝ)⌉))) := rfl
  rw [e, if_pos (by positivity), Int.floor_natCast, min_eq_right (by norm_num; omega), max_eq_right (by norm_num)]
  rfl

/-- The index of each fp4 magnitude. -/
theorem idx_at (q : ℝ) (n : ℕ) (hn : n < 1000) (h : (if q < 2 then 2 * q else if q < 4 then q + 2 else 1 / 2 * q + 4) = (n : ℝ)) :
    Ideal.fptosi 32 (idxE (q : EReal)) = BitVec.ofNat 32 n := by
  rw [← fptosi_nat n hn, ← h]
  congr 1
  unfold idxE
  simp only [sel_lt, k2, k4, kh, EReal.coe_lt_coe_iff, ← EReal.coe_mul, ← EReal.coe_add, coe_ite']

theorem idx_tab (v : ℝ) : Ideal.fptosi 32 (idxE ((tabR v : ℝ) : EReal)) = codR v := by
  rcases cod_cases v with h | h | h | h | h | h | h | h <;> rw [h.1, h.2]
  · exact idx_at _ 7 (by norm_num) (by norm_num)
  · exact idx_at _ 6 (by norm_num) (by norm_num)
  · exact idx_at _ 5 (by norm_num) (by norm_num)
  · exact idx_at _ 4 (by norm_num) (by norm_num)
  · exact idx_at _ 3 (by norm_num) (by norm_num)
  · exact idx_at _ 2 (by norm_num) (by norm_num)
  · exact idx_at _ 1 (by norm_num) (by norm_num)
  · exact idx_at _ 0 (by norm_num) (by norm_num)

theorem pos_tab (v : ℝ) : (0 < tabR v ∧ codR v ≠ 0#32) ∨ (tabR v = 0 ∧ codR v = 0#32) := by
  rcases cod_cases v with h | h | h | h | h | h | h | h
  all_goals first
    | exact Or.inr h
    | exact Or.inl ⟨by rw [h.1]; norm_num, by rw [h.2]; decide⟩

theorem nz_pos (v : ℝ) : nzF (codR v) = codR v := by
  rcases cod_cases v with h | h | h | h | h | h | h | h <;> rw [h.2] <;> decide
theorem nz_neg (v : ℝ) (h0 : codR v ≠ 0#32) : nzF (IntOp.ori (codR v) 8#32) = IntOp.ori (codR v) 8#32 := by
  rcases cod_cases v with h | h | h | h | h | h | h | h <;> rw [h.2] at h0 ⊢ <;> revert h0 <;> decide
theorem nz_zero : nzF (IntOp.ori 0#32 8#32) = 0#32 := by decide

/-- One code: what the kernel packs is what the reference packs. -/
theorem code_eq (r a : EReal) (rb : BitVec 8) (hr : max r (-r) ≤ a) (hp : preE r a rb = 1#1) :
    nzF (csF (r * invF (a * Ideal.ofBits .f32 0x3E2AAAAB#32)) rb) = codT0 r a rb := by
  have h0 : 0 ≤ a := by
    rcases le_total 0 r with h | h
    · exact le_trans h (le_trans (le_max_left _ _) hr)
    · exact le_trans (by simpa using EReal.neg_le_neg_iff.mpr h) (le_trans (le_max_right _ _) hr)
  unfold preE at hp
  simp only [Ideal.cmp, ofBool_and, ofBool_or, ofBool_one, Bool.and_eq_true, Bool.or_eq_true, decide_eq_true_eq] at hp
  obtain ⟨hs, hg⟩ := hp
  obtain ⟨E, x, rfl, hx, hinv, -, he, -⟩ := scale_spec a h0 (by rw [k0] at hs; exact hs) 0
  obtain ⟨ρ, rfl⟩ : ∃ ρ : ℝ, r = ρ := by
    induction r using EReal.rec with
    | bot => simp at hr
    | coe ρ => exact ⟨ρ, rfl⟩
    | top => simp at hr
  rw [coe_abs', EReal.coe_le_coe_iff] at hr
  have hE : (0 : ℝ) < 2 ^ E := by positivity
  have hy : yR (ρ : EReal) (eR (x : EReal)) = ((ρ * (2 : ℝ) ^ (-E) : ℝ) : EReal) := by
    unfold yR
    rw [he, ← EReal.coe_neg, pow_two (-(E : ℝ)) (-E) (by push_cast; rfl), ← EReal.coe_mul]
  rw [hy, zE_coe, thE_eq, Ideal.liftRound_coe, kS, ← EReal.coe_add, ← EReal.coe_mul, EReal.coe_le_coe_iff, EReal.coe_lt_coe_iff] at hg
  have hy6 : |ρ * (2 : ℝ) ^ (-E)| < 6 := by
    rw [abs_mul, abs_of_pos (by positivity : (0 : ℝ) < 2 ^ (-E)), zpow_neg, ← div_eq_mul_inv, div_lt_iff₀ hE]
    exact lt_of_le_of_lt hr hx
  obtain ⟨V, hV0, hsF, hV⟩ := sF_coe (ρ * (2 : ℝ) ^ (-E)) rb hy6 hg
  unfold codT0
  rw [hinv, ← EReal.coe_mul, ← mul_assoc, hy, qE_coe, ← hV]
  unfold csF refC
  rw [hsF, idx_tab, k0, sel_lt, coe_abs', codE_coe]
  generalize ρ * (2 : ℝ) ^ (-E) = y
  simp only [EReal.coe_lt_coe_iff, Ideal.cmp, ofBool_and]
  have hsh : IntOp.shli .host ((BitVec.ofBool false).setWidth 32) 3#32 = 0#32 ∧ IntOp.shli .host ((BitVec.ofBool true).setWidth 32) 3#32 = 8#32 := by decide
  have hor : ∀ b : BitVec 32, IntOp.ori b 0#32 = b := fun b => by unfold IntOp.ori; simp
  by_cases c : y < 0
  · simp only [if_pos c]
    rw [show |0 - V| = V by rw [zero_sub, abs_neg, abs_of_nonneg hV0]]
    rcases pos_tab V with ⟨ht, hc⟩ | ⟨ht, hc⟩
    · have hVp : 0 - V < 0 := by
        rcases hV0.lt_or_eq with h | h
        · linarith
        · rw [← h, tab0 (by norm_num)] at ht; exact absurd ht (lt_irrefl _)
      rw [if_pos hVp, nz_neg V hc, decide_eq_true c, decide_eq_true ht]
      exact congrArg (IntOp.ori (codR V)) hsh.2.symm
    · rw [ht, decide_eq_false (lt_irrefl (0 : ℝ)), Bool.and_false, hsh.1, hc, hor]
      by_cases d : 0 - V < 0
      · rw [if_pos d]; exact nz_zero
      · rw [if_neg d]; decide
  · simp only [if_neg c]
    rw [if_neg (not_lt.mpr hV0), abs_of_nonneg hV0, nz_pos, decide_eq_false c, Bool.false_and, hsh.1, hor]

/-- One scale byte: the kernel's and the reference's. -/
theorem byte_eq (r a : EReal) (rb : BitVec 8) (hr : max r (-r) ≤ a) (hp : preE r a rb = 1#1) :
    byteF (a * Ideal.ofBits .f32 0x3E2AAAAB#32) = sclT0 a := by
  have h0 : 0 ≤ a := by
    rcases le_total 0 r with h | h
    · exact le_trans h (le_trans (le_max_left _ _) hr)
    · exact le_trans (by simpa using EReal.neg_le_neg_iff.mpr h) (le_trans (le_max_right _ _) hr)
  unfold preE at hp
  simp only [Ideal.cmp, ofBool_and, ofBool_or, ofBool_one, Bool.and_eq_true, Bool.or_eq_true, decide_eq_true_eq] at hp
  obtain ⟨E, x, rfl, -, -, -, he, n, hn, hb, hE⟩ := scale_spec a h0 (by have := hp.1; rw [k0] at this; exact this) 0
  have k127 : Ideal.ofBits .f32 0x42FE0000#32 = ((127 : ℝ) : EReal) := by
    simp [Ideal.ofBits, Ideal.ieee, ← EReal.coe_mul, ← EReal.coe_pow]; try norm_num
  unfold sclT0
  rw [hb, he, k127, ← EReal.coe_add, hE, show (((n : ℤ) - 127 : ℤ) : ℝ) + 127 = (n : ℝ) by push_cast; ring]
  exact (fptosi_nat n (by omega)).symm

/-! ## The two results as formulas over the argument arrays -/

/-- The code of a token. -/
def codT (dy : DYT) (sg : SGT) (rb : RBT) (T : Fin 1536) (c : Fin 18432) : BitVec 32 :=
  codT0 (rRot dy sg T c) (aGrp dy sg ⟨T.val / 32, by omega⟩ c) (tok rb T c)
/-- Two tokens' codes in a byte, the even token's in the low half. -/
def codesT (dy : DYT) (sg : SGT) (rb : RBT) (R : Fin 768) (c : Fin 18432) : BitVec 8 :=
  (IntOp.ori (codT dy sg rb ⟨2 * R.val, by omega⟩ c) (IntOp.shli .host (codT dy sg rb ⟨2 * R.val + 1, by omega⟩ c) 4#32)).setWidth 8
/-- The scale byte of a group. -/
def sclT (dy : DYT) (sg : SGT) (G : Fin 48) (c : Fin 18432) : BitVec 8 := (sclT0 (aGrp dy sg G c)).setWidth 8

end Cert.KernelIdeal.Hand
-- ==== Proof.KC.lean ====
/- Hand-written. A chunk of codes and of scale bytes at an index, as the scalar functions of the rotated chunk. -/
module

public import proofs.«01_k».proof.Proof.KQ
public import proofs.«01_k».proof.Proof.Code

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

section Vec
variable {F : FTy → Type} [FloatOps F]

/-- The table of codes on a vector. -/
def codV {s : Shape} (a : FVec F s .f32) : IVec s 32 :=
  select (cmpf .ogt a (broadcast s (Scalar.ofBits .f32 0x40A00000#32))) (broadcast s 7#32)
  (select (cmpf .oge a (broadcast s (Scalar.ofBits .f32 0x40600000#32))) (broadcast s 6#32)
  (select (cmpf .ogt a (broadcast s (Scalar.ofBits .f32 0x40200000#32))) (broadcast s 5#32)
  (select (cmpf .oge a (broadcast s (Scalar.ofBits .f32 0x3FE00000#32))) (broadcast s 4#32)
  (select (cmpf .ogt a (broadcast s (Scalar.ofBits .f32 0x3FA00000#32))) (broadcast s 3#32)
  (select (cmpf .oge a (broadcast s (Scalar.ofBits .f32 0x3F400000#32))) (broadcast s 2#32)
  (select (cmpf .ogt a (broadcast s (Scalar.ofBits .f32 0x3E800000#32))) (broadcast s 1#32) (broadcast s 0#32)))))))
/-- The codes with their signs. -/
def csV {s : Shape} (v : FVec F s .f32) : IVec s 32 :=
  select (cmpf .olt v (broadcast s (Scalar.ofBits .f32 0#32))) (ori (codV (absf v)) (broadcast s 8#32)) (codV (absf v))

set_option maxRecDepth 65536 in
theorem cb_18_eq (M : Vec F S256x256 .bf16) (D : Vec F S256x512 .bf16) (R : Vec F S256x512 .i8) :
    cb_18 M D R = csV (k0_pay57 (cb_2 M D R) (cb_8 M D R) (cb_9 M D R) (cb_10 M D R) (cb_11 M D R) 23#32) := rfl
end Vec

theorem csV_apply {s : Shape} (v : FVec Ideal s .f32) (x : s.Idx) : csV v x =
    Scalar.select (Ideal.cmp .olt (v x) (Ideal.ofBits .f32 0#32)) (IntOp.ori (codE (max (v x) (-(v x)))) 8#32) (codE (max (v x) (-(v x)))) := rfl

variable (M : Vec Ideal S256x256 .bf16) (D : Vec Ideal S256x512 .bf16) (R : Vec Ideal S256x512 .i8)

theorem cb_18_apply (x : S256x512.Idx) : cb_18 M D R x = csF (cb_8 M D R x) (k0_pay45 (F := Ideal) R x) := by
  rw [cb_18_eq, csV_apply, pay57_eq, sV_apply]; rfl

theorem cbB_apply (g : Fin 8) (o : Fin 512) : cbB M D R (ix2 g o) = byteF (cb_3 M D R (ix2 g o)) := by
  rw [← byteV_apply, ← cb_7_eq]
  unfold cbB k0_pay74
  rw [shapeCast_self]

theorem cbC_apply (r : Fin 128) (o : Fin 512) : cbC M D R (ix2 r o) =
    (IntOp.ori (nzF (cb_18 M D R (ix2 ⟨2 * r.val, by omega⟩ o))) (IntOp.shli .vector (nzF (cb_18 M D R (ix2 ⟨2 * r.val + 1, by omega⟩ o))) 4#32)).setWidth 8 := by
  unfold cbC
  generalize cb_18 M D R = C
  have e : k0_pay73 C = trunci 8 (ori (shapeCast S128x512 (extractStridedSlice S128x1x512 ![0, 0, 0] (shapeCast S128x2x512 (fun x => nzF (C x)) shapeCasts_S256x512_S128x2x512) slices_S128x2x512_o0_0_0_S128x1x512) shapeCasts_S128x1x512_S128x512)
    (shli (shapeCast S128x512 (extractStridedSlice S128x1x512 ![0, 1, 0] (shapeCast S128x2x512 (fun x => nzF (C x)) shapeCasts_S256x512_S128x2x512) slices_S128x2x512_o0_1_0_S128x1x512) shapeCasts_S128x1x512_S128x512) (broadcast S128x512 4#32))) natLt_8_32 := rfl
  rw [e]
  have a0 : ∀ N : IVec S256x512 32, shapeCast S128x512 (extractStridedSlice S128x1x512 ![0, 0, 0] (shapeCast S128x2x512 N shapeCasts_S256x512_S128x2x512) slices_S128x2x512_o0_0_0_S128x1x512) shapeCasts_S128x1x512_S128x512 (ix2 r o) = N (ix2 ⟨2 * r.val, by omega⟩ o) := by
    intro N; pointwise
    simp only [Nat.mul_comm r.val 2]
  have a1 : ∀ N : IVec S256x512 32, shapeCast S128x512 (extractStridedSlice S128x1x512 ![0, 1, 0] (shapeCast S128x2x512 N shapeCasts_S256x512_S128x2x512) slices_S128x2x512_o0_1_0_S128x1x512) shapeCasts_S128x1x512_S128x512 (ix2 r o) = N (ix2 ⟨2 * r.val + 1, by omega⟩ o) := by
    intro N; pointwise
    simp only [Nat.mul_comm r.val 2]
  show (IntOp.ori (shapeCast S128x512 _ _ (ix2 r o)) (IntOp.shli .vector (shapeCast S128x512 _ _ (ix2 r o)) 4#32)).setWidth 8 = _
  rw [a0, a1]

end Cert.KernelIdeal.Hand
-- ==== Proof.ValC.lean ====
/- Hand-written. What the kernel leaves in the codes and in the scale bytes, at an index. -/
module

public import proofs.«01_k».proof.Proof.Val
public import proofs.«01_k».proof.Proof.KC

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- One code of a tile, the sign of a zero cleared. -/
theorem code_at (hp : ∀ T o, preE (rRot (aDy m c) (aSg m c) T o) (aGrp (aDy m c) (aSg m c) ⟨T.val / 32, by omega⟩ o) (tok (aRb m c) T o) = 1#1)
    (s : Fin 36) (k : Fin 6) (i : Fin 256) (o : Fin 512) (T : Fin 1536) (hT : T.val = 256 * k.val + i.val) :
    nzF (cb_18 (VV m c).M (rowsOf ((VV m c).D s.val) k) (rowsOf ((VV m c).R s.val) k) (ix2 i o)) = codT (aDy m c) (aSg m c) (aRb m c) T ⟨512 * s.val + o.val, by omega⟩ := by
  have hb : 256 * k.val + i.val < 1536 := by omega
  obtain rfl : T = ⟨256 * k.val + i.val, hb⟩ := Fin.ext hT
  have h45 : k0_pay45 (F := Ideal) (rowsOf ((VV m c).R s.val) k) = rowsOf ((VV m c).R s.val) k := by
    unfold k0_pay45
    exact shapeCast_self _ _
  rw [cb_18_apply, cb_8_apply, rot_at, top_at, h45, rb_at]
  have eG : (⟨8 * k.val + i.val / 32, by omega⟩ : Fin 48) = ⟨(256 * k.val + i.val) / 32, by omega⟩ := Fin.ext (by show 8 * k.val + i.val / 32 = (256 * k.val + i.val) / 32; omega)
  show nzF (csF (_ * invF (aGrp _ _ (⟨8 * k.val + i.val / 32, by omega⟩ : Fin 48) _ * _)) _) = _
  rw [eG]
  exact code_eq _ _ _ (le_aGrp _ _ _ _) (hp _ _)

/-- One scale word of a tile. -/
theorem scl_at (hp : ∀ T o, preE (rRot (aDy m c) (aSg m c) T o) (aGrp (aDy m c) (aSg m c) ⟨T.val / 32, by omega⟩ o) (tok (aRb m c) T o) = 1#1)
    (s : Fin 36) (k : Fin 6) (g : Fin 8) (o : Fin 512) (G : Fin 48) (hG : G.val = 8 * k.val + g.val) :
    cbB (VV m c).M (rowsOf ((VV m c).D s.val) k) (rowsOf ((VV m c).R s.val) k) (ix2 g o) = sclT0 (aGrp (aDy m c) (aSg m c) G ⟨512 * s.val + o.val, by omega⟩) := by
  rw [cbB_apply, top_at, show (⟨8 * k.val + g.val, by omega⟩ : Fin 48) = G from Fin.ext hG.symm]
  have eG : (⟨(⟨32 * G.val, by omega⟩ : Fin 1536).val / 32, by omega⟩ : Fin 48) = G := Fin.ext (by show 32 * G.val / 32 = G.val; omega)
  have h1 := le_aGrp (aDy m c) (aSg m c) ⟨32 * G.val, by omega⟩ ⟨512 * s.val + o.val, by omega⟩
  have h2 := hp ⟨32 * G.val, by omega⟩ ⟨512 * s.val + o.val, by omega⟩
  rw [eG] at h1 h2
  exact byte_eq _ _ _ h1 h2

theorem shl4 (x : BitVec 32) : IntOp.shli .vector x 4#32 = IntOp.shli .host x 4#32 := by
  unfold IntOp.shli
  rw [if_pos (by decide), if_pos (by decide)]

/-- The kernel's codes. -/
theorem CF_apply (hp : ∀ T o, preE (rRot (aDy m c) (aSg m c) T o) (aGrp (aDy m c) (aSg m c) ⟨T.val / 32, by omega⟩ o) (tok (aRb m c) T o) = 1#1)
    (r : Fin 768) (o : Fin 18432) : CF (VV m c) (ix2 r o) = codesT (aDy m c) (aSg m c) (aRb m c) r o := by
  have e : CF (VV m c) (ix2 r o) = cbC (VV m c).M (rowsOf ((VV m c).D (⟨o.val / 512, by omega⟩ : Fin 36).val) ⟨r.val / 128, by omega⟩) (rowsOf ((VV m c).R (⟨o.val / 512, by omega⟩ : Fin 36).val) ⟨r.val / 128, by omega⟩)
      (ix2 ⟨r.val % 128, by omega⟩ ⟨o.val % 512, by omega⟩) := rfl
  rw [e, cbC_apply, shl4, code_at m c hp _ _ _ _ ⟨2 * r.val, by omega⟩ (by show 2 * r.val = 256 * (r.val / 128) + 2 * (r.val % 128); omega),
    code_at m c hp _ _ _ _ ⟨2 * r.val + 1, by omega⟩ (by show 2 * r.val + 1 = 256 * (r.val / 128) + (2 * (r.val % 128) + 1); omega)]
  have e1 : (⟨512 * (o.val / 512) + o.val % 512, by omega⟩ : Fin 18432) = o := Fin.ext (by show 512 * (o.val / 512) + o.val % 512 = o.val; omega)
  show (IntOp.ori (codT _ _ _ _ (⟨512 * (o.val / 512) + o.val % 512, by omega⟩ : Fin 18432)) (IntOp.shli .host (codT _ _ _ _ (⟨512 * (o.val / 512) + o.val % 512, by omega⟩ : Fin 18432)) 4#32)).setWidth 8 = _
  rw [e1]
  rfl

/-- The kernel's scale bytes. -/
theorem SF_apply (hp : ∀ T o, preE (rRot (aDy m c) (aSg m c) T o) (aGrp (aDy m c) (aSg m c) ⟨T.val / 32, by omega⟩ o) (tok (aRb m c) T o) = 1#1)
    (b : Fin 2) (g : Fin 24) (o : Fin 18432) : SF (VV m c) (ix3 b g o) = sclT (aDy m c) (aSg m c) ⟨24 * b.val + g.val, by omega⟩ o := by
  have e : SF (VV m c) (ix3 b g o) = (cbB (VV m c).M (rowsOf ((VV m c).D (⟨o.val / 512, by omega⟩ : Fin 36).val) ⟨(24 * b.val + g.val) / 8, by omega⟩) (rowsOf ((VV m c).R (⟨o.val / 512, by omega⟩ : Fin 36).val) ⟨(24 * b.val + g.val) / 8, by omega⟩)
      (ix2 ⟨(24 * b.val + g.val) % 8, by omega⟩ ⟨o.val % 512, by omega⟩)).setWidth 8 := rfl
  rw [e, scl_at m c hp _ _ _ _ ⟨24 * b.val + g.val, by omega⟩ (by show 24 * b.val + g.val = 8 * ((24 * b.val + g.val) / 8) + (24 * b.val + g.val) % 8; omega)]
  have e1 : (⟨512 * (o.val / 512) + o.val % 512, by omega⟩ : Fin 18432) = o := Fin.ext (by show 512 * (o.val / 512) + o.val % 512 = o.val; omega)
  show (sclT0 (aGrp _ _ _ (⟨512 * (o.val / 512) + o.val % 512, by omega⟩ : Fin 18432))).setWidth 8 = _
  rw [e1]
  rfl

end Cert.KernelIdeal.Hand
-- ==== Proof.RefV.lean ====
/- Hand-written. The reference's stages as functions of vectors, and that its named terms are these. -/
module

public import proofs.«01_k».proof.Proof.Gen.ReferenceIdeal.Run

@[expose] public section

noncomputable section

namespace Cert.ReferenceIdeal.Value

open Cert.ReferenceIdeal Cert.ReferenceIdeal.Gen Idealize.ShloMosaic Idealize.ShloMosaic.TcCoe Idealize.ShloMosaic.StableHlo

variable {F : FTy → Type} [FloatOps F]

/-- A scalar constant everywhere, per group. -/
def kG (b : BitVec 32) : FVec F S48x1x18432 .f32 := broadcastInDim S48x1x18432 ![] bcast_S_S48x1x18432 (constant S_ .f32 b)
/-- A scalar constant everywhere, per element. -/
def kE (b : BitVec 32) : FVec F S48x32x18432 .f32 := broadcastInDim S48x32x18432 ![] bcast_S_S48x32x18432 (constant S_ .f32 b)
/-- The rotation's signs. -/
def V11 : FVec F S64x64 .f32 :=
  select (cmpi .eq (andi (ctpop (andi (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0))))) (broadcastInDim S64x64 ![] bcast_S_S64x64 (constantI S_ 32 1#32))) (broadcastInDim S64x64 ![] bcast_S_S64x64 (constantI S_ 32 0#32))) (broadcastInDim S64x64 ![] bcast_S_S64x64 (constant S_ .f32 0x3F800000#32)) (broadcastInDim S64x64 ![] bcast_S_S64x64 (constant S_ .f32 0xBF800000#32))
/-- The rotation. -/
def V17 (sg : FVec F S64 .f32) : FVec F S64x64 .f32 :=
  mulf (mulf V11 (broadcastInDim S64x64 ![0, 1] bcast_S1x64_S64x64_0_1 (broadcastInDim S1x64 ![1] bcast_S64_S1x64_1 sg))) (broadcastInDim S64x64 ![] bcast_S_S64x64 (constant S_ .f32 0x3E000000#32))
/-- The rotated tokens by groups. -/
def V22 (dy : FVec F S2x768x18432 .bf16) (sg : FVec F S64 .f32) : FVec F S48x32x18432 .f32 :=
  shapeCast _ (transpose S24x64x18432 [0, 2, 1] (Host.dotGeneral dot_S24x64x18432_S64x64_S24x18432x64_1_1_02_0_n_n (some .fp32) (shapeCast _ (extf .f32 dy bitsLt_bf16_f32) shapeCasts_S2x768x18432_S24x64x18432) (V17 sg)) transposes_S24x18432x64_S24x64x18432_0_2_1) shapeCasts_S24x64x18432_S48x32x18432
/-- The groups' maxima. -/
def V25 (r : FVec F S48x32x18432 .f32) : FVec F S48x1x18432 .f32 :=
  broadcastInDim S48x1x18432 ![0, 2] bcast_S48x18432_S48x1x18432_0_2 (Host.reduce FloatOps.maximumf (Host.absf r) (constant S_ .f32 0xFF800000#32) reducesTo_S48x32x18432_S48x18432_d1 h_S_)
/-- The groups' exponents. -/
def V37 (a : FVec F S48x1x18432 .f32) : FVec F S48x1x18432 .f32 :=
  select (cmpf .oeq a (kG 0x00000000#32)) (kG 0x00000000#32) (addf (Host.floor (Host.divf (Host.log (mulf a (kG 0x3E2AAAAB#32))) (Host.log (kG 0x40000000#32)))) (kG 0x3F800000#32))
/-- The scaled elements. -/
def V42 (r : FVec F S48x32x18432 .f32) (e : FVec F S48x1x18432 .f32) : FVec F S48x32x18432 .f32 :=
  mulf r (broadcastInDim S48x32x18432 ![0, 1, 2] bcast_S48x1x18432_S48x32x18432_0_1_2 (Host.powf (kG 0x40000000#32) (Host.negf e)))
/-- The grid's steps. -/
def V49 (t : FVec F S48x32x18432 .f32) : FVec F S48x32x18432 .f32 :=
  select (cmpf .olt t (kE 0x40000000#32)) (kE 0x3F000000#32) (select (cmpf .olt t (kE 0x40800000#32)) (kE 0x3F800000#32) (kE 0x40000000#32))
/-- The magnitudes in steps. -/
def V51 (y : FVec F S48x32x18432 .f32) : FVec F S48x32x18432 .f32 := Host.divf (Host.absf y) (V49 (Host.absf y))
/-- The random thresholds. -/
def V59 (rb : IVec S2x768x18432 8) : FVec F S48x32x18432 .f32 :=
  Host.divf (addf (sitofp .f32 (extui 32 (shapeCast _ rb shapeCasts_S2x768x18432_S48x32x18432) natLt_8_32)) (kE 0x3F000000#32)) (kE 0x43800000#32)
/-- The rounded magnitudes. -/
def V67 (y : FVec F S48x32x18432 .f32) (th : FVec F S48x32x18432 .f32) : FVec F S48x32x18432 .f32 :=
  minimumf (mulf (addf (Host.floor (V51 y)) (uitofp .f32 (cmpf .olt th (subf (V51 y) (Host.floor (V51 y)))))) (V49 (Host.absf y))) (kE 0x40C00000#32)
/-- The decoded elements. -/
def V78 (y : FVec F S48x32x18432 .f32) (q : FVec F S48x32x18432 .f32) (e : FVec F S48x1x18432 .f32) : FVec F S48x32x18432 .bf16 :=
  mulf (truncf .bf16 (select (cmpf .olt y (kE 0x00000000#32)) (Host.negf q) q) bitsLt_bf16_f32)
    (broadcastInDim S48x32x18432 ![0, 1, 2] bcast_S48x1x18432_S48x32x18432_0_1_2 (truncf .bf16 (Host.powf (kG 0x40000000#32) e) bitsLt_bf16_f32))
/-- The decoded `x`. -/
def VX (xq : IVec S768x7168 32) : FVec F S1536x7168 .bf16 :=
  shapeCast _ (transpose S768x2x7168 [0, 2, 1] (bitcastToFloat .bf16 (Host.bitcastConvertNarrow S768x7168x2 16 xq (by decide))) transposes_S768x7168x2_S768x2x7168_0_2_1) shapeCasts_S768x2x7168_S1536x7168
/-- The weight gradient. -/
def VDW (d : FVec F S48x32x18432 .bf16) (x : FVec F S1536x7168 .bf16) : FVec F S18432x7168 .f32 :=
  Host.dotGeneral dot_S1536x18432_S1536x7168_S18432x7168_0_0_1_1_n_n none (shapeCast _ d shapeCasts_S48x32x18432_S1536x18432) x

variable (V0 : Valuation τ sig (Elt F))

theorem v22_eq : res_main_v22 V0 = V22 (V0 (Proc.devRef .tc main_arg1)) (V0 (Proc.devRef .tc main_arg2)) := rfl
theorem v25_eq : res_main_v25 V0 = V25 (res_main_v22 V0) := rfl
theorem v37_eq : res_main_v37 V0 = V37 (res_main_v25 V0) := rfl
theorem v42_eq : res_main_v42 V0 = V42 (res_main_v22 V0) (res_main_v37 V0) := rfl
theorem v67_eq : res_main_v67 V0 = V67 (res_main_v42 V0) (V59 (V0 (Proc.devRef .tc main_arg3))) := rfl

end Cert.ReferenceIdeal.Value
-- ==== Proof.RefS.lean ====
/- Hand-written. The reference's stages at an index. -/
module

public import proofs.«01_k».proof.Proof.Spec
public import proofs.«01_k».proof.Proof.RefV
public import Idealize.ShloMosaic.Lib.BitcastConvert

@[expose] public section

noncomputable section

namespace Cert.ReferenceIdeal.Value

open Cert.ReferenceIdeal Cert.ReferenceIdeal.Gen Idealize.ShloMosaic Idealize.ShloMosaic.TcCoe Idealize.ShloMosaic.StableHlo Idealize.ShloMosaic.Tactic
open Cert.KernelIdeal.Hand

set_option maxRecDepth 16384

theorem kG_apply (b : BitVec 32) (x : S48x1x18432.Idx) : (kG b : FVec Ideal S48x1x18432 .f32) x = Ideal.ofBits .f32 b := rfl
theorem kE_apply (b : BitVec 32) (x : S48x32x18432.Idx) : (kE b : FVec Ideal S48x32x18432 .f32) x = Ideal.ofBits .f32 b := rfl

theorem V37_apply (a : FVec Ideal S48x1x18432 .f32) (x : S48x1x18432.Idx) : V37 a x = eR (a x) := by
  show Scalar.select (Ideal.cmp .oeq (a x) (kG (F := Ideal) 0x00000000#32 x)) (kG (F := Ideal) 0x00000000#32 x)
    (Ideal.liftRound Int.floor (Ideal.div (Ideal.log (a x * kG (F := Ideal) 0x3E2AAAAB#32 x)) (Ideal.log (kG (F := Ideal) 0x40000000#32 x))) + kG (F := Ideal) 0x3F800000#32 x) = _
  simp only [kG_apply]
  rfl

theorem V49_apply (t : FVec Ideal S48x32x18432 .f32) (x : S48x32x18432.Idx) : V49 t x = stE (t x) := by
  show Scalar.select (Ideal.cmp .olt (t x) (kE (F := Ideal) 0x40000000#32 x)) (kE (F := Ideal) 0x3F000000#32 x)
    (Scalar.select (Ideal.cmp .olt (t x) (kE (F := Ideal) 0x40800000#32 x)) (kE (F := Ideal) 0x3F800000#32 x) (kE (F := Ideal) 0x40000000#32 x)) = _
  simp only [kE_apply]
  rfl

theorem V51_apply (y : FVec Ideal S48x32x18432 .f32) (x : S48x32x18432.Idx) : V51 y x = zE (y x) := by
  show Ideal.div (max (y x) (-(y x))) (V49 (Host.absf y) x) = _
  rw [V49_apply]
  rfl

theorem V67_apply (y th : FVec Ideal S48x32x18432 .f32) (x : S48x32x18432.Idx) (rb : BitVec 8) (h : th x = thE rb) : V67 y th x = qE (y x) rb := by
  show min ((Ideal.liftRound Int.floor (V51 y x) + (((Ideal.cmp .olt (th x) (V51 y x - Ideal.liftRound Int.floor (V51 y x))).toNat : ℝ) : EReal))
    * V49 (Host.absf y) x) (kE (F := Ideal) 0x40C00000#32 x) = _
  rw [V51_apply, V49_apply, kE_apply, h]
  rfl

theorem bc_apply {α : Type} (e : S48x1x18432.Idx → α) (G : Fin 48) (k : Fin 32) (c : Fin 18432) :
    broadcastInDim S48x32x18432 ![0, 1, 2] bcast_S48x1x18432_S48x32x18432_0_1_2 e (ix3 G k c) = e (ix3 G 0 c) := by
  pointwise

theorem V42_apply (r : FVec Ideal S48x32x18432 .f32) (e : FVec Ideal S48x1x18432 .f32) (G : Fin 48) (k : Fin 32) (c : Fin 18432) :
    V42 r e (ix3 G k c) = yR (r (ix3 G k c)) (e (ix3 G 0 c)) := by
  show r (ix3 G k c) * broadcastInDim S48x32x18432 ![0, 1, 2] bcast_S48x1x18432_S48x32x18432_0_1_2 (Host.powf (kG (F := Ideal) 0x40000000#32) (Host.negf e)) (ix3 G k c) = _
  rw [bc_apply]
  show _ * Ideal.pow (kG (F := Ideal) 0x40000000#32 (ix3 G 0 c)) (-(e (ix3 G 0 c))) = _
  rw [kG_apply]
  rfl

theorem V78_apply (y q : FVec Ideal S48x32x18432 .f32) (e : FVec Ideal S48x1x18432 .f32) (G : Fin 48) (k : Fin 32) (c : Fin 18432) :
    V78 y q e (ix3 G k c) = Scalar.select (Ideal.cmp .olt (y (ix3 G k c)) (Ideal.ofBits .f32 0x00000000#32)) (-(q (ix3 G k c))) (q (ix3 G k c))
      * Ideal.pow (Ideal.ofBits .f32 0x40000000#32) (e (ix3 G 0 c)) := by
  show Scalar.select (Ideal.cmp .olt (y (ix3 G k c)) (kE (F := Ideal) 0x00000000#32 (ix3 G k c))) (-(q (ix3 G k c))) (q (ix3 G k c))
    * broadcastInDim S48x32x18432 ![0, 1, 2] bcast_S48x1x18432_S48x32x18432_0_1_2 (truncf .bf16 (Host.powf (kG (F := Ideal) 0x40000000#32) e) bitsLt_bf16_f32) (ix3 G k c) = _
  rw [bc_apply, kE_apply]
  show _ * Ideal.pow (kG (F := Ideal) 0x40000000#32 (ix3 G 0 c)) (e (ix3 G 0 c)) = _
  rw [kG_apply]

theorem V59_apply (rb : IVec S2x768x18432 8) (G : Fin 48) (k : Fin 32) (c : Fin 18432) :
    (V59 rb : FVec Ideal S48x32x18432 .f32) (ix3 G k c) = thE (tok rb ⟨32 * G.val + k.val, by omega⟩ c) := by
  show Ideal.div (((((shapeCast S48x32x18432 rb shapeCasts_S2x768x18432_S48x32x18432 (ix3 G k c)).setWidth 32).toInt : ℝ) : EReal) + kE (F := Ideal) 0x3F000000#32 (ix3 G k c)) (kE (F := Ideal) 0x43800000#32 (ix3 G k c)) = _
  rw [kE_apply, kE_apply]
  have e : shapeCast S48x32x18432 rb shapeCasts_S2x768x18432_S48x32x18432 (ix3 G k c) = tok rb ⟨32 * G.val + k.val, by omega⟩ c := by
    unfold tok
    pointwise
    have e1 : G.val / 24 = (32 * G.val + k.val) / 768 := by omega
    have e2 : G.val % 24 * 32 + k.val = (32 * G.val + k.val) % 768 := by omega
    simp only [e1, e2]
  rw [e]
  rfl

theorem V25_apply (r : FVec Ideal S48x32x18432 .f32) (G : Fin 48) (c : Fin 18432) :
    V25 r (ix3 G 0 c) = Finset.univ.fold max (⊥ : EReal) fun k : Fin 32 => max (r (ix3 G k c)) (-(r (ix3 G k c))) := by
  unfold V25
  pointwise
  have hb : Ideal.ofBits .f32 4286578688#32 = (⊥ : EReal) := by simp [Ideal.ofBits, Ideal.ieee]
  rw [hb]
  first | done | rfl

theorem V22_apply (dy : FVec Ideal S2x768x18432 .bf16) (sg : FVec Ideal S64 .f32) (G : Fin 48) (k : Fin 32) (c : Fin 18432) :
    V22 dy sg (ix3 G k c) = rRot dy sg ⟨32 * G.val + k.val, by omega⟩ c := by
  unfold V22 V17 V11 rRot mRot tok
  pointwise
  refine Finset.sum_congr rfl fun x _ => ?_
  have e1 : G.val / 2 / 12 = (64 * ((32 * G.val + k.val) / 64) + x.val) / 768 := by omega
  have e2 : G.val / 2 % 12 * 64 + x.val = (64 * ((32 * G.val + k.val) / 64) + x.val) % 768 := by omega
  have e3 : G.val % 2 * 32 + k.val = (32 * G.val + k.val) % 64 := by omega
  simp only [e1, e2, e3]

theorem VX_apply (xq : IVec S768x7168 32) (T : Fin 1536) (i : Fin 7168) : (VX xq : FVec Ideal S1536x7168 .bf16) (ix2 T i) = xT xq T i := by
  unfold VX xT
  pointwise
  show Ideal.ofBits .bf16 ((xq _).extractLsb' (T.val % 2 * 16) 16) = _
  rw [Nat.mul_comm]
  congr 3
  funext d
  fin_cases d <;> rfl

theorem VDW_apply (d : FVec Ideal S48x32x18432 .bf16) (x : FVec Ideal S1536x7168 .bf16) (o : Fin 18432) (i : Fin 7168) :
    VDW d x (ix2 o i) = ∑ T : Fin 1536, d (ix3 ⟨T.val / 32, by omega⟩ ⟨T.val % 32, by omega⟩ o) * x (ix2 T i) := by
  unfold VDW
  pointwise

end Cert.ReferenceIdeal.Value
-- ==== Proof.RefC.lean ====
/- Hand-written. The reference's codes and scale bytes: its stages, and the results at an index. -/
module

public import proofs.«01_k».proof.Proof.RefS
public import proofs.«01_k».proof.Proof.Code

@[expose] public section

noncomputable section

namespace Cert.ReferenceIdeal.Value

open Cert.ReferenceIdeal Cert.ReferenceIdeal.Gen Idealize.ShloMosaic Idealize.ShloMosaic.TcCoe Idealize.ShloMosaic.StableHlo Idealize.ShloMosaic.Tactic
open Cert.KernelIdeal.Hand

section
variable {F : FTy → Type} [FloatOps F]

/-- The codes of the elements. -/
def VCod (y q : FVec F S48x32x18432 .f32) : IVec S48x32x18432 32 :=
  ori (fptosi 32 (select (cmpf .olt q (kE 0x40000000#32)) (mulf (kE 0x40000000#32) q) (select (cmpf .olt q (kE 0x40800000#32)) (addf q (kE 0x40000000#32)) (addf (mulf (kE 0x3F000000#32) q) (kE 0x40800000#32)))))
    (Host.shli (extui 32 (andi (cmpf .olt y (kE 0x00000000#32)) (cmpf .ogt q (kE 0x00000000#32))) natLt_1_32) (broadcastInDim S48x32x18432 ![] bcast_S_S48x32x18432 (constantI S_ 32 3#32)))
/-- Two codes to a byte. -/
def VPak (k : IVec S768x2x18432 32) : IVec S768x18432 8 :=
  trunci 8 (ori (shapeCast _ (extractStridedSlice S768x1x18432 ![0, 0, 0] k slices_S768x2x18432_S768x1x18432_0_0_0) shapeCasts_S768x1x18432_S768x18432) (Host.shli (shapeCast _ (extractStridedSlice S768x1x18432 ![0, 1, 0] k slices_S768x2x18432_S768x1x18432_0_1_0) shapeCasts_S768x1x18432_S768x18432) (broadcastInDim S768x18432 ![] bcast_S_S768x18432 (constantI S_ 32 4#32)))) natLt_8_32
/-- The packed codes. -/
def VCds (y q : FVec F S48x32x18432 .f32) : IVec S768x18432 8 := VPak (shapeCast _ (VCod y q) shapeCasts_S48x32x18432_S768x2x18432)
/-- The scale bytes. -/
def VScl (e : FVec F S48x1x18432 .f32) : IVec S2x24x18432 8 :=
  shapeCast _ (trunci 8 (fptosi 32 (addf (shapeCast _ e shapeCasts_S48x1x18432_S48x18432) (broadcastInDim S48x18432 ![] bcast_S_S48x18432 (constant S_ .f32 0x42FE0000#32)))) natLt_8_32) shapeCasts_S48x18432_S2x24x18432
end

theorem VCod_apply (y q : FVec Ideal S48x32x18432 .f32) (G : Fin 48) (k : Fin 32) (c : Fin 18432) :
    VCod y q (ix3 G k c) = refC (y (ix3 G k c)) (q (ix3 G k c)) := by
  unfold VCod refC idxE
  simp only [← kE_apply _ (ix3 G k c)]
  rfl

theorem VPak_apply (K : IVec S768x2x18432 32) (R : Fin 768) (c : Fin 18432) :
    VPak K (ix2 R c) = (IntOp.ori (K (ix3 R 0 c)) (IntOp.shli .host (K (ix3 R 1 c)) 4#32)).setWidth 8 := by
  unfold VPak
  pointwise

theorem VCds_apply (y q : FVec Ideal S48x32x18432 .f32) (R : Fin 768) (c : Fin 18432) :
    VCds y q (ix2 R c) = (IntOp.ori (VCod y q (ix3 ⟨R.val / 16, by omega⟩ ⟨2 * (R.val % 16), by omega⟩ c)) (IntOp.shli .host (VCod y q (ix3 ⟨R.val / 16, by omega⟩ ⟨2 * (R.val % 16) + 1, by omega⟩ c)) 4#32)).setWidth 8 := by
  unfold VCds
  rw [VPak_apply]
  generalize VCod y q = I
  have a0 : shapeCast S768x2x18432 I shapeCasts_S48x32x18432_S768x2x18432 (ix3 R 0 c) = I (ix3 ⟨R.val / 16, by omega⟩ ⟨2 * (R.val % 16), by omega⟩ c) := by
    pointwise
    simp only [Nat.mul_comm (R.val % 16) 2]
  have a1 : shapeCast S768x2x18432 I shapeCasts_S48x32x18432_S768x2x18432 (ix3 R 1 c) = I (ix3 ⟨R.val / 16, by omega⟩ ⟨2 * (R.val % 16) + 1, by omega⟩ c) := by
    pointwise
    simp only [Nat.mul_comm (R.val % 16) 2]
  rw [a0, a1]

theorem VScl_apply (e : FVec Ideal S48x1x18432 .f32) (b : Fin 2) (g : Fin 24) (c : Fin 18432) :
    VScl e (ix3 b g c) = (Ideal.fptosi 32 (e (ix3 ⟨24 * b.val + g.val, by omega⟩ 0 c) + Ideal.ofBits .f32 0x42FE0000#32)).setWidth 8 := by
  unfold VScl
  pointwise
  simp only [Nat.mul_comm b.val 24]
  rfl

end Cert.ReferenceIdeal.Value
-- ==== Proof.RefEnd.lean ====
/- Hand-written. What the reference leaves in its results, at an index. -/
module

public import proofs.«01_k».proof.Proof.RefS
public import proofs.«01_k».proof.Proof.RefC
public import proofs.«01_k».proof.Proof.Gen.ReferenceIdeal.Run

@[expose] public section

noncomputable section

namespace Cert.ReferenceIdeal.Value

open Cert.ReferenceIdeal Cert.ReferenceIdeal.Gen Idealize.ShloMosaic Idealize.ShloMosaic.TcCoe Idealize.ShloMosaic.StableHlo Idealize.ShloMosaic.Tactic
open Idealize.SL.Sem
open Cert.KernelIdeal.Hand

section
variable {F : FTy → Type} [FloatOps F]

/-- The result from the arguments, by the stages. -/
def VRes (xq : IVec S768x7168 32) (dy : FVec F S2x768x18432 .bf16) (sg : FVec F S64 .f32) (rb : IVec S2x768x18432 8) : FVec F S18432x7168 .f32 :=
  VDW (V78 (V42 (V22 dy sg) (V37 (V25 (V22 dy sg)))) (V67 (V42 (V22 dy sg) (V37 (V25 (V22 dy sg)))) (V59 rb)) (V37 (V25 (V22 dy sg)))) (VX xq)

/-- The codes from the arguments, by the stages. -/
def CRes (dy : FVec F S2x768x18432 .bf16) (sg : FVec F S64 .f32) (rb : IVec S2x768x18432 8) : IVec S768x18432 8 :=
  VCds (V42 (V22 dy sg) (V37 (V25 (V22 dy sg)))) (V67 (V42 (V22 dy sg) (V37 (V25 (V22 dy sg)))) (V59 rb))
/-- The scale bytes from the arguments, by the stages. -/
def SRes (dy : FVec F S2x768x18432 .bf16) (sg : FVec F S64 .f32) : IVec S2x24x18432 8 := VScl (V37 (V25 (V22 dy sg)))

theorem v92_eq (V0 : Valuation τ sig (Elt F)) : res_main_v92 V0 = shapeCast _ (VCod (res_main_v42 V0) (res_main_v67 V0)) shapeCasts_S48x32x18432_S768x2x18432 := rfl

theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v121) = VRes (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v100) = CRes (m ((c.tc : Thread nD τ).loc main_arg1)) (m ((c.tc : Thread nD τ).loc main_arg2)) (m ((c.tc : Thread nD τ).loc main_arg3))
      ∧ r.2.mem ((c.tc : Thread nD τ).loc main_v106) = SRes (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by rw [v67_eq, v42_eq, v37_eq, v25_eq, v22_eq]; rfl),
    (h c).2.1.trans (by rw [v92_eq, v67_eq, v42_eq, v37_eq, v25_eq, v22_eq]; rfl), (h c).2.2.1.trans (by rw [v37_eq, v25_eq, v22_eq]; rfl), (h c).2.2.2⟩) (run m ρ)
end

theorem max_apply (dy : FVec Ideal S2x768x18432 .bf16) (sg : FVec Ideal S64 .f32) (G : Fin 48) (c : Fin 18432) :
    V25 (V22 dy sg) (ix3 G 0 c) = aGrp dy sg G c := by
  rw [V25_apply]; simp only [V22_apply]; rfl

theorem code_apply (dy : FVec Ideal S2x768x18432 .bf16) (sg : FVec Ideal S64 .f32) (rb : IVec S2x768x18432 8) (T : Fin 1536) (G : Fin 48) (k : Fin 32) (c : Fin 18432)
    (h : T.val = 32 * G.val + k.val) :
    VCod (V42 (V22 dy sg) (V37 (V25 (V22 dy sg)))) (V67 (V42 (V22 dy sg) (V37 (V25 (V22 dy sg)))) (V59 rb)) (ix3 G k c) = codT dy sg rb T c := by
  have hb : 32 * G.val + k.val < 1536 := by omega
  obtain rfl : T = ⟨32 * G.val + k.val, hb⟩ := Fin.ext h
  have e : (⟨(32 * G.val + k.val) / 32, by omega⟩ : Fin 48) = G := Fin.ext (by show (32 * G.val + k.val) / 32 = G.val; omega)
  rw [VCod_apply, V67_apply _ _ _ _ (V59_apply rb G k c), V42_apply, V37_apply, max_apply, V22_apply]
  unfold codT
  rw [show (⟨(⟨32 * G.val + k.val, by omega⟩ : Fin 1536).val / 32, by omega⟩ : Fin 48) = G from e]
  rfl

theorem CRes_apply (dy : FVec Ideal S2x768x18432 .bf16) (sg : FVec Ideal S64 .f32) (rb : IVec S2x768x18432 8) (R : Fin 768) (c : Fin 18432) :
    CRes dy sg rb (ix2 R c) = codesT dy sg rb R c := by
  unfold CRes
  rw [VCds_apply, code_apply dy sg rb ⟨2 * R.val, by omega⟩ _ _ c (by show 2 * R.val = 32 * (R.val / 16) + 2 * (R.val % 16); omega),
    code_apply dy sg rb ⟨2 * R.val + 1, by omega⟩ _ _ c (by show 2 * R.val + 1 = 32 * (R.val / 16) + (2 * (R.val % 16) + 1); omega)]
  rfl

theorem SRes_apply (dy : FVec Ideal S2x768x18432 .bf16) (sg : FVec Ideal S64 .f32) (b : Fin 2) (g : Fin 24) (c : Fin 18432) :
    SRes dy sg (ix3 b g c) = sclT dy sg ⟨24 * b.val + g.val, by omega⟩ c := by
  unfold SRes
  rw [VScl_apply, V37_apply, max_apply]
  rfl

theorem dec_apply (dy : FVec Ideal S2x768x18432 .bf16) (sg : FVec Ideal S64 .f32) (rb : IVec S2x768x18432 8) (G : Fin 48) (k : Fin 32) (c : Fin 18432) :
    V78 (V42 (V22 dy sg) (V37 (V25 (V22 dy sg)))) (V67 (V42 (V22 dy sg) (V37 (V25 (V22 dy sg)))) (V59 rb)) (V37 (V25 (V22 dy sg))) (ix3 G k c)
      = decE (rRot dy sg ⟨32 * G.val + k.val, by omega⟩ c) (aGrp dy sg G c) (tok rb ⟨32 * G.val + k.val, by omega⟩ c) := by
  have ha : V25 (V22 dy sg) (ix3 G 0 c) = aGrp dy sg G c := by
    rw [V25_apply]; simp only [V22_apply]; rfl
  rw [V78_apply, V67_apply _ _ _ _ (V59_apply rb G k c), V42_apply, V37_apply, ha, V22_apply]
  rfl

theorem VRes_apply (xq : IVec S768x7168 32) (dy : FVec Ideal S2x768x18432 .bf16) (sg : FVec Ideal S64 .f32) (rb : IVec S2x768x18432 8)
    (o : Fin 18432) (i : Fin 7168) : VRes xq dy sg rb (ix2 o i) = dwT xq dy sg rb o i := by
  unfold VRes
  rw [VDW_apply]
  unfold dwT
  refine Finset.sum_congr rfl fun T _ => ?_
  rw [dec_apply, VX_apply]
  have e : (⟨32 * (T.val / 32) + T.val % 32, by omega⟩ : Fin 1536) = T := Fin.ext (by show 32 * (T.val / 32) + T.val % 32 = T.val; omega)
  rw [e]
  rfl

end Cert.ReferenceIdeal.Value
-- ==== Proof.PreV.lean ====
/- Hand-written. The precondition at an index. -/
module

public import proofs.«01_k».proof.Proof.RefS
public import proofs.«01_k».proof.Proof.Gen.Pre_quantises_alike

@[expose] public section

noncomputable section

namespace Cert.ReferenceIdeal.Value

open Cert.ReferenceIdeal Cert.ReferenceIdeal.Gen Idealize.ShloMosaic Idealize.ShloMosaic.TcCoe Idealize.ShloMosaic.StableHlo Idealize.ShloMosaic.Tactic
open Cert.KernelIdeal.Hand

section
variable {F : FTy → Type} [FloatOps F]

/-- The precondition from the stages. -/
def VP (a : FVec F S48x1x18432 .f32) (y th : FVec F S48x32x18432 .f32) : IVec S48x32x18432 1 :=
  andi (broadcastInDim S48x32x18432 ![0, 1, 2] bcast_S48x1x18432_S48x32x18432_0_1_2
      (ori (cmpf .oeq (mulf a (kG 0x3E2AAAAB#32)) (kG 0x00000000#32)) (andi (cmpf .oge (mulf a (kG 0x3E2AAAAB#32)) (kG 0x00800000#32)) (cmpf .olt (mulf a (kG 0x3E2AAAAB#32)) (kG 0x7E800000#32)))))
    (ori (cmpf .ole (V51 y) (addf (Host.floor (V51 y)) th)) (cmpf .ogt (mulf (V51 y) (kE 0x3F7FFFFE#32)) (addf (Host.floor (V51 y)) th)))

theorem pre_eq [Cert.Pre_quantises_alike.Facts] (xq : IVec S768x7168 32) (dy : FVec F S2x768x18432 .bf16) (sg : FVec F S64 .f32) (rb : IVec S2x768x18432 8) :
    Cert.Pre_quantises_alike.fn (F := F) xq dy sg rb = VP (V25 (V22 dy sg)) (V42 (V22 dy sg) (V37 (V25 (V22 dy sg)))) (V59 rb) := rfl
end

theorem VP_apply (a : FVec Ideal S48x1x18432 .f32) (r th : FVec Ideal S48x32x18432 .f32) (G : Fin 48) (k : Fin 32) (c : Fin 18432) (rb : BitVec 8)
    (h : th (ix3 G k c) = thE rb) : VP a (V42 r (V37 a)) th (ix3 G k c) = preE (r (ix3 G k c)) (a (ix3 G 0 c)) rb := by
  have hy : V42 r (V37 a) (ix3 G k c) = yR (r (ix3 G k c)) (eR (a (ix3 G 0 c))) := by rw [V42_apply, V37_apply]
  generalize V42 r (V37 a) = y at hy ⊢
  have hz : V51 y (ix3 G k c) = zE (yR (r (ix3 G k c)) (eR (a (ix3 G 0 c)))) := by rw [V51_apply, hy]
  generalize hZ : V51 y = z at hz
  show IntOp.andi (broadcastInDim S48x32x18432 ![0, 1, 2] bcast_S48x1x18432_S48x32x18432_0_1_2
      (ori (cmpf .oeq (mulf a (kG 0x3E2AAAAB#32)) (kG 0x00000000#32)) (andi (cmpf .oge (mulf a (kG 0x3E2AAAAB#32)) (kG 0x00800000#32)) (cmpf .olt (mulf a (kG 0x3E2AAAAB#32)) (kG 0x7E800000#32)))) (ix3 G k c))
    (IntOp.ori (Ideal.cmp .ole (V51 y (ix3 G k c)) (Ideal.liftRound Int.floor (V51 y (ix3 G k c)) + th (ix3 G k c)))
      (Ideal.cmp .ogt (V51 y (ix3 G k c) * kE (F := Ideal) 0x3F7FFFFE#32 (ix3 G k c)) (Ideal.liftRound Int.floor (V51 y (ix3 G k c)) + th (ix3 G k c)))) = _
  rw [bc_apply, hZ, hz, h, kE_apply]
  show IntOp.andi (IntOp.ori (Ideal.cmp .oeq (a (ix3 G 0 c) * kG (F := Ideal) 0x3E2AAAAB#32 (ix3 G 0 c)) (kG (F := Ideal) 0x00000000#32 (ix3 G 0 c)))
      (IntOp.andi (Ideal.cmp .oge (a (ix3 G 0 c) * kG (F := Ideal) 0x3E2AAAAB#32 (ix3 G 0 c)) (kG (F := Ideal) 0x00800000#32 (ix3 G 0 c)))
        (Ideal.cmp .olt (a (ix3 G 0 c) * kG (F := Ideal) 0x3E2AAAAB#32 (ix3 G 0 c)) (kG (F := Ideal) 0x7E800000#32 (ix3 G 0 c))))) _ = _
  simp only [kG_apply]
  rfl

/-- The precondition at an index. -/
theorem fn_apply [Cert.Pre_quantises_alike.Facts] (xq : IVec S768x7168 32) (dy : FVec Ideal S2x768x18432 .bf16) (sg : FVec Ideal S64 .f32) (rb : IVec S2x768x18432 8)
    (G : Fin 48) (k : Fin 32) (c : Fin 18432) : Cert.Pre_quantises_alike.fn (F := Ideal) xq dy sg rb (ix3 G k c)
      = preE (rRot dy sg ⟨32 * G.val + k.val, by omega⟩ c) (aGrp dy sg G c) (tok rb ⟨32 * G.val + k.val, by omega⟩ c) := by
  have ha : V25 (V22 dy sg) (ix3 G 0 c) = aGrp dy sg G c := by
    rw [V25_apply]; simp only [V22_apply]; rfl
  rw [pre_eq, VP_apply _ _ _ _ _ _ _ (V59_apply rb G k c), V22_apply, ha]

end Cert.ReferenceIdeal.Value
-- ==== Proof.XChunk.lean ====
/- Hand-written. What one trip of the quantising loop of `x` stores: the codes, the scale bytes and the decoded values of a
   chunk, as functions of the rotation and of the 256 rows of `x` it reads; and the stores of the run as these pieces. -/
module

public import proofs.«01_k».proof.Proof.Gen.QuantXIdeal.Value

@[expose] public section

set_option maxRecDepth 65536

noncomputable section

namespace Cert.QuantXIdeal.Hand

open Cert.QuantXIdeal Cert.QuantXIdeal.Gen
open Idealize.ShloMosaic Idealize.ShloMosaic.TcCoe Idealize.ShloMosaic.Tactic

variable {F : FTy → Type} [FloatOps F]

/-- The scale bytes of a chunk. -/
def xB (M : Vec F S256x256 .bf16) (D : Vec F S256x512 .bf16) : IVec S8x512 32 :=
  k0_pay9 (k0_pay5 M D) (k0_pay6 M D) (k0_pay7 M D) 23#32
/-- The rotated chunk in groups. -/
def xG (M : Vec F S256x256 .bf16) (D : Vec F S256x512 .bf16) : FVec F S8x32x512 .f32 := k0_pay10 (k0_pay4 M D)
/-- The factors of the groups. -/
def xI (M : Vec F S256x256 .bf16) (D : Vec F S256x512 .bf16) : FVec F S8x32x512 .f32 :=
  k0_pay11 (k0_pay5 M D) (k0_pay6 M D) (k0_pay7 M D) 23#32
/-- The packed codes of a chunk. -/
def xC (M : Vec F S256x256 .bf16) (D : Vec F S256x512 .bf16) : IVec S128x512 8 :=
  k0_pay26 (k0_pay14 (xG M D) (xI M D)) (k0_pay19 (xG M D) (xI M D)) (k0_pay20 (xG M D) (xI M D)) (k0_pay21 (xG M D) (xI M D)) (k0_pay23 (xG M D) (xI M D))
/-- The fp4 values of a chunk. -/
def xQ (M : Vec F S256x256 .bf16) (D : Vec F S256x512 .bf16) : FVec F S256x512 .bf16 :=
  k0_pay25 (k0_pay14 (xG M D) (xI M D)) (k0_pay18 (xG M D) (xI M D)) (k0_pay19 (xG M D) (xI M D)) (k0_pay20 (xG M D) (xI M D)) (k0_pay21 (xG M D) (xI M D)) (k0_pay22 (xG M D) (xI M D)) k0_pay24
/-- The decoded chunk. -/
def xD (M : Vec F S256x256 .bf16) (D : Vec F S256x512 .bf16) : FVec F S256x512 .bf16 :=
  k0_pay1 (k0_pay29 (xB M D) (xQ M D)) (k0_pay30 (xB M D) (xQ M D)) (k0_pay31 (xB M D) (xQ M D)) (k0_pay32 (xB M D) (xQ M D))
    (k0_pay33 (xB M D) (xQ M D)) (k0_pay34 (xB M D) (xQ M D)) (k0_pay35 (xB M D) (xQ M D)) (k0_pay36 (xB M D) (xQ M D))

section
variable (𝒱 : Variants) (c : Dev nD) (bd : Option 𝒱.V) (i : grid0.Coords) (arg1 : Memref sig .tc .vmem S256x256 .bf16) (harg1 : arg1.IsWhole) (arg2 : Memref sig .tc .vmem S1536x512 .bf16) (harg2 : arg2.IsWhole) (arg3 : Memref sig .tc .vmem S768x512 .i8) (harg3 : arg3.IsWhole) (arg4 : Memref sig .tc .vmem S2x24x512 .i8) (harg4 : arg4.IsWhole) (arg5 : Memref sig .tc .vmem S1536x512 .bf16) (harg5 : arg5.IsWhole) (arg6 : Memref sig .tc .vmem S48x512 .i32) (harg6 : arg6.IsWhole)
  (X1 : BufTy.Contents (Elt F) arg1.view.ty) (X2 : BufTy.Contents (Elt F) arg2.view.ty) (k : Fin k0_t1_loop.trips)

/-- The rotation and the rows trip `k` reads. -/
def rdM : Vec F S256x256 .bf16 := View.readAt (Elt F) arg1.view (Rect.unit (s := S256x256) ![0, 0] S256x256.size inb_S256x256_S256x256_0_0).toLoadRect X1
def rdD : Vec F S256x512 .bf16 := View.readAt (Elt F) arg2.view (Rect.unit (s := S1536x512) (k0_off1 k) S256x512.size (k0_off1_inb k)).toLoadRect X2

theorem trip_eq : tripL_k0_t1 (F := F) 𝒱 c bd i arg1 harg1 arg2 harg2 arg3 harg3 arg4 harg4 arg5 harg5 arg6 harg6 X1 X2 k
    = ([⟨Rect.unit (s := S768x512) (k0_off2 k) S128x512.size (k0_off2_inb k), xC (rdM arg1 X1) (rdD arg2 X2 k)⟩],
       [⟨Rect.unit (s := S1536x512) (k0_off1 k) S256x512.size (k0_off1_inb k), xD (rdM arg1 X1) (rdD arg2 X2 k)⟩],
       [⟨Rect.unit (s := S48x512) (k0_off3 k) S8x512.size (k0_off3_inb k), k0_pay27 (xB (rdM arg1 X1) (rdD arg2 X2 k))⟩]) := by
  unfold tripL_k0_t1 trip_k0_t1
  rfl
end

section
variable (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S768x512 .i8) (harg3 : arg3.IsWhole) (arg4 : Memref sig .tc .vmem S2x24x512 .i8) (harg4 : arg4.IsWhole) (arg5 : Memref sig .tc .vmem S1536x512 .bf16) (harg5 : arg5.IsWhole) (arg6 : Memref sig .tc .vmem S48x512 .i32) (harg6 : arg6.IsWhole)
  (x0 : Vec F S256x256 .bf16) (x1 : Vec F S1536x512 .bf16)

theorem run_1 : (kernelRun0_A c i arg1 harg1 arg2 harg2 arg3 harg3 arg4 harg4 arg5 harg5 arg6 harg6 x0 x1).1
    = (pb_k0_t1 (F := F) Variants.none c none i arg1 harg1 arg2 harg2 arg3 harg3 arg4 harg4 arg5 harg5 arg6 harg6 (harg1.unread x0) (harg2.unread x1) 6).1 := by
  unfold kernelRun0_A
  rfl
theorem run_3 : (kernelRun0_A c i arg1 harg1 arg2 harg2 arg3 harg3 arg4 harg4 arg5 harg5 arg6 harg6 x0 x1).2.2.1
    = (pb_k0_t1 (F := F) Variants.none c none i arg1 harg1 arg2 harg2 arg3 harg3 arg4 harg4 arg5 harg5 arg6 harg6 (harg1.unread x0) (harg2.unread x1) 6).2.1 := by
  unfold kernelRun0_A
  rfl
theorem run_2 : (kernelRun0_A c i arg1 harg1 arg2 harg2 arg3 harg3 arg4 harg4 arg5 harg5 arg6 harg6 x0 x1).2.1
    = [⟨Rect.unit (s := S2x24x512) ![1, 0, 0] S1x24x512.size inb_S2x24x512_S1x24x512_1_0_0, k0_pay3 (F := F) (arg6.view.readCov (pb_k0_t1 (F := F) Variants.none c none i arg1 harg1 arg2 harg2 arg3 harg3 arg4 harg4 arg5 harg5 arg6 harg6 (harg1.unread x0) (harg2.unread x1) 6).2.2 (Rect.unit (s := S48x512) ![24, 0] S24x512.size inb_S48x512_S24x512_24_0).toLoadRect)⟩,
       ⟨Rect.unit (s := S2x24x512) ![0, 0, 0] S1x24x512.size inb_S2x24x512_S1x24x512_0_0_0, k0_pay2 (F := F) (arg6.view.readCov (pb_k0_t1 (F := F) Variants.none c none i arg1 harg1 arg2 harg2 arg3 harg3 arg4 harg4 arg5 harg5 arg6 harg6 (harg1.unread x0) (harg2.unread x1) 6).2.2 (Rect.unit (s := S48x512) ![0, 0] S24x512.size inb_S48x512_S24x512_0_0).toLoadRect)⟩] := by
  unfold kernelRun0_A
  rfl
end

end Cert.QuantXIdeal.Hand
-- ==== Proof.XMath.lean ====
/- Hand-written. The quantiser of `x`, element by element: the kernel's scale byte, factor, code and value of a rotated element
   against the reference's, under the precondition; and the results as formulas over the argument arrays. -/
module

public import proofs.«01_k».proof.Proof.Code

@[expose] public section

noncomputable section

namespace Cert.QuantXIdeal.Hand

open Idealize.ShloMosaic
open Cert.KernelIdeal.Hand

/-- The scale byte of a group with maximum `a`. -/
def byteX (a : EReal) : BitVec 32 :=
  IntOp.andi (Scalar.select (Ideal.cmp .oeq a (Ideal.ofBits .f32 0#32)) 127#32 (IntOp.subi (expo a) 2#32)) 255#32
/-- The factor a group is scaled by. -/
def invX (a : EReal) : EReal := thr (Scalar.select (Ideal.cmp .oeq a (Ideal.ofBits .f32 0#32)) 127#32 (IntOp.subi 256#32 (expo a)))
/-- A scaled element held within the fp4 range. -/
def clX (y : EReal) : EReal := min (Ideal.ofBits .f32 0x40C00000#32) (max (Ideal.ofBits .f32 0xC0C00000#32) y)
/-- The fp4 value. -/
def valX (v : EReal) : EReal :=
  Scalar.select (Ideal.cmp .olt v (Ideal.ofBits .f32 0#32)) (Ideal.ofBits .f32 0#32 - tabE (max v (-v))) (tabE (max v (-v)))
/-- The fp4 code before a zero's sign is cleared. -/
def csX (v : EReal) : BitVec 32 :=
  Scalar.select (Ideal.cmp .olt v (Ideal.ofBits .f32 0#32)) (IntOp.ori (codE (max v (-v))) 8#32) (codE (max v (-v)))

/-- The reference's exponent of a group with maximum `a`. -/
def eX (a : EReal) : EReal :=
  Scalar.select (Ideal.cmp .oeq a (Ideal.ofBits .f32 0x00000000#32)) (Ideal.ofBits .f32 0x00000000#32)
    (Ideal.liftRound Int.floor (Ideal.div (Ideal.log a) (Ideal.log (Ideal.ofBits .f32 0x40000000#32))) - Ideal.ofBits .f32 0x40000000#32)
/-- The magnitude held within the fp4 range. -/
def tX (y : EReal) : EReal := min (max y (-y)) (Ideal.ofBits .f32 0x40C00000#32)
/-- The rounded magnitude. -/
def qX (y : EReal) : EReal := Ideal.liftRound Ideal.roundHalfEven (Ideal.div (tX y) (stE (tX y))) * stE (tX y)
/-- The reference's code, decoded value and scale byte. -/
def codX (r a : EReal) : BitVec 32 := refC (yR r (eX a)) (qX (yR r (eX a)))
def decX (r a : EReal) : EReal :=
  Scalar.select (Ideal.cmp .olt (yR r (eX a)) (Ideal.ofBits .f32 0x00000000#32)) (-(qX (yR r (eX a)))) (qX (yR r (eX a)))
    * Ideal.pow (Ideal.ofBits .f32 0x40000000#32) (eX a)
def sclX (a : EReal) : BitVec 32 := Ideal.fptosi 32 (eX a + Ideal.ofBits .f32 0x42FE0000#32)
/-- The precondition on a group with maximum `a`. -/
def preX (a : EReal) : BitVec 1 :=
  IntOp.ori (Ideal.cmp .oeq a (Ideal.ofBits .f32 0x00000000#32))
    (IntOp.andi (Ideal.cmp .oge a (Ideal.ofBits .f32 0x01800000#32)) (Ideal.cmp .olt (a * Ideal.ofBits .f32 0x3F000000#32) (Ideal.ofBits .f32 0x7F000000#32)))

theorem km6 : Ideal.ofBits .f32 0xC0C00000#32 = ((-6 : ℝ) : EReal) := by
  simp [Ideal.ofBits, Ideal.ieee, ← EReal.coe_mul, ← EReal.coe_pow, ← EReal.coe_neg]; try norm_num
theorem klo24 : Ideal.ofBits .f32 0x01800000#32 = (((2 : ℝ) ^ (-124 : ℤ) : ℝ) : EReal) := by
  simp [Ideal.ofBits, Ideal.ieee, ← EReal.coe_mul, ← EReal.coe_pow]; try norm_num
theorem khi27 : Ideal.ofBits .f32 0x7F000000#32 = (((2 : ℝ) ^ (127 : ℤ) : ℝ) : EReal) := by
  simp [Ideal.ofBits, Ideal.ieee, ← EReal.coe_mul, ← EReal.coe_pow]; try norm_num

/-! ## Rounding to the nearest multiple of the step -/

theorem rh_eq (z : ℝ) (n : ℤ) (hlo : (n : ℝ) - 1 / 2 ≤ z) (hhi : z ≤ n + 1 / 2) (he : Even n ∨ ((n : ℝ) - 1 / 2 < z ∧ z < n + 1 / 2)) :
    Ideal.roundHalfEven z = n := by
  unfold Ideal.roundHalfEven
  rcases lt_or_ge z (n : ℝ) with h | h
  · have hf : ⌊z⌋ = n - 1 := Int.floor_eq_iff.mpr ⟨by push_cast; linarith, by push_cast; linarith⟩
    simp only [hf]
    push_cast
    rw [if_neg (by linarith)]
    by_cases c : 1 / 2 < z - ((n : ℝ) - 1)
    · rw [if_pos c]; ring
    · rw [if_neg c]
      rcases he with e | ⟨e, _⟩
      · rw [if_neg (by rw [Int.even_sub_one]; exact not_not.mpr e)]; ring
      · exact absurd (by linarith) c
  · have hf : ⌊z⌋ = n := Int.floor_eq_iff.mpr ⟨h, by linarith⟩
    simp only [hf]
    by_cases c : z - (n : ℝ) < 1 / 2
    · rw [if_pos c]
    · rw [if_neg c, if_neg (by linarith)]
      rcases he with e | ⟨_, e⟩
      · rw [if_pos e]
      · exact absurd (by linarith) c

theorem round_tab (t : ℝ) (h0 : 0 ≤ t) (h6 : t ≤ 6) : ((Ideal.roundHalfEven (t / stR t) : ℤ) : ℝ) * stR t = tabR t := by
  have s1 : t < 2 → stR t = 1 / 2 := fun h => by unfold stR; rw [if_pos h]
  have s2 : 2 ≤ t → t < 4 → stR t = 1 := fun h h' => by unfold stR; rw [if_neg (not_lt.mpr h), if_pos h']
  have s3 : 4 ≤ t → stR t = 2 := fun h => by unfold stR; rw [if_neg (by linarith), if_neg (by linarith)]
  have t5 : 5 / 2 < t → t < 7 / 2 → tabR t = 3 := fun h h' => by unfold tabR; rw [if_neg (by linarith), if_neg (by linarith), if_pos h]
  have t6 : 7 / 2 ≤ t → t ≤ 5 → tabR t = 4 := fun h h' => by unfold tabR; rw [if_neg (by linarith), if_pos h]
  have t7 : 5 < t → tabR t = 6 := fun h => by unfold tabR; rw [if_pos h]
  rcases le_or_gt t (1 / 4) with a | a
  · rw [tab0 a, s1 (by linarith), rh_eq (t / (1 / 2)) 0 (by push_cast; linarith) (by push_cast; linarith) (Or.inl (by decide))]; norm_num
  rcases lt_or_ge t (3 / 4) with b | b
  · rw [tab1 a b, s1 (by linarith), rh_eq (t / (1 / 2)) 1 (by push_cast; linarith) (by push_cast; linarith) (Or.inr ⟨by push_cast; linarith, by push_cast; linarith⟩)]; norm_num
  rcases le_or_gt t (5 / 4) with c | c
  · rw [tab2 b c, s1 (by linarith), rh_eq (t / (1 / 2)) 2 (by push_cast; linarith) (by push_cast; linarith) (Or.inl (by decide))]; norm_num
  rcases lt_or_ge t (7 / 4) with d | d
  · rw [tab3 c d, s1 (by linarith), rh_eq (t / (1 / 2)) 3 (by push_cast; linarith) (by push_cast; linarith) (Or.inr ⟨by push_cast; linarith, by push_cast; linarith⟩)]; norm_num
  rcases le_or_gt t (5 / 2) with e | e
  · rw [tab4 d e]
    rcases lt_or_ge t 2 with f | f
    · rw [s1 f, rh_eq (t / (1 / 2)) 4 (by push_cast; linarith) (by push_cast; linarith) (Or.inl (by decide))]; norm_num
    · rw [s2 f (by linarith), rh_eq (t / 1) 2 (by push_cast; linarith) (by push_cast; linarith) (Or.inl (by decide))]; norm_num
  rcases lt_or_ge t (7 / 2) with f | f
  · rw [t5 e f, s2 (by linarith) (by linarith), rh_eq (t / 1) 3 (by push_cast; linarith) (by push_cast; linarith) (Or.inr ⟨by push_cast; linarith, by push_cast; linarith⟩)]; norm_num
  rcases le_or_gt t 5 with g | g
  · rw [t6 f g]
    rcases lt_or_ge t 4 with k | k
    · rw [s2 (by linarith) k, rh_eq (t / 1) 4 (by push_cast; linarith) (by push_cast; linarith) (Or.inl (by decide))]; norm_num
    · rw [s3 k, rh_eq (t / 2) 2 (by push_cast; linarith) (by push_cast; linarith) (Or.inl (by decide))]; norm_num
  · rw [t7 g, s3 (by linarith), rh_eq (t / 2) 3 (by push_cast; linarith) (by push_cast; linarith) (Or.inr ⟨by push_cast; linarith, by push_cast; linarith⟩)]; norm_num

/-! ## One element -/

theorem clX_coe (y : ℝ) : clX (y : EReal) = ((min 6 (max (-6) y) : ℝ) : EReal) := by
  unfold clX; rw [k6, km6, coe_max', coe_min']
theorem cl_abs (y : ℝ) : |min 6 (max (-6) y)| = min |y| 6 := by
  rcases le_total 0 y with h | h
  · rw [max_eq_right (by linarith), abs_of_nonneg h, abs_of_nonneg (le_min (by norm_num) h), min_comm]
  · rw [min_eq_right (max_le (by norm_num) (by linarith)), abs_of_nonpos h, abs_of_nonpos (max_le (by norm_num) h)]
    rcases le_total (-6) y with k | k
    · rw [max_eq_right k, min_eq_left (by linarith)]
    · rw [max_eq_left k, min_eq_right (by linarith)]; norm_num
theorem cl_neg (y : ℝ) : min 6 (max (-6) y) < 0 ↔ y < 0 := by
  constructor
  · intro h
    by_contra c
    have c' := not_lt.mp c
    have : (0 : ℝ) ≤ min 6 (max (-6) y) := le_min (by norm_num) (le_trans c' (le_max_right _ _))
    linarith
  · intro h
    exact lt_of_le_of_lt (min_le_right _ _) (max_lt (by norm_num) h)

theorem valX_coe (y : ℝ) : valX (clX (y : EReal)) = ((if y < 0 then -tabR (min |y| 6) else tabR (min |y| 6) : ℝ) : EReal) := by
  unfold valX
  rw [clX_coe, k0, sel_lt, coe_abs', tabE_coe, cl_abs, ← EReal.coe_sub, coe_ite', zero_sub]
  simp only [EReal.coe_lt_coe_iff, cl_neg]

theorem qX_coe (y : ℝ) : qX (y : EReal) = ((tabR (min |y| 6) : ℝ) : EReal) := by
  have ht : tX (y : EReal) = ((min |y| 6 : ℝ) : EReal) := by unfold tX; rw [k6, coe_abs', coe_min']
  unfold qX
  rw [ht, stE_coe, Ideal.div_coe (ne_of_gt (stR_pos _)), ← EReal.coe_mul, mul_one_div]
  show (((Ideal.roundHalfEven (min |y| 6 / stR (min |y| 6)) : ℤ) : ℝ) : EReal) * _ = _
  rw [← EReal.coe_mul, round_tab _ (le_min (abs_nonneg y) (by norm_num)) (min_le_right _ _)]

theorem csX_coe (y : ℝ) : nzF (csX (clX (y : EReal))) = refC (y : EReal) (qX (y : EReal)) := by
  rw [qX_coe]
  unfold csX refC
  rw [clX_coe, idx_tab, k0, sel_lt, coe_abs', codE_coe, cl_abs]
  generalize min |y| 6 = V
  simp only [EReal.coe_lt_coe_iff, cl_neg, Ideal.cmp, ofBool_and]
  have hsh : IntOp.shli .host ((BitVec.ofBool false).setWidth 32) 3#32 = 0#32 ∧ IntOp.shli .host ((BitVec.ofBool true).setWidth 32) 3#32 = 8#32 := by decide
  have hor : ∀ b : BitVec 32, IntOp.ori b 0#32 = b := fun b => by unfold IntOp.ori; simp
  by_cases c : y < 0
  · rw [if_pos c]
    rcases pos_tab V with ⟨ht, hc⟩ | ⟨ht, hc⟩
    · rw [nz_neg V hc, decide_eq_true c, decide_eq_true ht]
      exact congrArg (IntOp.ori (codR V)) hsh.2.symm
    · rw [ht, decide_eq_false (lt_irrefl (0 : ℝ)), Bool.and_false, hsh.1, hc, hor]
      exact nz_zero
  · rw [if_neg c, nz_pos, decide_eq_false c, Bool.false_and, hsh.1, hor]

/-! ## The scale -/

/-- For a real below `2 ^ 128` the search finds the field of the power of two at or below it. -/
theorem expo_real2 (a : ℝ) (h : a < (2 : ℝ) ^ (128 : ℤ)) : ∃ n : ℕ, expo (a : EReal) = BitVec.ofNat 32 n ∧ n ≤ 254
    ∧ (n = 0 ∨ (2 : ℝ) ^ ((n : ℤ) - 127) ≤ a) ∧ a < (2 : ℝ) ^ ((n : ℤ) - 126) := by
  obtain ⟨n, e, hn, hl, hu⟩ := expo_spec (a : EReal)
  have h255 : thr (BitVec.ofNat 32 255) = ⊤ := by
    have h : (IntOp.shli .vector 255#32 23#32 : BitVec 32) = 0x7F800000#32 := by decide
    refine (congrArg (fun b : BitVec 32 => Ideal.ofBits .f32 b) h).trans ?_
    simp [Ideal.ofBits, Ideal.ieee]
  have hn2 : n ≤ 254 := by
    by_contra hc
    have e5 : n = 255 := by omega
    subst e5
    rcases hl with h0 | hl
    · omega
    rw [h255] at hl
    exact absurd hl (by simp)
  refine ⟨n, e, hn2, ?_, ?_⟩
  · rcases hl with h0 | hl
    · exact Or.inl h0
    · rcases Nat.eq_zero_or_pos n with h0 | h0
      · exact Or.inl h0
      · rw [thr_eq n h0 (by omega), EReal.coe_le_coe_iff] at hl; exact Or.inr hl
  · rcases hu with h5 | hu
    · omega
    · rcases Nat.lt_or_ge n 254 with h4 | h4
      · rw [thr_eq (n + 1) (by omega) (by omega), EReal.coe_lt_coe_iff] at hu
        rw [show ((n : ℤ) - 126) = (((n + 1 : ℕ) : ℤ) - 127) by push_cast; ring]
        exact hu
      · have e4 : n = 254 := by omega
        subst e4
        norm_num at h ⊢
        exact h

/-- A group's scale: the kernel's factor, the scale's bf16, the reference's exponent. -/
theorem xscale (a : EReal) (h0 : 0 ≤ a)
    (hp : a = Ideal.ofBits .f32 0x00000000#32 ∨ (Ideal.ofBits .f32 0x01800000#32 ≤ a ∧ a * Ideal.ofBits .f32 0x3F000000#32 < Ideal.ofBits .f32 0x7F000000#32)) :
    ∃ (E : ℤ) (x : ℝ), a = (x : EReal)
      ∧ invX a = (((2 : ℝ) ^ (-E) : ℝ) : EReal)
      ∧ (∀ q : Fin 2, Ideal.ofBits .bf16 ((pairF (byteX a)).extractLsb' (16 * q.val) 16) = (((2 : ℝ) ^ E : ℝ) : EReal))
      ∧ eX a = (((E : ℝ)) : EReal)
      ∧ ∃ n : ℕ, n < 255 ∧ byteX a = BitVec.ofNat 32 n ∧ E = (n : ℤ) - 127 := by
  rw [k0, klo24, kh, khi27] at hp
  have hx : ∃ x : ℝ, a = x ∧ 0 ≤ x := by
    induction a using EReal.rec with
    | bot => exact absurd h0 (by simp)
    | coe x => exact ⟨x, rfl, by exact_mod_cast h0⟩
    | top =>
      rw [EReal.top_mul_coe_of_pos (by norm_num)] at hp
      rcases hp with h | ⟨_, h⟩
      · exact absurd h (by simp)
      · exact absurd h (by simp)
  obtain ⟨x, rfl, hx0⟩ := hx
  rw [← EReal.coe_mul, EReal.coe_eq_coe_iff, EReal.coe_le_coe_iff, EReal.coe_lt_coe_iff] at hp
  rcases hp with hz | ⟨hlo, hhi⟩
  · subst hz
    have hs : Scalar.select (Ideal.cmp .oeq ((0 : ℝ) : EReal) (Ideal.ofBits .f32 0#32)) (127#32 : BitVec 32) (IntOp.subi (expo ((0 : ℝ) : EReal)) 2#32) = BitVec.ofNat 32 127 := by
      rw [sel_eq, k0, if_pos rfl]
    have hb : byteX ((0 : ℝ) : EReal) = BitVec.ofNat 32 127 := by
      unfold byteX; rw [hs]; decide
    refine ⟨0, 0, rfl, ?_, fun q => ?_, ?_, 127, by norm_num, hb, by norm_num⟩
    · unfold invX
      rw [sel_eq, k0, if_pos rfl]
      refine (thr_eq 127 (by norm_num) (by norm_num)).trans ?_
      norm_num
    · rw [hb, pair_half ⟨127, by norm_num⟩ q, bf16_scale 127 (by norm_num) (by norm_num)]
      norm_num
    · unfold eX
      rw [sel_eq, k0, if_pos rfl]
      norm_num
  · have hP2 : x < (2 : ℝ) ^ (128 : ℤ) := by
      have e : (2 : ℝ) ^ (128 : ℤ) = 2 ^ (127 : ℤ) * 2 := by norm_num
      rw [e]; linarith
    obtain ⟨n, en, hn, hl, hu⟩ := expo_real2 x hP2
    have hn1 : 3 ≤ n := by
      have : (2 : ℝ) ^ (-124 : ℤ) < (2 : ℝ) ^ ((n : ℤ) - 126) := lt_of_le_of_lt hlo hu
      rw [zpow_lt_zpow_iff_right₀ (by norm_num)] at this
      omega
    have hl' := hl.resolve_left (by omega)
    have hP0 : 0 < x := lt_of_lt_of_le (by positivity) hl'
    have hxn : ¬ ((x : EReal) = ((0 : ℝ) : EReal)) := by
      rw [EReal.coe_eq_coe_iff]; intro h; rw [h] at hP0; exact lt_irrefl _ hP0
    have hne : ∀ n : Fin 255, 3 ≤ n.val → IntOp.subi 256#32 (BitVec.ofNat 32 n.val) = BitVec.ofNat 32 (256 - n.val)
      ∧ IntOp.andi (IntOp.subi (BitVec.ofNat 32 n.val) 2#32) 255#32 = BitVec.ofNat 32 (n.val - 2) := by
      decide +kernel
    obtain ⟨i1, i2⟩ := hne ⟨n, by omega⟩ hn1
    have hb : byteX ((x : ℝ) : EReal) = BitVec.ofNat 32 (n - 2) := by
      unfold byteX; rw [sel_eq, k0, if_neg hxn, en]; exact i2
    refine ⟨(n : ℤ) - 129, x, rfl, ?_, fun q => ?_, ?_, n - 2, by omega, hb, by rw [Nat.cast_sub (by omega)]; push_cast; ring⟩
    · unfold invX
      rw [sel_eq, k0, if_neg hxn, en, i1, thr_eq (256 - n) (by omega) (by omega), Nat.cast_sub (by omega)]
      have e : (((256 : ℕ) : ℤ) - (n : ℤ)) - 127 = -((n : ℤ) - 129) := by push_cast; ring
      rw [e]
    · rw [hb, pair_half ⟨n - 2, by omega⟩ q, bf16_scale (n - 2) (by omega) (by omega)]
      have e : ((n - 2 : ℕ) : ℤ) - 127 = (n : ℤ) - 129 := by rw [Nat.cast_sub (by omega)]; push_cast; ring
      rw [e]
    · unfold eX
      rw [sel_eq, k0, if_neg hxn, k2, Ideal.log_coe, if_neg (not_le.mpr hP0), Ideal.log_coe, if_neg (by norm_num),
        Ideal.div_coe (ne_of_gt (Real.log_pos (by norm_num))), ← EReal.coe_mul]
      have hL : (0 : ℝ) < Real.log 2 := Real.log_pos (by norm_num)
      have hf : ⌊Real.log x * (1 / Real.log 2)⌋ = (n : ℤ) - 127 := by
        rw [Int.floor_eq_iff, mul_one_div, le_div_iff₀ hL, div_lt_iff₀ hL]
        constructor
        · have := Real.log_le_log (by positivity) hl'
          rwa [Real.log_zpow] at this
        · have := Real.log_lt_log hP0 hu
          rw [Real.log_zpow] at this
          have e : (((n : ℤ) - 127 : ℤ) : ℝ) + 1 = (((n : ℤ) - 126 : ℤ) : ℝ) := by push_cast; ring
          rw [e]; exact this
      show ((((⌊Real.log x * (1 / Real.log 2)⌋ : ℤ) : ℝ)) : EReal) - _ = _
      have e : (((n : ℤ) - 127 : ℤ) : ℝ) - 2 = (((n : ℤ) - 129 : ℤ) : ℝ) := by push_cast; ring
      rw [hf, ← EReal.coe_sub, e]

theorem xcommon (r a : EReal) (hr : max r (-r) ≤ a) (hp : preX a = 1#1) :
    ∃ (y : ℝ) (E : ℤ), r * invX a = (y : EReal) ∧ yR r (eX a) = (y : EReal) ∧ eX a = (((E : ℝ)) : EReal)
      ∧ (∀ q : Fin 2, Ideal.ofBits .bf16 ((pairF (byteX a)).extractLsb' (16 * q.val) 16) = (((2 : ℝ) ^ E : ℝ) : EReal))
      ∧ ∃ n : ℕ, n < 255 ∧ byteX a = BitVec.ofNat 32 n ∧ E = (n : ℤ) - 127 := by
  have h0 : 0 ≤ a := by
    rcases le_total 0 r with h | h
    · exact le_trans h (le_trans (le_max_left _ _) hr)
    · exact le_trans (by simpa using EReal.neg_le_neg_iff.mpr h) (le_trans (le_max_right _ _) hr)
  unfold preX at hp
  simp only [Ideal.cmp, ofBool_and, ofBool_or, ofBool_one, Bool.and_eq_true, Bool.or_eq_true, decide_eq_true_eq] at hp
  obtain ⟨E, x, rfl, hinv, hsc, he, hb⟩ := xscale a h0 hp
  obtain ⟨ρ, rfl⟩ : ∃ ρ : ℝ, r = ρ := by
    induction r using EReal.rec with
    | bot => simp at hr
    | coe ρ => exact ⟨ρ, rfl⟩
    | top => simp at hr
  refine ⟨ρ * (2 : ℝ) ^ (-E), E, by rw [hinv, ← EReal.coe_mul], ?_, he, hsc, hb⟩
  unfold yR
  rw [he, ← EReal.coe_neg, pow_two (-(E : ℝ)) (-E) (by push_cast; rfl), ← EReal.coe_mul]

/-- One decoded element. -/
theorem xdec (r a : EReal) (hr : max r (-r) ≤ a) (hp : preX a = 1#1) (q : Fin 2) :
    valX (clX (r * invX a)) * Ideal.ofBits .bf16 ((pairF (byteX a)).extractLsb' (16 * q.val) 16) = decX r a := by
  obtain ⟨y, E, hi, hy, he, hsc, -⟩ := xcommon r a hr hp
  unfold decX
  rw [hi, hsc q, valX_coe, hy, qX_coe, he, pow_two _ E rfl, sel_lt, k0, ← EReal.coe_neg, coe_ite', ← EReal.coe_mul, ← EReal.coe_mul]
  simp only [EReal.coe_lt_coe_iff]

/-- One code. -/
theorem xcode (r a : EReal) (hr : max r (-r) ≤ a) (hp : preX a = 1#1) : nzF (csX (clX (r * invX a))) = codX r a := by
  obtain ⟨y, E, hi, hy, -⟩ := xcommon r a hr hp
  unfold codX
  rw [hi, hy, csX_coe]

/-- One scale byte. -/
theorem xbyte (r a : EReal) (hr : max r (-r) ≤ a) (hp : preX a = 1#1) : byteX a = sclX a := by
  obtain ⟨y, E, -, -, he, -, n, hn, hb, hE⟩ := xcommon r a hr hp
  have k127 : Ideal.ofBits .f32 0x42FE0000#32 = ((127 : ℝ) : EReal) := by
    simp [Ideal.ofBits, Ideal.ieee, ← EReal.coe_mul, ← EReal.coe_pow]; try norm_num
  unfold sclX
  rw [hb, he, k127, ← EReal.coe_add, hE, show (((n : ℤ) - 127 : ℤ) : ℝ) + 127 = (n : ℝ) by push_cast; ring]
  exact (fptosi_nat n (by omega)).symm

/-! ## The results as formulas over the argument arrays -/

abbrev XT : Type := Vec Ideal ⟨3, ![2, 768, 7168]⟩ .bf16

/-- Token `T` of `x` at channel `c`. -/
def tokX (v : XT) (T : Fin 1536) (c : Fin 7168) : EReal :=
  v (ix3 ⟨T.val / 768, by omega⟩ ⟨T.val % 768, by omega⟩ c)
/-- The rotated token `T` at channel `c`. -/
def rRotX (x : XT) (sg : SGT) (T : Fin 1536) (c : Fin 7168) : EReal :=
  ∑ j : Fin 64, tokX x ⟨64 * (T.val / 64) + j.val, by omega⟩ c * mRot sg ⟨T.val % 64, by omega⟩ j
/-- The largest rotated magnitude of group `G` at channel `c`. -/
def aGrpX (x : XT) (sg : SGT) (G : Fin 48) (c : Fin 7168) : EReal :=
  Finset.univ.fold max (⊥ : EReal) fun k : Fin 32 =>
    max (rRotX x sg ⟨32 * G.val + k.val, by omega⟩ c) (-(rRotX x sg ⟨32 * G.val + k.val, by omega⟩ c))
/-- The code, the decoded value of a token. -/
def codXT (x : XT) (sg : SGT) (T : Fin 1536) (c : Fin 7168) : BitVec 32 := codX (rRotX x sg T c) (aGrpX x sg ⟨T.val / 32, by omega⟩ c)
def decXT (x : XT) (sg : SGT) (T : Fin 1536) (c : Fin 7168) : EReal := decX (rRotX x sg T c) (aGrpX x sg ⟨T.val / 32, by omega⟩ c)
/-- Two tokens' codes in a byte, the even token's in the low half. -/
def codesXT (x : XT) (sg : SGT) (R : Fin 768) (c : Fin 7168) : BitVec 8 :=
  (IntOp.ori (codXT x sg ⟨2 * R.val, by omega⟩ c) (IntOp.shli .host (codXT x sg ⟨2 * R.val + 1, by omega⟩ c) 4#32)).setWidth 8
/-- The scale byte of a group. -/
def sclXT (x : XT) (sg : SGT) (G : Fin 48) (c : Fin 7168) : BitVec 8 := (sclX (aGrpX x sg G c)).setWidth 8

theorem le_aGrpX (x : XT) (sg : SGT) (T : Fin 1536) (o : Fin 7168) : max (rRotX x sg T o) (-(rRotX x sg T o)) ≤ aGrpX x sg ⟨T.val / 32, by omega⟩ o := by
  unfold aGrpX
  rw [Finset.le_fold_max]
  refine Or.inr ⟨⟨T.val % 32, by omega⟩, Finset.mem_univ _, ?_⟩
  have e : 32 * (T.val / 32) + T.val % 32 = T.val := by omega
  simp only [e]
  exact le_refl _

end Cert.QuantXIdeal.Hand
-- ==== Proof.XKer.lean ====
/- Hand-written. The pieces one trip of the loop over `x` stores, at an index, as the scalar functions of the rotated chunk. -/
module

public import proofs.«01_k».proof.Proof.XChunk
public import proofs.«01_k».proof.Proof.XMath
public import proofs.«01_k».proof.Proof.KC

@[expose] public section

set_option maxRecDepth 65536

noncomputable section

namespace Cert.QuantXIdeal.Hand

open Cert.QuantXIdeal Cert.QuantXIdeal.Gen
open Idealize.ShloMosaic Idealize.ShloMosaic.TcCoe Idealize.ShloMosaic.Tactic
open Cert.KernelIdeal.Hand (expoV valV csV expoV_apply valV_apply csV_apply expo nzF pairF thr ladder)

section Vec
variable {F : FTy → Type} [FloatOps F]

/-- The factors of a vector of maxima. -/
def invXV (p : FVec F S8x512 .f32) : FVec F S8x512 .f32 :=
  bitcastToFloat .f32 (shli (select (cmpf .oeq p (broadcast S8x512 (Scalar.ofBits .f32 0x00000000#32))) (broadcast S8x512 127#32) (subi (broadcast S8x512 256#32) (expoV p))) (broadcast S8x512 23#32))

theorem xB_eq (M : Vec F S256x256 .bf16) (D : Vec F S256x512 .bf16) : xB M D =
    andi (select (cmpf .oeq (k0_pay5 M D) (broadcast S8x512 (Scalar.ofBits .f32 0x00000000#32))) (broadcast S8x512 127#32) (subi (expoV (k0_pay5 M D)) (broadcast S8x512 2#32))) (broadcast S8x512 255#32) := rfl
theorem xI_eq (M : Vec F S256x256 .bf16) (D : Vec F S256x512 .bf16) : xI M D =
    broadcastTo S8x32x512 (shapeCast S8x1x512 (invXV (k0_pay5 M D)) shapeCasts_S8x512_S8x1x512) broadcasts_S8x1x512_S8x32x512 := rfl
theorem xG_eq (M : Vec F S256x256 .bf16) (D : Vec F S256x512 .bf16) : xG M D = shapeCast S8x32x512 (k0_pay4 M D) shapeCasts_S256x512_S8x32x512 := rfl
theorem xQ_eq (M : Vec F S256x256 .bf16) (D : Vec F S256x512 .bf16) : xQ M D = valV (k0_pay12 (xG M D) (xI M D)) := rfl
theorem xC_eq (M : Vec F S256x256 .bf16) (D : Vec F S256x512 .bf16) : xC M D =
    trunci 8 (ori (shapeCast S128x512 (extractStridedSlice S128x1x512 ![0, 0, 0] (shapeCast S128x2x512 (fun x => nzF (csV (k0_pay12 (xG M D) (xI M D)) x)) shapeCasts_S256x512_S128x2x512) slices_S128x2x512_o0_0_0_S128x1x512) shapeCasts_S128x1x512_S128x512)
    (shli (shapeCast S128x512 (extractStridedSlice S128x1x512 ![0, 1, 0] (shapeCast S128x2x512 (fun x => nzF (csV (k0_pay12 (xG M D) (xI M D)) x)) shapeCasts_S256x512_S128x2x512) slices_S128x2x512_o0_1_0_S128x1x512) shapeCasts_S128x1x512_S128x512) (broadcast S128x512 4#32))) natLt_8_32 := rfl
end Vec

variable (M : Vec Ideal S256x256 .bf16) (D : Vec Ideal S256x512 .bf16)

theorem pay4_apply (i : Fin 256) (o : Fin 512) : k0_pay4 M D (ix2 i o) = ∑ j : Fin 256, M (ix2 i j) * D (ix2 j o) := by
  pointwise [k0_pay4]

/-- The largest magnitude of a group of the chunk. -/
def cA (g : Fin 8) (o : Fin 512) : EReal :=
  Finset.univ.fold max (⊥ : EReal) fun k : Fin 32 => max (k0_pay4 M D (ix2 ⟨32 * g.val + k.val, by omega⟩ o)) (-(k0_pay4 M D (ix2 ⟨32 * g.val + k.val, by omega⟩ o)))

theorem pay5_apply (g : Fin 8) (o : Fin 512) : k0_pay5 M D (ix2 g o) = cA M D g o := by
  have e : k0_pay5 M D = multiReduction .maximumf [1] S8x512 (shapeCast S8x32x512 (absf (k0_pay4 M D)) shapeCasts_S256x512_S8x32x512) 0xFF800000#32 reduces_S8x32x512_S8x512 (.inl rfl) rfl := rfl
  rw [e]
  unfold cA
  generalize k0_pay4 M D = C
  pointwise
  have hb : Ideal.ofBits .f32 4286578688#32 = (⊥ : EReal) := by simp [Ideal.ofBits, Ideal.ieee]
  rw [hb]
  simp only [mul_comm 32 g.val]
  rfl

theorem xB_apply (g : Fin 8) (o : Fin 512) : xB M D (ix2 g o) = byteX (cA M D g o) := by
  rw [xB_eq, ← pay5_apply]
  generalize k0_pay5 M D = A
  unfold byteX
  rw [← expoV_apply]
  rfl

theorem invXV_apply (p : FVec Ideal S8x512 .f32) (x : S8x512.Idx) : invXV p x = invX (p x) := by
  unfold invXV invX
  rw [← expoV_apply]
  rfl

theorem xY_apply (i : Fin 256) (o : Fin 512) : k0_pay12 (xG M D) (xI M D) (ix2 i o) = clX (k0_pay4 M D (ix2 i o) * invX (cA M D ⟨i.val / 32, by omega⟩ o)) := by
  rw [xI_eq, xG_eq, ← pay5_apply]
  generalize k0_pay4 M D = C
  generalize k0_pay5 M D = A
  have e : ∀ B : FVec Ideal S8x32x512 .f32, shapeCast S256x512 B shapeCasts_S8x32x512_S256x512 (ix2 i o) = B (ix3 ⟨i.val / 32, by omega⟩ ⟨i.val % 32, by omega⟩ o) := by
    intro B; pointwise
  show shapeCast S256x512 (minimumf (broadcast S8x32x512 (Scalar.ofBits .f32 0x40C00000#32)) (maximumf (broadcast S8x32x512 (Scalar.ofBits .f32 0xC0C00000#32)) (mulf (shapeCast S8x32x512 C shapeCasts_S256x512_S8x32x512)
    (broadcastTo S8x32x512 (shapeCast S8x1x512 (invXV A) shapeCasts_S8x512_S8x1x512) broadcasts_S8x1x512_S8x32x512)))) shapeCasts_S8x32x512_S256x512 (ix2 i o) = _
  rw [e]
  have f : shapeCast S8x32x512 C shapeCasts_S256x512_S8x32x512 (ix3 ⟨i.val / 32, by omega⟩ ⟨i.val % 32, by omega⟩ o) = C (ix2 i o) := by
    pointwise
  have g : broadcastTo S8x32x512 (shapeCast S8x1x512 (invXV A) shapeCasts_S8x512_S8x1x512) broadcasts_S8x1x512_S8x32x512 (ix3 ⟨i.val / 32, by omega⟩ ⟨i.val % 32, by omega⟩ o) = invX (A (ix2 ⟨i.val / 32, by omega⟩ o)) := by
    rw [← invXV_apply]
    generalize invXV A = B
    pointwise
  rw [← f, ← g]
  rfl

theorem xC_apply (r : Fin 128) (o : Fin 512) : xC M D (ix2 r o) =
    (IntOp.ori (nzF (csX (k0_pay12 (xG M D) (xI M D) (ix2 ⟨2 * r.val, by omega⟩ o)))) (IntOp.shli .vector (nzF (csX (k0_pay12 (xG M D) (xI M D) (ix2 ⟨2 * r.val + 1, by omega⟩ o)))) 4#32)).setWidth 8 := by
  rw [xC_eq]
  generalize k0_pay12 (xG M D) (xI M D) = Y
  have a0 : ∀ N : IVec S256x512 32, shapeCast S128x512 (extractStridedSlice S128x1x512 ![0, 0, 0] (shapeCast S128x2x512 N shapeCasts_S256x512_S128x2x512) slices_S128x2x512_o0_0_0_S128x1x512) shapeCasts_S128x1x512_S128x512 (ix2 r o) = N (ix2 ⟨2 * r.val, by omega⟩ o) := by
    intro N; pointwise
    simp only [Nat.mul_comm r.val 2]
  have a1 : ∀ N : IVec S256x512 32, shapeCast S128x512 (extractStridedSlice S128x1x512 ![0, 1, 0] (shapeCast S128x2x512 N shapeCasts_S256x512_S128x2x512) slices_S128x2x512_o0_1_0_S128x1x512) shapeCasts_S128x1x512_S128x512 (ix2 r o) = N (ix2 ⟨2 * r.val + 1, by omega⟩ o) := by
    intro N; pointwise
    simp only [Nat.mul_comm r.val 2]
  show (IntOp.ori (shapeCast S128x512 _ _ (ix2 r o)) (IntOp.shli .vector (shapeCast S128x512 _ _ (ix2 r o)) 4#32)).setWidth 8 = _
  rw [a0, a1, csV_apply, csV_apply]
  rfl

/-- The bytes of a 32-row piece as the scale words give them. -/
theorem word_apply (w : IVec S1x512 32) (y : Fin 32) (o : Fin 512) :
    bitcast S32x512 16 (broadcastTo S16x512 w broadcasts_S1x512_S16x512) bitcasts_S16x512_w32_S32x512_w16 (ix2 y o)
      = (w (ix2 0 o)).extractLsb' (16 * (y.val % 2)) 16 := by
  rw [bitcast_32_16]
  pointwise
  rfl

/-- Rows 0 to 31 of a decoded chunk. -/
def pc0 (Q : FVec Ideal S256x512 .bf16) (W : IVec S8x512 32) : FVec Ideal S32x512 .bf16 :=
  mulf (extractStridedSlice S32x512 ![0, 0] Q slices_S256x512_o0_0_S32x512)
    (bitcastToFloat .bf16 (bitcast S32x512 16 (broadcastTo S16x512 (shapeCast S1x512 (extractStridedSlice S1x512 ![0, 0] W slices_S8x512_o0_0_S1x512) shapeCasts_S1x512_S1x512) broadcasts_S1x512_S16x512) bitcasts_S16x512_w32_S32x512_w16))
/-- Rows 32 to 63 of a decoded chunk. -/
def pc1 (Q : FVec Ideal S256x512 .bf16) (W : IVec S8x512 32) : FVec Ideal S32x512 .bf16 :=
  mulf (extractStridedSlice S32x512 ![32, 0] Q slices_S256x512_o32_0_S32x512)
    (bitcastToFloat .bf16 (bitcast S32x512 16 (broadcastTo S16x512 (shapeCast S1x512 (extractStridedSlice S1x512 ![1, 0] W slices_S8x512_o1_0_S1x512) shapeCasts_S1x512_S1x512) broadcasts_S1x512_S16x512) bitcasts_S16x512_w32_S32x512_w16))
/-- Rows 64 to 95 of a decoded chunk. -/
def pc2 (Q : FVec Ideal S256x512 .bf16) (W : IVec S8x512 32) : FVec Ideal S32x512 .bf16 :=
  mulf (extractStridedSlice S32x512 ![64, 0] Q slices_S256x512_o64_0_S32x512)
    (bitcastToFloat .bf16 (bitcast S32x512 16 (broadcastTo S16x512 (shapeCast S1x512 (extractStridedSlice S1x512 ![2, 0] W slices_S8x512_o2_0_S1x512) shapeCasts_S1x512_S1x512) broadcasts_S1x512_S16x512) bitcasts_S16x512_w32_S32x512_w16))
/-- Rows 96 to 127 of a decoded chunk. -/
def pc3 (Q : FVec Ideal S256x512 .bf16) (W : IVec S8x512 32) : FVec Ideal S32x512 .bf16 :=
  mulf (extractStridedSlice S32x512 ![96, 0] Q slices_S256x512_o96_0_S32x512)
    (bitcastToFloat .bf16 (bitcast S32x512 16 (broadcastTo S16x512 (shapeCast S1x512 (extractStridedSlice S1x512 ![3, 0] W slices_S8x512_o3_0_S1x512) shapeCasts_S1x512_S1x512) broadcasts_S1x512_S16x512) bitcasts_S16x512_w32_S32x512_w16))
/-- Rows 128 to 159 of a decoded chunk. -/
def pc4 (Q : FVec Ideal S256x512 .bf16) (W : IVec S8x512 32) : FVec Ideal S32x512 .bf16 :=
  mulf (extractStridedSlice S32x512 ![128, 0] Q slices_S256x512_o128_0_S32x512)
    (bitcastToFloat .bf16 (bitcast S32x512 16 (broadcastTo S16x512 (shapeCast S1x512 (extractStridedSlice S1x512 ![4, 0] W slices_S8x512_o4_0_S1x512) shapeCasts_S1x512_S1x512) broadcasts_S1x512_S16x512) bitcasts_S16x512_w32_S32x512_w16))
/-- Rows 160 to 191 of a decoded chunk. -/
def pc5 (Q : FVec Ideal S256x512 .bf16) (W : IVec S8x512 32) : FVec Ideal S32x512 .bf16 :=
  mulf (extractStridedSlice S32x512 ![160, 0] Q slices_S256x512_o160_0_S32x512)
    (bitcastToFloat .bf16 (bitcast S32x512 16 (broadcastTo S16x512 (shapeCast S1x512 (extractStridedSlice S1x512 ![5, 0] W slices_S8x512_o5_0_S1x512) shapeCasts_S1x512_S1x512) broadcasts_S1x512_S16x512) bitcasts_S16x512_w32_S32x512_w16))
/-- Rows 192 to 223 of a decoded chunk. -/
def pc6 (Q : FVec Ideal S256x512 .bf16) (W : IVec S8x512 32) : FVec Ideal S32x512 .bf16 :=
  mulf (extractStridedSlice S32x512 ![192, 0] Q slices_S256x512_o192_0_S32x512)
    (bitcastToFloat .bf16 (bitcast S32x512 16 (broadcastTo S16x512 (shapeCast S1x512 (extractStridedSlice S1x512 ![6, 0] W slices_S8x512_o6_0_S1x512) shapeCasts_S1x512_S1x512) broadcasts_S1x512_S16x512) bitcasts_S16x512_w32_S32x512_w16))
/-- Rows 224 to 255 of a decoded chunk. -/
def pc7 (Q : FVec Ideal S256x512 .bf16) (W : IVec S8x512 32) : FVec Ideal S32x512 .bf16 :=
  mulf (extractStridedSlice S32x512 ![224, 0] Q slices_S256x512_o224_0_S32x512)
    (bitcastToFloat .bf16 (bitcast S32x512 16 (broadcastTo S16x512 (shapeCast S1x512 (extractStridedSlice S1x512 ![7, 0] W slices_S8x512_o7_0_S1x512) shapeCasts_S1x512_S1x512) broadcasts_S1x512_S16x512) bitcasts_S16x512_w32_S32x512_w16))

set_option maxHeartbeats 4000000 in
theorem xD_apply (l : Fin 256) (o : Fin 512) : xD M D (ix2 l o)
    = valX (k0_pay12 (xG M D) (xI M D) (ix2 l o)) * Ideal.ofBits .bf16 ((pairF (xB M D (ix2 ⟨l.val / 32, by omega⟩ o))).extractLsb' (16 * (l.val % 2)) 16) := by
  have hQ : valX (k0_pay12 (xG M D) (xI M D) (ix2 l o)) = xQ M D (ix2 l o) := by rw [xQ_eq, valV_apply]; rfl
  have hW : ∀ (B : IVec S8x512 32) (x : S8x512.Idx), pairF (B x) = k0_pay28 B x := fun B x => rfl
  rw [hQ, hW]
  have e : xD M D = k0_pay1 (pc0 (xQ M D) (k0_pay28 (xB M D))) (pc1 (xQ M D) (k0_pay28 (xB M D))) (pc2 (xQ M D) (k0_pay28 (xB M D))) (pc3 (xQ M D) (k0_pay28 (xB M D)))
    (pc4 (xQ M D) (k0_pay28 (xB M D))) (pc5 (xQ M D) (k0_pay28 (xB M D))) (pc6 (xQ M D) (k0_pay28 (xB M D))) (pc7 (xQ M D) (k0_pay28 (xB M D))) := rfl
  rw [e]
  generalize xQ M D = Q
  generalize k0_pay28 (xB M D) = W
  unfold k0_pay1 pc0 pc1 pc2 pc3 pc4 pc5 pc6 pc7
  pointwise [word_apply]
  refine Eq.trans ?_ (ladder Q W l o)
  congr 1

end Cert.QuantXIdeal.Hand
-- ==== Proof.XTile.lean ====
/- Hand-written. What one grid point of the call on `x` leaves in its three result blocks: every row from the chunk that holds it. -/
module

public import proofs.«01_k».proof.Proof.XChunk
public import Idealize.ShloMosaic.Lib.WritesUnit
public import Idealize.ShloMosaic.Lib.WholeRead
public import Idealize.ShloMosaic.Lib.Pointwise

@[expose] public section

set_option maxRecDepth 65536

noncomputable section

namespace Cert.QuantXIdeal.Hand

open Cert.QuantXIdeal Cert.QuantXIdeal.Gen
open Idealize.ShloMosaic Idealize.ShloMosaic.TcCoe Idealize.ShloMosaic.Tactic

variable {F : FTy → Type} [FloatOps F]

theorem trips_eq : k0_t1_loop.trips = 6 := by decide

/-- The trip of a number below six. -/
def tr (q : ℕ) (h : q < 6) : Fin k0_t1_loop.trips := ⟨q, lt_of_lt_of_eq h trips_eq.symm⟩

/-- Rows `256 k` to `256 k + 255` of a block of `x`. -/
def rowsX (D : Vec F S1536x512 .bf16) (q : ℕ) (h : q < 6) : Vec F S256x512 .bf16 :=
  fun y => D (ix2 ⟨256 * q + (y 0).val, by have := (y 0).isLt; have : (y 0).val < 256 := this; omega⟩ (y 1))

theorem rowsX_apply (D : Vec F S1536x512 .bf16) (q : ℕ) (h : q < 6) (i : Fin 256) (o : Fin 512) :
    rowsX D q h (ix2 i o) = D (ix2 ⟨256 * q + i.val, by omega⟩ o) := rfl

theorem rdM_unread (arg1 : Memref sig .tc .vmem S256x256 .bf16) (harg1 : arg1.IsWhole) (x0 : Vec F S256x256 .bf16) : rdM arg1 (harg1.unread x0) = x0 := by
  funext x
  unfold rdM
  refine (harg1.readAt_unread x0 (Rect.unit (s := S256x256) ![0, 0] S256x256.size inb_S256x256_S256x256_0_0).toLoadRect x).trans ?_
  congr 1
  funext a; apply Fin.ext
  match a with
  | ⟨0, _⟩ => show 0 + 1 * (x 0).val = (x 0).val; omega
  | ⟨1, _⟩ => show 0 + 1 * (x 1).val = (x 1).val; omega

theorem rdD_unread (arg2 : Memref sig .tc .vmem S1536x512 .bf16) (harg2 : arg2.IsWhole) (x1 : Vec F S1536x512 .bf16) (q : ℕ) (h : q < 6) :
    rdD arg2 (harg2.unread x1) (tr q h) = rowsX x1 q h := by
  funext x
  unfold rdD
  refine (harg2.readAt_unread x1 (Rect.unit (s := S1536x512) (k0_off1 (tr q h)) S256x512.size (k0_off1_inb (tr q h))).toLoadRect x).trans ?_
  unfold rowsX
  congr 1
  funext a; apply Fin.ext
  have e := k0_off1_eq (tr q h)
  match a with
  | ⟨0, _⟩ =>
    show k0_off1 (tr q h) 0 + 1 * (x 0).val = 256 * q + (x 0).val
    rw [e]; show 256 * q + 1 * (x 0).val = _; omega
  | ⟨1, _⟩ =>
    show k0_off1 (tr q h) 1 + 1 * (x 1).val = (x 1).val
    rw [e]; show 0 + 1 * (x 1).val = _; omega

section
variable (𝒱 : Variants) (c : Dev nD) (bd : Option 𝒱.V) (i : grid0.Coords) (arg1 : Memref sig .tc .vmem S256x256 .bf16) (harg1 : arg1.IsWhole) (arg2 : Memref sig .tc .vmem S1536x512 .bf16) (harg2 : arg2.IsWhole) (arg3 : Memref sig .tc .vmem S768x512 .i8) (harg3 : arg3.IsWhole) (arg4 : Memref sig .tc .vmem S2x24x512 .i8) (harg4 : arg4.IsWhole) (arg5 : Memref sig .tc .vmem S1536x512 .bf16) (harg5 : arg5.IsWhole) (arg6 : Memref sig .tc .vmem S48x512 .i32) (harg6 : arg6.IsWhole)
  (X1 : BufTy.Contents (Elt F) arg1.view.ty) (X2 : BufTy.Contents (Elt F) arg2.view.ty)

theorem pb1_read_succ (n : ℕ) (hn : n < 6) : (pb_k0_t1 (F := F) 𝒱 c bd i arg1 harg1 arg2 harg2 arg3 harg3 arg4 harg4 arg5 harg5 arg6 harg6 X1 X2 (n + 1)).1
    = (⟨Rect.unit (s := S768x512) (k0_off2 (tr n hn)) S128x512.size (k0_off2_inb (tr n hn)), xC (rdM arg1 X1) (rdD arg2 X2 (tr n hn))⟩ : View.Piece (Elt F) S768x512 .i8) :: (pb_k0_t1 (F := F) 𝒱 c bd i arg1 harg1 arg2 harg2 arg3 harg3 arg4 harg4 arg5 harg5 arg6 harg6 X1 X2 n).1 := by
  have hs : (pb_k0_t1 (F := F) 𝒱 c bd i arg1 harg1 arg2 harg2 arg3 harg3 arg4 harg4 arg5 harg5 arg6 harg6 X1 X2 (n + 1)) = _ := pb_k0_t1_succ 𝒱 c bd i arg1 harg1 arg2 harg2 arg3 harg3 arg4 harg4 arg5 harg5 arg6 harg6 X1 X2 (tr n hn)
  rw [hs, trip_eq]
  rfl

theorem pb1_read {κ : Kind} {sp : Space} (v : View sig κ sp S768x512 .i8) (f : v.ty.Contents (Elt F)) (n : ℕ) (hn : n ≤ 6) (r : Fin 768) (hr : r.val < 128 * n) (o : Fin 512) :
    v.read (Elt F) (v.writes (Elt F) f (pb_k0_t1 (F := F) 𝒱 c bd i arg1 harg1 arg2 harg2 arg3 harg3 arg4 harg4 arg5 harg5 arg6 harg6 X1 X2 n).1) (ix2 r o)
      = xC (rdM arg1 X1) (rdD arg2 X2 (tr (r.val / 128) (by omega))) (ix2 ⟨r.val % 128, by omega⟩ o) := by
  induction n with
  | zero => omega
  | succ n ih =>
    rw [pb1_read_succ 𝒱 c bd i arg1 harg1 arg2 harg2 arg3 harg3 arg4 harg4 arg5 harg5 arg6 harg6 X1 X2 n (by omega)]
    by_cases h : r.val < 128 * n
    · refine (v.read_writes_cons_unit_of_not_mem f _ _ _ (ix2 r o) (k0_off2_eq (tr n (by omega))) 0 (Or.inl h)).trans ?_
      exact ih (by omega) h
    · refine (v.read_writes_cons_unit_of_mem f _ _ _ (ix2 r o) (ix2 ⟨r.val % 128, by omega⟩ o) (k0_off2_eq (tr n (by omega))) (fun a => ?_)).trans ?_
      · match a with
        | ⟨0, _⟩ => show r.val = 128 * n + r.val % 128; omega
        | ⟨1, _⟩ => show o.val = 0 + o.val; omega
      · have e : tr n (by omega) = tr (r.val / 128) (by omega) := Fin.ext (by show n = r.val / 128; omega)
        rw [e]

theorem pb2_read_succ (n : ℕ) (hn : n < 6) : (pb_k0_t1 (F := F) 𝒱 c bd i arg1 harg1 arg2 harg2 arg3 harg3 arg4 harg4 arg5 harg5 arg6 harg6 X1 X2 (n + 1)).2.1
    = (⟨Rect.unit (s := S1536x512) (k0_off1 (tr n hn)) S256x512.size (k0_off1_inb (tr n hn)), xD (rdM arg1 X1) (rdD arg2 X2 (tr n hn))⟩ : View.Piece (Elt F) S1536x512 .bf16) :: (pb_k0_t1 (F := F) 𝒱 c bd i arg1 harg1 arg2 harg2 arg3 harg3 arg4 harg4 arg5 harg5 arg6 harg6 X1 X2 n).2.1 := by
  have hs : (pb_k0_t1 (F := F) 𝒱 c bd i arg1 harg1 arg2 harg2 arg3 harg3 arg4 harg4 arg5 harg5 arg6 harg6 X1 X2 (n + 1)) = _ := pb_k0_t1_succ 𝒱 c bd i arg1 harg1 arg2 harg2 arg3 harg3 arg4 harg4 arg5 harg5 arg6 harg6 X1 X2 (tr n hn)
  rw [hs, trip_eq]
  rfl

theorem pb2_read {κ : Kind} {sp : Space} (v : View sig κ sp S1536x512 .bf16) (f : v.ty.Contents (Elt F)) (n : ℕ) (hn : n ≤ 6) (r : Fin 1536) (hr : r.val < 256 * n) (o : Fin 512) :
    v.read (Elt F) (v.writes (Elt F) f (pb_k0_t1 (F := F) 𝒱 c bd i arg1 harg1 arg2 harg2 arg3 harg3 arg4 harg4 arg5 harg5 arg6 harg6 X1 X2 n).2.1) (ix2 r o)
      = xD (rdM arg1 X1) (rdD arg2 X2 (tr (r.val / 256) (by omega))) (ix2 ⟨r.val % 256, by omega⟩ o) := by
  induction n with
  | zero => omega
  | succ n ih =>
    rw [pb2_read_succ 𝒱 c bd i arg1 harg1 arg2 harg2 arg3 harg3 arg4 harg4 arg5 harg5 arg6 harg6 X1 X2 n (by omega)]
    by_cases h : r.val < 256 * n
    · refine (v.read_writes_cons_unit_of_not_mem f _ _ _ (ix2 r o) (k0_off1_eq (tr n (by omega))) 0 (Or.inl h)).trans ?_
      exact ih (by omega) h
    · refine (v.read_writes_cons_unit_of_mem f _ _ _ (ix2 r o) (ix2 ⟨r.val % 256, by omega⟩ o) (k0_off1_eq (tr n (by omega))) (fun a => ?_)).trans ?_
      · match a with
        | ⟨0, _⟩ => show r.val = 256 * n + r.val % 256; omega
        | ⟨1, _⟩ => show o.val = 0 + o.val; omega
      · have e : tr n (by omega) = tr (r.val / 256) (by omega) := Fin.ext (by show n = r.val / 256; omega)
        rw [e]

theorem pb3_read_succ (n : ℕ) (hn : n < 6) : (pb_k0_t1 (F := F) 𝒱 c bd i arg1 harg1 arg2 harg2 arg3 harg3 arg4 harg4 arg5 harg5 arg6 harg6 X1 X2 (n + 1)).2.2
    = (⟨Rect.unit (s := S48x512) (k0_off3 (tr n hn)) S8x512.size (k0_off3_inb (tr n hn)), k0_pay27 (xB (rdM arg1 X1) (rdD arg2 X2 (tr n hn)))⟩ : View.Piece (Elt F) S48x512 .i32) :: (pb_k0_t1 (F := F) 𝒱 c bd i arg1 harg1 arg2 harg2 arg3 harg3 arg4 harg4 arg5 harg5 arg6 harg6 X1 X2 n).2.2 := by
  have hs : (pb_k0_t1 (F := F) 𝒱 c bd i arg1 harg1 arg2 harg2 arg3 harg3 arg4 harg4 arg5 harg5 arg6 harg6 X1 X2 (n + 1)) = _ := pb_k0_t1_succ 𝒱 c bd i arg1 harg1 arg2 harg2 arg3 harg3 arg4 harg4 arg5 harg5 arg6 harg6 X1 X2 (tr n hn)
  rw [hs, trip_eq]
  rfl

theorem pb3_read {κ : Kind} {sp : Space} (v : View sig κ sp S48x512 .i32) (f : v.ty.Contents (Elt F)) (n : ℕ) (hn : n ≤ 6) (r : Fin 48) (hr : r.val < 8 * n) (o : Fin 512) :
    v.read (Elt F) (v.writes (Elt F) f (pb_k0_t1 (F := F) 𝒱 c bd i arg1 harg1 arg2 harg2 arg3 harg3 arg4 harg4 arg5 harg5 arg6 harg6 X1 X2 n).2.2) (ix2 r o)
      = k0_pay27 (xB (rdM arg1 X1) (rdD arg2 X2 (tr (r.val / 8) (by omega)))) (ix2 ⟨r.val % 8, by omega⟩ o) := by
  induction n with
  | zero => omega
  | succ n ih =>
    rw [pb3_read_succ 𝒱 c bd i arg1 harg1 arg2 harg2 arg3 harg3 arg4 harg4 arg5 harg5 arg6 harg6 X1 X2 n (by omega)]
    by_cases h : r.val < 8 * n
    · refine (v.read_writes_cons_unit_of_not_mem f _ _ _ (ix2 r o) (k0_off3_eq (tr n (by omega))) 0 (Or.inl h)).trans ?_
      exact ih (by omega) h
    · refine (v.read_writes_cons_unit_of_mem f _ _ _ (ix2 r o) (ix2 ⟨r.val % 8, by omega⟩ o) (k0_off3_eq (tr n (by omega))) (fun a => ?_)).trans ?_
      · match a with
        | ⟨0, _⟩ => show r.val = 8 * n + r.val % 8; omega
        | ⟨1, _⟩ => show o.val = 0 + o.val; omega
      · have e : tr n (by omega) = tr (r.val / 8) (by omega) := Fin.ext (by show n = r.val / 8; omega)
        rw [e]
end

section
variable (c : Dev nD) (i : grid0.Coords) (arg1 : Memref sig .tc .vmem S256x256 .bf16) (harg1 : arg1.IsWhole) (arg2 : Memref sig .tc .vmem S1536x512 .bf16) (harg2 : arg2.IsWhole) (arg3 : Memref sig .tc .vmem S768x512 .i8) (harg3 : arg3.IsWhole) (arg4 : Memref sig .tc .vmem S2x24x512 .i8) (harg4 : arg4.IsWhole) (arg5 : Memref sig .tc .vmem S1536x512 .bf16) (harg5 : arg5.IsWhole) (arg6 : Memref sig .tc .vmem S48x512 .i32) (harg6 : arg6.IsWhole)
  (x0 : Vec F S256x256 .bf16) (x1 : Vec F S1536x512 .bf16)

/-- The codes' block. -/
theorem out2_apply (r : Fin 768) (o : Fin 512) : out0_A_2 c i arg1 harg1 arg2 harg2 arg3 harg3 arg4 harg4 arg5 harg5 arg6 harg6 x0 x1 (ix2 r o)
    = xC x0 (rowsX x1 (r.val / 128) (by omega)) (ix2 ⟨r.val % 128, by omega⟩ o) := by
  unfold out0_A_2
  rw [run_1]
  refine (pb1_read Variants.none c none i arg1 harg1 arg2 harg2 arg3 harg3 arg4 harg4 arg5 harg5 arg6 harg6 _ _ VO0_2 VO0_2.junk 6 (le_refl _) r (by omega) o).trans ?_
  rw [rdM_unread, rdD_unread]

/-- The decoded block. -/
theorem out4_apply (r : Fin 1536) (o : Fin 512) : out0_A_4 c i arg1 harg1 arg2 harg2 arg3 harg3 arg4 harg4 arg5 harg5 arg6 harg6 x0 x1 (ix2 r o)
    = xD x0 (rowsX x1 (r.val / 256) (by omega)) (ix2 ⟨r.val % 256, by omega⟩ o) := by
  unfold out0_A_4
  rw [run_3]
  refine (pb2_read Variants.none c none i arg1 harg1 arg2 harg2 arg3 harg3 arg4 harg4 arg5 harg5 arg6 harg6 _ _ VO0_4 VO0_4.junk 6 (le_refl _) r (by omega) o).trans ?_
  rw [rdM_unread, rdD_unread]

/-- The scratch rows, as the last reads find them. -/
theorem cov_apply (off : Fin 2 → ℕ) (inb : ∀ a, off a + S24x512.size a ≤ S48x512.size a) (b : ℕ) (hb : b < 2) (hoff : off = ![24 * b, 0]) (g : Fin 24) (o : Fin 512) :
    arg6.view.readCov (pb_k0_t1 (F := F) Variants.none c none i arg1 harg1 arg2 harg2 arg3 harg3 arg4 harg4 arg5 harg5 arg6 harg6 (harg1.unread x0) (harg2.unread x1) 6).2.2
      (Rect.unit (s := S48x512) off S24x512.size inb).toLoadRect (ix2 g o)
      = xB x0 (rowsX x1 ((24 * b + g.val) / 8) (by omega)) (ix2 ⟨(24 * b + g.val) % 8, by omega⟩ o) := by
  subst hoff
  have hx : (Rect.unit (s := S48x512) ![24 * b, 0] S24x512.size inb).toLoadRect.idx (ix2 g o) = ix2 ⟨24 * b + g.val, by omega⟩ o := by
    funext a; apply Fin.ext
    match a with
    | ⟨0, _⟩ => show 24 * b + 1 * g.val = 24 * b + g.val; omega
    | ⟨1, _⟩ => show 0 + 1 * o.val = o.val; omega
  show arg6.view.read (Elt F) (arg6.view.writes (Elt F) arg6.view.junk _) ((Rect.unit (s := S48x512) ![24 * b, 0] S24x512.size inb).toLoadRect.idx (ix2 g o)) = _
  rw [hx]
  refine (pb3_read Variants.none c none i arg1 harg1 arg2 harg2 arg3 harg3 arg4 harg4 arg5 harg5 arg6 harg6 _ _ arg6.view arg6.view.junk 6 (le_refl _) ⟨24 * b + g.val, by omega⟩ (by show 24 * b + g.val < 8 * 6; omega) o).trans ?_
  rw [rdM_unread, rdD_unread]
  unfold k0_pay27
  rw [shapeCast_self]

theorem pay2_apply (v : Vec F S24x512 .i32) (g : Fin 24) (o : Fin 512) : k0_pay2 (F := F) v (ix3 0 g o) = (v (ix2 g o)).setWidth 8 := by
  have e : ∀ N : IVec S24x512 8, shapeCast S1x24x512 N shapeCasts_S24x512_S1x24x512 (ix3 0 g o) = N (ix2 g o) := by
    intro N; pointwise
  exact e (trunci 8 v natLt_8_32)
theorem pay3_apply (v : Vec F S24x512 .i32) (g : Fin 24) (o : Fin 512) : k0_pay3 (F := F) v (ix3 0 g o) = (v (ix2 g o)).setWidth 8 := pay2_apply v g o

/-- The scales' block. -/
theorem out3_apply (b : Fin 2) (g : Fin 24) (o : Fin 512) : out0_A_3 c i arg1 harg1 arg2 harg2 arg3 harg3 arg4 harg4 arg5 harg5 arg6 harg6 x0 x1 (ix3 b g o)
    = (xB x0 (rowsX x1 ((24 * b.val + g.val) / 8) (by omega)) (ix2 ⟨(24 * b.val + g.val) % 8, by omega⟩ o)).setWidth 8 := by
  unfold out0_A_3
  rw [run_2]
  match b with
  | ⟨0, _⟩ =>
    refine (VO0_3.read_writes_cons_unit_of_not_mem _ _ _ _ _ rfl 0 (Or.inl (by show 0 < 1; omega))).trans ?_
    refine (VO0_3.read_writes_cons_unit_of_mem _ _ _ _ _ (ix3 0 g o) rfl (fun a => ?_)).trans ?_
    · match a with
      | ⟨0, _⟩ => rfl
      | ⟨1, _⟩ => show g.val = 0 + g.val; omega
      | ⟨2, _⟩ => show o.val = 0 + o.val; omega
    · rw [pay2_apply]
      exact congrArg (BitVec.setWidth 8) (cov_apply c i arg1 harg1 arg2 harg2 arg3 harg3 arg4 harg4 arg5 harg5 arg6 harg6 x0 x1 _ _ 0 (by omega) rfl g o)
  | ⟨1, _⟩ =>
    refine (VO0_3.read_writes_cons_unit_of_mem _ _ _ _ _ (ix3 0 g o) rfl (fun a => ?_)).trans ?_
    · match a with
      | ⟨0, _⟩ => rfl
      | ⟨1, _⟩ => show g.val = 0 + g.val; omega
      | ⟨2, _⟩ => show o.val = 0 + o.val; omega
    · rw [pay3_apply]
      exact congrArg (BitVec.setWidth 8) (cov_apply c i arg1 harg1 arg2 harg2 arg3 harg3 arg4 harg4 arg5 harg5 arg6 harg6 x0 x1 _ _ 1 (by omega) rfl g o)
end

end Cert.QuantXIdeal.Hand
-- ==== Proof.XVal.lean ====
/- Hand-written. What the call on `x` leaves in its three results, at an index: the formulas of Proof/XMath.lean where the
   precondition holds. -/
module

public import proofs.«01_k».proof.Proof.XKer
public import proofs.«01_k».proof.Proof.XTile
public import proofs.«01_k».proof.Proof.KM

@[expose] public section

set_option maxRecDepth 16384

noncomputable section

namespace Cert.QuantXIdeal.Hand

open Cert.QuantXIdeal Cert.QuantXIdeal.Gen
open Idealize.ShloMosaic Idealize.ShloMosaic.TcCoe Idealize.ShloMosaic.StableHlo Idealize.ShloMosaic.Tactic
open Cert.KernelIdeal.Hand (HK HE HM rot_sum mRot SGT expo nzF pairF thr)

section
variable {F : FTy → Type} [FloatOps F]
variable (m : (ℓ : Loc nD τ sig) → Buf (Elt F) ℓ)

set_option maxHeartbeats 2000000 in
theorem V_v25 (c : Dev nD) : Gen.V m c main_v25 = HK HE (HM (m ((c : Thread nD τ).loc main_arg1))) := by
  show StableHlo.after (List.flatten [hostOps0, hostOps0_1, hostOps0_2, hostOps0_3, hostOps0_4]) _ (Proc.devRef .tc main_v25) = _
  simp only [hostOps0, hostOps0_1, hostOps0_2, hostOps0_3, hostOps0_4, List.flatten_cons, List.flatten_nil, List.append_nil, List.cons_append, List.nil_append,
    TRef.ternary, TRef.unary, TRef.binary, TRef.reshape, TRef.toBuf, TRef.ofBuf, cast_eq]
  after_results_simp
  all_goals rfl

set_option maxHeartbeats 2000000 in
theorem V_v26 (c : Dev nD) : Gen.V m c main_v26 = shapeCast S1536x7168 (m ((c : Thread nD τ).loc main_arg0)) shapeCasts_S2x768x7168_S1536x7168 := by
  show StableHlo.after (List.flatten [hostOps0, hostOps0_1, hostOps0_2, hostOps0_3, hostOps0_4]) _ (Proc.devRef .tc main_v26) = _
  simp only [hostOps0, hostOps0_1, hostOps0_2, hostOps0_3, hostOps0_4, List.flatten_cons, List.flatten_nil, List.append_nil, List.cons_append, List.nil_append,
    TRef.ternary, TRef.unary, TRef.binary, TRef.reshape, TRef.toBuf, TRef.ofBuf, cast_eq]
  after_results_simp
  all_goals rfl

theorem blk_facts : ∀ t : Fin cfg0.N, win0_0.index t (0 : Fin 2) = 0 ∧ win0_0.index t (1 : Fin 2) = 0
    ∧ win0_1.index t (0 : Fin 2) = 0 ∧ win0_1.index t (1 : Fin 2) = t.val ∧ win0_2.index t (0 : Fin 2) = 0 ∧ win0_2.index t (1 : Fin 2) = t.val
    ∧ win0_3.index t (0 : Fin 3) = 0 ∧ win0_3.index t (1 : Fin 3) = 0 ∧ win0_3.index t (2 : Fin 3) = t.val
    ∧ win0_4.index t (0 : Fin 2) = 0 ∧ win0_4.index t (1 : Fin 2) = t.val :=
  (by decide +kernel : ∀ t : Fin grid0.N, _)

theorem flush2 : ∀ t : Fin cfg0.N, (cfg0.win 2).flush t = true := (by decide +kernel : ∀ t : Fin grid0.N, win0_2.flush t = true)
theorem flush3 : ∀ t : Fin cfg0.N, (cfg0.win 3).flush t = true := (by decide +kernel : ∀ t : Fin grid0.N, win0_3.flush t = true)
theorem flush4 : ∀ t : Fin cfg0.N, (cfg0.win 4).flush t = true := (by decide +kernel : ∀ t : Fin grid0.N, win0_4.flush t = true)

/-- The rotation and the columns of `x` a grid point reads. -/
def bM (c : Dev nD) (t : Fin 14) : Vec F S256x256 .bf16 := iblk m c 0 t
def bX (c : Dev nD) (t : Fin 14) : Vec F S1536x512 .bf16 := iblk m c 1 t

theorem bM_apply (c : Dev nD) (t : Fin 14) (i j : Fin 256) : bM m c t (ix2 i j) = Gen.V m c main_v25 (ix2 i j) := by
  obtain ⟨e0, e1, _⟩ := blk_facts t
  show Gen.V m c main_v25 (((cfg0.win 0).blk t).view.emb (ix2 i j)) = _
  congr 1
  funext a; apply Fin.ext
  match a with
  | ⟨0, _⟩ => show win0_0.index t (0 : Fin 2) * 256 + 1 * i.val = i.val; omega
  | ⟨1, _⟩ => show win0_0.index t (1 : Fin 2) * 256 + 1 * j.val = j.val; omega

theorem bX_apply (c : Dev nD) (t : Fin 14) (r : Fin 1536) (o : Fin 512) :
    bX m c t (ix2 r o) = Gen.V m c main_v26 (ix2 r ⟨512 * t.val + o.val, by omega⟩) := by
  obtain ⟨_, _, e0, e1, _⟩ := blk_facts t
  show Gen.V m c main_v26 (((cfg0.win 1).blk t).view.emb (ix2 r o)) = _
  congr 1
  funext a; apply Fin.ext
  match a with
  | ⟨0, _⟩ => show win0_1.index t (0 : Fin 2) * 1536 + 1 * r.val = r.val; omega
  | ⟨1, _⟩ => show win0_1.index t (1 : Fin 2) * 512 + 1 * o.val = 512 * t.val + o.val; omega

/-- The three results after the run. -/
def R2 (c : Dev nD) : IVec S768x7168 8 := (dats m 0 c).arrAt 2 cfg0.N
def R3 (c : Dev nD) : IVec S2x24x7168 8 := (dats m 0 c).arrAt 3 cfg0.N
def R4 (c : Dev nD) : FVec F S1536x7168 .bf16 := (dats m 0 c).arrAt 4 cfg0.N

theorem R2_apply (c : Dev nD) (t : Fin 14) (r : Fin 768) (o : Fin 512) : R2 m c (ix2 r ⟨512 * t.val + o.val, by omega⟩)
    = xC (bM m c t) (rowsX (bX m c t) (r.val / 128) (by omega)) (ix2 ⟨r.val % 128, by omega⟩ o) := by
  have ht : 512 * t.val + o.val < 7168 := by omega
  obtain ⟨_, _, _, _, e0, e1, _, _, _, f0, f1⟩ := blk_facts t
  have hx : ((cfg0.win 2).blk t).view.emb (ix2 r o) = (ix2 r ⟨512 * t.val + o.val, ht⟩ : (⟨2, ![768, 7168]⟩ : Shape).Idx) := by
    funext a; apply Fin.ext
    match a with
    | ⟨0, _⟩ => show win0_2.index t (0 : Fin 2) * 768 + 1 * r.val = r.val; omega
    | ⟨1, _⟩ => show win0_2.index t (1 : Fin 2) * 512 + 1 * o.val = 512 * t.val + o.val; omega
  have h := congrFun ((Cert.QuantXIdeal.Value.blocks2 m c t (flush2 t)).trans (Cert.QuantXIdeal.Value.flushed2_A m c t)) (ix2 r o)
  have hj : (cfg0.win 2).xinj (grid0.coords t) (ix2 r o) = (ix2 r o : (⟨2, ![768, 512]⟩ : Shape).Idx) := by
    funext a; fin_cases a <;> rfl
  refine (congrArg (R2 m c) hx.symm).trans (h.trans ?_)
  refine (congrArg (out0_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t)) hj).trans ?_
  exact out2_apply c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) r o

theorem R4_apply (c : Dev nD) (t : Fin 14) (r : Fin 1536) (o : Fin 512) : R4 m c (ix2 r ⟨512 * t.val + o.val, by omega⟩)
    = xD (bM m c t) (rowsX (bX m c t) (r.val / 256) (by omega)) (ix2 ⟨r.val % 256, by omega⟩ o) := by
  have ht : 512 * t.val + o.val < 7168 := by omega
  obtain ⟨_, _, _, _, e0, e1, _, _, _, f0, f1⟩ := blk_facts t
  have hx : ((cfg0.win 4).blk t).view.emb (ix2 r o) = (ix2 r ⟨512 * t.val + o.val, ht⟩ : (⟨2, ![1536, 7168]⟩ : Shape).Idx) := by
    funext a; apply Fin.ext
    match a with
    | ⟨0, _⟩ => show win0_4.index t (0 : Fin 2) * 1536 + 1 * r.val = r.val; omega
    | ⟨1, _⟩ => show win0_4.index t (1 : Fin 2) * 512 + 1 * o.val = 512 * t.val + o.val; omega
  have h := congrFun ((Cert.QuantXIdeal.Value.blocks4 m c t (flush4 t)).trans (Cert.QuantXIdeal.Value.flushed4_A m c t)) (ix2 r o)
  have hj : (cfg0.win 4).xinj (grid0.coords t) (ix2 r o) = (ix2 r o : (⟨2, ![1536, 512]⟩ : Shape).Idx) := by
    funext a; fin_cases a <;> rfl
  refine (congrArg (R4 m c) hx.symm).trans (h.trans ?_)
  refine (congrArg (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t)) hj).trans ?_
  exact out4_apply c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) r o

theorem R3_apply (c : Dev nD) (t : Fin 14) (b : Fin 2) (g : Fin 24) (o : Fin 512) : R3 m c (ix3 b g ⟨512 * t.val + o.val, by omega⟩)
    = (xB (bM m c t) (rowsX (bX m c t) ((24 * b.val + g.val) / 8) (by omega)) (ix2 ⟨(24 * b.val + g.val) % 8, by omega⟩ o)).setWidth 8 := by
  have ht : 512 * t.val + o.val < 7168 := by omega
  obtain ⟨_, _, _, _, _, _, e0, e1, e2, _⟩ := blk_facts t
  have hx : ((cfg0.win 3).blk t).view.emb (ix3 b g o) = (ix3 b g ⟨512 * t.val + o.val, ht⟩ : (⟨3, ![2, 24, 7168]⟩ : Shape).Idx) := by
    funext a; apply Fin.ext
    match a with
    | ⟨0, _⟩ => show win0_3.index t (0 : Fin 3) * 2 + 1 * b.val = b.val; omega
    | ⟨1, _⟩ => show win0_3.index t (1 : Fin 3) * 24 + 1 * g.val = g.val; omega
    | ⟨2, _⟩ => show win0_3.index t (2 : Fin 3) * 512 + 1 * o.val = 512 * t.val + o.val; omega
  have h := congrFun ((Cert.QuantXIdeal.Value.blocks3 m c t (flush3 t)).trans (Cert.QuantXIdeal.Value.flushed3_A m c t)) (ix3 b g o)
  have hj : (cfg0.win 3).xinj (grid0.coords t) (ix3 b g o) = (ix3 b g o : (⟨3, ![2, 24, 512]⟩ : Shape).Idx) := by
    funext a; fin_cases a <;> rfl
  refine (congrArg (R3 m c) hx.symm).trans (h.trans ?_)
  refine (congrArg (out0_A_3 c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t)) hj).trans ?_
  exact out3_apply c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) b g o
end

variable (m : (ℓ : Loc nD τ sig) → Buf (Elt Ideal) ℓ) (c : Dev nD)

/-- The arguments on a device. -/
def aX : XT := m ((c.tc : Thread nD τ).loc main_arg0)
def aSg : SGT := m ((c.tc : Thread nD τ).loc main_arg1)

theorem tokX_cast {α : Type} (v : S2x768x7168.Idx → α) (r : Fin 1536) (o : Fin 7168) :
    shapeCast S1536x7168 v shapeCasts_S2x768x7168_S1536x7168 (ix2 r o) = v (ix3 ⟨r.val / 768, by omega⟩ ⟨r.val % 768, by omega⟩ o) := by
  pointwise

theorem x_at (t : Fin 14) (k : Fin 6) (j : Fin 256) (o : Fin 512) :
    rowsX (bX m c t) k.val k.isLt (ix2 j o) = tokX (aX m c) ⟨256 * k.val + j.val, by omega⟩ ⟨512 * t.val + o.val, by omega⟩ := by
  rw [rowsX_apply, bX_apply, V_v26]
  exact tokX_cast (aX m c) _ _

/-- The rotated chunk. -/
theorem rot_at (t : Fin 14) (k : Fin 6) (i : Fin 256) (o : Fin 512) :
    k0_pay4 (bM m c t) (rowsX (bX m c t) k.val k.isLt) (ix2 i o)
      = rRotX (aX m c) (aSg m c) ⟨256 * k.val + i.val, by omega⟩ ⟨512 * t.val + o.val, by omega⟩ := by
  rw [pay4_apply]
  have e : ∀ j : Fin 256, bM m c t (ix2 i j) * rowsX (bX m c t) k.val k.isLt (ix2 j o)
      = HK (F := Ideal) HE (HM (aSg m c)) (ix2 i j) * tokX (aX m c) ⟨256 * k.val + j.val, by omega⟩ ⟨512 * t.val + o.val, by omega⟩ := by
    intro j
    rw [bM_apply, V_v25, x_at]
    rfl
  rw [Finset.sum_congr rfl fun j _ => e j]
  refine (rot_sum (aSg m c) i fun j => tokX (aX m c) ⟨256 * k.val + j.val, by omega⟩ ⟨512 * t.val + o.val, by omega⟩).trans ?_
  unfold rRotX
  refine Finset.sum_congr rfl fun j _ => ?_
  have e1 : 256 * k.val + (64 * (i.val / 64) + j.val) = 64 * ((256 * k.val + i.val) / 64) + j.val := by omega
  have e2 : i.val % 64 = (256 * k.val + i.val) % 64 := by omega
  simp only [e1, e2]

/-- The largest magnitude of a group of a chunk. -/
theorem top_at (t : Fin 14) (k : Fin 6) (g : Fin 8) (o : Fin 512) :
    cA (bM m c t) (rowsX (bX m c t) k.val k.isLt) g o = aGrpX (aX m c) (aSg m c) ⟨8 * k.val + g.val, by omega⟩ ⟨512 * t.val + o.val, by omega⟩ := by
  unfold cA aGrpX
  refine Finset.fold_congr fun x _ => ?_
  rw [rot_at]
  have e : (⟨256 * k.val + (32 * g.val + x.val), by omega⟩ : Fin 1536) = ⟨32 * (8 * k.val + g.val) + x.val, by omega⟩ := Fin.ext (by show 256 * k.val + (32 * g.val + x.val) = 32 * (8 * k.val + g.val) + x.val; omega)
  show max (rRotX _ _ (⟨256 * k.val + (32 * g.val + x.val), by omega⟩ : Fin 1536) _) (-(rRotX _ _ (⟨256 * k.val + (32 * g.val + x.val), by omega⟩ : Fin 1536) _)) = _
  rw [e]

/-- The scaled element of a chunk, with the largest magnitude of its group. -/
theorem el_at (t : Fin 14) (k : Fin 6) (i : Fin 256) (o : Fin 512) (T : Fin 1536) (hT : T.val = 256 * k.val + i.val) :
    k0_pay12 (xG (bM m c t) (rowsX (bX m c t) k.val k.isLt)) (xI (bM m c t) (rowsX (bX m c t) k.val k.isLt)) (ix2 i o)
      = clX (rRotX (aX m c) (aSg m c) T ⟨512 * t.val + o.val, by omega⟩ * invX (aGrpX (aX m c) (aSg m c) ⟨T.val / 32, by omega⟩ ⟨512 * t.val + o.val, by omega⟩)) := by
  have hb : 256 * k.val + i.val < 1536 := by omega
  obtain rfl : T = ⟨256 * k.val + i.val, hb⟩ := Fin.ext hT
  rw [xY_apply, rot_at, top_at]
  have eG : (⟨8 * k.val + i.val / 32, by omega⟩ : Fin 48) = ⟨(256 * k.val + i.val) / 32, by omega⟩ := Fin.ext (by show 8 * k.val + i.val / 32 = (256 * k.val + i.val) / 32; omega)
  show clX (_ * invX (aGrpX _ _ (⟨8 * k.val + i.val / 32, by omega⟩ : Fin 48) _)) = _
  rw [eG]

theorem shl4 (x : BitVec 32) : IntOp.shli .vector x 4#32 = IntOp.shli .host x 4#32 := by
  unfold IntOp.shli
  rw [if_pos (by decide), if_pos (by decide)]

section
variable (hp : ∀ G o, preX (aGrpX (aX m c) (aSg m c) G o) = 1#1)
include hp

/-- The codes. -/
theorem codes_apply (R : Fin 768) (C : Fin 7168) : R2 m c (ix2 R C) = codesXT (aX m c) (aSg m c) R C := by
  have eC : (⟨512 * (C.val / 512) + C.val % 512, by omega⟩ : Fin 7168) = C := Fin.ext (by show 512 * (C.val / 512) + C.val % 512 = C.val; omega)
  have h := R2_apply m c ⟨C.val / 512, by omega⟩ R ⟨C.val % 512, by omega⟩
  rw [show (⟨512 * (⟨C.val / 512, by omega⟩ : Fin 14).val + (⟨C.val % 512, by omega⟩ : Fin 512).val, by show 512 * (C.val / 512) + C.val % 512 < 7168; omega⟩ : Fin 7168) = C from eC] at h
  rw [h, xC_apply, shl4]
  have k1 := el_at m c ⟨C.val / 512, by omega⟩ ⟨R.val / 128, by omega⟩ ⟨2 * (R.val % 128), by omega⟩ ⟨C.val % 512, by omega⟩ ⟨2 * R.val, by omega⟩ (by show 2 * R.val = 256 * (R.val / 128) + 2 * (R.val % 128); omega)
  have k2 := el_at m c ⟨C.val / 512, by omega⟩ ⟨R.val / 128, by omega⟩ ⟨2 * (R.val % 128) + 1, by omega⟩ ⟨C.val % 512, by omega⟩ ⟨2 * R.val + 1, by omega⟩ (by show 2 * R.val + 1 = 256 * (R.val / 128) + (2 * (R.val % 128) + 1); omega)
  rw [show (⟨512 * (⟨C.val / 512, by omega⟩ : Fin 14).val + (⟨C.val % 512, by omega⟩ : Fin 512).val, by show 512 * (C.val / 512) + C.val % 512 < 7168; omega⟩ : Fin 7168) = C from eC] at k1 k2
  have h1 := (congrArg (fun v => nzF (csX v)) k1).trans (xcode _ _ (le_aGrpX (aX m c) (aSg m c) _ C) (hp _ _))
  have h2 := (congrArg (fun v => nzF (csX v)) k2).trans (xcode _ _ (le_aGrpX (aX m c) (aSg m c) _ C) (hp _ _))
  unfold codesXT codXT
  exact congrArg₂ (fun a b => (IntOp.ori a (IntOp.shli .host b 4#32)).setWidth 8) h1 h2

/-- The decoded values. -/
theorem dec_apply (T : Fin 1536) (C : Fin 7168) : R4 m c (ix2 T C) = decXT (aX m c) (aSg m c) T C := by
  have eC : (⟨512 * (C.val / 512) + C.val % 512, by omega⟩ : Fin 7168) = C := Fin.ext (by show 512 * (C.val / 512) + C.val % 512 = C.val; omega)
  have h := R4_apply m c ⟨C.val / 512, by omega⟩ T ⟨C.val % 512, by omega⟩
  rw [show (⟨512 * (⟨C.val / 512, by omega⟩ : Fin 14).val + (⟨C.val % 512, by omega⟩ : Fin 512).val, by show 512 * (C.val / 512) + C.val % 512 < 7168; omega⟩ : Fin 7168) = C from eC] at h
  rw [h, xD_apply, xB_apply]
  have k1 := el_at m c ⟨C.val / 512, by omega⟩ ⟨T.val / 256, by omega⟩ ⟨T.val % 256, by omega⟩ ⟨C.val % 512, by omega⟩ T (by show T.val = 256 * (T.val / 256) + T.val % 256; omega)
  have k2 := top_at m c ⟨C.val / 512, by omega⟩ ⟨T.val / 256, by omega⟩ ⟨T.val % 256 / 32, by omega⟩ ⟨C.val % 512, by omega⟩
  have eG : (⟨8 * (T.val / 256) + T.val % 256 / 32, by omega⟩ : Fin 48) = ⟨T.val / 32, by omega⟩ := Fin.ext (by show 8 * (T.val / 256) + T.val % 256 / 32 = T.val / 32; omega)
  rw [show (⟨512 * (⟨C.val / 512, by omega⟩ : Fin 14).val + (⟨C.val % 512, by omega⟩ : Fin 512).val, by show 512 * (C.val / 512) + C.val % 512 < 7168; omega⟩ : Fin 7168) = C from eC] at k1 k2
  rw [show (⟨8 * (⟨T.val / 256, by omega⟩ : Fin 6).val + (⟨T.val % 256 / 32, by omega⟩ : Fin 8).val, by show 8 * (T.val / 256) + T.val % 256 / 32 < 48; omega⟩ : Fin 48) = ⟨T.val / 32, by omega⟩ from eG] at k2
  have h1 := xdec _ _ (le_aGrpX (aX m c) (aSg m c) T C) (hp _ _) ⟨T.val % 256 % 2, by omega⟩
  unfold decXT
  rw [← h1]
  exact congrArg₂ (fun a b => valX a * Ideal.ofBits .bf16 ((pairF (byteX b)).extractLsb' (16 * (T.val % 256 % 2)) 16)) k1 k2

/-- The scale bytes. -/
theorem scl_apply (b : Fin 2) (g : Fin 24) (C : Fin 7168) : R3 m c (ix3 b g C) = sclXT (aX m c) (aSg m c) ⟨24 * b.val + g.val, by omega⟩ C := by
  have eC : (⟨512 * (C.val / 512) + C.val % 512, by omega⟩ : Fin 7168) = C := Fin.ext (by show 512 * (C.val / 512) + C.val % 512 = C.val; omega)
  have h := R3_apply m c ⟨C.val / 512, by omega⟩ b g ⟨C.val % 512, by omega⟩
  rw [show (⟨512 * (⟨C.val / 512, by omega⟩ : Fin 14).val + (⟨C.val % 512, by omega⟩ : Fin 512).val, by show 512 * (C.val / 512) + C.val % 512 < 7168; omega⟩ : Fin 7168) = C from eC] at h
  rw [h, xB_apply]
  have k2 := top_at m c ⟨C.val / 512, by omega⟩ ⟨(24 * b.val + g.val) / 8, by omega⟩ ⟨(24 * b.val + g.val) % 8, by omega⟩ ⟨C.val % 512, by omega⟩
  have eG : (⟨8 * ((24 * b.val + g.val) / 8) + (24 * b.val + g.val) % 8, by omega⟩ : Fin 48) = ⟨24 * b.val + g.val, by omega⟩ := Fin.ext (by show 8 * ((24 * b.val + g.val) / 8) + (24 * b.val + g.val) % 8 = 24 * b.val + g.val; omega)
  rw [show (⟨512 * (⟨C.val / 512, by omega⟩ : Fin 14).val + (⟨C.val % 512, by omega⟩ : Fin 512).val, by show 512 * (C.val / 512) + C.val % 512 < 7168; omega⟩ : Fin 7168) = C from eC,
    show (⟨8 * (⟨(24 * b.val + g.val) / 8, by omega⟩ : Fin 6).val + (⟨(24 * b.val + g.val) % 8, by omega⟩ : Fin 8).val, by show 8 * ((24 * b.val + g.val) / 8) + (24 * b.val + g.val) % 8 < 48; omega⟩ : Fin 48) = ⟨24 * b.val + g.val, by omega⟩ from eG] at k2
  have eT : (⟨(⟨32 * (24 * b.val + g.val), by omega⟩ : Fin 1536).val / 32, by omega⟩ : Fin 48) = ⟨24 * b.val + g.val, by omega⟩ := Fin.ext (by show 32 * (24 * b.val + g.val) / 32 = 24 * b.val + g.val; omega)
  have h1 := le_aGrpX (aX m c) (aSg m c) ⟨32 * (24 * b.val + g.val), by omega⟩ C
  rw [eT] at h1
  unfold sclXT
  rw [← xbyte _ _ h1 (hp _ _)]
  exact congrArg (fun b => (byteX b).setWidth 8) k2
end

end Cert.QuantXIdeal.Hand
-- ==== Proof.XRefV.lean ====
/- Hand-written. The stages of the reference of `x` as functions of vectors, and that its named terms are these. -/
module

public import proofs.«01_k».proof.Proof.Gen.XReferenceIdeal.Run

@[expose] public section

noncomputable section

namespace Cert.XReferenceIdeal.Value

open Cert.XReferenceIdeal Cert.XReferenceIdeal.Gen Idealize.ShloMosaic Idealize.ShloMosaic.TcCoe Idealize.ShloMosaic.StableHlo

variable {F : FTy → Type} [FloatOps F]

/-- A scalar constant everywhere, per group. -/
def kG (b : BitVec 32) : FVec F S48x1x7168 .f32 := broadcastInDim S48x1x7168 ![] bcast_S_S48x1x7168 (constant S_ .f32 b)
/-- A scalar constant everywhere, per element. -/
def kE (b : BitVec 32) : FVec F S48x32x7168 .f32 := broadcastInDim S48x32x7168 ![] bcast_S_S48x32x7168 (constant S_ .f32 b)
/-- The rotation's signs. -/
def V11 : FVec F S64x64 .f32 :=
  select (cmpi .eq (andi (ctpop (andi (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0))))) (broadcastInDim S64x64 ![] bcast_S_S64x64 (constantI S_ 32 1#32))) (broadcastInDim S64x64 ![] bcast_S_S64x64 (constantI S_ 32 0#32))) (broadcastInDim S64x64 ![] bcast_S_S64x64 (constant S_ .f32 0x3F800000#32)) (broadcastInDim S64x64 ![] bcast_S_S64x64 (constant S_ .f32 0xBF800000#32))
/-- The rotation. -/
def V17 (sg : FVec F S64 .f32) : FVec F S64x64 .f32 :=
  mulf (mulf V11 (broadcastInDim S64x64 ![0, 1] bcast_S1x64_S64x64_0_1 (broadcastInDim S1x64 ![1] bcast_S64_S1x64_1 sg))) (broadcastInDim S64x64 ![] bcast_S_S64x64 (constant S_ .f32 0x3E000000#32))
/-- The rotated tokens by groups. -/
def V22 (dy : FVec F S2x768x7168 .bf16) (sg : FVec F S64 .f32) : FVec F S48x32x7168 .f32 :=
  shapeCast _ (transpose S24x64x7168 [0, 2, 1] (Host.dotGeneral dot_S24x64x7168_S64x64_S24x7168x64_1_1_02_0_n_n (some .fp32) (shapeCast _ (extf .f32 dy bitsLt_bf16_f32) shapeCasts_S2x768x7168_S24x64x7168) (V17 sg)) transposes_S24x7168x64_S24x64x7168_0_2_1) shapeCasts_S24x64x7168_S48x32x7168
/-- The groups' maxima. -/
def V25 (r : FVec F S48x32x7168 .f32) : FVec F S48x1x7168 .f32 :=
  broadcastInDim S48x1x7168 ![0, 2] bcast_S48x7168_S48x1x7168_0_2 (Host.reduce FloatOps.maximumf (Host.absf r) (constant S_ .f32 0xFF800000#32) reducesTo_S48x32x7168_S48x7168_d1 h_S_)
/-- The groups' exponents. -/
def V37 (a : FVec F S48x1x7168 .f32) : FVec F S48x1x7168 .f32 :=
  select (cmpf .oeq a (kG 0x00000000#32)) (kG 0x00000000#32) (subf (Host.floor (Host.divf (Host.log a) (Host.log (kG 0x40000000#32)))) (kG 0x40000000#32))
/-- The scaled elements. -/
def V42 (r : FVec F S48x32x7168 .f32) (e : FVec F S48x1x7168 .f32) : FVec F S48x32x7168 .f32 :=
  mulf r (broadcastInDim S48x32x7168 ![0, 1, 2] bcast_S48x1x7168_S48x32x7168_0_1_2 (Host.powf (kG 0x40000000#32) (Host.negf e)))
/-- The grid's steps. -/
def V49 (t : FVec F S48x32x7168 .f32) : FVec F S48x32x7168 .f32 :=
  select (cmpf .olt t (kE 0x40000000#32)) (kE 0x3F000000#32) (select (cmpf .olt t (kE 0x40800000#32)) (kE 0x3F800000#32) (kE 0x40000000#32))
/-- The magnitudes held within the fp4 range. -/
def V43 (y : FVec F S48x32x7168 .f32) : FVec F S48x32x7168 .f32 := minimumf (Host.absf y) (kE 0x40C00000#32)
/-- The rounded magnitudes. -/
def V54 (y : FVec F S48x32x7168 .f32) : FVec F S48x32x7168 .f32 :=
  mulf (Host.roundeven (Host.divf (V43 y) (V49 (V43 y)))) (V49 (V43 y))
/-- The decoded elements. -/
def V78 (y : FVec F S48x32x7168 .f32) (q : FVec F S48x32x7168 .f32) (e : FVec F S48x1x7168 .f32) : FVec F S48x32x7168 .bf16 :=
  mulf (truncf .bf16 (select (cmpf .olt y (kE 0x00000000#32)) (Host.negf q) q) bitsLt_bf16_f32)
    (broadcastInDim S48x32x7168 ![0, 1, 2] bcast_S48x1x7168_S48x32x7168_0_1_2 (truncf .bf16 (Host.powf (kG 0x40000000#32) e) bitsLt_bf16_f32))
variable (V0 : Valuation τ sig (Elt F))

theorem v22_eq : res_main_v22 V0 = V22 (V0 (Proc.devRef .tc main_arg0)) (V0 (Proc.devRef .tc main_arg1)) := rfl
theorem v25_eq : res_main_v25 V0 = V25 (res_main_v22 V0) := rfl
theorem v35_eq : res_main_v35 V0 = V37 (res_main_v25 V0) := rfl
theorem v40_eq : res_main_v40 V0 = V42 (res_main_v22 V0) (res_main_v35 V0) := rfl
theorem v43_eq : res_main_v43 V0 = V43 (res_main_v40 V0) := rfl
theorem v49_eq : res_main_v49 V0 = V49 (res_main_v43 V0) := rfl
theorem v54_eq : res_main_v54 V0 = V54 (res_main_v40 V0) := rfl

end Cert.XReferenceIdeal.Value
-- ==== Proof.XRefS.lean ====
/- Hand-written. The stages of the reference of `x` at an index, its codes and scale bytes. -/
module

public import proofs.«01_k».proof.Proof.XMath
public import proofs.«01_k».proof.Proof.XRefV

@[expose] public section

noncomputable section

namespace Cert.XReferenceIdeal.Value

open Cert.XReferenceIdeal Cert.XReferenceIdeal.Gen Idealize.ShloMosaic Idealize.ShloMosaic.TcCoe Idealize.ShloMosaic.StableHlo Idealize.ShloMosaic.Tactic
open Cert.KernelIdeal.Hand Cert.QuantXIdeal.Hand

set_option maxRecDepth 16384

theorem kG_apply (b : BitVec 32) (x : S48x1x7168.Idx) : (kG b : FVec Ideal S48x1x7168 .f32) x = Ideal.ofBits .f32 b := rfl
theorem kE_apply (b : BitVec 32) (x : S48x32x7168.Idx) : (kE b : FVec Ideal S48x32x7168 .f32) x = Ideal.ofBits .f32 b := rfl

theorem V37_apply (a : FVec Ideal S48x1x7168 .f32) (x : S48x1x7168.Idx) : V37 a x = eX (a x) := by
  show Scalar.select (Ideal.cmp .oeq (a x) (kG (F := Ideal) 0x00000000#32 x)) (kG (F := Ideal) 0x00000000#32 x)
    (Ideal.liftRound Int.floor (Ideal.div (Ideal.log (a x)) (Ideal.log (kG (F := Ideal) 0x40000000#32 x))) - kG (F := Ideal) 0x40000000#32 x) = _
  simp only [kG_apply]
  rfl

theorem V49_apply (t : FVec Ideal S48x32x7168 .f32) (x : S48x32x7168.Idx) : V49 t x = stE (t x) := by
  show Scalar.select (Ideal.cmp .olt (t x) (kE (F := Ideal) 0x40000000#32 x)) (kE (F := Ideal) 0x3F000000#32 x)
    (Scalar.select (Ideal.cmp .olt (t x) (kE (F := Ideal) 0x40800000#32 x)) (kE (F := Ideal) 0x3F800000#32 x) (kE (F := Ideal) 0x40000000#32 x)) = _
  simp only [kE_apply]
  rfl

theorem V43_apply (y : FVec Ideal S48x32x7168 .f32) (x : S48x32x7168.Idx) : V43 y x = tX (y x) := by
  show min (max (y x) (-(y x))) (kE (F := Ideal) 0x40C00000#32 x) = _
  rw [kE_apply]
  rfl

theorem V54_apply (y : FVec Ideal S48x32x7168 .f32) (x : S48x32x7168.Idx) : V54 y x = qX (y x) := by
  show Ideal.liftRound Ideal.roundHalfEven (Ideal.div (V43 y x) (V49 (V43 y) x)) * V49 (V43 y) x = _
  rw [V49_apply, V43_apply]
  rfl

theorem bc_apply {α : Type} (e : S48x1x7168.Idx → α) (G : Fin 48) (k : Fin 32) (c : Fin 7168) :
    broadcastInDim S48x32x7168 ![0, 1, 2] bcast_S48x1x7168_S48x32x7168_0_1_2 e (ix3 G k c) = e (ix3 G 0 c) := by
  pointwise

theorem V42_apply (r : FVec Ideal S48x32x7168 .f32) (e : FVec Ideal S48x1x7168 .f32) (G : Fin 48) (k : Fin 32) (c : Fin 7168) :
    V42 r e (ix3 G k c) = yR (r (ix3 G k c)) (e (ix3 G 0 c)) := by
  show r (ix3 G k c) * broadcastInDim S48x32x7168 ![0, 1, 2] bcast_S48x1x7168_S48x32x7168_0_1_2 (Host.powf (kG (F := Ideal) 0x40000000#32) (Host.negf e)) (ix3 G k c) = _
  rw [bc_apply]
  show _ * Ideal.pow (kG (F := Ideal) 0x40000000#32 (ix3 G 0 c)) (-(e (ix3 G 0 c))) = _
  rw [kG_apply]
  rfl

theorem V78_apply (y q : FVec Ideal S48x32x7168 .f32) (e : FVec Ideal S48x1x7168 .f32) (G : Fin 48) (k : Fin 32) (c : Fin 7168) :
    V78 y q e (ix3 G k c) = Scalar.select (Ideal.cmp .olt (y (ix3 G k c)) (Ideal.ofBits .f32 0x00000000#32)) (-(q (ix3 G k c))) (q (ix3 G k c))
      * Ideal.pow (Ideal.ofBits .f32 0x40000000#32) (e (ix3 G 0 c)) := by
  show Scalar.select (Ideal.cmp .olt (y (ix3 G k c)) (kE (F := Ideal) 0x00000000#32 (ix3 G k c))) (-(q (ix3 G k c))) (q (ix3 G k c))
    * broadcastInDim S48x32x7168 ![0, 1, 2] bcast_S48x1x7168_S48x32x7168_0_1_2 (truncf .bf16 (Host.powf (kG (F := Ideal) 0x40000000#32) e) bitsLt_bf16_f32) (ix3 G k c) = _
  rw [bc_apply, kE_apply]
  show _ * Ideal.pow (kG (F := Ideal) 0x40000000#32 (ix3 G 0 c)) (e (ix3 G 0 c)) = _
  rw [kG_apply]

theorem V25_apply (r : FVec Ideal S48x32x7168 .f32) (G : Fin 48) (c : Fin 7168) :
    V25 r (ix3 G 0 c) = Finset.univ.fold max (⊥ : EReal) fun k : Fin 32 => max (r (ix3 G k c)) (-(r (ix3 G k c))) := by
  unfold V25
  pointwise
  have hb : Ideal.ofBits .f32 4286578688#32 = (⊥ : EReal) := by simp [Ideal.ofBits, Ideal.ieee]
  rw [hb]
  first | done | rfl

theorem V22_apply (x : FVec Ideal S2x768x7168 .bf16) (sg : FVec Ideal S64 .f32) (G : Fin 48) (k : Fin 32) (c : Fin 7168) :
    V22 x sg (ix3 G k c) = rRotX x sg ⟨32 * G.val + k.val, by omega⟩ c := by
  unfold V22 V17 V11 rRotX mRot tokX
  pointwise
  refine Finset.sum_congr rfl fun j _ => ?_
  have e1 : G.val / 2 / 12 = (64 * ((32 * G.val + k.val) / 64) + j.val) / 768 := by omega
  have e2 : G.val / 2 % 12 * 64 + j.val = (64 * ((32 * G.val + k.val) / 64) + j.val) % 768 := by omega
  have e3 : G.val % 2 * 32 + k.val = (32 * G.val + k.val) % 64 := by omega
  simp only [e1, e2, e3]

section
variable {F : FTy → Type} [FloatOps F]

/-- The codes of the elements. -/
def VCod (y q : FVec F S48x32x7168 .f32) : IVec S48x32x7168 32 :=
  ori (fptosi 32 (select (cmpf .olt q (kE 0x40000000#32)) (mulf (kE 0x40000000#32) q) (select (cmpf .olt q (kE 0x40800000#32)) (addf q (kE 0x40000000#32)) (addf (mulf (kE 0x3F000000#32) q) (kE 0x40800000#32)))))
    (Host.shli (extui 32 (andi (cmpf .olt y (kE 0x00000000#32)) (cmpf .ogt q (kE 0x00000000#32))) natLt_1_32) (broadcastInDim S48x32x7168 ![] bcast_S_S48x32x7168 (constantI S_ 32 3#32)))
/-- Two codes to a byte. -/
def VPak (k : IVec S768x2x7168 32) : IVec S768x7168 8 :=
  trunci 8 (ori (shapeCast _ (extractStridedSlice S768x1x7168 ![0, 0, 0] k slices_S768x2x7168_S768x1x7168_0_0_0) shapeCasts_S768x1x7168_S768x7168) (Host.shli (shapeCast _ (extractStridedSlice S768x1x7168 ![0, 1, 0] k slices_S768x2x7168_S768x1x7168_0_1_0) shapeCasts_S768x1x7168_S768x7168) (broadcastInDim S768x7168 ![] bcast_S_S768x7168 (constantI S_ 32 4#32)))) natLt_8_32
/-- The packed codes. -/
def VCds (y q : FVec F S48x32x7168 .f32) : IVec S768x7168 8 := VPak (shapeCast _ (VCod y q) shapeCasts_S48x32x7168_S768x2x7168)
/-- The scale bytes. -/
def VScl (e : FVec F S48x1x7168 .f32) : IVec S2x24x7168 8 :=
  shapeCast _ (trunci 8 (fptosi 32 (addf (shapeCast _ e shapeCasts_S48x1x7168_S48x7168) (broadcastInDim S48x7168 ![] bcast_S_S48x7168 (constant S_ .f32 0x42FE0000#32)))) natLt_8_32) shapeCasts_S48x7168_S2x24x7168
end

theorem VCod_apply (y q : FVec Ideal S48x32x7168 .f32) (G : Fin 48) (k : Fin 32) (c : Fin 7168) :
    VCod y q (ix3 G k c) = refC (y (ix3 G k c)) (q (ix3 G k c)) := by
  unfold VCod refC idxE
  simp only [← kE_apply _ (ix3 G k c)]
  rfl

theorem VPak_apply (K : IVec S768x2x7168 32) (R : Fin 768) (c : Fin 7168) :
    VPak K (ix2 R c) = (IntOp.ori (K (ix3 R 0 c)) (IntOp.shli .host (K (ix3 R 1 c)) 4#32)).setWidth 8 := by
  unfold VPak
  pointwise

theorem VCds_apply (y q : FVec Ideal S48x32x7168 .f32) (R : Fin 768) (c : Fin 7168) :
    VCds y q (ix2 R c) = (IntOp.ori (VCod y q (ix3 ⟨R.val / 16, by omega⟩ ⟨2 * (R.val % 16), by omega⟩ c)) (IntOp.shli .host (VCod y q (ix3 ⟨R.val / 16, by omega⟩ ⟨2 * (R.val % 16) + 1, by omega⟩ c)) 4#32)).setWidth 8 := by
  unfold VCds
  rw [VPak_apply]
  generalize VCod y q = I
  have a0 : shapeCast S768x2x7168 I shapeCasts_S48x32x7168_S768x2x7168 (ix3 R 0 c) = I (ix3 ⟨R.val / 16, by omega⟩ ⟨2 * (R.val % 16), by omega⟩ c) := by
    pointwise
    simp only [Nat.mul_comm (R.val % 16) 2]
  have a1 : shapeCast S768x2x7168 I shapeCasts_S48x32x7168_S768x2x7168 (ix3 R 1 c) = I (ix3 ⟨R.val / 16, by omega⟩ ⟨2 * (R.val % 16) + 1, by omega⟩ c) := by
    pointwise
    simp only [Nat.mul_comm (R.val % 16) 2]
  rw [a0, a1]

theorem VScl_apply (e : FVec Ideal S48x1x7168 .f32) (b : Fin 2) (g : Fin 24) (c : Fin 7168) :
    VScl e (ix3 b g c) = (Ideal.fptosi 32 (e (ix3 ⟨24 * b.val + g.val, by omega⟩ 0 c) + Ideal.ofBits .f32 0x42FE0000#32)).setWidth 8 := by
  unfold VScl
  pointwise
  simp only [Nat.mul_comm b.val 24]
  rfl

end Cert.XReferenceIdeal.Value
-- ==== Proof.XRefEnd.lean ====
/- Hand-written. What the reference of `x` leaves in its results, at an index; and the precondition at an index. -/
module

public import proofs.«01_k».proof.Proof.XRefS
public import proofs.«01_k».proof.Proof.Gen.Pre_x_scales_in_range

@[expose] public section

noncomputable section

namespace Cert.XReferenceIdeal.Value

open Cert.XReferenceIdeal Cert.XReferenceIdeal.Gen Idealize.ShloMosaic Idealize.ShloMosaic.TcCoe Idealize.ShloMosaic.StableHlo Idealize.ShloMosaic.Tactic
open Idealize.SL.Sem
open Cert.KernelIdeal.Hand Cert.QuantXIdeal.Hand

section
variable {F : FTy → Type} [FloatOps F]

/-- The scaled elements from the arguments. -/
def YRes (x : FVec F S2x768x7168 .bf16) (sg : FVec F S64 .f32) : FVec F S48x32x7168 .f32 := V42 (V22 x sg) (V37 (V25 (V22 x sg)))
/-- The codes from the arguments, by the stages. -/
def CRes (x : FVec F S2x768x7168 .bf16) (sg : FVec F S64 .f32) : IVec S768x7168 8 := VCds (YRes x sg) (V54 (YRes x sg))
/-- The scale bytes from the arguments, by the stages. -/
def SRes (x : FVec F S2x768x7168 .bf16) (sg : FVec F S64 .f32) : IVec S2x24x7168 8 := VScl (V37 (V25 (V22 x sg)))
/-- The decoded tokens from the arguments, by the stages. -/
def DRes (x : FVec F S2x768x7168 .bf16) (sg : FVec F S64 .f32) : FVec F S1536x7168 .bf16 :=
  shapeCast _ (V78 (YRes x sg) (V54 (YRes x sg)) (V37 (V25 (V22 x sg)))) shapeCasts_S48x32x7168_S1536x7168

theorem v79_eq (V0 : Valuation τ sig (Elt F)) : res_main_v79 V0 = shapeCast _ (VCod (res_main_v40 V0) (res_main_v54 V0)) shapeCasts_S48x32x7168_S768x2x7168 := rfl

theorem run_stages (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v87) = CRes (m ((c.tc : Thread nD τ).loc main_arg0)) (m ((c.tc : Thread nD τ).loc main_arg1))
      ∧ r.2.mem ((c.tc : Thread nD τ).loc main_v93) = SRes (m ((c.tc : Thread nD τ).loc main_arg0)) (m ((c.tc : Thread nD τ).loc main_arg1))
      ∧ r.2.mem ((c.tc : Thread nD τ).loc main_v104) = DRes (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by rw [v79_eq, v54_eq, v40_eq, v35_eq, v25_eq, v22_eq]; rfl),
    (h c).2.1.trans (by rw [v35_eq, v25_eq, v22_eq]; rfl), (h c).2.2.1.trans (by rw [v54_eq, v40_eq, v35_eq, v25_eq, v22_eq]; rfl), (h c).2.2.2⟩) (run m ρ)

/-- The precondition from the stages. -/
def VP (a : FVec F S48x1x7168 .f32) : IVec S48x1x7168 1 :=
  ori (cmpf .oeq a (kG 0x00000000#32)) (andi (cmpf .oge a (kG 0x01800000#32)) (cmpf .olt (mulf a (kG 0x3F000000#32)) (kG 0x7F000000#32)))

theorem pre_eq [Cert.Pre_x_scales_in_range.Facts] (x : FVec F S2x768x7168 .bf16) (sg : FVec F S64 .f32) :
    Cert.Pre_x_scales_in_range.fn (F := F) x sg = VP (V25 (V22 x sg)) := rfl
end

theorem max_apply (x : FVec Ideal S2x768x7168 .bf16) (sg : FVec Ideal S64 .f32) (G : Fin 48) (c : Fin 7168) :
    V25 (V22 x sg) (ix3 G 0 c) = aGrpX x sg G c := by
  rw [V25_apply]; simp only [V22_apply]; rfl

theorem YRes_apply (x : FVec Ideal S2x768x7168 .bf16) (sg : FVec Ideal S64 .f32) (G : Fin 48) (k : Fin 32) (c : Fin 7168) :
    YRes x sg (ix3 G k c) = yR (rRotX x sg ⟨32 * G.val + k.val, by omega⟩ c) (eX (aGrpX x sg G c)) := by
  unfold YRes
  rw [V42_apply, V37_apply, max_apply, V22_apply]

theorem code_apply (x : FVec Ideal S2x768x7168 .bf16) (sg : FVec Ideal S64 .f32) (T : Fin 1536) (G : Fin 48) (k : Fin 32) (c : Fin 7168)
    (h : T.val = 32 * G.val + k.val) : VCod (YRes x sg) (V54 (YRes x sg)) (ix3 G k c) = codXT x sg T c := by
  have hb : 32 * G.val + k.val < 1536 := by omega
  obtain rfl : T = ⟨32 * G.val + k.val, hb⟩ := Fin.ext h
  have e : (⟨(32 * G.val + k.val) / 32, by omega⟩ : Fin 48) = G := Fin.ext (by show (32 * G.val + k.val) / 32 = G.val; omega)
  rw [VCod_apply, V54_apply, YRes_apply]
  unfold codXT
  rw [show (⟨(⟨32 * G.val + k.val, by omega⟩ : Fin 1536).val / 32, by omega⟩ : Fin 48) = G from e]
  rfl

theorem CRes_apply (x : FVec Ideal S2x768x7168 .bf16) (sg : FVec Ideal S64 .f32) (R : Fin 768) (c : Fin 7168) :
    CRes x sg (ix2 R c) = codesXT x sg R c := by
  unfold CRes
  rw [VCds_apply, code_apply x sg ⟨2 * R.val, by omega⟩ _ _ c (by show 2 * R.val = 32 * (R.val / 16) + 2 * (R.val % 16); omega),
    code_apply x sg ⟨2 * R.val + 1, by omega⟩ _ _ c (by show 2 * R.val + 1 = 32 * (R.val / 16) + (2 * (R.val % 16) + 1); omega)]
  rfl

theorem SRes_apply (x : FVec Ideal S2x768x7168 .bf16) (sg : FVec Ideal S64 .f32) (b : Fin 2) (g : Fin 24) (c : Fin 7168) :
    SRes x sg (ix3 b g c) = sclXT x sg ⟨24 * b.val + g.val, by omega⟩ c := by
  unfold SRes
  rw [VScl_apply, V37_apply, max_apply]
  rfl

theorem DRes_apply (x : FVec Ideal S2x768x7168 .bf16) (sg : FVec Ideal S64 .f32) (T : Fin 1536) (c : Fin 7168) :
    DRes x sg (ix2 T c) = decXT x sg T c := by
  unfold DRes
  have e : ∀ V : FVec Ideal S48x32x7168 .bf16, shapeCast S1536x7168 V shapeCasts_S48x32x7168_S1536x7168 (ix2 T c)
      = V (ix3 ⟨T.val / 32, by omega⟩ ⟨T.val % 32, by omega⟩ c) := by
    intro V; pointwise
  rw [e, V78_apply, V54_apply, YRes_apply, V37_apply, max_apply]
  have eT : (⟨32 * (T.val / 32) + T.val % 32, by omega⟩ : Fin 1536) = T := Fin.ext (by show 32 * (T.val / 32) + T.val % 32 = T.val; omega)
  rw [eT]
  rfl

theorem VP_apply (a : FVec Ideal S48x1x7168 .f32) (x : S48x1x7168.Idx) : VP a x = preX (a x) := by
  have e : VP a x = IntOp.ori (Ideal.cmp .oeq (a x) (kG (F := Ideal) 0x00000000#32 x)) (IntOp.andi (Ideal.cmp .oge (a x) (kG (F := Ideal) 0x01800000#32 x))
      (Ideal.cmp .olt (a x * kG (F := Ideal) 0x3F000000#32 x) (kG (F := Ideal) 0x7F000000#32 x))) := rfl
  rw [e]
  simp only [kG_apply]
  rfl

/-- The precondition at an index. -/
theorem fn_apply [Cert.Pre_x_scales_in_range.Facts] (x : FVec Ideal S2x768x7168 .bf16) (sg : FVec Ideal S64 .f32) (G : Fin 48) (c : Fin 7168) :
    Cert.Pre_x_scales_in_range.fn (F := Ideal) x sg (ix3 G 0 c) = preX (aGrpX x sg G c) :=
  (congrFun (pre_eq x sg) (ix3 G 0 c)).trans ((VP_apply _ _).trans (congrArg preX (max_apply x sg G c)))

end Cert.XReferenceIdeal.Value
-- ==== Proof.lean ====
module

public import proofs.«01_k».proof.Defs
public import proofs.«01_k».proof.Proof.KLch
public import proofs.«01_k».proof.Proof.Val
public import proofs.«01_k».proof.Proof.ValC
public import proofs.«01_k».proof.Proof.RefEnd
public import proofs.«01_k».proof.Proof.PreV
public import proofs.«01_k».proof.Proof.XVal
public import proofs.«01_k».proof.Proof.XRefEnd
public import proofs.«01_k».proof.Proof.Gen.ReferenceIdeal
public import proofs.«01_k».proof.Proof.Gen.ReferenceIdeal.Run
public import proofs.«01_k».proof.Proof.Gen.Pre_quantises_alike
public import proofs.«01_k».proof.Proof.Gen.QuantX.Frame
public import proofs.«01_k».proof.Proof.Gen.QuantXIdeal.Value
public import proofs.«01_k».proof.Proof.Gen.XReferenceIdeal.Run
public import proofs.«01_k».proof.Proof.Gen.Pre_x_scales_in_range
public import Idealize.ShloMosaic.Lib.Bf16PairInverse

@[expose] public section

noncomputable section

namespace Cert.Proof

open Idealize.ShloMosaic Idealize.SL.Sem
open Cert.KernelIdeal.Hand

theorem frame_p : Cert.quiescent_Kernel := fun m ρ _ => Cert.Kernel.Hand.frame m ρ

theorem frame_pi : Cert.quiescent_KernelIdeal := fun m ρ _ =>
  (θ_run _ _ _).mono (fun _ h => ⟨fun c => ⟨(h.1 c).1, (h.1 c).2.1, (h.1 c).2.2.1, (h.1 c).2.2.2.1⟩, h.2⟩) (Cert.KernelIdeal.Hand.run_dw m ρ)

theorem frame_pi_pre : Cert.quiescent_KernelIdeal_pre_quantises_alike := fun m ρ _ => frame_pi m ρ trivial

theorem frame_ri : Cert.quiescent_ReferenceIdeal := fun m ρ _ =>
  (θ_run _ _ _).mono (fun r h => ⟨fun c => (h c).2.2.2, sem_eq_zero_of_no_sems (by decide) r.2⟩) (Cert.ReferenceIdeal.Value.run_stages m ρ)

theorem frame_ri_pre : Cert.quiescent_ReferenceIdeal_pre_quantises_alike := fun m ρ _ => frame_ri m ρ trivial

theorem preserves : Cert.preserves_Kernel_KernelIdeal :=
  open Cert.KernelIdeal IdealRules.bf16_pair in
  ⟨bufferStatement S2x256x2x1536 S2x256x1x1536, statement S512x256 S256x256, statement S1x256x2x256 S1x256x1x256,
    statement S1x256x2x1536 S1x256x1x1536, statement S512x1536 S256x1536⟩

/-- The precondition of the kernel's arguments, at an index. -/
theorem pre_at (m : (ℓ : Loc Cert.KernelIdeal.nD Cert.KernelIdeal.τ Cert.KernelIdeal.sig) → Buf (Elt Ideal) ℓ)
    (h : Cert.Pre_KernelIdeal_quantises_alike m) (c : Dev Cert.KernelIdeal.nD) (T : Fin 1536) (o : Fin 18432) :
    preE (rRot (aDy m c) (aSg m c) T o) (aGrp (aDy m c) (aSg m c) ⟨T.val / 32, by omega⟩ o) (tok (aRb m c) T o) = 1#1 := by
  have key := Cert.ReferenceIdeal.Value.fn_apply (aXq m c) (aDy m c) (aSg m c) (aRb m c) ⟨T.val / 32, by omega⟩ ⟨T.val % 32, by omega⟩ o
  have e : (⟨32 * (T.val / 32) + T.val % 32, by omega⟩ : Fin 1536) = T := Fin.ext (by show 32 * (T.val / 32) + T.val % 32 = T.val; omega)
  simp only [e] at key
  exact key.symm.trans (congrFun (h c) _)

/-- The kernel's `dw` is the reference's. -/
theorem dw_eq (m : (ℓ : Loc Cert.KernelIdeal.nD Cert.KernelIdeal.τ Cert.KernelIdeal.sig) → Buf (Elt Ideal) ℓ)
    (h : Cert.Pre_KernelIdeal_quantises_alike m) (c : Dev Cert.KernelIdeal.nD) :
    DWF (VV m c) = Cert.ReferenceIdeal.Value.VRes (aXq m c) (aDy m c) (aSg m c) (aRb m c) := by
  funext x
  obtain ⟨o, i, rfl⟩ : ∃ (o : Fin 18432) (i : Fin 7168), x = ix2 o i := ⟨x 0, x 1, by funext a; fin_cases a <;> rfl⟩
  rw [DWF_apply m c (pre_at m h c)]
  exact (Cert.ReferenceIdeal.Value.VRes_apply (aXq m c) (aDy m c) (aSg m c) (aRb m c) o i).symm

/-- The kernel's codes are the reference's. -/
theorem codes_eq (m : (ℓ : Loc Cert.KernelIdeal.nD Cert.KernelIdeal.τ Cert.KernelIdeal.sig) → Buf (Elt Ideal) ℓ)
    (h : Cert.Pre_KernelIdeal_quantises_alike m) (c : Dev Cert.KernelIdeal.nD) :
    CF (VV m c) = Cert.ReferenceIdeal.Value.CRes (F := Ideal) (aDy m c) (aSg m c) (aRb m c) := by
  funext x
  obtain ⟨r, o, rfl⟩ : ∃ (r : Fin 768) (o : Fin 18432), x = ix2 r o := ⟨x 0, x 1, by funext a; fin_cases a <;> rfl⟩
  rw [CF_apply m c (pre_at m h c)]
  exact (Cert.ReferenceIdeal.Value.CRes_apply (aDy m c) (aSg m c) (aRb m c) r o).symm

/-- The kernel's scale bytes are the reference's. -/
theorem scales_eq (m : (ℓ : Loc Cert.KernelIdeal.nD Cert.KernelIdeal.τ Cert.KernelIdeal.sig) → Buf (Elt Ideal) ℓ)
    (h : Cert.Pre_KernelIdeal_quantises_alike m) (c : Dev Cert.KernelIdeal.nD) :
    SF (VV m c) = Cert.ReferenceIdeal.Value.SRes (F := Ideal) (aDy m c) (aSg m c) := by
  funext x
  obtain ⟨b, g, o, rfl⟩ : ∃ (b : Fin 2) (g : Fin 24) (o : Fin 18432), x = ix3 b g o := ⟨x 0, x 1, x 2, by funext a; fin_cases a <;> rfl⟩
  rw [SF_apply m c (pre_at m h c)]
  exact (Cert.ReferenceIdeal.Value.SRes_apply (aDy m c) (aSg m c) b g o).symm

theorem algebraic : Cert.algebraic_KernelIdeal_ReferenceIdeal_pre_quantises_alike := fun m g m' g' hpre hargs =>
  ⟨fun c => (DWF (VV m c) : FVec Ideal Cert.KernelIdeal.S18432x7168 .f32), fun c => (CF (VV m c) : IVec Cert.KernelIdeal.S768x18432 8), fun c => (SF (VV m c) : IVec Cert.KernelIdeal.S2x24x18432 8),
    (θ_run _ _ _).mono (fun _ h c => ⟨(h.1 c).2.2.2.2.1, (h.1 c).2.2.2.2.2.1, (h.1 c).2.2.2.2.2.2, (h.1 c).1, (h.1 c).2.1, (h.1 c).2.2.1, (h.1 c).2.2.2.1⟩) (Cert.KernelIdeal.Hand.run_dw m g),
    (θ_run _ _ _).mono (fun _ h c => ⟨(h c).1.trans (by
        rw [(hargs c).1, (hargs c).2.1, (hargs c).2.2.1, (hargs c).2.2.2]
        exact (dw_eq m hpre c).symm), (h c).2.1.trans (by
        rw [(hargs c).2.1, (hargs c).2.2.1, (hargs c).2.2.2]
        exact (codes_eq m hpre c).symm), (h c).2.2.1.trans (by
        rw [(hargs c).2.1, (hargs c).2.2.1]
        exact (scales_eq m hpre c).symm), (h c).2.2.2⟩) (Cert.ReferenceIdeal.Value.run_stages m' g')⟩

/-! ## The call on `x` -/

theorem frame_x : Cert.quiescent_QuantX := fun m ρ _ => Cert.QuantX.Gen.frame m ρ
theorem frame_xi : Cert.quiescent_QuantXIdeal := fun m ρ _ => Cert.QuantXIdeal.Gen.frame m ρ
theorem frame_xi_pre : Cert.quiescent_QuantXIdeal_pre_x_scales_in_range := fun m ρ _ => Cert.QuantXIdeal.Gen.frame m ρ
theorem frame_xr : Cert.quiescent_XReferenceIdeal := fun m ρ _ =>
  (θ_run _ _ _).mono (fun r h => ⟨fun c => (h c).2.2.2, sem_eq_zero_of_no_sems (by decide) r.2⟩) (Cert.XReferenceIdeal.Value.run_stages m ρ)
theorem frame_xr_pre : Cert.quiescent_XReferenceIdeal_pre_x_scales_in_range := fun m ρ _ => frame_xr m ρ trivial

section
variable (m : (ℓ : Loc Cert.QuantXIdeal.nD Cert.QuantXIdeal.τ Cert.QuantXIdeal.sig) → Buf (Elt Ideal) ℓ)
  (h : Cert.Pre_QuantXIdeal_x_scales_in_range m) (c : Dev Cert.QuantXIdeal.nD)
include h

/-- The precondition of the call's arguments, at an index. -/
theorem xpre_at (G : Fin 48) (o : Fin 7168) :
    Cert.QuantXIdeal.Hand.preX (Cert.QuantXIdeal.Hand.aGrpX (Cert.QuantXIdeal.Hand.aX m c) (Cert.QuantXIdeal.Hand.aSg m c) G o) = 1#1 :=
  (Cert.XReferenceIdeal.Value.fn_apply (Cert.QuantXIdeal.Hand.aX m c) (Cert.QuantXIdeal.Hand.aSg m c) G o).symm.trans (congrFun (h c) _)

/-- The codes of `x` are the reference's. -/
theorem xcodes_eq : Cert.QuantXIdeal.Hand.R2 m c = Cert.XReferenceIdeal.Value.CRes (F := Ideal) (Cert.QuantXIdeal.Hand.aX m c) (Cert.QuantXIdeal.Hand.aSg m c) := by
  funext x
  obtain ⟨r, o, rfl⟩ : ∃ (r : Fin 768) (o : Fin 7168), x = ix2 r o := ⟨x 0, x 1, by funext a; fin_cases a <;> rfl⟩
  rw [Cert.QuantXIdeal.Hand.codes_apply m c (xpre_at m h c)]
  exact (Cert.XReferenceIdeal.Value.CRes_apply _ _ r o).symm

/-- The scale bytes of `x` are the reference's. -/
theorem xscales_eq : Cert.QuantXIdeal.Hand.R3 m c = Cert.XReferenceIdeal.Value.SRes (F := Ideal) (Cert.QuantXIdeal.Hand.aX m c) (Cert.QuantXIdeal.Hand.aSg m c) := by
  funext x
  obtain ⟨b, g, o, rfl⟩ : ∃ (b : Fin 2) (g : Fin 24) (o : Fin 7168), x = ix3 b g o := ⟨x 0, x 1, x 2, by funext a; fin_cases a <;> rfl⟩
  rw [Cert.QuantXIdeal.Hand.scl_apply m c (xpre_at m h c)]
  exact (Cert.XReferenceIdeal.Value.SRes_apply _ _ b g o).symm

/-- The decoded `x` is the reference's. -/
theorem xdec_eq : Cert.QuantXIdeal.Hand.R4 m c = Cert.XReferenceIdeal.Value.DRes (F := Ideal) (Cert.QuantXIdeal.Hand.aX m c) (Cert.QuantXIdeal.Hand.aSg m c) := by
  funext x
  obtain ⟨r, o, rfl⟩ : ∃ (r : Fin 1536) (o : Fin 7168), x = ix2 r o := ⟨x 0, x 1, by funext a; fin_cases a <;> rfl⟩
  rw [Cert.QuantXIdeal.Hand.dec_apply m c (xpre_at m h c)]
  exact (Cert.XReferenceIdeal.Value.DRes_apply _ _ r o).symm
end

theorem algebraic_x : Cert.algebraic_QuantXIdeal_XReferenceIdeal_pre_x_scales_in_range := fun m g m' g' hpre hargs =>
  ⟨fun c => Cert.QuantXIdeal.Hand.R2 m c, fun c => Cert.QuantXIdeal.Hand.R3 m c, fun c => Cert.QuantXIdeal.Hand.R4 m c,
    Cert.QuantXIdeal.Value.run_blocks m g,
    (θ_run _ _ _).mono (fun _ h c => ⟨(h c).1.trans (by
        rw [(hargs c).1, (hargs c).2]
        exact (xcodes_eq m hpre c).symm), (h c).2.1.trans (by
        rw [(hargs c).1, (hargs c).2]
        exact (xscales_eq m hpre c).symm), (h c).2.2.1.trans (by
        rw [(hargs c).1, (hargs c).2]
        exact (xdec_eq m hpre c).symm), (h c).2.2.2⟩) (Cert.XReferenceIdeal.Value.run_stages m' g')⟩

theorem claim : Cert.Claim :=
  ⟨Cert.Kernel.Gen.facts, Cert.KernelIdeal.Gen.facts, Cert.ReferenceIdeal.Gen.facts, Cert.QuantX.Gen.facts, Cert.QuantXIdeal.Gen.facts, Cert.XReferenceIdeal.Gen.facts,
    Cert.Pre_quantises_alike.Gen.facts, Cert.Pre_x_scales_in_range.Gen.facts,
    frame_p, frame_pi, frame_pi_pre, frame_ri, frame_ri_pre, frame_x, frame_xi, frame_xi_pre, frame_xr, frame_xr_pre, preserves, algebraic, trivial, algebraic_x⟩

end Cert.Proof

end
